-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGateUp (m : (ℓ : Loc Cert.KernelGateUp.nD Cert.KernelGateUp.τ Cert.KernelGateUp.sig) → Buf (Elt Bits) ℓ) : Prop :=
  True

def Pre_KernelGateUpIdeal (m : (ℓ : Loc Cert.KernelGateUpIdeal.nD Cert.KernelGateUpIdeal.τ Cert.KernelGateUpIdeal.sig) → Buf (Elt Ideal) ℓ) : Prop :=
  True

def Pre_ReferenceGateUpIdeal (m : (ℓ : Loc Cert.ReferenceGateUpIdeal.nD Cert.ReferenceGateUpIdeal.τ Cert.ReferenceGateUpIdeal.sig) → Buf (Elt Ideal) ℓ) : Prop :=
  True

def Pre_KernelDgrad (m : (ℓ : Loc Cert.KernelDgrad.nD Cert.KernelDgrad.τ Cert.KernelDgrad.sig) → Buf (Elt Bits) ℓ) : Prop :=
  True

def Pre_KernelDgradIdeal (m : (ℓ : Loc Cert.KernelDgradIdeal.nD Cert.KernelDgradIdeal.τ Cert.KernelDgradIdeal.sig) → Buf (Elt Ideal) ℓ) : Prop :=
  True

def Pre_KernelDgradIdeal_finite_dgrad [hPre_finite_dgrad : Cert.Pre_finite_dgrad.Facts] (m : (ℓ : Loc Cert.KernelDgradIdeal.nD Cert.KernelDgradIdeal.τ Cert.KernelDgradIdeal.sig) → Buf (Elt Ideal) ℓ) : Prop :=
  ∀ c : Dev Cert.KernelDgradIdeal.nD,
    (Cert.Pre_finite_dgrad.fn (F := Ideal) (m ((c.tc : Thread Cert.KernelDgradIdeal.nD Cert.KernelDgradIdeal.τ).loc Cert.KernelDgradIdeal.main_arg0)) (m ((c.tc : Thread Cert.KernelDgradIdeal.nD Cert.KernelDgradIdeal.τ).loc Cert.KernelDgradIdeal.main_arg1)) (m ((c.tc : Thread Cert.KernelDgradIdeal.nD Cert.KernelDgradIdeal.τ).loc Cert.KernelDgradIdeal.main_arg2)) (m ((c.tc : Thread Cert.KernelDgradIdeal.nD Cert.KernelDgradIdeal.τ).loc Cert.KernelDgradIdeal.main_arg3)) (m ((c.tc : Thread Cert.KernelDgradIdeal.nD Cert.KernelDgradIdeal.τ).loc Cert.KernelDgradIdeal.main_arg4)) (m ((c.tc : Thread Cert.KernelDgradIdeal.nD Cert.KernelDgradIdeal.τ).loc Cert.KernelDgradIdeal.main_arg5)) (m ((c.tc : Thread Cert.KernelDgradIdeal.nD Cert.KernelDgradIdeal.τ).loc Cert.KernelDgradIdeal.main_arg6))) = (fun _ => 1#1)

def Pre_ReferenceDgradIdeal (m : (ℓ : Loc Cert.ReferenceDgradIdeal.nD Cert.ReferenceDgradIdeal.τ Cert.ReferenceDgradIdeal.sig) → Buf (Elt Ideal) ℓ) : Prop :=
  True

def Pre_ReferenceDgradIdeal_finite_dgrad [hPre_finite_dgrad : Cert.Pre_finite_dgrad.Facts] (m : (ℓ : Loc Cert.ReferenceDgradIdeal.nD Cert.ReferenceDgradIdeal.τ Cert.ReferenceDgradIdeal.sig) → Buf (Elt Ideal) ℓ) : Prop :=
  ∀ c : Dev Cert.ReferenceDgradIdeal.nD,
    (Cert.Pre_finite_dgrad.fn (F := Ideal) (m ((c.tc : Thread Cert.ReferenceDgradIdeal.nD Cert.ReferenceDgradIdeal.τ).loc Cert.ReferenceDgradIdeal.main_arg0)) (m ((c.tc : Thread Cert.ReferenceDgradIdeal.nD Cert.ReferenceDgradIdeal.τ).loc Cert.ReferenceDgradIdeal.main_arg1)) (m ((c.tc : Thread Cert.ReferenceDgradIdeal.nD Cert.ReferenceDgradIdeal.τ).loc Cert.ReferenceDgradIdeal.main_arg2)) (m ((c.tc : Thread Cert.ReferenceDgradIdeal.nD Cert.ReferenceDgradIdeal.τ).loc Cert.ReferenceDgradIdeal.main_arg3)) (m ((c.tc : Thread Cert.ReferenceDgradIdeal.nD Cert.ReferenceDgradIdeal.τ).loc Cert.ReferenceDgradIdeal.main_arg4)) (m ((c.tc : Thread Cert.ReferenceDgradIdeal.nD Cert.ReferenceDgradIdeal.τ).loc Cert.ReferenceDgradIdeal.main_arg5)) (m ((c.tc : Thread Cert.ReferenceDgradIdeal.nD Cert.ReferenceDgradIdeal.τ).loc Cert.ReferenceDgradIdeal.main_arg6))) = (fun _ => 1#1)

def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_KernelFfnInIdeal_finite_ffn_in [hPre_finite_ffn_in : Cert.Pre_finite_ffn_in.Facts] (m : (ℓ : Loc Cert.KernelFfnInIdeal.nD Cert.KernelFfnInIdeal.τ Cert.KernelFfnInIdeal.sig) → Buf (Elt Ideal) ℓ) : Prop :=
  ∀ c : Dev Cert.KernelFfnInIdeal.nD,
    (Cert.Pre_finite_ffn_in.fn (F := Ideal) (m ((c.tc : Thread Cert.KernelFfnInIdeal.nD Cert.KernelFfnInIdeal.τ).loc Cert.KernelFfnInIdeal.main_arg0)) (m ((c.tc : Thread Cert.KernelFfnInIdeal.nD Cert.KernelFfnInIdeal.τ).loc Cert.KernelFfnInIdeal.main_arg1)) (m ((c.tc : Thread Cert.KernelFfnInIdeal.nD Cert.KernelFfnInIdeal.τ).loc Cert.KernelFfnInIdeal.main_arg2))) = (fun _ => 1#1)

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_ReferenceFfnInIdeal_finite_ffn_in [hPre_finite_ffn_in : Cert.Pre_finite_ffn_in.Facts] (m : (ℓ : Loc Cert.ReferenceFfnInIdeal.nD Cert.ReferenceFfnInIdeal.τ Cert.ReferenceFfnInIdeal.sig) → Buf (Elt Ideal) ℓ) : Prop :=
  ∀ c : Dev Cert.ReferenceFfnInIdeal.nD,
    (Cert.Pre_finite_ffn_in.fn (F := Ideal) (m ((c.tc : Thread Cert.ReferenceFfnInIdeal.nD Cert.ReferenceFfnInIdeal.τ).loc Cert.ReferenceFfnInIdeal.main_arg0)) (m ((c.tc : Thread Cert.ReferenceFfnInIdeal.nD Cert.ReferenceFfnInIdeal.τ).loc Cert.ReferenceFfnInIdeal.main_arg1)) (m ((c.tc : Thread Cert.ReferenceFfnInIdeal.nD Cert.ReferenceFfnInIdeal.τ).loc Cert.ReferenceFfnInIdeal.main_arg2))) = (fun _ => 1#1)

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelDin (m : (ℓ : Loc Cert.KernelDin.nD Cert.KernelDin.τ Cert.KernelDin.sig) → Buf (Elt Bits) ℓ) : Prop :=
  True

def Pre_KernelDinIdeal (m : (ℓ : Loc Cert.KernelDinIdeal.nD Cert.KernelDinIdeal.τ Cert.KernelDinIdeal.sig) → Buf (Elt Ideal) ℓ) : Prop :=
  True

def Pre_KernelDinIdeal_finite_din [hPre_finite_din : Cert.Pre_finite_din.Facts] (m : (ℓ : Loc Cert.KernelDinIdeal.nD Cert.KernelDinIdeal.τ Cert.KernelDinIdeal.sig) → Buf (Elt Ideal) ℓ) : Prop :=
  ∀ c : Dev Cert.KernelDinIdeal.nD,
    (Cert.Pre_finite_din.fn (F := Ideal) (m ((c.tc : Thread Cert.KernelDinIdeal.nD Cert.KernelDinIdeal.τ).loc Cert.KernelDinIdeal.main_arg0)) (m ((c.tc : Thread Cert.KernelDinIdeal.nD Cert.KernelDinIdeal.τ).loc Cert.KernelDinIdeal.main_arg1)) (m ((c.tc : Thread Cert.KernelDinIdeal.nD Cert.KernelDinIdeal.τ).loc Cert.KernelDinIdeal.main_arg2)) (m ((c.tc : Thread Cert.KernelDinIdeal.nD Cert.KernelDinIdeal.τ).loc Cert.KernelDinIdeal.main_arg3)) (m ((c.tc : Thread Cert.KernelDinIdeal.nD Cert.KernelDinIdeal.τ).loc Cert.KernelDinIdeal.main_arg4))) = (fun _ => 1#1)

def Pre_ReferenceDinIdeal (m : (ℓ : Loc Cert.ReferenceDinIdeal.nD Cert.ReferenceDinIdeal.τ Cert.ReferenceDinIdeal.sig) → Buf (Elt Ideal) ℓ) : Prop :=
  True

def Pre_ReferenceDinIdeal_finite_din [hPre_finite_din : Cert.Pre_finite_din.Facts] (m : (ℓ : Loc Cert.ReferenceDinIdeal.nD Cert.ReferenceDinIdeal.τ Cert.ReferenceDinIdeal.sig) → Buf (Elt Ideal) ℓ) : Prop :=
  ∀ c : Dev Cert.ReferenceDinIdeal.nD,
    (Cert.Pre_finite_din.fn (F := Ideal) (m ((c.tc : Thread Cert.ReferenceDinIdeal.nD Cert.ReferenceDinIdeal.τ).loc Cert.ReferenceDinIdeal.main_arg0)) (m ((c.tc : Thread Cert.ReferenceDinIdeal.nD Cert.ReferenceDinIdeal.τ).loc Cert.ReferenceDinIdeal.main_arg1)) (m ((c.tc : Thread Cert.ReferenceDinIdeal.nD Cert.ReferenceDinIdeal.τ).loc Cert.ReferenceDinIdeal.main_arg2)) (m ((c.tc : Thread Cert.ReferenceDinIdeal.nD Cert.ReferenceDinIdeal.τ).loc Cert.ReferenceDinIdeal.main_arg3)) (m ((c.tc : Thread Cert.ReferenceDinIdeal.nD Cert.ReferenceDinIdeal.τ).loc Cert.ReferenceDinIdeal.main_arg4))) = (fun _ => 1#1)

def Pre_KernelWcd (m : (ℓ : Loc Cert.KernelWcd.nD Cert.KernelWcd.τ Cert.KernelWcd.sig) → Buf (Elt Bits) ℓ) : Prop :=
  True

def Pre_KernelWcdIdeal (m : (ℓ : Loc Cert.KernelWcdIdeal.nD Cert.KernelWcdIdeal.τ Cert.KernelWcdIdeal.sig) → Buf (Elt Ideal) ℓ) : Prop :=
  True

def Pre_ReferenceWcdIdeal (m : (ℓ : Loc Cert.ReferenceWcdIdeal.nD Cert.ReferenceWcdIdeal.τ Cert.ReferenceWcdIdeal.sig) → Buf (Elt Ideal) ℓ) : Prop :=
  True

def Pre_KernelWout (m : (ℓ : Loc Cert.KernelWout.nD Cert.KernelWout.τ Cert.KernelWout.sig) → Buf (Elt Bits) ℓ) : Prop :=
  True

def Pre_KernelWoutIdeal (m : (ℓ : Loc Cert.KernelWoutIdeal.nD Cert.KernelWoutIdeal.τ Cert.KernelWoutIdeal.sig) → Buf (Elt Ideal) ℓ) : Prop :=
  True

def Pre_ReferenceWoutIdeal (m : (ℓ : Loc Cert.ReferenceWoutIdeal.nD Cert.ReferenceWoutIdeal.τ Cert.ReferenceWoutIdeal.sig) → Buf (Elt Ideal) ℓ) : Prop :=
  True

def Pre_KernelDout (m : (ℓ : Loc Cert.KernelDout.nD Cert.KernelDout.τ Cert.KernelDout.sig) → Buf (Elt Bits) ℓ) : Prop :=
  True

def Pre_KernelDoutIdeal (m : (ℓ : Loc Cert.KernelDoutIdeal.nD Cert.KernelDoutIdeal.τ Cert.KernelDoutIdeal.sig) → Buf (Elt Ideal) ℓ) : Prop :=
  True

def Pre_ReferenceDoutIdeal (m : (ℓ : Loc Cert.ReferenceDoutIdeal.nD Cert.ReferenceDoutIdeal.τ Cert.ReferenceDoutIdeal.sig) → Buf (Elt Ideal) ℓ) : Prop :=
  True

def Pre_KernelFfnOut (m : (ℓ : Loc Cert.KernelFfnOut.nD Cert.KernelFfnOut.τ Cert.KernelFfnOut.sig) → Buf (Elt Bits) ℓ) : Prop :=
  True

def Pre_KernelFfnOutIdeal (m : (ℓ : Loc Cert.KernelFfnOutIdeal.nD Cert.KernelFfnOutIdeal.τ Cert.KernelFfnOutIdeal.sig) → Buf (Elt Ideal) ℓ) : Prop :=
  True

def Pre_ReferenceFfnOutIdeal (m : (ℓ : Loc Cert.ReferenceFfnOutIdeal.nD Cert.ReferenceFfnOutIdeal.τ Cert.ReferenceFfnOutIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelProjOut (m : (ℓ : Loc Cert.KernelProjOut.nD Cert.KernelProjOut.τ Cert.KernelProjOut.sig) → Buf (Elt Bits) ℓ) : Prop :=
  True

def Pre_KernelProjOutIdeal (m : (ℓ : Loc Cert.KernelProjOutIdeal.nD Cert.KernelProjOutIdeal.τ Cert.KernelProjOutIdeal.sig) → Buf (Elt Ideal) ℓ) : Prop :=
  True

def Pre_ReferenceProjOutIdeal (m : (ℓ : Loc Cert.ReferenceProjOutIdeal.nD Cert.ReferenceProjOutIdeal.τ Cert.ReferenceProjOutIdeal.sig) → Buf (Elt Ideal) ℓ) : Prop :=
  True

def Pre_KernelProjCd (m : (ℓ : Loc Cert.KernelProjCd.nD Cert.KernelProjCd.τ Cert.KernelProjCd.sig) → Buf (Elt Bits) ℓ) : Prop :=
  True

def Pre_KernelProjCdIdeal (m : (ℓ : Loc Cert.KernelProjCdIdeal.nD Cert.KernelProjCdIdeal.τ Cert.KernelProjCdIdeal.sig) → Buf (Elt Ideal) ℓ) : Prop :=
  True

def Pre_ReferenceProjCdIdeal (m : (ℓ : Loc Cert.ReferenceProjCdIdeal.nD Cert.ReferenceProjCdIdeal.τ Cert.ReferenceProjCdIdeal.sig) → Buf (Elt Ideal) ℓ) : Prop :=
  True

def Pre_KernelDcd (m : (ℓ : Loc Cert.KernelDcd.nD Cert.KernelDcd.τ Cert.KernelDcd.sig) → Buf (Elt Bits) ℓ) : Prop :=
  True

def Pre_KernelDcdIdeal (m : (ℓ : Loc Cert.KernelDcdIdeal.nD Cert.KernelDcdIdeal.τ Cert.KernelDcdIdeal.sig) → Buf (Elt Ideal) ℓ) : Prop :=
  True

def Pre_KernelDcdIdeal_finite_dcd [hPre_finite_dcd : Cert.Pre_finite_dcd.Facts] (m : (ℓ : Loc Cert.KernelDcdIdeal.nD Cert.KernelDcdIdeal.τ Cert.KernelDcdIdeal.sig) → Buf (Elt Ideal) ℓ) : Prop :=
  ∀ c : Dev Cert.KernelDcdIdeal.nD,
    (Cert.Pre_finite_dcd.fn (F := Ideal) (m ((c.tc : Thread Cert.KernelDcdIdeal.nD Cert.KernelDcdIdeal.τ).loc Cert.KernelDcdIdeal.main_arg0)) (m ((c.tc : Thread Cert.KernelDcdIdeal.nD Cert.KernelDcdIdeal.τ).loc Cert.KernelDcdIdeal.main_arg1)) (m ((c.tc : Thread Cert.KernelDcdIdeal.nD Cert.KernelDcdIdeal.τ).loc Cert.KernelDcdIdeal.main_arg2)) (m ((c.tc : Thread Cert.KernelDcdIdeal.nD Cert.KernelDcdIdeal.τ).loc Cert.KernelDcdIdeal.main_arg3)) (m ((c.tc : Thread Cert.KernelDcdIdeal.nD Cert.KernelDcdIdeal.τ).loc Cert.KernelDcdIdeal.main_arg4))) = (fun _ => 1#1)

def Pre_ReferenceDcdIdeal (m : (ℓ : Loc Cert.ReferenceDcdIdeal.nD Cert.ReferenceDcdIdeal.τ Cert.ReferenceDcdIdeal.sig) → Buf (Elt Ideal) ℓ) : Prop :=
  True

def Pre_ReferenceDcdIdeal_finite_dcd [hPre_finite_dcd : Cert.Pre_finite_dcd.Facts] (m : (ℓ : Loc Cert.ReferenceDcdIdeal.nD Cert.ReferenceDcdIdeal.τ Cert.ReferenceDcdIdeal.sig) → Buf (Elt Ideal) ℓ) : Prop :=
  ∀ c : Dev Cert.ReferenceDcdIdeal.nD,
    (Cert.Pre_finite_dcd.fn (F := Ideal) (m ((c.tc : Thread Cert.ReferenceDcdIdeal.nD Cert.ReferenceDcdIdeal.τ).loc Cert.ReferenceDcdIdeal.main_arg0)) (m ((c.tc : Thread Cert.ReferenceDcdIdeal.nD Cert.ReferenceDcdIdeal.τ).loc Cert.ReferenceDcdIdeal.main_arg1)) (m ((c.tc : Thread Cert.ReferenceDcdIdeal.nD Cert.ReferenceDcdIdeal.τ).loc Cert.ReferenceDcdIdeal.main_arg2)) (m ((c.tc : Thread Cert.ReferenceDcdIdeal.nD Cert.ReferenceDcdIdeal.τ).loc Cert.ReferenceDcdIdeal.main_arg3)) (m ((c.tc : Thread Cert.ReferenceDcdIdeal.nD Cert.ReferenceDcdIdeal.τ).loc Cert.ReferenceDcdIdeal.main_arg4))) = (fun _ => 1#1)

def Pre_KernelMixFwd (m : (ℓ : Loc Cert.KernelMixFwd.nD Cert.KernelMixFwd.τ Cert.KernelMixFwd.sig) → Buf (Elt Bits) ℓ) : Prop :=
  True

def Pre_KernelMixFwdIdeal (m : (ℓ : Loc Cert.KernelMixFwdIdeal.nD Cert.KernelMixFwdIdeal.τ Cert.KernelMixFwdIdeal.sig) → Buf (Elt Ideal) ℓ) : Prop :=
  True

def Pre_ReferenceMixFwdIdeal (m : (ℓ : Loc Cert.ReferenceMixFwdIdeal.nD Cert.ReferenceMixFwdIdeal.τ Cert.ReferenceMixFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelGateUp [hKernelGateUp : Cert.KernelGateUp.Facts] : Prop :=
  ∀ (m : (ℓ : Loc Cert.KernelGateUp.nD Cert.KernelGateUp.τ Cert.KernelGateUp.sig) → Buf (Elt Bits) ℓ) (g : Dev Cert.KernelGateUp.nD → PrngReg), Pre_KernelGateUp m →
    θ_run (Cert.KernelGateUp.defs (F := Bits)) (onTc (τ := Cert.KernelGateUp.τ) (Cert.KernelGateUp.main (F := Bits))) ⟨m, fun _ => 0, g⟩ (fun r => (∀ c : Dev Cert.KernelGateUp.nD,
      r.2.mem ((c.tc : Thread Cert.KernelGateUp.nD Cert.KernelGateUp.τ).loc Cert.KernelGateUp.main_arg0) = m ((c.tc : Thread Cert.KernelGateUp.nD Cert.KernelGateUp.τ).loc Cert.KernelGateUp.main_arg0)
      ∧ r.2.mem ((c.tc : Thread Cert.KernelGateUp.nD Cert.KernelGateUp.τ).loc Cert.KernelGateUp.main_arg1) = m ((c.tc : Thread Cert.KernelGateUp.nD Cert.KernelGateUp.τ).loc Cert.KernelGateUp.main_arg1)
      ∧ r.2.mem ((c.tc : Thread Cert.KernelGateUp.nD Cert.KernelGateUp.τ).loc Cert.KernelGateUp.main_arg2) = m ((c.tc : Thread Cert.KernelGateUp.nD Cert.KernelGateUp.τ).loc Cert.KernelGateUp.main_arg2))
      ∧ r.2.sem = fun _ => 0)

def quiescent_KernelGateUpIdeal [hKernelGateUpIdeal : Cert.KernelGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg), Pre_KernelGateUpIdeal m →
    θ_run (Cert.KernelGateUpIdeal.defs (F := Ideal)) (onTc (τ := Cert.KernelGateUpIdeal.τ) (Cert.KernelGateUpIdeal.main (F := Ideal))) ⟨m, fun _ => 0, g⟩ (fun r => (∀ c : Dev Cert.KernelGateUpIdeal.nD,
      r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
      ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
      ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ r.2.sem = fun _ => 0)

def quiescent_ReferenceGateUpIdeal [hReferenceGateUpIdeal : Cert.ReferenceGateUpIdeal.Facts] : Prop :=
  ∀ (m : (ℓ : Loc Cert.ReferenceGateUpIdeal.nD Cert.ReferenceGateUpIdeal.τ Cert.ReferenceGateUpIdeal.sig) → Buf (Elt Ideal) ℓ) (g : Dev Cert.ReferenceGateUpIdeal.nD → PrngReg), Pre_ReferenceGateUpIdeal m →
    θ_run (Cert.ReferenceGateUpIdeal.defs (F := Ideal)) (onTc (τ := Cert.ReferenceGateUpIdeal.τ) (Cert.ReferenceGateUpIdeal.main (F := Ideal))) ⟨m, fun _ => 0, g⟩ (fun r => (∀ c : Dev Cert.ReferenceGateUpIdeal.nD,
      r.2.mem ((c.tc : Thread Cert.ReferenceGateUpIdeal.nD Cert.ReferenceGateUpIdeal.τ).loc Cert.ReferenceGateUpIdeal.main_arg0) = m ((c.tc : Thread Cert.ReferenceGateUpIdeal.nD Cert.ReferenceGateUpIdeal.τ).loc Cert.ReferenceGateUpIdeal.main_arg0)
      ∧ r.2.mem ((c.tc : Thread Cert.ReferenceGateUpIdeal.nD Cert.ReferenceGateUpIdeal.τ).loc Cert.ReferenceGateUpIdeal.main_arg1) = m ((c.tc : Thread Cert.ReferenceGateUpIdeal.nD Cert.ReferenceGateUpIdeal.τ).loc Cert.ReferenceGateUpIdeal.main_arg1)
      ∧ r.2.mem ((c.tc : Thread Cert.ReferenceGateUpIdeal.nD Cert.ReferenceGateUpIdeal.τ).loc Cert.ReferenceGateUpIdeal.main_arg2) = m ((c.tc : Thread Cert.ReferenceGateUpIdeal.nD Cert.ReferenceGateUpIdeal.τ).loc Cert.ReferenceGateUpIdeal.main_arg2))
      ∧ r.2.sem = fun _ => 0)

def quiescent_KernelDgrad [hKernelDgrad : Cert.KernelDgrad.Facts] : Prop :=
  ∀ (m : (ℓ : Loc Cert.KernelDgrad.nD Cert.KernelDgrad.τ Cert.KernelDgrad.sig) → Buf (Elt Bits) ℓ) (g : Dev Cert.KernelDgrad.nD → PrngReg), Pre_KernelDgrad m →
    θ_run (Cert.KernelDgrad.defs (F := Bits)) (onTc (τ := Cert.KernelDgrad.τ) (Cert.KernelDgrad.main (F := Bits))) ⟨m, fun _ => 0, g⟩ (fun r => (∀ c : Dev Cert.KernelDgrad.nD,
      r.2.mem ((c.tc : Thread Cert.KernelDgrad.nD Cert.KernelDgrad.τ).loc Cert.KernelDgrad.main_arg0) = m ((c.tc : Thread Cert.KernelDgrad.nD Cert.KernelDgrad.τ).loc Cert.KernelDgrad.main_arg0)
      ∧ r.2.mem ((c.tc : Thread Cert.KernelDgrad.nD Cert.KernelDgrad.τ).loc Cert.KernelDgrad.main_arg1) = m ((c.tc : Thread Cert.KernelDgrad.nD Cert.KernelDgrad.τ).loc Cert.KernelDgrad.main_arg1)
      ∧ r.2.mem ((c.tc : Thread Cert.KernelDgrad.nD Cert.KernelDgrad.τ).loc Cert.KernelDgrad.main_arg2) = m ((c.tc : Thread Cert.KernelDgrad.nD Cert.KernelDgrad.τ).loc Cert.KernelDgrad.main_arg2)
      ∧ r.2.mem ((c.tc : Thread Cert.KernelDgrad.nD Cert.KernelDgrad.τ).loc Cert.KernelDgrad.main_arg3) = m ((c.tc : Thread Cert.KernelDgrad.nD Cert.KernelDgrad.τ).loc Cert.KernelDgrad.main_arg3)
      ∧ r.2.mem ((c.tc : Thread Cert.KernelDgrad.nD Cert.KernelDgrad.τ).loc Cert.KernelDgrad.main_arg4) = m ((c.tc : Thread Cert.KernelDgrad.nD Cert.KernelDgrad.τ).loc Cert.KernelDgrad.main_arg4)
      ∧ r.2.mem ((c.tc : Thread Cert.KernelDgrad.nD Cert.KernelDgrad.τ).loc Cert.KernelDgrad.main_arg5) = m ((c.tc : Thread Cert.KernelDgrad.nD Cert.KernelDgrad.τ).loc Cert.KernelDgrad.main_arg5)
      ∧ r.2.mem ((c.tc : Thread Cert.KernelDgrad.nD Cert.KernelDgrad.τ).loc Cert.KernelDgrad.main_arg6) = m ((c.tc : Thread Cert.KernelDgrad.nD Cert.KernelDgrad.τ).loc Cert.KernelDgrad.main_arg6))
      ∧ r.2.sem = fun _ => 0)

def quiescent_KernelDgradIdeal [hKernelDgradIdeal : Cert.KernelDgradIdeal.Facts] : Prop :=
  ∀ (m : (ℓ : Loc Cert.KernelDgradIdeal.nD Cert.KernelDgradIdeal.τ Cert.KernelDgradIdeal.sig) → Buf (Elt Ideal) ℓ) (g : Dev Cert.KernelDgradIdeal.nD → PrngReg), Pre_KernelDgradIdeal m →
    θ_run (Cert.KernelDgradIdeal.defs (F := Ideal)) (onTc (τ := Cert.KernelDgradIdeal.τ) (Cert.KernelDgradIdeal.main (F := Ideal))) ⟨m, fun _ => 0, g⟩ (fun r => (∀ c : Dev Cert.KernelDgradIdeal.nD,
      r.2.mem ((c.tc : Thread Cert.KernelDgradIdeal.nD Cert.KernelDgradIdeal.τ).loc Cert.KernelDgradIdeal.main_arg0) = m ((c.tc : Thread Cert.KernelDgradIdeal.nD Cert.KernelDgradIdeal.τ).loc Cert.KernelDgradIdeal.main_arg0)
      ∧ r.2.mem ((c.tc : Thread Cert.KernelDgradIdeal.nD Cert.KernelDgradIdeal.τ).loc Cert.KernelDgradIdeal.main_arg1) = m ((c.tc : Thread Cert.KernelDgradIdeal.nD Cert.KernelDgradIdeal.τ).loc Cert.KernelDgradIdeal.main_arg1)
      ∧ r.2.mem ((c.tc : Thread Cert.KernelDgradIdeal.nD Cert.KernelDgradIdeal.τ).loc Cert.KernelDgradIdeal.main_arg2) = m ((c.tc : Thread Cert.KernelDgradIdeal.nD Cert.KernelDgradIdeal.τ).loc Cert.KernelDgradIdeal.main_arg2)
      ∧ r.2.mem ((c.tc : Thread Cert.KernelDgradIdeal.nD Cert.KernelDgradIdeal.τ).loc Cert.KernelDgradIdeal.main_arg3) = m ((c.tc : Thread Cert.KernelDgradIdeal.nD Cert.KernelDgradIdeal.τ).loc Cert.KernelDgradIdeal.main_arg3)
      ∧ r.2.mem ((c.tc : Thread Cert.KernelDgradIdeal.nD Cert.KernelDgradIdeal.τ).loc Cert.KernelDgradIdeal.main_arg4) = m ((c.tc : Thread Cert.KernelDgradIdeal.nD Cert.KernelDgradIdeal.τ).loc Cert.KernelDgradIdeal.main_arg4)
      ∧ r.2.mem ((c.tc : Thread Cert.KernelDgradIdeal.nD Cert.KernelDgradIdeal.τ).loc Cert.KernelDgradIdeal.main_arg5) = m ((c.tc : Thread Cert.KernelDgradIdeal.nD Cert.KernelDgradIdeal.τ).loc Cert.KernelDgradIdeal.main_arg5)
      ∧ r.2.mem ((c.tc : Thread Cert.KernelDgradIdeal.nD Cert.KernelDgradIdeal.τ).loc Cert.KernelDgradIdeal.main_arg6) = m ((c.tc : Thread Cert.KernelDgradIdeal.nD Cert.KernelDgradIdeal.τ).loc Cert.KernelDgradIdeal.main_arg6))
      ∧ r.2.sem = fun _ => 0)

def quiescent_KernelDgradIdeal_pre_finite_dgrad [hKernelDgradIdeal : Cert.KernelDgradIdeal.Facts] [hPre_finite_dgrad : Cert.Pre_finite_dgrad.Facts] : Prop :=
  ∀ (m : (ℓ : Loc Cert.KernelDgradIdeal.nD Cert.KernelDgradIdeal.τ Cert.KernelDgradIdeal.sig) → Buf (Elt Ideal) ℓ) (g : Dev Cert.KernelDgradIdeal.nD → PrngReg), Pre_KernelDgradIdeal_finite_dgrad m →
    θ_run (Cert.KernelDgradIdeal.defs (F := Ideal)) (onTc (τ := Cert.KernelDgradIdeal.τ) (Cert.KernelDgradIdeal.main (F := Ideal))) ⟨m, fun _ => 0, g⟩ (fun r => (∀ c : Dev Cert.KernelDgradIdeal.nD,
      r.2.mem ((c.tc : Thread Cert.KernelDgradIdeal.nD Cert.KernelDgradIdeal.τ).loc Cert.KernelDgradIdeal.main_arg0) = m ((c.tc : Thread Cert.KernelDgradIdeal.nD Cert.KernelDgradIdeal.τ).loc Cert.KernelDgradIdeal.main_arg0)
      ∧ r.2.mem ((c.tc : Thread Cert.KernelDgradIdeal.nD Cert.KernelDgradIdeal.τ).loc Cert.KernelDgradIdeal.main_arg1) = m ((c.tc : Thread Cert.KernelDgradIdeal.nD Cert.KernelDgradIdeal.τ).loc Cert.KernelDgradIdeal.main_arg1)
      ∧ r.2.mem ((c.tc : Thread Cert.KernelDgradIdeal.nD Cert.KernelDgradIdeal.τ).loc Cert.KernelDgradIdeal.main_arg2) = m ((c.tc : Thread Cert.KernelDgradIdeal.nD Cert.KernelDgradIdeal.τ).loc Cert.KernelDgradIdeal.main_arg2)
      ∧ r.2.mem ((c.tc : Thread Cert.KernelDgradIdeal.nD Cert.KernelDgradIdeal.τ).loc Cert.KernelDgradIdeal.main_arg3) = m ((c.tc : Thread Cert.KernelDgradIdeal.nD Cert.KernelDgradIdeal.τ).loc Cert.KernelDgradIdeal.main_arg3)
      ∧ r.2.mem ((c.tc : Thread Cert.KernelDgradIdeal.nD Cert.KernelDgradIdeal.τ).loc Cert.KernelDgradIdeal.main_arg4) = m ((c.tc : Thread Cert.KernelDgradIdeal.nD Cert.KernelDgradIdeal.τ).loc Cert.KernelDgradIdeal.main_arg4)
      ∧ r.2.mem ((c.tc : Thread Cert.KernelDgradIdeal.nD Cert.KernelDgradIdeal.τ).loc Cert.KernelDgradIdeal.main_arg5) = m ((c.tc : Thread Cert.KernelDgradIdeal.nD Cert.KernelDgradIdeal.τ).loc Cert.KernelDgradIdeal.main_arg5)
      ∧ r.2.mem ((c.tc : Thread Cert.KernelDgradIdeal.nD Cert.KernelDgradIdeal.τ).loc Cert.KernelDgradIdeal.main_arg6) = m ((c.tc : Thread Cert.KernelDgradIdeal.nD Cert.KernelDgradIdeal.τ).loc Cert.KernelDgradIdeal.main_arg6))
      ∧ r.2.sem = fun _ => 0)

def quiescent_ReferenceDgradIdeal [hReferenceDgradIdeal : Cert.ReferenceDgradIdeal.Facts] : Prop :=
  ∀ (m : (ℓ : Loc Cert.ReferenceDgradIdeal.nD Cert.ReferenceDgradIdeal.τ Cert.ReferenceDgradIdeal.sig) → Buf (Elt Ideal) ℓ) (g : Dev Cert.ReferenceDgradIdeal.nD → PrngReg), Pre_ReferenceDgradIdeal m →
    θ_run (Cert.ReferenceDgradIdeal.defs (F := Ideal)) (onTc (τ := Cert.ReferenceDgradIdeal.τ) (Cert.ReferenceDgradIdeal.main (F := Ideal))) ⟨m, fun _ => 0, g⟩ (fun r => (∀ c : Dev Cert.ReferenceDgradIdeal.nD,
      r.2.mem ((c.tc : Thread Cert.ReferenceDgradIdeal.nD Cert.ReferenceDgradIdeal.τ).loc Cert.ReferenceDgradIdeal.main_arg0) = m ((c.tc : Thread Cert.ReferenceDgradIdeal.nD Cert.ReferenceDgradIdeal.τ).loc Cert.ReferenceDgradIdeal.main_arg0)
      ∧ r.2.mem ((c.tc : Thread Cert.ReferenceDgradIdeal.nD Cert.ReferenceDgradIdeal.τ).loc Cert.ReferenceDgradIdeal.main_arg1) = m ((c.tc : Thread Cert.ReferenceDgradIdeal.nD Cert.ReferenceDgradIdeal.τ).loc Cert.ReferenceDgradIdeal.main_arg1)
      ∧ r.2.mem ((c.tc : Thread Cert.ReferenceDgradIdeal.nD Cert.ReferenceDgradIdeal.τ).loc Cert.ReferenceDgradIdeal.main_arg2) = m ((c.tc : Thread Cert.ReferenceDgradIdeal.nD Cert.ReferenceDgradIdeal.τ).loc Cert.ReferenceDgradIdeal.main_arg2)
      ∧ r.2.mem ((c.tc : Thread Cert.ReferenceDgradIdeal.nD Cert.ReferenceDgradIdeal.τ).loc Cert.ReferenceDgradIdeal.main_arg3) = m ((c.tc : Thread Cert.ReferenceDgradIdeal.nD Cert.ReferenceDgradIdeal.τ).loc Cert.ReferenceDgradIdeal.main_arg3)
      ∧ r.2.mem ((c.tc : Thread Cert.ReferenceDgradIdeal.nD Cert.ReferenceDgradIdeal.τ).loc Cert.ReferenceDgradIdeal.main_arg4) = m ((c.tc : Thread Cert.ReferenceDgradIdeal.nD Cert.ReferenceDgradIdeal.τ).loc Cert.ReferenceDgradIdeal.main_arg4)
      ∧ r.2.mem ((c.tc : Thread Cert.ReferenceDgradIdeal.nD Cert.ReferenceDgradIdeal.τ).loc Cert.ReferenceDgradIdeal.main_arg5) = m ((c.tc : Thread Cert.ReferenceDgradIdeal.nD Cert.ReferenceDgradIdeal.τ).loc Cert.ReferenceDgradIdeal.main_arg5)
      ∧ r.2.mem ((c.tc : Thread Cert.ReferenceDgradIdeal.nD Cert.ReferenceDgradIdeal.τ).loc Cert.ReferenceDgradIdeal.main_arg6) = m ((c.tc : Thread Cert.ReferenceDgradIdeal.nD Cert.ReferenceDgradIdeal.τ).loc Cert.ReferenceDgradIdeal.main_arg6))
      ∧ r.2.sem = fun _ => 0)

def quiescent_ReferenceDgradIdeal_pre_finite_dgrad [hReferenceDgradIdeal : Cert.ReferenceDgradIdeal.Facts] [hPre_finite_dgrad : Cert.Pre_finite_dgrad.Facts] : Prop :=
  ∀ (m : (ℓ : Loc Cert.ReferenceDgradIdeal.nD Cert.ReferenceDgradIdeal.τ Cert.ReferenceDgradIdeal.sig) → Buf (Elt Ideal) ℓ) (g : Dev Cert.ReferenceDgradIdeal.nD → PrngReg), Pre_ReferenceDgradIdeal_finite_dgrad m →
    θ_run (Cert.ReferenceDgradIdeal.defs (F := Ideal)) (onTc (τ := Cert.ReferenceDgradIdeal.τ) (Cert.ReferenceDgradIdeal.main (F := Ideal))) ⟨m, fun _ => 0, g⟩ (fun r => (∀ c : Dev Cert.ReferenceDgradIdeal.nD,
      r.2.mem ((c.tc : Thread Cert.ReferenceDgradIdeal.nD Cert.ReferenceDgradIdeal.τ).loc Cert.ReferenceDgradIdeal.main_arg0) = m ((c.tc : Thread Cert.ReferenceDgradIdeal.nD Cert.ReferenceDgradIdeal.τ).loc Cert.ReferenceDgradIdeal.main_arg0)
      ∧ r.2.mem ((c.tc : Thread Cert.ReferenceDgradIdeal.nD Cert.ReferenceDgradIdeal.τ).loc Cert.ReferenceDgradIdeal.main_arg1) = m ((c.tc : Thread Cert.ReferenceDgradIdeal.nD Cert.ReferenceDgradIdeal.τ).loc Cert.ReferenceDgradIdeal.main_arg1)
      ∧ r.2.mem ((c.tc : Thread Cert.ReferenceDgradIdeal.nD Cert.ReferenceDgradIdeal.τ).loc Cert.ReferenceDgradIdeal.main_arg2) = m ((c.tc : Thread Cert.ReferenceDgradIdeal.nD Cert.ReferenceDgradIdeal.τ).loc Cert.ReferenceDgradIdeal.main_arg2)
      ∧ r.2.mem ((c.tc : Thread Cert.ReferenceDgradIdeal.nD Cert.ReferenceDgradIdeal.τ).loc Cert.ReferenceDgradIdeal.main_arg3) = m ((c.tc : Thread Cert.ReferenceDgradIdeal.nD Cert.ReferenceDgradIdeal.τ).loc Cert.ReferenceDgradIdeal.main_arg3)
      ∧ r.2.mem ((c.tc : Thread Cert.ReferenceDgradIdeal.nD Cert.ReferenceDgradIdeal.τ).loc Cert.ReferenceDgradIdeal.main_arg4) = m ((c.tc : Thread Cert.ReferenceDgradIdeal.nD Cert.ReferenceDgradIdeal.τ).loc Cert.ReferenceDgradIdeal.main_arg4)
      ∧ r.2.mem ((c.tc : Thread Cert.ReferenceDgradIdeal.nD Cert.ReferenceDgradIdeal.τ).loc Cert.ReferenceDgradIdeal.main_arg5) = m ((c.tc : Thread Cert.ReferenceDgradIdeal.nD Cert.ReferenceDgradIdeal.τ).loc Cert.ReferenceDgradIdeal.main_arg5)
      ∧ r.2.mem ((c.tc : Thread Cert.ReferenceDgradIdeal.nD Cert.ReferenceDgradIdeal.τ).loc Cert.ReferenceDgradIdeal.main_arg6) = m ((c.tc : Thread Cert.ReferenceDgradIdeal.nD Cert.ReferenceDgradIdeal.τ).loc Cert.ReferenceDgradIdeal.main_arg6))
      ∧ r.2.sem = fun _ => 0)

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1)
      ∧ r.2.mem ((c.tc : Thread Cert.KernelFfnIn.nD Cert.KernelFfnIn.τ).loc Cert.KernelFfnIn.main_arg2) = m ((c.tc : Thread Cert.KernelFfnIn.nD Cert.KernelFfnIn.τ).loc Cert.KernelFfnIn.main_arg2))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2))
      ∧ r.2.sem = fun _ => 0)

def quiescent_KernelFfnInIdeal_pre_finite_ffn_in [hKernelFfnInIdeal : Cert.KernelFfnInIdeal.Facts] [hPre_finite_ffn_in : Cert.Pre_finite_ffn_in.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal_finite_ffn_in m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2))
      ∧ r.2.sem = fun _ => 0)

def quiescent_ReferenceFfnInIdeal_pre_finite_ffn_in [hReferenceFfnInIdeal : Cert.ReferenceFfnInIdeal.Facts] [hPre_finite_ffn_in : Cert.Pre_finite_ffn_in.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal_finite_ffn_in m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelDin [hKernelDin : Cert.KernelDin.Facts] : Prop :=
  ∀ (m : (ℓ : Loc Cert.KernelDin.nD Cert.KernelDin.τ Cert.KernelDin.sig) → Buf (Elt Bits) ℓ) (g : Dev Cert.KernelDin.nD → PrngReg), Pre_KernelDin m →
    θ_run (Cert.KernelDin.defs (F := Bits)) (onTc (τ := Cert.KernelDin.τ) (Cert.KernelDin.main (F := Bits))) ⟨m, fun _ => 0, g⟩ (fun r => (∀ c : Dev Cert.KernelDin.nD,
      r.2.mem ((c.tc : Thread Cert.KernelDin.nD Cert.KernelDin.τ).loc Cert.KernelDin.main_arg0) = m ((c.tc : Thread Cert.KernelDin.nD Cert.KernelDin.τ).loc Cert.KernelDin.main_arg0)
      ∧ r.2.mem ((c.tc : Thread Cert.KernelDin.nD Cert.KernelDin.τ).loc Cert.KernelDin.main_arg1) = m ((c.tc : Thread Cert.KernelDin.nD Cert.KernelDin.τ).loc Cert.KernelDin.main_arg1)
      ∧ r.2.mem ((c.tc : Thread Cert.KernelDin.nD Cert.KernelDin.τ).loc Cert.KernelDin.main_arg2) = m ((c.tc : Thread Cert.KernelDin.nD Cert.KernelDin.τ).loc Cert.KernelDin.main_arg2)
      ∧ r.2.mem ((c.tc : Thread Cert.KernelDin.nD Cert.KernelDin.τ).loc Cert.KernelDin.main_arg3) = m ((c.tc : Thread Cert.KernelDin.nD Cert.KernelDin.τ).loc Cert.KernelDin.main_arg3)
      ∧ r.2.mem ((c.tc : Thread Cert.KernelDin.nD Cert.KernelDin.τ).loc Cert.KernelDin.main_arg4) = m ((c.tc : Thread Cert.KernelDin.nD Cert.KernelDin.τ).loc Cert.KernelDin.main_arg4))
      ∧ r.2.sem = fun _ => 0)

def quiescent_KernelDinIdeal [hKernelDinIdeal : Cert.KernelDinIdeal.Facts] : Prop :=
  ∀ (m : (ℓ : Loc Cert.KernelDinIdeal.nD Cert.KernelDinIdeal.τ Cert.KernelDinIdeal.sig) → Buf (Elt Ideal) ℓ) (g : Dev Cert.KernelDinIdeal.nD → PrngReg), Pre_KernelDinIdeal m →
    θ_run (Cert.KernelDinIdeal.defs (F := Ideal)) (onTc (τ := Cert.KernelDinIdeal.τ) (Cert.KernelDinIdeal.main (F := Ideal))) ⟨m, fun _ => 0, g⟩ (fun r => (∀ c : Dev Cert.KernelDinIdeal.nD,
      r.2.mem ((c.tc : Thread Cert.KernelDinIdeal.nD Cert.KernelDinIdeal.τ).loc Cert.KernelDinIdeal.main_arg0) = m ((c.tc : Thread Cert.KernelDinIdeal.nD Cert.KernelDinIdeal.τ).loc Cert.KernelDinIdeal.main_arg0)
      ∧ r.2.mem ((c.tc : Thread Cert.KernelDinIdeal.nD Cert.KernelDinIdeal.τ).loc Cert.KernelDinIdeal.main_arg1) = m ((c.tc : Thread Cert.KernelDinIdeal.nD Cert.KernelDinIdeal.τ).loc Cert.KernelDinIdeal.main_arg1)
      ∧ r.2.mem ((c.tc : Thread Cert.KernelDinIdeal.nD Cert.KernelDinIdeal.τ).loc Cert.KernelDinIdeal.main_arg2) = m ((c.tc : Thread Cert.KernelDinIdeal.nD Cert.KernelDinIdeal.τ).loc Cert.KernelDinIdeal.main_arg2)
      ∧ r.2.mem ((c.tc : Thread Cert.KernelDinIdeal.nD Cert.KernelDinIdeal.τ).loc Cert.KernelDinIdeal.main_arg3) = m ((c.tc : Thread Cert.KernelDinIdeal.nD Cert.KernelDinIdeal.τ).loc Cert.KernelDinIdeal.main_arg3)
      ∧ r.2.mem ((c.tc : Thread Cert.KernelDinIdeal.nD Cert.KernelDinIdeal.τ).loc Cert.KernelDinIdeal.main_arg4) = m ((c.tc : Thread Cert.KernelDinIdeal.nD Cert.KernelDinIdeal.τ).loc Cert.KernelDinIdeal.main_arg4))
      ∧ r.2.sem = fun _ => 0)

def quiescent_KernelDinIdeal_pre_finite_din [hKernelDinIdeal : Cert.KernelDinIdeal.Facts] [hPre_finite_din : Cert.Pre_finite_din.Facts] : Prop :=
  ∀ (m : (ℓ : Loc Cert.KernelDinIdeal.nD Cert.KernelDinIdeal.τ Cert.KernelDinIdeal.sig) → Buf (Elt Ideal) ℓ) (g : Dev Cert.KernelDinIdeal.nD → PrngReg), Pre_KernelDinIdeal_finite_din m →
    θ_run (Cert.KernelDinIdeal.defs (F := Ideal)) (onTc (τ := Cert.KernelDinIdeal.τ) (Cert.KernelDinIdeal.main (F := Ideal))) ⟨m, fun _ => 0, g⟩ (fun r => (∀ c : Dev Cert.KernelDinIdeal.nD,
      r.2.mem ((c.tc : Thread Cert.KernelDinIdeal.nD Cert.KernelDinIdeal.τ).loc Cert.KernelDinIdeal.main_arg0) = m ((c.tc : Thread Cert.KernelDinIdeal.nD Cert.KernelDinIdeal.τ).loc Cert.KernelDinIdeal.main_arg0)
      ∧ r.2.mem ((c.tc : Thread Cert.KernelDinIdeal.nD Cert.KernelDinIdeal.τ).loc Cert.KernelDinIdeal.main_arg1) = m ((c.tc : Thread Cert.KernelDinIdeal.nD Cert.KernelDinIdeal.τ).loc Cert.KernelDinIdeal.main_arg1)
      ∧ r.2.mem ((c.tc : Thread Cert.KernelDinIdeal.nD Cert.KernelDinIdeal.τ).loc Cert.KernelDinIdeal.main_arg2) = m ((c.tc : Thread Cert.KernelDinIdeal.nD Cert.KernelDinIdeal.τ).loc Cert.KernelDinIdeal.main_arg2)
      ∧ r.2.mem ((c.tc : Thread Cert.KernelDinIdeal.nD Cert.KernelDinIdeal.τ).loc Cert.KernelDinIdeal.main_arg3) = m ((c.tc : Thread Cert.KernelDinIdeal.nD Cert.KernelDinIdeal.τ).loc Cert.KernelDinIdeal.main_arg3)
      ∧ r.2.mem ((c.tc : Thread Cert.KernelDinIdeal.nD Cert.KernelDinIdeal.τ).loc Cert.KernelDinIdeal.main_arg4) = m ((c.tc : Thread Cert.KernelDinIdeal.nD Cert.KernelDinIdeal.τ).loc Cert.KernelDinIdeal.main_arg4))
      ∧ r.2.sem = fun _ => 0)

def quiescent_ReferenceDinIdeal [hReferenceDinIdeal : Cert.ReferenceDinIdeal.Facts] : Prop :=
  ∀ (m : (ℓ : Loc Cert.ReferenceDinIdeal.nD Cert.ReferenceDinIdeal.τ Cert.ReferenceDinIdeal.sig) → Buf (Elt Ideal) ℓ) (g : Dev Cert.ReferenceDinIdeal.nD → PrngReg), Pre_ReferenceDinIdeal m →
    θ_run (Cert.ReferenceDinIdeal.defs (F := Ideal)) (onTc (τ := Cert.ReferenceDinIdeal.τ) (Cert.ReferenceDinIdeal.main (F := Ideal))) ⟨m, fun _ => 0, g⟩ (fun r => (∀ c : Dev Cert.ReferenceDinIdeal.nD,
      r.2.mem ((c.tc : Thread Cert.ReferenceDinIdeal.nD Cert.ReferenceDinIdeal.τ).loc Cert.ReferenceDinIdeal.main_arg0) = m ((c.tc : Thread Cert.ReferenceDinIdeal.nD Cert.ReferenceDinIdeal.τ).loc Cert.ReferenceDinIdeal.main_arg0)
      ∧ r.2.mem ((c.tc : Thread Cert.ReferenceDinIdeal.nD Cert.ReferenceDinIdeal.τ).loc Cert.ReferenceDinIdeal.main_arg1) = m ((c.tc : Thread Cert.ReferenceDinIdeal.nD Cert.ReferenceDinIdeal.τ).loc Cert.ReferenceDinIdeal.main_arg1)
      ∧ r.2.mem ((c.tc : Thread Cert.ReferenceDinIdeal.nD Cert.ReferenceDinIdeal.τ).loc Cert.ReferenceDinIdeal.main_arg2) = m ((c.tc : Thread Cert.ReferenceDinIdeal.nD Cert.ReferenceDinIdeal.τ).loc Cert.ReferenceDinIdeal.main_arg2)
      ∧ r.2.mem ((c.tc : Thread Cert.ReferenceDinIdeal.nD Cert.ReferenceDinIdeal.τ).loc Cert.ReferenceDinIdeal.main_arg3) = m ((c.tc : Thread Cert.ReferenceDinIdeal.nD Cert.ReferenceDinIdeal.τ).loc Cert.ReferenceDinIdeal.main_arg3)
      ∧ r.2.mem ((c.tc : Thread Cert.ReferenceDinIdeal.nD Cert.ReferenceDinIdeal.τ).loc Cert.ReferenceDinIdeal.main_arg4) = m ((c.tc : Thread Cert.ReferenceDinIdeal.nD Cert.ReferenceDinIdeal.τ).loc Cert.ReferenceDinIdeal.main_arg4))
      ∧ r.2.sem = fun _ => 0)

def quiescent_ReferenceDinIdeal_pre_finite_din [hReferenceDinIdeal : Cert.ReferenceDinIdeal.Facts] [hPre_finite_din : Cert.Pre_finite_din.Facts] : Prop :=
  ∀ (m : (ℓ : Loc Cert.ReferenceDinIdeal.nD Cert.ReferenceDinIdeal.τ Cert.ReferenceDinIdeal.sig) → Buf (Elt Ideal) ℓ) (g : Dev Cert.ReferenceDinIdeal.nD → PrngReg), Pre_ReferenceDinIdeal_finite_din m →
    θ_run (Cert.ReferenceDinIdeal.defs (F := Ideal)) (onTc (τ := Cert.ReferenceDinIdeal.τ) (Cert.ReferenceDinIdeal.main (F := Ideal))) ⟨m, fun _ => 0, g⟩ (fun r => (∀ c : Dev Cert.ReferenceDinIdeal.nD,
      r.2.mem ((c.tc : Thread Cert.ReferenceDinIdeal.nD Cert.ReferenceDinIdeal.τ).loc Cert.ReferenceDinIdeal.main_arg0) = m ((c.tc : Thread Cert.ReferenceDinIdeal.nD Cert.ReferenceDinIdeal.τ).loc Cert.ReferenceDinIdeal.main_arg0)
      ∧ r.2.mem ((c.tc : Thread Cert.ReferenceDinIdeal.nD Cert.ReferenceDinIdeal.τ).loc Cert.ReferenceDinIdeal.main_arg1) = m ((c.tc : Thread Cert.ReferenceDinIdeal.nD Cert.ReferenceDinIdeal.τ).loc Cert.ReferenceDinIdeal.main_arg1)
      ∧ r.2.mem ((c.tc : Thread Cert.ReferenceDinIdeal.nD Cert.ReferenceDinIdeal.τ).loc Cert.ReferenceDinIdeal.main_arg2) = m ((c.tc : Thread Cert.ReferenceDinIdeal.nD Cert.ReferenceDinIdeal.τ).loc Cert.ReferenceDinIdeal.main_arg2)
      ∧ r.2.mem ((c.tc : Thread Cert.ReferenceDinIdeal.nD Cert.ReferenceDinIdeal.τ).loc Cert.ReferenceDinIdeal.main_arg3) = m ((c.tc : Thread Cert.ReferenceDinIdeal.nD Cert.ReferenceDinIdeal.τ).loc Cert.ReferenceDinIdeal.main_arg3)
      ∧ r.2.mem ((c.tc : Thread Cert.ReferenceDinIdeal.nD Cert.ReferenceDinIdeal.τ).loc Cert.ReferenceDinIdeal.main_arg4) = m ((c.tc : Thread Cert.ReferenceDinIdeal.nD Cert.ReferenceDinIdeal.τ).loc Cert.ReferenceDinIdeal.main_arg4))
      ∧ r.2.sem = fun _ => 0)

def quiescent_KernelWcd [hKernelWcd : Cert.KernelWcd.Facts] : Prop :=
  ∀ (m : (ℓ : Loc Cert.KernelWcd.nD Cert.KernelWcd.τ Cert.KernelWcd.sig) → Buf (Elt Bits) ℓ) (g : Dev Cert.KernelWcd.nD → PrngReg), Pre_KernelWcd m →
    θ_run (Cert.KernelWcd.defs (F := Bits)) (onTc (τ := Cert.KernelWcd.τ) (Cert.KernelWcd.main (F := Bits))) ⟨m, fun _ => 0, g⟩ (fun r => (∀ c : Dev Cert.KernelWcd.nD,
      r.2.mem ((c.tc : Thread Cert.KernelWcd.nD Cert.KernelWcd.τ).loc Cert.KernelWcd.main_arg0) = m ((c.tc : Thread Cert.KernelWcd.nD Cert.KernelWcd.τ).loc Cert.KernelWcd.main_arg0)
      ∧ r.2.mem ((c.tc : Thread Cert.KernelWcd.nD Cert.KernelWcd.τ).loc Cert.KernelWcd.main_arg1) = m ((c.tc : Thread Cert.KernelWcd.nD Cert.KernelWcd.τ).loc Cert.KernelWcd.main_arg1))
      ∧ r.2.sem = fun _ => 0)

def quiescent_KernelWcdIdeal [hKernelWcdIdeal : Cert.KernelWcdIdeal.Facts] : Prop :=
  ∀ (m : (ℓ : Loc Cert.KernelWcdIdeal.nD Cert.KernelWcdIdeal.τ Cert.KernelWcdIdeal.sig) → Buf (Elt Ideal) ℓ) (g : Dev Cert.KernelWcdIdeal.nD → PrngReg), Pre_KernelWcdIdeal m →
    θ_run (Cert.KernelWcdIdeal.defs (F := Ideal)) (onTc (τ := Cert.KernelWcdIdeal.τ) (Cert.KernelWcdIdeal.main (F := Ideal))) ⟨m, fun _ => 0, g⟩ (fun r => (∀ c : Dev Cert.KernelWcdIdeal.nD,
      r.2.mem ((c.tc : Thread Cert.KernelWcdIdeal.nD Cert.KernelWcdIdeal.τ).loc Cert.KernelWcdIdeal.main_arg0) = m ((c.tc : Thread Cert.KernelWcdIdeal.nD Cert.KernelWcdIdeal.τ).loc Cert.KernelWcdIdeal.main_arg0)
      ∧ r.2.mem ((c.tc : Thread Cert.KernelWcdIdeal.nD Cert.KernelWcdIdeal.τ).loc Cert.KernelWcdIdeal.main_arg1) = m ((c.tc : Thread Cert.KernelWcdIdeal.nD Cert.KernelWcdIdeal.τ).loc Cert.KernelWcdIdeal.main_arg1))
      ∧ r.2.sem = fun _ => 0)

def quiescent_ReferenceWcdIdeal [hReferenceWcdIdeal : Cert.ReferenceWcdIdeal.Facts] : Prop :=
  ∀ (m : (ℓ : Loc Cert.ReferenceWcdIdeal.nD Cert.ReferenceWcdIdeal.τ Cert.ReferenceWcdIdeal.sig) → Buf (Elt Ideal) ℓ) (g : Dev Cert.ReferenceWcdIdeal.nD → PrngReg), Pre_ReferenceWcdIdeal m →
    θ_run (Cert.ReferenceWcdIdeal.defs (F := Ideal)) (onTc (τ := Cert.ReferenceWcdIdeal.τ) (Cert.ReferenceWcdIdeal.main (F := Ideal))) ⟨m, fun _ => 0, g⟩ (fun r => (∀ c : Dev Cert.ReferenceWcdIdeal.nD,
      r.2.mem ((c.tc : Thread Cert.ReferenceWcdIdeal.nD Cert.ReferenceWcdIdeal.τ).loc Cert.ReferenceWcdIdeal.main_arg0) = m ((c.tc : Thread Cert.ReferenceWcdIdeal.nD Cert.ReferenceWcdIdeal.τ).loc Cert.ReferenceWcdIdeal.main_arg0)
      ∧ r.2.mem ((c.tc : Thread Cert.ReferenceWcdIdeal.nD Cert.ReferenceWcdIdeal.τ).loc Cert.ReferenceWcdIdeal.main_arg1) = m ((c.tc : Thread Cert.ReferenceWcdIdeal.nD Cert.ReferenceWcdIdeal.τ).loc Cert.ReferenceWcdIdeal.main_arg1))
      ∧ r.2.sem = fun _ => 0)

def quiescent_KernelWout [hKernelWout : Cert.KernelWout.Facts] : Prop :=
  ∀ (m : (ℓ : Loc Cert.KernelWout.nD Cert.KernelWout.τ Cert.KernelWout.sig) → Buf (Elt Bits) ℓ) (g : Dev Cert.KernelWout.nD → PrngReg), Pre_KernelWout m →
    θ_run (Cert.KernelWout.defs (F := Bits)) (onTc (τ := Cert.KernelWout.τ) (Cert.KernelWout.main (F := Bits))) ⟨m, fun _ => 0, g⟩ (fun r => (∀ c : Dev Cert.KernelWout.nD,
      r.2.mem ((c.tc : Thread Cert.KernelWout.nD Cert.KernelWout.τ).loc Cert.KernelWout.main_arg0) = m ((c.tc : Thread Cert.KernelWout.nD Cert.KernelWout.τ).loc Cert.KernelWout.main_arg0)
      ∧ r.2.mem ((c.tc : Thread Cert.KernelWout.nD Cert.KernelWout.τ).loc Cert.KernelWout.main_arg1) = m ((c.tc : Thread Cert.KernelWout.nD Cert.KernelWout.τ).loc Cert.KernelWout.main_arg1))
      ∧ r.2.sem = fun _ => 0)

def quiescent_KernelWoutIdeal [hKernelWoutIdeal : Cert.KernelWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg), Pre_KernelWoutIdeal m →
    θ_run (Cert.KernelWoutIdeal.defs (F := Ideal)) (onTc (τ := Cert.KernelWoutIdeal.τ) (Cert.KernelWoutIdeal.main (F := Ideal))) ⟨m, fun _ => 0, g⟩ (fun r => (∀ c : Dev Cert.KernelWoutIdeal.nD,
      r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
      ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ r.2.sem = fun _ => 0)

def quiescent_ReferenceWoutIdeal [hReferenceWoutIdeal : Cert.ReferenceWoutIdeal.Facts] : Prop :=
  ∀ (m : (ℓ : Loc Cert.ReferenceWoutIdeal.nD Cert.ReferenceWoutIdeal.τ Cert.ReferenceWoutIdeal.sig) → Buf (Elt Ideal) ℓ) (g : Dev Cert.ReferenceWoutIdeal.nD → PrngReg), Pre_ReferenceWoutIdeal m →
    θ_run (Cert.ReferenceWoutIdeal.defs (F := Ideal)) (onTc (τ := Cert.ReferenceWoutIdeal.τ) (Cert.ReferenceWoutIdeal.main (F := Ideal))) ⟨m, fun _ => 0, g⟩ (fun r => (∀ c : Dev Cert.ReferenceWoutIdeal.nD,
      r.2.mem ((c.tc : Thread Cert.ReferenceWoutIdeal.nD Cert.ReferenceWoutIdeal.τ).loc Cert.ReferenceWoutIdeal.main_arg0) = m ((c.tc : Thread Cert.ReferenceWoutIdeal.nD Cert.ReferenceWoutIdeal.τ).loc Cert.ReferenceWoutIdeal.main_arg0)
      ∧ r.2.mem ((c.tc : Thread Cert.ReferenceWoutIdeal.nD Cert.ReferenceWoutIdeal.τ).loc Cert.ReferenceWoutIdeal.main_arg1) = m ((c.tc : Thread Cert.ReferenceWoutIdeal.nD Cert.ReferenceWoutIdeal.τ).loc Cert.ReferenceWoutIdeal.main_arg1))
      ∧ r.2.sem = fun _ => 0)

def quiescent_KernelDout [hKernelDout : Cert.KernelDout.Facts] : Prop :=
  ∀ (m : (ℓ : Loc Cert.KernelDout.nD Cert.KernelDout.τ Cert.KernelDout.sig) → Buf (Elt Bits) ℓ) (g : Dev Cert.KernelDout.nD → PrngReg), Pre_KernelDout m →
    θ_run (Cert.KernelDout.defs (F := Bits)) (onTc (τ := Cert.KernelDout.τ) (Cert.KernelDout.main (F := Bits))) ⟨m, fun _ => 0, g⟩ (fun r => (∀ c : Dev Cert.KernelDout.nD,
      r.2.mem ((c.tc : Thread Cert.KernelDout.nD Cert.KernelDout.τ).loc Cert.KernelDout.main_arg0) = m ((c.tc : Thread Cert.KernelDout.nD Cert.KernelDout.τ).loc Cert.KernelDout.main_arg0)
      ∧ r.2.mem ((c.tc : Thread Cert.KernelDout.nD Cert.KernelDout.τ).loc Cert.KernelDout.main_arg1) = m ((c.tc : Thread Cert.KernelDout.nD Cert.KernelDout.τ).loc Cert.KernelDout.main_arg1))
      ∧ r.2.sem = fun _ => 0)

def quiescent_KernelDoutIdeal [hKernelDoutIdeal : Cert.KernelDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg), Pre_KernelDoutIdeal m →
    θ_run (Cert.KernelDoutIdeal.defs (F := Ideal)) (onTc (τ := Cert.KernelDoutIdeal.τ) (Cert.KernelDoutIdeal.main (F := Ideal))) ⟨m, fun _ => 0, g⟩ (fun r => (∀ c : Dev Cert.KernelDoutIdeal.nD,
      r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
      ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ r.2.sem = fun _ => 0)

def quiescent_ReferenceDoutIdeal [hReferenceDoutIdeal : Cert.ReferenceDoutIdeal.Facts] : Prop :=
  ∀ (m : (ℓ : Loc Cert.ReferenceDoutIdeal.nD Cert.ReferenceDoutIdeal.τ Cert.ReferenceDoutIdeal.sig) → Buf (Elt Ideal) ℓ) (g : Dev Cert.ReferenceDoutIdeal.nD → PrngReg), Pre_ReferenceDoutIdeal m →
    θ_run (Cert.ReferenceDoutIdeal.defs (F := Ideal)) (onTc (τ := Cert.ReferenceDoutIdeal.τ) (Cert.ReferenceDoutIdeal.main (F := Ideal))) ⟨m, fun _ => 0, g⟩ (fun r => (∀ c : Dev Cert.ReferenceDoutIdeal.nD,
      r.2.mem ((c.tc : Thread Cert.ReferenceDoutIdeal.nD Cert.ReferenceDoutIdeal.τ).loc Cert.ReferenceDoutIdeal.main_arg0) = m ((c.tc : Thread Cert.ReferenceDoutIdeal.nD Cert.ReferenceDoutIdeal.τ).loc Cert.ReferenceDoutIdeal.main_arg0)
      ∧ r.2.mem ((c.tc : Thread Cert.ReferenceDoutIdeal.nD Cert.ReferenceDoutIdeal.τ).loc Cert.ReferenceDoutIdeal.main_arg1) = m ((c.tc : Thread Cert.ReferenceDoutIdeal.nD Cert.ReferenceDoutIdeal.τ).loc Cert.ReferenceDoutIdeal.main_arg1))
      ∧ r.2.sem = fun _ => 0)

def quiescent_KernelFfnOut [hKernelFfnOut : Cert.KernelFfnOut.Facts] : Prop :=
  ∀ (m : (ℓ : Loc Cert.KernelFfnOut.nD Cert.KernelFfnOut.τ Cert.KernelFfnOut.sig) → Buf (Elt Bits) ℓ) (g : Dev Cert.KernelFfnOut.nD → PrngReg), Pre_KernelFfnOut m →
    θ_run (Cert.KernelFfnOut.defs (F := Bits)) (onTc (τ := Cert.KernelFfnOut.τ) (Cert.KernelFfnOut.main (F := Bits))) ⟨m, fun _ => 0, g⟩ (fun r => (∀ c : Dev Cert.KernelFfnOut.nD,
      r.2.mem ((c.tc : Thread Cert.KernelFfnOut.nD Cert.KernelFfnOut.τ).loc Cert.KernelFfnOut.main_arg0) = m ((c.tc : Thread Cert.KernelFfnOut.nD Cert.KernelFfnOut.τ).loc Cert.KernelFfnOut.main_arg0)
      ∧ r.2.mem ((c.tc : Thread Cert.KernelFfnOut.nD Cert.KernelFfnOut.τ).loc Cert.KernelFfnOut.main_arg1) = m ((c.tc : Thread Cert.KernelFfnOut.nD Cert.KernelFfnOut.τ).loc Cert.KernelFfnOut.main_arg1)
      ∧ r.2.mem ((c.tc : Thread Cert.KernelFfnOut.nD Cert.KernelFfnOut.τ).loc Cert.KernelFfnOut.main_arg2) = m ((c.tc : Thread Cert.KernelFfnOut.nD Cert.KernelFfnOut.τ).loc Cert.KernelFfnOut.main_arg2)
      ∧ r.2.mem ((c.tc : Thread Cert.KernelFfnOut.nD Cert.KernelFfnOut.τ).loc Cert.KernelFfnOut.main_arg3) = m ((c.tc : Thread Cert.KernelFfnOut.nD Cert.KernelFfnOut.τ).loc Cert.KernelFfnOut.main_arg3))
      ∧ r.2.sem = fun _ => 0)

def quiescent_KernelFfnOutIdeal [hKernelFfnOutIdeal : Cert.KernelFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg), Pre_KernelFfnOutIdeal m →
    θ_run (Cert.KernelFfnOutIdeal.defs (F := Ideal)) (onTc (τ := Cert.KernelFfnOutIdeal.τ) (Cert.KernelFfnOutIdeal.main (F := Ideal))) ⟨m, fun _ => 0, g⟩ (fun r => (∀ c : Dev Cert.KernelFfnOutIdeal.nD,
      r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
      ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
      ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2)
      ∧ r.2.mem ((c.tc : Thread Cert.KernelFfnOutIdeal.nD Cert.KernelFfnOutIdeal.τ).loc Cert.KernelFfnOutIdeal.main_arg3) = m ((c.tc : Thread Cert.KernelFfnOutIdeal.nD Cert.KernelFfnOutIdeal.τ).loc Cert.KernelFfnOutIdeal.main_arg3))
      ∧ r.2.sem = fun _ => 0)

def quiescent_ReferenceFfnOutIdeal [hReferenceFfnOutIdeal : Cert.ReferenceFfnOutIdeal.Facts] : Prop :=
  ∀ (m : (ℓ : Loc Cert.ReferenceFfnOutIdeal.nD Cert.ReferenceFfnOutIdeal.τ Cert.ReferenceFfnOutIdeal.sig) → Buf (Elt Ideal) ℓ) (g : Dev Cert.ReferenceFfnOutIdeal.nD → PrngReg), Pre_ReferenceFfnOutIdeal m →
    θ_run (Cert.ReferenceFfnOutIdeal.defs (F := Ideal)) (onTc (τ := Cert.ReferenceFfnOutIdeal.τ) (Cert.ReferenceFfnOutIdeal.main (F := Ideal))) ⟨m, fun _ => 0, g⟩ (fun r => (∀ c : Dev Cert.ReferenceFfnOutIdeal.nD,
      r.2.mem ((c.tc : Thread Cert.ReferenceFfnOutIdeal.nD Cert.ReferenceFfnOutIdeal.τ).loc Cert.ReferenceFfnOutIdeal.main_arg0) = m ((c.tc : Thread Cert.ReferenceFfnOutIdeal.nD Cert.ReferenceFfnOutIdeal.τ).loc Cert.ReferenceFfnOutIdeal.main_arg0)
      ∧ r.2.mem ((c.tc : Thread Cert.ReferenceFfnOutIdeal.nD Cert.ReferenceFfnOutIdeal.τ).loc Cert.ReferenceFfnOutIdeal.main_arg1) = m ((c.tc : Thread Cert.ReferenceFfnOutIdeal.nD Cert.ReferenceFfnOutIdeal.τ).loc Cert.ReferenceFfnOutIdeal.main_arg1)
      ∧ r.2.mem ((c.tc : Thread Cert.ReferenceFfnOutIdeal.nD Cert.ReferenceFfnOutIdeal.τ).loc Cert.ReferenceFfnOutIdeal.main_arg2) = m ((c.tc : Thread Cert.ReferenceFfnOutIdeal.nD Cert.ReferenceFfnOutIdeal.τ).loc Cert.ReferenceFfnOutIdeal.main_arg2)
      ∧ r.2.mem ((c.tc : Thread Cert.ReferenceFfnOutIdeal.nD Cert.ReferenceFfnOutIdeal.τ).loc Cert.ReferenceFfnOutIdeal.main_arg3) = m ((c.tc : Thread Cert.ReferenceFfnOutIdeal.nD Cert.ReferenceFfnOutIdeal.τ).loc Cert.ReferenceFfnOutIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3))
      ∧ r.2.sem = fun _ => 0)

def quiescent_KernelProjOut [hKernelProjOut : Cert.KernelProjOut.Facts] : Prop :=
  ∀ (m : (ℓ : Loc Cert.KernelProjOut.nD Cert.KernelProjOut.τ Cert.KernelProjOut.sig) → Buf (Elt Bits) ℓ) (g : Dev Cert.KernelProjOut.nD → PrngReg), Pre_KernelProjOut m →
    θ_run (Cert.KernelProjOut.defs (F := Bits)) (onTc (τ := Cert.KernelProjOut.τ) (Cert.KernelProjOut.main (F := Bits))) ⟨m, fun _ => 0, g⟩ (fun r => (∀ c : Dev Cert.KernelProjOut.nD,
      r.2.mem ((c.tc : Thread Cert.KernelProjOut.nD Cert.KernelProjOut.τ).loc Cert.KernelProjOut.main_arg0) = m ((c.tc : Thread Cert.KernelProjOut.nD Cert.KernelProjOut.τ).loc Cert.KernelProjOut.main_arg0)
      ∧ r.2.mem ((c.tc : Thread Cert.KernelProjOut.nD Cert.KernelProjOut.τ).loc Cert.KernelProjOut.main_arg1) = m ((c.tc : Thread Cert.KernelProjOut.nD Cert.KernelProjOut.τ).loc Cert.KernelProjOut.main_arg1)
      ∧ r.2.mem ((c.tc : Thread Cert.KernelProjOut.nD Cert.KernelProjOut.τ).loc Cert.KernelProjOut.main_arg2) = m ((c.tc : Thread Cert.KernelProjOut.nD Cert.KernelProjOut.τ).loc Cert.KernelProjOut.main_arg2)
      ∧ r.2.mem ((c.tc : Thread Cert.KernelProjOut.nD Cert.KernelProjOut.τ).loc Cert.KernelProjOut.main_arg3) = m ((c.tc : Thread Cert.KernelProjOut.nD Cert.KernelProjOut.τ).loc Cert.KernelProjOut.main_arg3))
      ∧ r.2.sem = fun _ => 0)

def quiescent_KernelProjOutIdeal [hKernelProjOutIdeal : Cert.KernelProjOutIdeal.Facts] : Prop :=
  ∀ (m : (ℓ : Loc Cert.KernelProjOutIdeal.nD Cert.KernelProjOutIdeal.τ Cert.KernelProjOutIdeal.sig) → Buf (Elt Ideal) ℓ) (g : Dev Cert.KernelProjOutIdeal.nD → PrngReg), Pre_KernelProjOutIdeal m →
    θ_run (Cert.KernelProjOutIdeal.defs (F := Ideal)) (onTc (τ := Cert.KernelProjOutIdeal.τ) (Cert.KernelProjOutIdeal.main (F := Ideal))) ⟨m, fun _ => 0, g⟩ (fun r => (∀ c : Dev Cert.KernelProjOutIdeal.nD,
      r.2.mem ((c.tc : Thread Cert.KernelProjOutIdeal.nD Cert.KernelProjOutIdeal.τ).loc Cert.KernelProjOutIdeal.main_arg0) = m ((c.tc : Thread Cert.KernelProjOutIdeal.nD Cert.KernelProjOutIdeal.τ).loc Cert.KernelProjOutIdeal.main_arg0)
      ∧ r.2.mem ((c.tc : Thread Cert.KernelProjOutIdeal.nD Cert.KernelProjOutIdeal.τ).loc Cert.KernelProjOutIdeal.main_arg1) = m ((c.tc : Thread Cert.KernelProjOutIdeal.nD Cert.KernelProjOutIdeal.τ).loc Cert.KernelProjOutIdeal.main_arg1)
      ∧ r.2.mem ((c.tc : Thread Cert.KernelProjOutIdeal.nD Cert.KernelProjOutIdeal.τ).loc Cert.KernelProjOutIdeal.main_arg2) = m ((c.tc : Thread Cert.KernelProjOutIdeal.nD Cert.KernelProjOutIdeal.τ).loc Cert.KernelProjOutIdeal.main_arg2)
      ∧ r.2.mem ((c.tc : Thread Cert.KernelProjOutIdeal.nD Cert.KernelProjOutIdeal.τ).loc Cert.KernelProjOutIdeal.main_arg3) = m ((c.tc : Thread Cert.KernelProjOutIdeal.nD Cert.KernelProjOutIdeal.τ).loc Cert.KernelProjOutIdeal.main_arg3))
      ∧ r.2.sem = fun _ => 0)

def quiescent_ReferenceProjOutIdeal [hReferenceProjOutIdeal : Cert.ReferenceProjOutIdeal.Facts] : Prop :=
  ∀ (m : (ℓ : Loc Cert.ReferenceProjOutIdeal.nD Cert.ReferenceProjOutIdeal.τ Cert.ReferenceProjOutIdeal.sig) → Buf (Elt Ideal) ℓ) (g : Dev Cert.ReferenceProjOutIdeal.nD → PrngReg), Pre_ReferenceProjOutIdeal m →
    θ_run (Cert.ReferenceProjOutIdeal.defs (F := Ideal)) (onTc (τ := Cert.ReferenceProjOutIdeal.τ) (Cert.ReferenceProjOutIdeal.main (F := Ideal))) ⟨m, fun _ => 0, g⟩ (fun r => (∀ c : Dev Cert.ReferenceProjOutIdeal.nD,
      r.2.mem ((c.tc : Thread Cert.ReferenceProjOutIdeal.nD Cert.ReferenceProjOutIdeal.τ).loc Cert.ReferenceProjOutIdeal.main_arg0) = m ((c.tc : Thread Cert.ReferenceProjOutIdeal.nD Cert.ReferenceProjOutIdeal.τ).loc Cert.ReferenceProjOutIdeal.main_arg0)
      ∧ r.2.mem ((c.tc : Thread Cert.ReferenceProjOutIdeal.nD Cert.ReferenceProjOutIdeal.τ).loc Cert.ReferenceProjOutIdeal.main_arg1) = m ((c.tc : Thread Cert.ReferenceProjOutIdeal.nD Cert.ReferenceProjOutIdeal.τ).loc Cert.ReferenceProjOutIdeal.main_arg1)
      ∧ r.2.mem ((c.tc : Thread Cert.ReferenceProjOutIdeal.nD Cert.ReferenceProjOutIdeal.τ).loc Cert.ReferenceProjOutIdeal.main_arg2) = m ((c.tc : Thread Cert.ReferenceProjOutIdeal.nD Cert.ReferenceProjOutIdeal.τ).loc Cert.ReferenceProjOutIdeal.main_arg2)
      ∧ r.2.mem ((c.tc : Thread Cert.ReferenceProjOutIdeal.nD Cert.ReferenceProjOutIdeal.τ).loc Cert.ReferenceProjOutIdeal.main_arg3) = m ((c.tc : Thread Cert.ReferenceProjOutIdeal.nD Cert.ReferenceProjOutIdeal.τ).loc Cert.ReferenceProjOutIdeal.main_arg3))
      ∧ r.2.sem = fun _ => 0)

def quiescent_KernelProjCd [hKernelProjCd : Cert.KernelProjCd.Facts] : Prop :=
  ∀ (m : (ℓ : Loc Cert.KernelProjCd.nD Cert.KernelProjCd.τ Cert.KernelProjCd.sig) → Buf (Elt Bits) ℓ) (g : Dev Cert.KernelProjCd.nD → PrngReg), Pre_KernelProjCd m →
    θ_run (Cert.KernelProjCd.defs (F := Bits)) (onTc (τ := Cert.KernelProjCd.τ) (Cert.KernelProjCd.main (F := Bits))) ⟨m, fun _ => 0, g⟩ (fun r => (∀ c : Dev Cert.KernelProjCd.nD,
      r.2.mem ((c.tc : Thread Cert.KernelProjCd.nD Cert.KernelProjCd.τ).loc Cert.KernelProjCd.main_arg0) = m ((c.tc : Thread Cert.KernelProjCd.nD Cert.KernelProjCd.τ).loc Cert.KernelProjCd.main_arg0)
      ∧ r.2.mem ((c.tc : Thread Cert.KernelProjCd.nD Cert.KernelProjCd.τ).loc Cert.KernelProjCd.main_arg1) = m ((c.tc : Thread Cert.KernelProjCd.nD Cert.KernelProjCd.τ).loc Cert.KernelProjCd.main_arg1))
      ∧ r.2.sem = fun _ => 0)

def quiescent_KernelProjCdIdeal [hKernelProjCdIdeal : Cert.KernelProjCdIdeal.Facts] : Prop :=
  ∀ (m : (ℓ : Loc Cert.KernelProjCdIdeal.nD Cert.KernelProjCdIdeal.τ Cert.KernelProjCdIdeal.sig) → Buf (Elt Ideal) ℓ) (g : Dev Cert.KernelProjCdIdeal.nD → PrngReg), Pre_KernelProjCdIdeal m →
    θ_run (Cert.KernelProjCdIdeal.defs (F := Ideal)) (onTc (τ := Cert.KernelProjCdIdeal.τ) (Cert.KernelProjCdIdeal.main (F := Ideal))) ⟨m, fun _ => 0, g⟩ (fun r => (∀ c : Dev Cert.KernelProjCdIdeal.nD,
      r.2.mem ((c.tc : Thread Cert.KernelProjCdIdeal.nD Cert.KernelProjCdIdeal.τ).loc Cert.KernelProjCdIdeal.main_arg0) = m ((c.tc : Thread Cert.KernelProjCdIdeal.nD Cert.KernelProjCdIdeal.τ).loc Cert.KernelProjCdIdeal.main_arg0)
      ∧ r.2.mem ((c.tc : Thread Cert.KernelProjCdIdeal.nD Cert.KernelProjCdIdeal.τ).loc Cert.KernelProjCdIdeal.main_arg1) = m ((c.tc : Thread Cert.KernelProjCdIdeal.nD Cert.KernelProjCdIdeal.τ).loc Cert.KernelProjCdIdeal.main_arg1))
      ∧ r.2.sem = fun _ => 0)

def quiescent_ReferenceProjCdIdeal [hReferenceProjCdIdeal : Cert.ReferenceProjCdIdeal.Facts] : Prop :=
  ∀ (m : (ℓ : Loc Cert.ReferenceProjCdIdeal.nD Cert.ReferenceProjCdIdeal.τ Cert.ReferenceProjCdIdeal.sig) → Buf (Elt Ideal) ℓ) (g : Dev Cert.ReferenceProjCdIdeal.nD → PrngReg), Pre_ReferenceProjCdIdeal m →
    θ_run (Cert.ReferenceProjCdIdeal.defs (F := Ideal)) (onTc (τ := Cert.ReferenceProjCdIdeal.τ) (Cert.ReferenceProjCdIdeal.main (F := Ideal))) ⟨m, fun _ => 0, g⟩ (fun r => (∀ c : Dev Cert.ReferenceProjCdIdeal.nD,
      r.2.mem ((c.tc : Thread Cert.ReferenceProjCdIdeal.nD Cert.ReferenceProjCdIdeal.τ).loc Cert.ReferenceProjCdIdeal.main_arg0) = m ((c.tc : Thread Cert.ReferenceProjCdIdeal.nD Cert.ReferenceProjCdIdeal.τ).loc Cert.ReferenceProjCdIdeal.main_arg0)
      ∧ r.2.mem ((c.tc : Thread Cert.ReferenceProjCdIdeal.nD Cert.ReferenceProjCdIdeal.τ).loc Cert.ReferenceProjCdIdeal.main_arg1) = m ((c.tc : Thread Cert.ReferenceProjCdIdeal.nD Cert.ReferenceProjCdIdeal.τ).loc Cert.ReferenceProjCdIdeal.main_arg1))
      ∧ r.2.sem = fun _ => 0)

def quiescent_KernelDcd [hKernelDcd : Cert.KernelDcd.Facts] : Prop :=
  ∀ (m : (ℓ : Loc Cert.KernelDcd.nD Cert.KernelDcd.τ Cert.KernelDcd.sig) → Buf (Elt Bits) ℓ) (g : Dev Cert.KernelDcd.nD → PrngReg), Pre_KernelDcd m →
    θ_run (Cert.KernelDcd.defs (F := Bits)) (onTc (τ := Cert.KernelDcd.τ) (Cert.KernelDcd.main (F := Bits))) ⟨m, fun _ => 0, g⟩ (fun r => (∀ c : Dev Cert.KernelDcd.nD,
      r.2.mem ((c.tc : Thread Cert.KernelDcd.nD Cert.KernelDcd.τ).loc Cert.KernelDcd.main_arg0) = m ((c.tc : Thread Cert.KernelDcd.nD Cert.KernelDcd.τ).loc Cert.KernelDcd.main_arg0)
      ∧ r.2.mem ((c.tc : Thread Cert.KernelDcd.nD Cert.KernelDcd.τ).loc Cert.KernelDcd.main_arg1) = m ((c.tc : Thread Cert.KernelDcd.nD Cert.KernelDcd.τ).loc Cert.KernelDcd.main_arg1)
      ∧ r.2.mem ((c.tc : Thread Cert.KernelDcd.nD Cert.KernelDcd.τ).loc Cert.KernelDcd.main_arg2) = m ((c.tc : Thread Cert.KernelDcd.nD Cert.KernelDcd.τ).loc Cert.KernelDcd.main_arg2)
      ∧ r.2.mem ((c.tc : Thread Cert.KernelDcd.nD Cert.KernelDcd.τ).loc Cert.KernelDcd.main_arg3) = m ((c.tc : Thread Cert.KernelDcd.nD Cert.KernelDcd.τ).loc Cert.KernelDcd.main_arg3)
      ∧ r.2.mem ((c.tc : Thread Cert.KernelDcd.nD Cert.KernelDcd.τ).loc Cert.KernelDcd.main_arg4) = m ((c.tc : Thread Cert.KernelDcd.nD Cert.KernelDcd.τ).loc Cert.KernelDcd.main_arg4))
      ∧ r.2.sem = fun _ => 0)

def quiescent_KernelDcdIdeal [hKernelDcdIdeal : Cert.KernelDcdIdeal.Facts] : Prop :=
  ∀ (m : (ℓ : Loc Cert.KernelDcdIdeal.nD Cert.KernelDcdIdeal.τ Cert.KernelDcdIdeal.sig) → Buf (Elt Ideal) ℓ) (g : Dev Cert.KernelDcdIdeal.nD → PrngReg), Pre_KernelDcdIdeal m →
    θ_run (Cert.KernelDcdIdeal.defs (F := Ideal)) (onTc (τ := Cert.KernelDcdIdeal.τ) (Cert.KernelDcdIdeal.main (F := Ideal))) ⟨m, fun _ => 0, g⟩ (fun r => (∀ c : Dev Cert.KernelDcdIdeal.nD,
      r.2.mem ((c.tc : Thread Cert.KernelDcdIdeal.nD Cert.KernelDcdIdeal.τ).loc Cert.KernelDcdIdeal.main_arg0) = m ((c.tc : Thread Cert.KernelDcdIdeal.nD Cert.KernelDcdIdeal.τ).loc Cert.KernelDcdIdeal.main_arg0)
      ∧ r.2.mem ((c.tc : Thread Cert.KernelDcdIdeal.nD Cert.KernelDcdIdeal.τ).loc Cert.KernelDcdIdeal.main_arg1) = m ((c.tc : Thread Cert.KernelDcdIdeal.nD Cert.KernelDcdIdeal.τ).loc Cert.KernelDcdIdeal.main_arg1)
      ∧ r.2.mem ((c.tc : Thread Cert.KernelDcdIdeal.nD Cert.KernelDcdIdeal.τ).loc Cert.KernelDcdIdeal.main_arg2) = m ((c.tc : Thread Cert.KernelDcdIdeal.nD Cert.KernelDcdIdeal.τ).loc Cert.KernelDcdIdeal.main_arg2)
      ∧ r.2.mem ((c.tc : Thread Cert.KernelDcdIdeal.nD Cert.KernelDcdIdeal.τ).loc Cert.KernelDcdIdeal.main_arg3) = m ((c.tc : Thread Cert.KernelDcdIdeal.nD Cert.KernelDcdIdeal.τ).loc Cert.KernelDcdIdeal.main_arg3)
      ∧ r.2.mem ((c.tc : Thread Cert.KernelDcdIdeal.nD Cert.KernelDcdIdeal.τ).loc Cert.KernelDcdIdeal.main_arg4) = m ((c.tc : Thread Cert.KernelDcdIdeal.nD Cert.KernelDcdIdeal.τ).loc Cert.KernelDcdIdeal.main_arg4))
      ∧ r.2.sem = fun _ => 0)

def quiescent_KernelDcdIdeal_pre_finite_dcd [hKernelDcdIdeal : Cert.KernelDcdIdeal.Facts] [hPre_finite_dcd : Cert.Pre_finite_dcd.Facts] : Prop :=
  ∀ (m : (ℓ : Loc Cert.KernelDcdIdeal.nD Cert.KernelDcdIdeal.τ Cert.KernelDcdIdeal.sig) → Buf (Elt Ideal) ℓ) (g : Dev Cert.KernelDcdIdeal.nD → PrngReg), Pre_KernelDcdIdeal_finite_dcd m →
    θ_run (Cert.KernelDcdIdeal.defs (F := Ideal)) (onTc (τ := Cert.KernelDcdIdeal.τ) (Cert.KernelDcdIdeal.main (F := Ideal))) ⟨m, fun _ => 0, g⟩ (fun r => (∀ c : Dev Cert.KernelDcdIdeal.nD,
      r.2.mem ((c.tc : Thread Cert.KernelDcdIdeal.nD Cert.KernelDcdIdeal.τ).loc Cert.KernelDcdIdeal.main_arg0) = m ((c.tc : Thread Cert.KernelDcdIdeal.nD Cert.KernelDcdIdeal.τ).loc Cert.KernelDcdIdeal.main_arg0)
      ∧ r.2.mem ((c.tc : Thread Cert.KernelDcdIdeal.nD Cert.KernelDcdIdeal.τ).loc Cert.KernelDcdIdeal.main_arg1) = m ((c.tc : Thread Cert.KernelDcdIdeal.nD Cert.KernelDcdIdeal.τ).loc Cert.KernelDcdIdeal.main_arg1)
      ∧ r.2.mem ((c.tc : Thread Cert.KernelDcdIdeal.nD Cert.KernelDcdIdeal.τ).loc Cert.KernelDcdIdeal.main_arg2) = m ((c.tc : Thread Cert.KernelDcdIdeal.nD Cert.KernelDcdIdeal.τ).loc Cert.KernelDcdIdeal.main_arg2)
      ∧ r.2.mem ((c.tc : Thread Cert.KernelDcdIdeal.nD Cert.KernelDcdIdeal.τ).loc Cert.KernelDcdIdeal.main_arg3) = m ((c.tc : Thread Cert.KernelDcdIdeal.nD Cert.KernelDcdIdeal.τ).loc Cert.KernelDcdIdeal.main_arg3)
      ∧ r.2.mem ((c.tc : Thread Cert.KernelDcdIdeal.nD Cert.KernelDcdIdeal.τ).loc Cert.KernelDcdIdeal.main_arg4) = m ((c.tc : Thread Cert.KernelDcdIdeal.nD Cert.KernelDcdIdeal.τ).loc Cert.KernelDcdIdeal.main_arg4))
      ∧ r.2.sem = fun _ => 0)

def quiescent_ReferenceDcdIdeal [hReferenceDcdIdeal : Cert.ReferenceDcdIdeal.Facts] : Prop :=
  ∀ (m : (ℓ : Loc Cert.ReferenceDcdIdeal.nD Cert.ReferenceDcdIdeal.τ Cert.ReferenceDcdIdeal.sig) → Buf (Elt Ideal) ℓ) (g : Dev Cert.ReferenceDcdIdeal.nD → PrngReg), Pre_ReferenceDcdIdeal m →
    θ_run (Cert.ReferenceDcdIdeal.defs (F := Ideal)) (onTc (τ := Cert.ReferenceDcdIdeal.τ) (Cert.ReferenceDcdIdeal.main (F := Ideal))) ⟨m, fun _ => 0, g⟩ (fun r => (∀ c : Dev Cert.ReferenceDcdIdeal.nD,
      r.2.mem ((c.tc : Thread Cert.ReferenceDcdIdeal.nD Cert.ReferenceDcdIdeal.τ).loc Cert.ReferenceDcdIdeal.main_arg0) = m ((c.tc : Thread Cert.ReferenceDcdIdeal.nD Cert.ReferenceDcdIdeal.τ).loc Cert.ReferenceDcdIdeal.main_arg0)
      ∧ r.2.mem ((c.tc : Thread Cert.ReferenceDcdIdeal.nD Cert.ReferenceDcdIdeal.τ).loc Cert.ReferenceDcdIdeal.main_arg1) = m ((c.tc : Thread Cert.ReferenceDcdIdeal.nD Cert.ReferenceDcdIdeal.τ).loc Cert.ReferenceDcdIdeal.main_arg1)
      ∧ r.2.mem ((c.tc : Thread Cert.ReferenceDcdIdeal.nD Cert.ReferenceDcdIdeal.τ).loc Cert.ReferenceDcdIdeal.main_arg2) = m ((c.tc : Thread Cert.ReferenceDcdIdeal.nD Cert.ReferenceDcdIdeal.τ).loc Cert.ReferenceDcdIdeal.main_arg2)
      ∧ r.2.mem ((c.tc : Thread Cert.ReferenceDcdIdeal.nD Cert.ReferenceDcdIdeal.τ).loc Cert.ReferenceDcdIdeal.main_arg3) = m ((c.tc : Thread Cert.ReferenceDcdIdeal.nD Cert.ReferenceDcdIdeal.τ).loc Cert.ReferenceDcdIdeal.main_arg3)
      ∧ r.2.mem ((c.tc : Thread Cert.ReferenceDcdIdeal.nD Cert.ReferenceDcdIdeal.τ).loc Cert.ReferenceDcdIdeal.main_arg4) = m ((c.tc : Thread Cert.ReferenceDcdIdeal.nD Cert.ReferenceDcdIdeal.τ).loc Cert.ReferenceDcdIdeal.main_arg4))
      ∧ r.2.sem = fun _ => 0)

def quiescent_ReferenceDcdIdeal_pre_finite_dcd [hReferenceDcdIdeal : Cert.ReferenceDcdIdeal.Facts] [hPre_finite_dcd : Cert.Pre_finite_dcd.Facts] : Prop :=
  ∀ (m : (ℓ : Loc Cert.ReferenceDcdIdeal.nD Cert.ReferenceDcdIdeal.τ Cert.ReferenceDcdIdeal.sig) → Buf (Elt Ideal) ℓ) (g : Dev Cert.ReferenceDcdIdeal.nD → PrngReg), Pre_ReferenceDcdIdeal_finite_dcd m →
    θ_run (Cert.ReferenceDcdIdeal.defs (F := Ideal)) (onTc (τ := Cert.ReferenceDcdIdeal.τ) (Cert.ReferenceDcdIdeal.main (F := Ideal))) ⟨m, fun _ => 0, g⟩ (fun r => (∀ c : Dev Cert.ReferenceDcdIdeal.nD,
      r.2.mem ((c.tc : Thread Cert.ReferenceDcdIdeal.nD Cert.ReferenceDcdIdeal.τ).loc Cert.ReferenceDcdIdeal.main_arg0) = m ((c.tc : Thread Cert.ReferenceDcdIdeal.nD Cert.ReferenceDcdIdeal.τ).loc Cert.ReferenceDcdIdeal.main_arg0)
      ∧ r.2.mem ((c.tc : Thread Cert.ReferenceDcdIdeal.nD Cert.ReferenceDcdIdeal.τ).loc Cert.ReferenceDcdIdeal.main_arg1) = m ((c.tc : Thread Cert.ReferenceDcdIdeal.nD Cert.ReferenceDcdIdeal.τ).loc Cert.ReferenceDcdIdeal.main_arg1)
      ∧ r.2.mem ((c.tc : Thread Cert.ReferenceDcdIdeal.nD Cert.ReferenceDcdIdeal.τ).loc Cert.ReferenceDcdIdeal.main_arg2) = m ((c.tc : Thread Cert.ReferenceDcdIdeal.nD Cert.ReferenceDcdIdeal.τ).loc Cert.ReferenceDcdIdeal.main_arg2)
      ∧ r.2.mem ((c.tc : Thread Cert.ReferenceDcdIdeal.nD Cert.ReferenceDcdIdeal.τ).loc Cert.ReferenceDcdIdeal.main_arg3) = m ((c.tc : Thread Cert.ReferenceDcdIdeal.nD Cert.ReferenceDcdIdeal.τ).loc Cert.ReferenceDcdIdeal.main_arg3)
      ∧ r.2.mem ((c.tc : Thread Cert.ReferenceDcdIdeal.nD Cert.ReferenceDcdIdeal.τ).loc Cert.ReferenceDcdIdeal.main_arg4) = m ((c.tc : Thread Cert.ReferenceDcdIdeal.nD Cert.ReferenceDcdIdeal.τ).loc Cert.ReferenceDcdIdeal.main_arg4))
      ∧ r.2.sem = fun _ => 0)

def quiescent_KernelMixFwd [hKernelMixFwd : Cert.KernelMixFwd.Facts] : Prop :=
  ∀ (m : (ℓ : Loc Cert.KernelMixFwd.nD Cert.KernelMixFwd.τ Cert.KernelMixFwd.sig) → Buf (Elt Bits) ℓ) (g : Dev Cert.KernelMixFwd.nD → PrngReg), Pre_KernelMixFwd m →
    θ_run (Cert.KernelMixFwd.defs (F := Bits)) (onTc (τ := Cert.KernelMixFwd.τ) (Cert.KernelMixFwd.main (F := Bits))) ⟨m, fun _ => 0, g⟩ (fun r => (∀ c : Dev Cert.KernelMixFwd.nD,
      r.2.mem ((c.tc : Thread Cert.KernelMixFwd.nD Cert.KernelMixFwd.τ).loc Cert.KernelMixFwd.main_arg0) = m ((c.tc : Thread Cert.KernelMixFwd.nD Cert.KernelMixFwd.τ).loc Cert.KernelMixFwd.main_arg0)
      ∧ r.2.mem ((c.tc : Thread Cert.KernelMixFwd.nD Cert.KernelMixFwd.τ).loc Cert.KernelMixFwd.main_arg1) = m ((c.tc : Thread Cert.KernelMixFwd.nD Cert.KernelMixFwd.τ).loc Cert.KernelMixFwd.main_arg1)
      ∧ r.2.mem ((c.tc : Thread Cert.KernelMixFwd.nD Cert.KernelMixFwd.τ).loc Cert.KernelMixFwd.main_arg2) = m ((c.tc : Thread Cert.KernelMixFwd.nD Cert.KernelMixFwd.τ).loc Cert.KernelMixFwd.main_arg2)
      ∧ r.2.mem ((c.tc : Thread Cert.KernelMixFwd.nD Cert.KernelMixFwd.τ).loc Cert.KernelMixFwd.main_arg3) = m ((c.tc : Thread Cert.KernelMixFwd.nD Cert.KernelMixFwd.τ).loc Cert.KernelMixFwd.main_arg3)
      ∧ r.2.mem ((c.tc : Thread Cert.KernelMixFwd.nD Cert.KernelMixFwd.τ).loc Cert.KernelMixFwd.main_arg4) = m ((c.tc : Thread Cert.KernelMixFwd.nD Cert.KernelMixFwd.τ).loc Cert.KernelMixFwd.main_arg4))
      ∧ r.2.sem = fun _ => 0)

def quiescent_KernelMixFwdIdeal [hKernelMixFwdIdeal : Cert.KernelMixFwdIdeal.Facts] : Prop :=
  ∀ (m : (ℓ : Loc Cert.KernelMixFwdIdeal.nD Cert.KernelMixFwdIdeal.τ Cert.KernelMixFwdIdeal.sig) → Buf (Elt Ideal) ℓ) (g : Dev Cert.KernelMixFwdIdeal.nD → PrngReg), Pre_KernelMixFwdIdeal m →
    θ_run (Cert.KernelMixFwdIdeal.defs (F := Ideal)) (onTc (τ := Cert.KernelMixFwdIdeal.τ) (Cert.KernelMixFwdIdeal.main (F := Ideal))) ⟨m, fun _ => 0, g⟩ (fun r => (∀ c : Dev Cert.KernelMixFwdIdeal.nD,
      r.2.mem ((c.tc : Thread Cert.KernelMixFwdIdeal.nD Cert.KernelMixFwdIdeal.τ).loc Cert.KernelMixFwdIdeal.main_arg0) = m ((c.tc : Thread Cert.KernelMixFwdIdeal.nD Cert.KernelMixFwdIdeal.τ).loc Cert.KernelMixFwdIdeal.main_arg0)
      ∧ r.2.mem ((c.tc : Thread Cert.KernelMixFwdIdeal.nD Cert.KernelMixFwdIdeal.τ).loc Cert.KernelMixFwdIdeal.main_arg1) = m ((c.tc : Thread Cert.KernelMixFwdIdeal.nD Cert.KernelMixFwdIdeal.τ).loc Cert.KernelMixFwdIdeal.main_arg1)
      ∧ r.2.mem ((c.tc : Thread Cert.KernelMixFwdIdeal.nD Cert.KernelMixFwdIdeal.τ).loc Cert.KernelMixFwdIdeal.main_arg2) = m ((c.tc : Thread Cert.KernelMixFwdIdeal.nD Cert.KernelMixFwdIdeal.τ).loc Cert.KernelMixFwdIdeal.main_arg2)
      ∧ r.2.mem ((c.tc : Thread Cert.KernelMixFwdIdeal.nD Cert.KernelMixFwdIdeal.τ).loc Cert.KernelMixFwdIdeal.main_arg3) = m ((c.tc : Thread Cert.KernelMixFwdIdeal.nD Cert.KernelMixFwdIdeal.τ).loc Cert.KernelMixFwdIdeal.main_arg3)
      ∧ r.2.mem ((c.tc : Thread Cert.KernelMixFwdIdeal.nD Cert.KernelMixFwdIdeal.τ).loc Cert.KernelMixFwdIdeal.main_arg4) = m ((c.tc : Thread Cert.KernelMixFwdIdeal.nD Cert.KernelMixFwdIdeal.τ).loc Cert.KernelMixFwdIdeal.main_arg4))
      ∧ r.2.sem = fun _ => 0)

def quiescent_ReferenceMixFwdIdeal [hReferenceMixFwdIdeal : Cert.ReferenceMixFwdIdeal.Facts] : Prop :=
  ∀ (m : (ℓ : Loc Cert.ReferenceMixFwdIdeal.nD Cert.ReferenceMixFwdIdeal.τ Cert.ReferenceMixFwdIdeal.sig) → Buf (Elt Ideal) ℓ) (g : Dev Cert.ReferenceMixFwdIdeal.nD → PrngReg), Pre_ReferenceMixFwdIdeal m →
    θ_run (Cert.ReferenceMixFwdIdeal.defs (F := Ideal)) (onTc (τ := Cert.ReferenceMixFwdIdeal.τ) (Cert.ReferenceMixFwdIdeal.main (F := Ideal))) ⟨m, fun _ => 0, g⟩ (fun r => (∀ c : Dev Cert.ReferenceMixFwdIdeal.nD,
      r.2.mem ((c.tc : Thread Cert.ReferenceMixFwdIdeal.nD Cert.ReferenceMixFwdIdeal.τ).loc Cert.ReferenceMixFwdIdeal.main_arg0) = m ((c.tc : Thread Cert.ReferenceMixFwdIdeal.nD Cert.ReferenceMixFwdIdeal.τ).loc Cert.ReferenceMixFwdIdeal.main_arg0)
      ∧ r.2.mem ((c.tc : Thread Cert.ReferenceMixFwdIdeal.nD Cert.ReferenceMixFwdIdeal.τ).loc Cert.ReferenceMixFwdIdeal.main_arg1) = m ((c.tc : Thread Cert.ReferenceMixFwdIdeal.nD Cert.ReferenceMixFwdIdeal.τ).loc Cert.ReferenceMixFwdIdeal.main_arg1)
      ∧ r.2.mem ((c.tc : Thread Cert.ReferenceMixFwdIdeal.nD Cert.ReferenceMixFwdIdeal.τ).loc Cert.ReferenceMixFwdIdeal.main_arg2) = m ((c.tc : Thread Cert.ReferenceMixFwdIdeal.nD Cert.ReferenceMixFwdIdeal.τ).loc Cert.ReferenceMixFwdIdeal.main_arg2)
      ∧ r.2.mem ((c.tc : Thread Cert.ReferenceMixFwdIdeal.nD Cert.ReferenceMixFwdIdeal.τ).loc Cert.ReferenceMixFwdIdeal.main_arg3) = m ((c.tc : Thread Cert.ReferenceMixFwdIdeal.nD Cert.ReferenceMixFwdIdeal.τ).loc Cert.ReferenceMixFwdIdeal.main_arg3)
      ∧ r.2.mem ((c.tc : Thread Cert.ReferenceMixFwdIdeal.nD Cert.ReferenceMixFwdIdeal.τ).loc Cert.ReferenceMixFwdIdeal.main_arg4) = m ((c.tc : Thread Cert.ReferenceMixFwdIdeal.nD Cert.ReferenceMixFwdIdeal.τ).loc Cert.ReferenceMixFwdIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v120) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelGateUp_KernelGateUpIdeal : Prop :=
  True

def algebraic_KernelGateUpIdeal_ReferenceGateUpIdeal [hKernelGateUpIdeal : Cert.KernelGateUpIdeal.Facts] [hReferenceGateUpIdeal : Cert.ReferenceGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg)
    (m' : (ℓ : Loc Cert.ReferenceGateUpIdeal.nD Cert.ReferenceGateUpIdeal.τ Cert.ReferenceGateUpIdeal.sig) → Buf (Elt Ideal) ℓ) (g' : Dev Cert.ReferenceGateUpIdeal.nD → PrngReg), Pre_KernelGateUpIdeal m →
    (∀ c : Dev Cert.KernelGateUpIdeal.nD,
      m' ((c.tc : Thread Cert.ReferenceGateUpIdeal.nD Cert.ReferenceGateUpIdeal.τ).loc Cert.ReferenceGateUpIdeal.main_arg0) = m ((c.tc : Thread Cert.KernelGateUpIdeal.nD Cert.KernelGateUpIdeal.τ).loc Cert.KernelGateUpIdeal.main_arg0)
      ∧ m' ((c.tc : Thread Cert.ReferenceGateUpIdeal.nD Cert.ReferenceGateUpIdeal.τ).loc Cert.ReferenceGateUpIdeal.main_arg1) = m ((c.tc : Thread Cert.KernelGateUpIdeal.nD Cert.KernelGateUpIdeal.τ).loc Cert.KernelGateUpIdeal.main_arg1)
      ∧ m' ((c.tc : Thread Cert.ReferenceGateUpIdeal.nD Cert.ReferenceGateUpIdeal.τ).loc Cert.ReferenceGateUpIdeal.main_arg2) = m ((c.tc : Thread Cert.KernelGateUpIdeal.nD Cert.KernelGateUpIdeal.τ).loc Cert.KernelGateUpIdeal.main_arg2)) →
    ∃ (v0 : (c : Dev Cert.KernelGateUpIdeal.nD) → Buf (Elt Ideal) ((c.tc : Thread Cert.KernelGateUpIdeal.nD Cert.KernelGateUpIdeal.τ).loc Cert.KernelGateUpIdeal.main_v0_0)) (v1 : (c : Dev Cert.KernelGateUpIdeal.nD) → Buf (Elt Ideal) ((c.tc : Thread Cert.KernelGateUpIdeal.nD Cert.KernelGateUpIdeal.τ).loc Cert.KernelGateUpIdeal.main_v0_1)),
      θ_run (Cert.KernelGateUpIdeal.defs (F := Ideal)) (onTc (τ := Cert.KernelGateUpIdeal.τ) (Cert.KernelGateUpIdeal.main (F := Ideal))) ⟨m, fun _ => 0, g⟩ (fun r => ∀ c : Dev Cert.KernelGateUpIdeal.nD,
          r.2.mem ((c.tc : Thread Cert.KernelGateUpIdeal.nD Cert.KernelGateUpIdeal.τ).loc Cert.KernelGateUpIdeal.main_v0_0) = v0 c
          ∧ r.2.mem ((c.tc : Thread Cert.KernelGateUpIdeal.nD Cert.KernelGateUpIdeal.τ).loc Cert.KernelGateUpIdeal.main_v0_1) = v1 c
          ∧ r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
          ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
          ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ θ_run (Cert.ReferenceGateUpIdeal.defs (F := Ideal)) (onTc (τ := Cert.ReferenceGateUpIdeal.τ) (Cert.ReferenceGateUpIdeal.main (F := Ideal))) ⟨m', fun _ => 0, g'⟩ (fun r => ∀ c : Dev Cert.ReferenceGateUpIdeal.nD,
          r.2.mem ((c.tc : Thread Cert.ReferenceGateUpIdeal.nD Cert.ReferenceGateUpIdeal.τ).loc Cert.ReferenceGateUpIdeal.main_v12) = v0 c
          ∧ r.2.mem ((c.tc : Thread Cert.ReferenceGateUpIdeal.nD Cert.ReferenceGateUpIdeal.τ).loc Cert.ReferenceGateUpIdeal.main_v13) = v1 c
          ∧ r.2.mem ((c.tc : Thread Cert.ReferenceGateUpIdeal.nD Cert.ReferenceGateUpIdeal.τ).loc Cert.ReferenceGateUpIdeal.main_arg0) = m' ((c.tc : Thread Cert.ReferenceGateUpIdeal.nD Cert.ReferenceGateUpIdeal.τ).loc Cert.ReferenceGateUpIdeal.main_arg0)
          ∧ r.2.mem ((c.tc : Thread Cert.ReferenceGateUpIdeal.nD Cert.ReferenceGateUpIdeal.τ).loc Cert.ReferenceGateUpIdeal.main_arg1) = m' ((c.tc : Thread Cert.ReferenceGateUpIdeal.nD Cert.ReferenceGateUpIdeal.τ).loc Cert.ReferenceGateUpIdeal.main_arg1)
          ∧ r.2.mem ((c.tc : Thread Cert.ReferenceGateUpIdeal.nD Cert.ReferenceGateUpIdeal.τ).loc Cert.ReferenceGateUpIdeal.main_arg2) = m' ((c.tc : Thread Cert.ReferenceGateUpIdeal.nD Cert.ReferenceGateUpIdeal.τ).loc Cert.ReferenceGateUpIdeal.main_arg2))

def preserves_KernelDgrad_KernelDgradIdeal : Prop :=
  True

def algebraic_KernelDgradIdeal_ReferenceDgradIdeal_pre_finite_dgrad [hKernelDgradIdeal : Cert.KernelDgradIdeal.Facts] [hReferenceDgradIdeal : Cert.ReferenceDgradIdeal.Facts] [hPre_finite_dgrad : Cert.Pre_finite_dgrad.Facts] : Prop :=
  ∀ (m : (ℓ : Loc Cert.KernelDgradIdeal.nD Cert.KernelDgradIdeal.τ Cert.KernelDgradIdeal.sig) → Buf (Elt Ideal) ℓ) (g : Dev Cert.KernelDgradIdeal.nD → PrngReg)
    (m' : (ℓ : Loc Cert.ReferenceDgradIdeal.nD Cert.ReferenceDgradIdeal.τ Cert.ReferenceDgradIdeal.sig) → Buf (Elt Ideal) ℓ) (g' : Dev Cert.ReferenceDgradIdeal.nD → PrngReg), Pre_KernelDgradIdeal_finite_dgrad m →
    (∀ c : Dev Cert.KernelDgradIdeal.nD,
      m' ((c.tc : Thread Cert.ReferenceDgradIdeal.nD Cert.ReferenceDgradIdeal.τ).loc Cert.ReferenceDgradIdeal.main_arg0) = m ((c.tc : Thread Cert.KernelDgradIdeal.nD Cert.KernelDgradIdeal.τ).loc Cert.KernelDgradIdeal.main_arg0)
      ∧ m' ((c.tc : Thread Cert.ReferenceDgradIdeal.nD Cert.ReferenceDgradIdeal.τ).loc Cert.ReferenceDgradIdeal.main_arg1) = m ((c.tc : Thread Cert.KernelDgradIdeal.nD Cert.KernelDgradIdeal.τ).loc Cert.KernelDgradIdeal.main_arg1)
      ∧ m' ((c.tc : Thread Cert.ReferenceDgradIdeal.nD Cert.ReferenceDgradIdeal.τ).loc Cert.ReferenceDgradIdeal.main_arg2) = m ((c.tc : Thread Cert.KernelDgradIdeal.nD Cert.KernelDgradIdeal.τ).loc Cert.KernelDgradIdeal.main_arg2)
      ∧ m' ((c.tc : Thread Cert.ReferenceDgradIdeal.nD Cert.ReferenceDgradIdeal.τ).loc Cert.ReferenceDgradIdeal.main_arg3) = m ((c.tc : Thread Cert.KernelDgradIdeal.nD Cert.KernelDgradIdeal.τ).loc Cert.KernelDgradIdeal.main_arg3)
      ∧ m' ((c.tc : Thread Cert.ReferenceDgradIdeal.nD Cert.ReferenceDgradIdeal.τ).loc Cert.ReferenceDgradIdeal.main_arg4) = m ((c.tc : Thread Cert.KernelDgradIdeal.nD Cert.KernelDgradIdeal.τ).loc Cert.KernelDgradIdeal.main_arg4)
      ∧ m' ((c.tc : Thread Cert.ReferenceDgradIdeal.nD Cert.ReferenceDgradIdeal.τ).loc Cert.ReferenceDgradIdeal.main_arg5) = m ((c.tc : Thread Cert.KernelDgradIdeal.nD Cert.KernelDgradIdeal.τ).loc Cert.KernelDgradIdeal.main_arg5)
      ∧ m' ((c.tc : Thread Cert.ReferenceDgradIdeal.nD Cert.ReferenceDgradIdeal.τ).loc Cert.ReferenceDgradIdeal.main_arg6) = m ((c.tc : Thread Cert.KernelDgradIdeal.nD Cert.KernelDgradIdeal.τ).loc Cert.KernelDgradIdeal.main_arg6)) →
    ∃ (v0 : (c : Dev Cert.KernelDgradIdeal.nD) → Buf (Elt Ideal) ((c.tc : Thread Cert.KernelDgradIdeal.nD Cert.KernelDgradIdeal.τ).loc Cert.KernelDgradIdeal.main_v1_0)) (v1 : (c : Dev Cert.KernelDgradIdeal.nD) → Buf (Elt Ideal) ((c.tc : Thread Cert.KernelDgradIdeal.nD Cert.KernelDgradIdeal.τ).loc Cert.KernelDgradIdeal.main_v1_1)),
      θ_run (Cert.KernelDgradIdeal.defs (F := Ideal)) (onTc (τ := Cert.KernelDgradIdeal.τ) (Cert.KernelDgradIdeal.main (F := Ideal))) ⟨m, fun _ => 0, g⟩ (fun r => ∀ c : Dev Cert.KernelDgradIdeal.nD,
          r.2.mem ((c.tc : Thread Cert.KernelDgradIdeal.nD Cert.KernelDgradIdeal.τ).loc Cert.KernelDgradIdeal.main_v1_0) = v0 c
          ∧ r.2.mem ((c.tc : Thread Cert.KernelDgradIdeal.nD Cert.KernelDgradIdeal.τ).loc Cert.KernelDgradIdeal.main_v1_1) = v1 c
          ∧ r.2.mem ((c.tc : Thread Cert.KernelDgradIdeal.nD Cert.KernelDgradIdeal.τ).loc Cert.KernelDgradIdeal.main_arg0) = m ((c.tc : Thread Cert.KernelDgradIdeal.nD Cert.KernelDgradIdeal.τ).loc Cert.KernelDgradIdeal.main_arg0)
          ∧ r.2.mem ((c.tc : Thread Cert.KernelDgradIdeal.nD Cert.KernelDgradIdeal.τ).loc Cert.KernelDgradIdeal.main_arg1) = m ((c.tc : Thread Cert.KernelDgradIdeal.nD Cert.KernelDgradIdeal.τ).loc Cert.KernelDgradIdeal.main_arg1)
          ∧ r.2.mem ((c.tc : Thread Cert.KernelDgradIdeal.nD Cert.KernelDgradIdeal.τ).loc Cert.KernelDgradIdeal.main_arg2) = m ((c.tc : Thread Cert.KernelDgradIdeal.nD Cert.KernelDgradIdeal.τ).loc Cert.KernelDgradIdeal.main_arg2)
          ∧ r.2.mem ((c.tc : Thread Cert.KernelDgradIdeal.nD Cert.KernelDgradIdeal.τ).loc Cert.KernelDgradIdeal.main_arg3) = m ((c.tc : Thread Cert.KernelDgradIdeal.nD Cert.KernelDgradIdeal.τ).loc Cert.KernelDgradIdeal.main_arg3)
          ∧ r.2.mem ((c.tc : Thread Cert.KernelDgradIdeal.nD Cert.KernelDgradIdeal.τ).loc Cert.KernelDgradIdeal.main_arg4) = m ((c.tc : Thread Cert.KernelDgradIdeal.nD Cert.KernelDgradIdeal.τ).loc Cert.KernelDgradIdeal.main_arg4)
          ∧ r.2.mem ((c.tc : Thread Cert.KernelDgradIdeal.nD Cert.KernelDgradIdeal.τ).loc Cert.KernelDgradIdeal.main_arg5) = m ((c.tc : Thread Cert.KernelDgradIdeal.nD Cert.KernelDgradIdeal.τ).loc Cert.KernelDgradIdeal.main_arg5)
          ∧ r.2.mem ((c.tc : Thread Cert.KernelDgradIdeal.nD Cert.KernelDgradIdeal.τ).loc Cert.KernelDgradIdeal.main_arg6) = m ((c.tc : Thread Cert.KernelDgradIdeal.nD Cert.KernelDgradIdeal.τ).loc Cert.KernelDgradIdeal.main_arg6))
      ∧ θ_run (Cert.ReferenceDgradIdeal.defs (F := Ideal)) (onTc (τ := Cert.ReferenceDgradIdeal.τ) (Cert.ReferenceDgradIdeal.main (F := Ideal))) ⟨m', fun _ => 0, g'⟩ (fun r => ∀ c : Dev Cert.ReferenceDgradIdeal.nD,
          r.2.mem ((c.tc : Thread Cert.ReferenceDgradIdeal.nD Cert.ReferenceDgradIdeal.τ).loc Cert.ReferenceDgradIdeal.main_v53) = v0 c
          ∧ r.2.mem ((c.tc : Thread Cert.ReferenceDgradIdeal.nD Cert.ReferenceDgradIdeal.τ).loc Cert.ReferenceDgradIdeal.main_v54) = v1 c
          ∧ r.2.mem ((c.tc : Thread Cert.ReferenceDgradIdeal.nD Cert.ReferenceDgradIdeal.τ).loc Cert.ReferenceDgradIdeal.main_arg0) = m' ((c.tc : Thread Cert.ReferenceDgradIdeal.nD Cert.ReferenceDgradIdeal.τ).loc Cert.ReferenceDgradIdeal.main_arg0)
          ∧ r.2.mem ((c.tc : Thread Cert.ReferenceDgradIdeal.nD Cert.ReferenceDgradIdeal.τ).loc Cert.ReferenceDgradIdeal.main_arg1) = m' ((c.tc : Thread Cert.ReferenceDgradIdeal.nD Cert.ReferenceDgradIdeal.τ).loc Cert.ReferenceDgradIdeal.main_arg1)
          ∧ r.2.mem ((c.tc : Thread Cert.ReferenceDgradIdeal.nD Cert.ReferenceDgradIdeal.τ).loc Cert.ReferenceDgradIdeal.main_arg2) = m' ((c.tc : Thread Cert.ReferenceDgradIdeal.nD Cert.ReferenceDgradIdeal.τ).loc Cert.ReferenceDgradIdeal.main_arg2)
          ∧ r.2.mem ((c.tc : Thread Cert.ReferenceDgradIdeal.nD Cert.ReferenceDgradIdeal.τ).loc Cert.ReferenceDgradIdeal.main_arg3) = m' ((c.tc : Thread Cert.ReferenceDgradIdeal.nD Cert.ReferenceDgradIdeal.τ).loc Cert.ReferenceDgradIdeal.main_arg3)
          ∧ r.2.mem ((c.tc : Thread Cert.ReferenceDgradIdeal.nD Cert.ReferenceDgradIdeal.τ).loc Cert.ReferenceDgradIdeal.main_arg4) = m' ((c.tc : Thread Cert.ReferenceDgradIdeal.nD Cert.ReferenceDgradIdeal.τ).loc Cert.ReferenceDgradIdeal.main_arg4)
          ∧ r.2.mem ((c.tc : Thread Cert.ReferenceDgradIdeal.nD Cert.ReferenceDgradIdeal.τ).loc Cert.ReferenceDgradIdeal.main_arg5) = m' ((c.tc : Thread Cert.ReferenceDgradIdeal.nD Cert.ReferenceDgradIdeal.τ).loc Cert.ReferenceDgradIdeal.main_arg5)
          ∧ r.2.mem ((c.tc : Thread Cert.ReferenceDgradIdeal.nD Cert.ReferenceDgradIdeal.τ).loc Cert.ReferenceDgradIdeal.main_arg6) = m' ((c.tc : Thread Cert.ReferenceDgradIdeal.nD Cert.ReferenceDgradIdeal.τ).loc Cert.ReferenceDgradIdeal.main_arg6))

def preserves_KernelFfnIn_KernelFfnInIdeal : Prop :=
  True

def algebraic_KernelFfnInIdeal_ReferenceFfnInIdeal_pre_finite_ffn_in [hKernelFfnInIdeal : Cert.KernelFfnInIdeal.Facts] [hReferenceFfnInIdeal : Cert.ReferenceFfnInIdeal.Facts] [hPre_finite_ffn_in : Cert.Pre_finite_ffn_in.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal_finite_ffn_in m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)
      ∧ m' ((c.tc : Thread Cert.ReferenceFfnInIdeal.nD Cert.ReferenceFfnInIdeal.τ).loc Cert.ReferenceFfnInIdeal.main_arg2) = m ((c.tc : Thread Cert.KernelFfnInIdeal.nD Cert.KernelFfnInIdeal.τ).loc Cert.KernelFfnInIdeal.main_arg2)) →
    ∃ (v0 : (c : Dev Cert.KernelFfnInIdeal.nD) → Buf (Elt Ideal) ((c.tc : Thread Cert.KernelFfnInIdeal.nD Cert.KernelFfnInIdeal.τ).loc Cert.KernelFfnInIdeal.main_v0_0)) (v1 : (c : Dev Cert.KernelFfnInIdeal.nD) → Buf (Elt Ideal) ((c.tc : Thread Cert.KernelFfnInIdeal.nD Cert.KernelFfnInIdeal.τ).loc Cert.KernelFfnInIdeal.main_v0_1)) (v2 : (c : Dev Cert.KernelFfnInIdeal.nD) → Buf (Elt Ideal) ((c.tc : Thread Cert.KernelFfnInIdeal.nD Cert.KernelFfnInIdeal.τ).loc Cert.KernelFfnInIdeal.main_v0_2)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v0_0) = v0 c
          ∧ r.2.mem ((c.tc : Thread Cert.KernelFfnInIdeal.nD Cert.KernelFfnInIdeal.τ).loc Cert.KernelFfnInIdeal.main_v0_1) = v1 c
          ∧ r.2.mem ((c.tc : Thread Cert.KernelFfnInIdeal.nD Cert.KernelFfnInIdeal.τ).loc Cert.KernelFfnInIdeal.main_v0_2) = v2 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
          ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v15) = v0 c
          ∧ r.2.mem ((c.tc : Thread Cert.ReferenceFfnInIdeal.nD Cert.ReferenceFfnInIdeal.τ).loc Cert.ReferenceFfnInIdeal.main_v16) = v1 c
          ∧ r.2.mem ((c.tc : Thread Cert.ReferenceFfnInIdeal.nD Cert.ReferenceFfnInIdeal.τ).loc Cert.ReferenceFfnInIdeal.main_v17) = v2 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1)
          ∧ r.2.mem ((c.tc : Thread Cert.ReferenceFfnInIdeal.nD Cert.ReferenceFfnInIdeal.τ).loc Cert.ReferenceFfnInIdeal.main_arg2) = m' ((c.tc : Thread Cert.ReferenceFfnInIdeal.nD Cert.ReferenceFfnInIdeal.τ).loc Cert.ReferenceFfnInIdeal.main_arg2))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v0)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v0) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v7) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelDin_KernelDinIdeal : Prop :=
  True

def algebraic_KernelDinIdeal_ReferenceDinIdeal_pre_finite_din [hKernelDinIdeal : Cert.KernelDinIdeal.Facts] [hReferenceDinIdeal : Cert.ReferenceDinIdeal.Facts] [hPre_finite_din : Cert.Pre_finite_din.Facts] : Prop :=
  ∀ (m : (ℓ : Loc Cert.KernelDinIdeal.nD Cert.KernelDinIdeal.τ Cert.KernelDinIdeal.sig) → Buf (Elt Ideal) ℓ) (g : Dev Cert.KernelDinIdeal.nD → PrngReg)
    (m' : (ℓ : Loc Cert.ReferenceDinIdeal.nD Cert.ReferenceDinIdeal.τ Cert.ReferenceDinIdeal.sig) → Buf (Elt Ideal) ℓ) (g' : Dev Cert.ReferenceDinIdeal.nD → PrngReg), Pre_KernelDinIdeal_finite_din m →
    (∀ c : Dev Cert.KernelDinIdeal.nD,
      m' ((c.tc : Thread Cert.ReferenceDinIdeal.nD Cert.ReferenceDinIdeal.τ).loc Cert.ReferenceDinIdeal.main_arg0) = m ((c.tc : Thread Cert.KernelDinIdeal.nD Cert.KernelDinIdeal.τ).loc Cert.KernelDinIdeal.main_arg0)
      ∧ m' ((c.tc : Thread Cert.ReferenceDinIdeal.nD Cert.ReferenceDinIdeal.τ).loc Cert.ReferenceDinIdeal.main_arg1) = m ((c.tc : Thread Cert.KernelDinIdeal.nD Cert.KernelDinIdeal.τ).loc Cert.KernelDinIdeal.main_arg1)
      ∧ m' ((c.tc : Thread Cert.ReferenceDinIdeal.nD Cert.ReferenceDinIdeal.τ).loc Cert.ReferenceDinIdeal.main_arg2) = m ((c.tc : Thread Cert.KernelDinIdeal.nD Cert.KernelDinIdeal.τ).loc Cert.KernelDinIdeal.main_arg2)
      ∧ m' ((c.tc : Thread Cert.ReferenceDinIdeal.nD Cert.ReferenceDinIdeal.τ).loc Cert.ReferenceDinIdeal.main_arg3) = m ((c.tc : Thread Cert.KernelDinIdeal.nD Cert.KernelDinIdeal.τ).loc Cert.KernelDinIdeal.main_arg3)
      ∧ m' ((c.tc : Thread Cert.ReferenceDinIdeal.nD Cert.ReferenceDinIdeal.τ).loc Cert.ReferenceDinIdeal.main_arg4) = m ((c.tc : Thread Cert.KernelDinIdeal.nD Cert.KernelDinIdeal.τ).loc Cert.KernelDinIdeal.main_arg4)) →
    ∃ (v0 : (c : Dev Cert.KernelDinIdeal.nD) → Buf (Elt Ideal) ((c.tc : Thread Cert.KernelDinIdeal.nD Cert.KernelDinIdeal.τ).loc Cert.KernelDinIdeal.main_v1_0)) (v1 : (c : Dev Cert.KernelDinIdeal.nD) → Buf (Elt Ideal) ((c.tc : Thread Cert.KernelDinIdeal.nD Cert.KernelDinIdeal.τ).loc Cert.KernelDinIdeal.main_v1_1)),
      θ_run (Cert.KernelDinIdeal.defs (F := Ideal)) (onTc (τ := Cert.KernelDinIdeal.τ) (Cert.KernelDinIdeal.main (F := Ideal))) ⟨m, fun _ => 0, g⟩ (fun r => ∀ c : Dev Cert.KernelDinIdeal.nD,
          r.2.mem ((c.tc : Thread Cert.KernelDinIdeal.nD Cert.KernelDinIdeal.τ).loc Cert.KernelDinIdeal.main_v1_0) = v0 c
          ∧ r.2.mem ((c.tc : Thread Cert.KernelDinIdeal.nD Cert.KernelDinIdeal.τ).loc Cert.KernelDinIdeal.main_v1_1) = v1 c
          ∧ r.2.mem ((c.tc : Thread Cert.KernelDinIdeal.nD Cert.KernelDinIdeal.τ).loc Cert.KernelDinIdeal.main_arg0) = m ((c.tc : Thread Cert.KernelDinIdeal.nD Cert.KernelDinIdeal.τ).loc Cert.KernelDinIdeal.main_arg0)
          ∧ r.2.mem ((c.tc : Thread Cert.KernelDinIdeal.nD Cert.KernelDinIdeal.τ).loc Cert.KernelDinIdeal.main_arg1) = m ((c.tc : Thread Cert.KernelDinIdeal.nD Cert.KernelDinIdeal.τ).loc Cert.KernelDinIdeal.main_arg1)
          ∧ r.2.mem ((c.tc : Thread Cert.KernelDinIdeal.nD Cert.KernelDinIdeal.τ).loc Cert.KernelDinIdeal.main_arg2) = m ((c.tc : Thread Cert.KernelDinIdeal.nD Cert.KernelDinIdeal.τ).loc Cert.KernelDinIdeal.main_arg2)
          ∧ r.2.mem ((c.tc : Thread Cert.KernelDinIdeal.nD Cert.KernelDinIdeal.τ).loc Cert.KernelDinIdeal.main_arg3) = m ((c.tc : Thread Cert.KernelDinIdeal.nD Cert.KernelDinIdeal.τ).loc Cert.KernelDinIdeal.main_arg3)
          ∧ r.2.mem ((c.tc : Thread Cert.KernelDinIdeal.nD Cert.KernelDinIdeal.τ).loc Cert.KernelDinIdeal.main_arg4) = m ((c.tc : Thread Cert.KernelDinIdeal.nD Cert.KernelDinIdeal.τ).loc Cert.KernelDinIdeal.main_arg4))
      ∧ θ_run (Cert.ReferenceDinIdeal.defs (F := Ideal)) (onTc (τ := Cert.ReferenceDinIdeal.τ) (Cert.ReferenceDinIdeal.main (F := Ideal))) ⟨m', fun _ => 0, g'⟩ (fun r => ∀ c : Dev Cert.ReferenceDinIdeal.nD,
          r.2.mem ((c.tc : Thread Cert.ReferenceDinIdeal.nD Cert.ReferenceDinIdeal.τ).loc Cert.ReferenceDinIdeal.main_v42) = v0 c
          ∧ r.2.mem ((c.tc : Thread Cert.ReferenceDinIdeal.nD Cert.ReferenceDinIdeal.τ).loc Cert.ReferenceDinIdeal.main_v43) = v1 c
          ∧ r.2.mem ((c.tc : Thread Cert.ReferenceDinIdeal.nD Cert.ReferenceDinIdeal.τ).loc Cert.ReferenceDinIdeal.main_arg0) = m' ((c.tc : Thread Cert.ReferenceDinIdeal.nD Cert.ReferenceDinIdeal.τ).loc Cert.ReferenceDinIdeal.main_arg0)
          ∧ r.2.mem ((c.tc : Thread Cert.ReferenceDinIdeal.nD Cert.ReferenceDinIdeal.τ).loc Cert.ReferenceDinIdeal.main_arg1) = m' ((c.tc : Thread Cert.ReferenceDinIdeal.nD Cert.ReferenceDinIdeal.τ).loc Cert.ReferenceDinIdeal.main_arg1)
          ∧ r.2.mem ((c.tc : Thread Cert.ReferenceDinIdeal.nD Cert.ReferenceDinIdeal.τ).loc Cert.ReferenceDinIdeal.main_arg2) = m' ((c.tc : Thread Cert.ReferenceDinIdeal.nD Cert.ReferenceDinIdeal.τ).loc Cert.ReferenceDinIdeal.main_arg2)
          ∧ r.2.mem ((c.tc : Thread Cert.ReferenceDinIdeal.nD Cert.ReferenceDinIdeal.τ).loc Cert.ReferenceDinIdeal.main_arg3) = m' ((c.tc : Thread Cert.ReferenceDinIdeal.nD Cert.ReferenceDinIdeal.τ).loc Cert.ReferenceDinIdeal.main_arg3)
          ∧ r.2.mem ((c.tc : Thread Cert.ReferenceDinIdeal.nD Cert.ReferenceDinIdeal.τ).loc Cert.ReferenceDinIdeal.main_arg4) = m' ((c.tc : Thread Cert.ReferenceDinIdeal.nD Cert.ReferenceDinIdeal.τ).loc Cert.ReferenceDinIdeal.main_arg4))

def preserves_KernelWcd_KernelWcdIdeal : Prop :=
  True

def algebraic_KernelWcdIdeal_ReferenceWcdIdeal [hKernelWcdIdeal : Cert.KernelWcdIdeal.Facts] [hReferenceWcdIdeal : Cert.ReferenceWcdIdeal.Facts] : Prop :=
  ∀ (m : (ℓ : Loc Cert.KernelWcdIdeal.nD Cert.KernelWcdIdeal.τ Cert.KernelWcdIdeal.sig) → Buf (Elt Ideal) ℓ) (g : Dev Cert.KernelWcdIdeal.nD → PrngReg)
    (m' : (ℓ : Loc Cert.ReferenceWcdIdeal.nD Cert.ReferenceWcdIdeal.τ Cert.ReferenceWcdIdeal.sig) → Buf (Elt Ideal) ℓ) (g' : Dev Cert.ReferenceWcdIdeal.nD → PrngReg), Pre_KernelWcdIdeal m →
    (∀ c : Dev Cert.KernelWcdIdeal.nD,
      m' ((c.tc : Thread Cert.ReferenceWcdIdeal.nD Cert.ReferenceWcdIdeal.τ).loc Cert.ReferenceWcdIdeal.main_arg0) = m ((c.tc : Thread Cert.KernelWcdIdeal.nD Cert.KernelWcdIdeal.τ).loc Cert.KernelWcdIdeal.main_arg0)
      ∧ m' ((c.tc : Thread Cert.ReferenceWcdIdeal.nD Cert.ReferenceWcdIdeal.τ).loc Cert.ReferenceWcdIdeal.main_arg1) = m ((c.tc : Thread Cert.KernelWcdIdeal.nD Cert.KernelWcdIdeal.τ).loc Cert.KernelWcdIdeal.main_arg1)) →
    ∃ (v0 : (c : Dev Cert.KernelWcdIdeal.nD) → Buf (Elt Ideal) ((c.tc : Thread Cert.KernelWcdIdeal.nD Cert.KernelWcdIdeal.τ).loc Cert.KernelWcdIdeal.main_v0)),
      θ_run (Cert.KernelWcdIdeal.defs (F := Ideal)) (onTc (τ := Cert.KernelWcdIdeal.τ) (Cert.KernelWcdIdeal.main (F := Ideal))) ⟨m, fun _ => 0, g⟩ (fun r => ∀ c : Dev Cert.KernelWcdIdeal.nD,
          r.2.mem ((c.tc : Thread Cert.KernelWcdIdeal.nD Cert.KernelWcdIdeal.τ).loc Cert.KernelWcdIdeal.main_v0) = v0 c
          ∧ r.2.mem ((c.tc : Thread Cert.KernelWcdIdeal.nD Cert.KernelWcdIdeal.τ).loc Cert.KernelWcdIdeal.main_arg0) = m ((c.tc : Thread Cert.KernelWcdIdeal.nD Cert.KernelWcdIdeal.τ).loc Cert.KernelWcdIdeal.main_arg0)
          ∧ r.2.mem ((c.tc : Thread Cert.KernelWcdIdeal.nD Cert.KernelWcdIdeal.τ).loc Cert.KernelWcdIdeal.main_arg1) = m ((c.tc : Thread Cert.KernelWcdIdeal.nD Cert.KernelWcdIdeal.τ).loc Cert.KernelWcdIdeal.main_arg1))
      ∧ θ_run (Cert.ReferenceWcdIdeal.defs (F := Ideal)) (onTc (τ := Cert.ReferenceWcdIdeal.τ) (Cert.ReferenceWcdIdeal.main (F := Ideal))) ⟨m', fun _ => 0, g'⟩ (fun r => ∀ c : Dev Cert.ReferenceWcdIdeal.nD,
          r.2.mem ((c.tc : Thread Cert.ReferenceWcdIdeal.nD Cert.ReferenceWcdIdeal.τ).loc Cert.ReferenceWcdIdeal.main_v7) = v0 c
          ∧ r.2.mem ((c.tc : Thread Cert.ReferenceWcdIdeal.nD Cert.ReferenceWcdIdeal.τ).loc Cert.ReferenceWcdIdeal.main_arg0) = m' ((c.tc : Thread Cert.ReferenceWcdIdeal.nD Cert.ReferenceWcdIdeal.τ).loc Cert.ReferenceWcdIdeal.main_arg0)
          ∧ r.2.mem ((c.tc : Thread Cert.ReferenceWcdIdeal.nD Cert.ReferenceWcdIdeal.τ).loc Cert.ReferenceWcdIdeal.main_arg1) = m' ((c.tc : Thread Cert.ReferenceWcdIdeal.nD Cert.ReferenceWcdIdeal.τ).loc Cert.ReferenceWcdIdeal.main_arg1))

def preserves_KernelWout_KernelWoutIdeal : Prop :=
  True

def algebraic_KernelWoutIdeal_ReferenceWoutIdeal [hKernelWoutIdeal : Cert.KernelWoutIdeal.Facts] [hReferenceWoutIdeal : Cert.ReferenceWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg)
    (m' : (ℓ : Loc Cert.ReferenceWoutIdeal.nD Cert.ReferenceWoutIdeal.τ Cert.ReferenceWoutIdeal.sig) → Buf (Elt Ideal) ℓ) (g' : Dev Cert.ReferenceWoutIdeal.nD → PrngReg), Pre_KernelWoutIdeal m →
    (∀ c : Dev Cert.KernelWoutIdeal.nD,
      m' ((c.tc : Thread Cert.ReferenceWoutIdeal.nD Cert.ReferenceWoutIdeal.τ).loc Cert.ReferenceWoutIdeal.main_arg0) = m ((c.tc : Thread Cert.KernelWoutIdeal.nD Cert.KernelWoutIdeal.τ).loc Cert.KernelWoutIdeal.main_arg0)
      ∧ m' ((c.tc : Thread Cert.ReferenceWoutIdeal.nD Cert.ReferenceWoutIdeal.τ).loc Cert.ReferenceWoutIdeal.main_arg1) = m ((c.tc : Thread Cert.KernelWoutIdeal.nD Cert.KernelWoutIdeal.τ).loc Cert.KernelWoutIdeal.main_arg1)) →
    ∃ (v0 : (c : Dev Cert.KernelWoutIdeal.nD) → Buf (Elt Ideal) ((c.tc : Thread Cert.KernelWoutIdeal.nD Cert.KernelWoutIdeal.τ).loc Cert.KernelWoutIdeal.main_v0)),
      θ_run (Cert.KernelWoutIdeal.defs (F := Ideal)) (onTc (τ := Cert.KernelWoutIdeal.τ) (Cert.KernelWoutIdeal.main (F := Ideal))) ⟨m, fun _ => 0, g⟩ (fun r => ∀ c : Dev Cert.KernelWoutIdeal.nD,
          r.2.mem ((c.tc : Thread Cert.KernelWoutIdeal.nD Cert.KernelWoutIdeal.τ).loc Cert.KernelWoutIdeal.main_v0) = v0 c
          ∧ r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
          ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ θ_run (Cert.ReferenceWoutIdeal.defs (F := Ideal)) (onTc (τ := Cert.ReferenceWoutIdeal.τ) (Cert.ReferenceWoutIdeal.main (F := Ideal))) ⟨m', fun _ => 0, g'⟩ (fun r => ∀ c : Dev Cert.ReferenceWoutIdeal.nD,
          r.2.mem ((c.tc : Thread Cert.ReferenceWoutIdeal.nD Cert.ReferenceWoutIdeal.τ).loc Cert.ReferenceWoutIdeal.main_v7) = v0 c
          ∧ r.2.mem ((c.tc : Thread Cert.ReferenceWoutIdeal.nD Cert.ReferenceWoutIdeal.τ).loc Cert.ReferenceWoutIdeal.main_arg0) = m' ((c.tc : Thread Cert.ReferenceWoutIdeal.nD Cert.ReferenceWoutIdeal.τ).loc Cert.ReferenceWoutIdeal.main_arg0)
          ∧ r.2.mem ((c.tc : Thread Cert.ReferenceWoutIdeal.nD Cert.ReferenceWoutIdeal.τ).loc Cert.ReferenceWoutIdeal.main_arg1) = m' ((c.tc : Thread Cert.ReferenceWoutIdeal.nD Cert.ReferenceWoutIdeal.τ).loc Cert.ReferenceWoutIdeal.main_arg1))

def preserves_KernelDout_KernelDoutIdeal : Prop :=
  True

def algebraic_KernelDoutIdeal_ReferenceDoutIdeal [hKernelDoutIdeal : Cert.KernelDoutIdeal.Facts] [hReferenceDoutIdeal : Cert.ReferenceDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg)
    (m' : (ℓ : Loc Cert.ReferenceDoutIdeal.nD Cert.ReferenceDoutIdeal.τ Cert.ReferenceDoutIdeal.sig) → Buf (Elt Ideal) ℓ) (g' : Dev Cert.ReferenceDoutIdeal.nD → PrngReg), Pre_KernelDoutIdeal m →
    (∀ c : Dev Cert.KernelDoutIdeal.nD,
      m' ((c.tc : Thread Cert.ReferenceDoutIdeal.nD Cert.ReferenceDoutIdeal.τ).loc Cert.ReferenceDoutIdeal.main_arg0) = m ((c.tc : Thread Cert.KernelDoutIdeal.nD Cert.KernelDoutIdeal.τ).loc Cert.KernelDoutIdeal.main_arg0)
      ∧ m' ((c.tc : Thread Cert.ReferenceDoutIdeal.nD Cert.ReferenceDoutIdeal.τ).loc Cert.ReferenceDoutIdeal.main_arg1) = m ((c.tc : Thread Cert.KernelDoutIdeal.nD Cert.KernelDoutIdeal.τ).loc Cert.KernelDoutIdeal.main_arg1)) →
    ∃ (v0 : (c : Dev Cert.KernelDoutIdeal.nD) → Buf (Elt Ideal) ((c.tc : Thread Cert.KernelDoutIdeal.nD Cert.KernelDoutIdeal.τ).loc Cert.KernelDoutIdeal.main_v0)),
      θ_run (Cert.KernelDoutIdeal.defs (F := Ideal)) (onTc (τ := Cert.KernelDoutIdeal.τ) (Cert.KernelDoutIdeal.main (F := Ideal))) ⟨m, fun _ => 0, g⟩ (fun r => ∀ c : Dev Cert.KernelDoutIdeal.nD,
          r.2.mem ((c.tc : Thread Cert.KernelDoutIdeal.nD Cert.KernelDoutIdeal.τ).loc Cert.KernelDoutIdeal.main_v0) = v0 c
          ∧ r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
          ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ θ_run (Cert.ReferenceDoutIdeal.defs (F := Ideal)) (onTc (τ := Cert.ReferenceDoutIdeal.τ) (Cert.ReferenceDoutIdeal.main (F := Ideal))) ⟨m', fun _ => 0, g'⟩ (fun r => ∀ c : Dev Cert.ReferenceDoutIdeal.nD,
          r.2.mem ((c.tc : Thread Cert.ReferenceDoutIdeal.nD Cert.ReferenceDoutIdeal.τ).loc Cert.ReferenceDoutIdeal.main_v4) = v0 c
          ∧ r.2.mem ((c.tc : Thread Cert.ReferenceDoutIdeal.nD Cert.ReferenceDoutIdeal.τ).loc Cert.ReferenceDoutIdeal.main_arg0) = m' ((c.tc : Thread Cert.ReferenceDoutIdeal.nD Cert.ReferenceDoutIdeal.τ).loc Cert.ReferenceDoutIdeal.main_arg0)
          ∧ r.2.mem ((c.tc : Thread Cert.ReferenceDoutIdeal.nD Cert.ReferenceDoutIdeal.τ).loc Cert.ReferenceDoutIdeal.main_arg1) = m' ((c.tc : Thread Cert.ReferenceDoutIdeal.nD Cert.ReferenceDoutIdeal.τ).loc Cert.ReferenceDoutIdeal.main_arg1))

def preserves_KernelFfnOut_KernelFfnOutIdeal : Prop :=
  True

def algebraic_KernelFfnOutIdeal_ReferenceFfnOutIdeal [hKernelFfnOutIdeal : Cert.KernelFfnOutIdeal.Facts] [hReferenceFfnOutIdeal : Cert.ReferenceFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg)
    (m' : (ℓ : Loc Cert.ReferenceFfnOutIdeal.nD Cert.ReferenceFfnOutIdeal.τ Cert.ReferenceFfnOutIdeal.sig) → Buf (Elt Ideal) ℓ) (g' : Dev Cert.ReferenceFfnOutIdeal.nD → PrngReg), Pre_KernelFfnOutIdeal m →
    (∀ c : Dev Cert.KernelFfnOutIdeal.nD,
      m' ((c.tc : Thread Cert.ReferenceFfnOutIdeal.nD Cert.ReferenceFfnOutIdeal.τ).loc Cert.ReferenceFfnOutIdeal.main_arg0) = m ((c.tc : Thread Cert.KernelFfnOutIdeal.nD Cert.KernelFfnOutIdeal.τ).loc Cert.KernelFfnOutIdeal.main_arg0)
      ∧ m' ((c.tc : Thread Cert.ReferenceFfnOutIdeal.nD Cert.ReferenceFfnOutIdeal.τ).loc Cert.ReferenceFfnOutIdeal.main_arg1) = m ((c.tc : Thread Cert.KernelFfnOutIdeal.nD Cert.KernelFfnOutIdeal.τ).loc Cert.KernelFfnOutIdeal.main_arg1)
      ∧ m' ((c.tc : Thread Cert.ReferenceFfnOutIdeal.nD Cert.ReferenceFfnOutIdeal.τ).loc Cert.ReferenceFfnOutIdeal.main_arg2) = m ((c.tc : Thread Cert.KernelFfnOutIdeal.nD Cert.KernelFfnOutIdeal.τ).loc Cert.KernelFfnOutIdeal.main_arg2)
      ∧ m' ((c.tc : Thread Cert.ReferenceFfnOutIdeal.nD Cert.ReferenceFfnOutIdeal.τ).loc Cert.ReferenceFfnOutIdeal.main_arg3) = m ((c.tc : Thread Cert.KernelFfnOutIdeal.nD Cert.KernelFfnOutIdeal.τ).loc Cert.KernelFfnOutIdeal.main_arg3)) →
    ∃ (v0 : (c : Dev Cert.KernelFfnOutIdeal.nD) → Buf (Elt Ideal) ((c.tc : Thread Cert.KernelFfnOutIdeal.nD Cert.KernelFfnOutIdeal.τ).loc Cert.KernelFfnOutIdeal.main_v1_0)) (v1 : (c : Dev Cert.KernelFfnOutIdeal.nD) → Buf (Elt Ideal) ((c.tc : Thread Cert.KernelFfnOutIdeal.nD Cert.KernelFfnOutIdeal.τ).loc Cert.KernelFfnOutIdeal.main_v1_1)),
      θ_run (Cert.KernelFfnOutIdeal.defs (F := Ideal)) (onTc (τ := Cert.KernelFfnOutIdeal.τ) (Cert.KernelFfnOutIdeal.main (F := Ideal))) ⟨m, fun _ => 0, g⟩ (fun r => ∀ c : Dev Cert.KernelFfnOutIdeal.nD,
          r.2.mem ((c.tc : Thread Cert.KernelFfnOutIdeal.nD Cert.KernelFfnOutIdeal.τ).loc Cert.KernelFfnOutIdeal.main_v1_0) = v0 c
          ∧ r.2.mem ((c.tc : Thread Cert.KernelFfnOutIdeal.nD Cert.KernelFfnOutIdeal.τ).loc Cert.KernelFfnOutIdeal.main_v1_1) = v1 c
          ∧ r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
          ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
          ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2)
          ∧ r.2.mem ((c.tc : Thread Cert.KernelFfnOutIdeal.nD Cert.KernelFfnOutIdeal.τ).loc Cert.KernelFfnOutIdeal.main_arg3) = m ((c.tc : Thread Cert.KernelFfnOutIdeal.nD Cert.KernelFfnOutIdeal.τ).loc Cert.KernelFfnOutIdeal.main_arg3))
      ∧ θ_run (Cert.ReferenceFfnOutIdeal.defs (F := Ideal)) (onTc (τ := Cert.ReferenceFfnOutIdeal.τ) (Cert.ReferenceFfnOutIdeal.main (F := Ideal))) ⟨m', fun _ => 0, g'⟩ (fun r => ∀ c : Dev Cert.ReferenceFfnOutIdeal.nD,
          r.2.mem ((c.tc : Thread Cert.ReferenceFfnOutIdeal.nD Cert.ReferenceFfnOutIdeal.τ).loc Cert.ReferenceFfnOutIdeal.main_v4) = v0 c
          ∧ r.2.mem ((c.tc : Thread Cert.ReferenceFfnOutIdeal.nD Cert.ReferenceFfnOutIdeal.τ).loc Cert.ReferenceFfnOutIdeal.main_v18) = v1 c
          ∧ r.2.mem ((c.tc : Thread Cert.ReferenceFfnOutIdeal.nD Cert.ReferenceFfnOutIdeal.τ).loc Cert.ReferenceFfnOutIdeal.main_arg0) = m' ((c.tc : Thread Cert.ReferenceFfnOutIdeal.nD Cert.ReferenceFfnOutIdeal.τ).loc Cert.ReferenceFfnOutIdeal.main_arg0)
          ∧ r.2.mem ((c.tc : Thread Cert.ReferenceFfnOutIdeal.nD Cert.ReferenceFfnOutIdeal.τ).loc Cert.ReferenceFfnOutIdeal.main_arg1) = m' ((c.tc : Thread Cert.ReferenceFfnOutIdeal.nD Cert.ReferenceFfnOutIdeal.τ).loc Cert.ReferenceFfnOutIdeal.main_arg1)
          ∧ r.2.mem ((c.tc : Thread Cert.ReferenceFfnOutIdeal.nD Cert.ReferenceFfnOutIdeal.τ).loc Cert.ReferenceFfnOutIdeal.main_arg2) = m' ((c.tc : Thread Cert.ReferenceFfnOutIdeal.nD Cert.ReferenceFfnOutIdeal.τ).loc Cert.ReferenceFfnOutIdeal.main_arg2)
          ∧ r.2.mem ((c.tc : Thread Cert.ReferenceFfnOutIdeal.nD Cert.ReferenceFfnOutIdeal.τ).loc Cert.ReferenceFfnOutIdeal.main_arg3) = m' ((c.tc : Thread Cert.ReferenceFfnOutIdeal.nD Cert.ReferenceFfnOutIdeal.τ).loc Cert.ReferenceFfnOutIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v19) = v0 c
          ∧ r.2.mem ((c.tc : Thread Cert.ReferenceLossIdeal.nD Cert.ReferenceLossIdeal.τ).loc Cert.ReferenceLossIdeal.main_v23) = v1 c
          ∧ r.2.mem ((c.tc : Thread Cert.ReferenceLossIdeal.nD Cert.ReferenceLossIdeal.τ).loc Cert.ReferenceLossIdeal.main_v24) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3))

def preserves_KernelProjOut_KernelProjOutIdeal : Prop :=
  True

def algebraic_KernelProjOutIdeal_ReferenceProjOutIdeal [hKernelProjOutIdeal : Cert.KernelProjOutIdeal.Facts] [hReferenceProjOutIdeal : Cert.ReferenceProjOutIdeal.Facts] : Prop :=
  ∀ (m : (ℓ : Loc Cert.KernelProjOutIdeal.nD Cert.KernelProjOutIdeal.τ Cert.KernelProjOutIdeal.sig) → Buf (Elt Ideal) ℓ) (g : Dev Cert.KernelProjOutIdeal.nD → PrngReg)
    (m' : (ℓ : Loc Cert.ReferenceProjOutIdeal.nD Cert.ReferenceProjOutIdeal.τ Cert.ReferenceProjOutIdeal.sig) → Buf (Elt Ideal) ℓ) (g' : Dev Cert.ReferenceProjOutIdeal.nD → PrngReg), Pre_KernelProjOutIdeal m →
    (∀ c : Dev Cert.KernelProjOutIdeal.nD,
      m' ((c.tc : Thread Cert.ReferenceProjOutIdeal.nD Cert.ReferenceProjOutIdeal.τ).loc Cert.ReferenceProjOutIdeal.main_arg0) = m ((c.tc : Thread Cert.KernelProjOutIdeal.nD Cert.KernelProjOutIdeal.τ).loc Cert.KernelProjOutIdeal.main_arg0)
      ∧ m' ((c.tc : Thread Cert.ReferenceProjOutIdeal.nD Cert.ReferenceProjOutIdeal.τ).loc Cert.ReferenceProjOutIdeal.main_arg1) = m ((c.tc : Thread Cert.KernelProjOutIdeal.nD Cert.KernelProjOutIdeal.τ).loc Cert.KernelProjOutIdeal.main_arg1)
      ∧ m' ((c.tc : Thread Cert.ReferenceProjOutIdeal.nD Cert.ReferenceProjOutIdeal.τ).loc Cert.ReferenceProjOutIdeal.main_arg2) = m ((c.tc : Thread Cert.KernelProjOutIdeal.nD Cert.KernelProjOutIdeal.τ).loc Cert.KernelProjOutIdeal.main_arg2)
      ∧ m' ((c.tc : Thread Cert.ReferenceProjOutIdeal.nD Cert.ReferenceProjOutIdeal.τ).loc Cert.ReferenceProjOutIdeal.main_arg3) = m ((c.tc : Thread Cert.KernelProjOutIdeal.nD Cert.KernelProjOutIdeal.τ).loc Cert.KernelProjOutIdeal.main_arg3)) →
    ∃ (v0 : (c : Dev Cert.KernelProjOutIdeal.nD) → Buf (Elt Ideal) ((c.tc : Thread Cert.KernelProjOutIdeal.nD Cert.KernelProjOutIdeal.τ).loc Cert.KernelProjOutIdeal.main_v1_0)) (v1 : (c : Dev Cert.KernelProjOutIdeal.nD) → Buf (Elt Ideal) ((c.tc : Thread Cert.KernelProjOutIdeal.nD Cert.KernelProjOutIdeal.τ).loc Cert.KernelProjOutIdeal.main_v1_1)),
      θ_run (Cert.KernelProjOutIdeal.defs (F := Ideal)) (onTc (τ := Cert.KernelProjOutIdeal.τ) (Cert.KernelProjOutIdeal.main (F := Ideal))) ⟨m, fun _ => 0, g⟩ (fun r => ∀ c : Dev Cert.KernelProjOutIdeal.nD,
          r.2.mem ((c.tc : Thread Cert.KernelProjOutIdeal.nD Cert.KernelProjOutIdeal.τ).loc Cert.KernelProjOutIdeal.main_v1_0) = v0 c
          ∧ r.2.mem ((c.tc : Thread Cert.KernelProjOutIdeal.nD Cert.KernelProjOutIdeal.τ).loc Cert.KernelProjOutIdeal.main_v1_1) = v1 c
          ∧ r.2.mem ((c.tc : Thread Cert.KernelProjOutIdeal.nD Cert.KernelProjOutIdeal.τ).loc Cert.KernelProjOutIdeal.main_arg0) = m ((c.tc : Thread Cert.KernelProjOutIdeal.nD Cert.KernelProjOutIdeal.τ).loc Cert.KernelProjOutIdeal.main_arg0)
          ∧ r.2.mem ((c.tc : Thread Cert.KernelProjOutIdeal.nD Cert.KernelProjOutIdeal.τ).loc Cert.KernelProjOutIdeal.main_arg1) = m ((c.tc : Thread Cert.KernelProjOutIdeal.nD Cert.KernelProjOutIdeal.τ).loc Cert.KernelProjOutIdeal.main_arg1)
          ∧ r.2.mem ((c.tc : Thread Cert.KernelProjOutIdeal.nD Cert.KernelProjOutIdeal.τ).loc Cert.KernelProjOutIdeal.main_arg2) = m ((c.tc : Thread Cert.KernelProjOutIdeal.nD Cert.KernelProjOutIdeal.τ).loc Cert.KernelProjOutIdeal.main_arg2)
          ∧ r.2.mem ((c.tc : Thread Cert.KernelProjOutIdeal.nD Cert.KernelProjOutIdeal.τ).loc Cert.KernelProjOutIdeal.main_arg3) = m ((c.tc : Thread Cert.KernelProjOutIdeal.nD Cert.KernelProjOutIdeal.τ).loc Cert.KernelProjOutIdeal.main_arg3))
      ∧ θ_run (Cert.ReferenceProjOutIdeal.defs (F := Ideal)) (onTc (τ := Cert.ReferenceProjOutIdeal.τ) (Cert.ReferenceProjOutIdeal.main (F := Ideal))) ⟨m', fun _ => 0, g'⟩ (fun r => ∀ c : Dev Cert.ReferenceProjOutIdeal.nD,
          r.2.mem ((c.tc : Thread Cert.ReferenceProjOutIdeal.nD Cert.ReferenceProjOutIdeal.τ).loc Cert.ReferenceProjOutIdeal.main_v3) = v0 c
          ∧ r.2.mem ((c.tc : Thread Cert.ReferenceProjOutIdeal.nD Cert.ReferenceProjOutIdeal.τ).loc Cert.ReferenceProjOutIdeal.main_v19) = v1 c
          ∧ r.2.mem ((c.tc : Thread Cert.ReferenceProjOutIdeal.nD Cert.ReferenceProjOutIdeal.τ).loc Cert.ReferenceProjOutIdeal.main_arg0) = m' ((c.tc : Thread Cert.ReferenceProjOutIdeal.nD Cert.ReferenceProjOutIdeal.τ).loc Cert.ReferenceProjOutIdeal.main_arg0)
          ∧ r.2.mem ((c.tc : Thread Cert.ReferenceProjOutIdeal.nD Cert.ReferenceProjOutIdeal.τ).loc Cert.ReferenceProjOutIdeal.main_arg1) = m' ((c.tc : Thread Cert.ReferenceProjOutIdeal.nD Cert.ReferenceProjOutIdeal.τ).loc Cert.ReferenceProjOutIdeal.main_arg1)
          ∧ r.2.mem ((c.tc : Thread Cert.ReferenceProjOutIdeal.nD Cert.ReferenceProjOutIdeal.τ).loc Cert.ReferenceProjOutIdeal.main_arg2) = m' ((c.tc : Thread Cert.ReferenceProjOutIdeal.nD Cert.ReferenceProjOutIdeal.τ).loc Cert.ReferenceProjOutIdeal.main_arg2)
          ∧ r.2.mem ((c.tc : Thread Cert.ReferenceProjOutIdeal.nD Cert.ReferenceProjOutIdeal.τ).loc Cert.ReferenceProjOutIdeal.main_arg3) = m' ((c.tc : Thread Cert.ReferenceProjOutIdeal.nD Cert.ReferenceProjOutIdeal.τ).loc Cert.ReferenceProjOutIdeal.main_arg3))

def preserves_KernelProjCd_KernelProjCdIdeal : Prop :=
  True

def algebraic_KernelProjCdIdeal_ReferenceProjCdIdeal [hKernelProjCdIdeal : Cert.KernelProjCdIdeal.Facts] [hReferenceProjCdIdeal : Cert.ReferenceProjCdIdeal.Facts] : Prop :=
  ∀ (m : (ℓ : Loc Cert.KernelProjCdIdeal.nD Cert.KernelProjCdIdeal.τ Cert.KernelProjCdIdeal.sig) → Buf (Elt Ideal) ℓ) (g : Dev Cert.KernelProjCdIdeal.nD → PrngReg)
    (m' : (ℓ : Loc Cert.ReferenceProjCdIdeal.nD Cert.ReferenceProjCdIdeal.τ Cert.ReferenceProjCdIdeal.sig) → Buf (Elt Ideal) ℓ) (g' : Dev Cert.ReferenceProjCdIdeal.nD → PrngReg), Pre_KernelProjCdIdeal m →
    (∀ c : Dev Cert.KernelProjCdIdeal.nD,
      m' ((c.tc : Thread Cert.ReferenceProjCdIdeal.nD Cert.ReferenceProjCdIdeal.τ).loc Cert.ReferenceProjCdIdeal.main_arg0) = m ((c.tc : Thread Cert.KernelProjCdIdeal.nD Cert.KernelProjCdIdeal.τ).loc Cert.KernelProjCdIdeal.main_arg0)
      ∧ m' ((c.tc : Thread Cert.ReferenceProjCdIdeal.nD Cert.ReferenceProjCdIdeal.τ).loc Cert.ReferenceProjCdIdeal.main_arg1) = m ((c.tc : Thread Cert.KernelProjCdIdeal.nD Cert.KernelProjCdIdeal.τ).loc Cert.KernelProjCdIdeal.main_arg1)) →
    ∃ (v0 : (c : Dev Cert.KernelProjCdIdeal.nD) → Buf (Elt Ideal) ((c.tc : Thread Cert.KernelProjCdIdeal.nD Cert.KernelProjCdIdeal.τ).loc Cert.KernelProjCdIdeal.main_v0)),
      θ_run (Cert.KernelProjCdIdeal.defs (F := Ideal)) (onTc (τ := Cert.KernelProjCdIdeal.τ) (Cert.KernelProjCdIdeal.main (F := Ideal))) ⟨m, fun _ => 0, g⟩ (fun r => ∀ c : Dev Cert.KernelProjCdIdeal.nD,
          r.2.mem ((c.tc : Thread Cert.KernelProjCdIdeal.nD Cert.KernelProjCdIdeal.τ).loc Cert.KernelProjCdIdeal.main_v0) = v0 c
          ∧ r.2.mem ((c.tc : Thread Cert.KernelProjCdIdeal.nD Cert.KernelProjCdIdeal.τ).loc Cert.KernelProjCdIdeal.main_arg0) = m ((c.tc : Thread Cert.KernelProjCdIdeal.nD Cert.KernelProjCdIdeal.τ).loc Cert.KernelProjCdIdeal.main_arg0)
          ∧ r.2.mem ((c.tc : Thread Cert.KernelProjCdIdeal.nD Cert.KernelProjCdIdeal.τ).loc Cert.KernelProjCdIdeal.main_arg1) = m ((c.tc : Thread Cert.KernelProjCdIdeal.nD Cert.KernelProjCdIdeal.τ).loc Cert.KernelProjCdIdeal.main_arg1))
      ∧ θ_run (Cert.ReferenceProjCdIdeal.defs (F := Ideal)) (onTc (τ := Cert.ReferenceProjCdIdeal.τ) (Cert.ReferenceProjCdIdeal.main (F := Ideal))) ⟨m', fun _ => 0, g'⟩ (fun r => ∀ c : Dev Cert.ReferenceProjCdIdeal.nD,
          r.2.mem ((c.tc : Thread Cert.ReferenceProjCdIdeal.nD Cert.ReferenceProjCdIdeal.τ).loc Cert.ReferenceProjCdIdeal.main_v5) = v0 c
          ∧ r.2.mem ((c.tc : Thread Cert.ReferenceProjCdIdeal.nD Cert.ReferenceProjCdIdeal.τ).loc Cert.ReferenceProjCdIdeal.main_arg0) = m' ((c.tc : Thread Cert.ReferenceProjCdIdeal.nD Cert.ReferenceProjCdIdeal.τ).loc Cert.ReferenceProjCdIdeal.main_arg0)
          ∧ r.2.mem ((c.tc : Thread Cert.ReferenceProjCdIdeal.nD Cert.ReferenceProjCdIdeal.τ).loc Cert.ReferenceProjCdIdeal.main_arg1) = m' ((c.tc : Thread Cert.ReferenceProjCdIdeal.nD Cert.ReferenceProjCdIdeal.τ).loc Cert.ReferenceProjCdIdeal.main_arg1))

def preserves_KernelDcd_KernelDcdIdeal : Prop :=
  True

def algebraic_KernelDcdIdeal_ReferenceDcdIdeal_pre_finite_dcd [hKernelDcdIdeal : Cert.KernelDcdIdeal.Facts] [hReferenceDcdIdeal : Cert.ReferenceDcdIdeal.Facts] [hPre_finite_dcd : Cert.Pre_finite_dcd.Facts] : Prop :=
  ∀ (m : (ℓ : Loc Cert.KernelDcdIdeal.nD Cert.KernelDcdIdeal.τ Cert.KernelDcdIdeal.sig) → Buf (Elt Ideal) ℓ) (g : Dev Cert.KernelDcdIdeal.nD → PrngReg)
    (m' : (ℓ : Loc Cert.ReferenceDcdIdeal.nD Cert.ReferenceDcdIdeal.τ Cert.ReferenceDcdIdeal.sig) → Buf (Elt Ideal) ℓ) (g' : Dev Cert.ReferenceDcdIdeal.nD → PrngReg), Pre_KernelDcdIdeal_finite_dcd m →
    (∀ c : Dev Cert.KernelDcdIdeal.nD,
      m' ((c.tc : Thread Cert.ReferenceDcdIdeal.nD Cert.ReferenceDcdIdeal.τ).loc Cert.ReferenceDcdIdeal.main_arg0) = m ((c.tc : Thread Cert.KernelDcdIdeal.nD Cert.KernelDcdIdeal.τ).loc Cert.KernelDcdIdeal.main_arg0)
      ∧ m' ((c.tc : Thread Cert.ReferenceDcdIdeal.nD Cert.ReferenceDcdIdeal.τ).loc Cert.ReferenceDcdIdeal.main_arg1) = m ((c.tc : Thread Cert.KernelDcdIdeal.nD Cert.KernelDcdIdeal.τ).loc Cert.KernelDcdIdeal.main_arg1)
      ∧ m' ((c.tc : Thread Cert.ReferenceDcdIdeal.nD Cert.ReferenceDcdIdeal.τ).loc Cert.ReferenceDcdIdeal.main_arg2) = m ((c.tc : Thread Cert.KernelDcdIdeal.nD Cert.KernelDcdIdeal.τ).loc Cert.KernelDcdIdeal.main_arg2)
      ∧ m' ((c.tc : Thread Cert.ReferenceDcdIdeal.nD Cert.ReferenceDcdIdeal.τ).loc Cert.ReferenceDcdIdeal.main_arg3) = m ((c.tc : Thread Cert.KernelDcdIdeal.nD Cert.KernelDcdIdeal.τ).loc Cert.KernelDcdIdeal.main_arg3)
      ∧ m' ((c.tc : Thread Cert.ReferenceDcdIdeal.nD Cert.ReferenceDcdIdeal.τ).loc Cert.ReferenceDcdIdeal.main_arg4) = m ((c.tc : Thread Cert.KernelDcdIdeal.nD Cert.KernelDcdIdeal.τ).loc Cert.KernelDcdIdeal.main_arg4)) →
    ∃ (v0 : (c : Dev Cert.KernelDcdIdeal.nD) → Buf (Elt Ideal) ((c.tc : Thread Cert.KernelDcdIdeal.nD Cert.KernelDcdIdeal.τ).loc Cert.KernelDcdIdeal.main_v1_0)) (v1 : (c : Dev Cert.KernelDcdIdeal.nD) → Buf (Elt Ideal) ((c.tc : Thread Cert.KernelDcdIdeal.nD Cert.KernelDcdIdeal.τ).loc Cert.KernelDcdIdeal.main_v1_1)),
      θ_run (Cert.KernelDcdIdeal.defs (F := Ideal)) (onTc (τ := Cert.KernelDcdIdeal.τ) (Cert.KernelDcdIdeal.main (F := Ideal))) ⟨m, fun _ => 0, g⟩ (fun r => ∀ c : Dev Cert.KernelDcdIdeal.nD,
          r.2.mem ((c.tc : Thread Cert.KernelDcdIdeal.nD Cert.KernelDcdIdeal.τ).loc Cert.KernelDcdIdeal.main_v1_0) = v0 c
          ∧ r.2.mem ((c.tc : Thread Cert.KernelDcdIdeal.nD Cert.KernelDcdIdeal.τ).loc Cert.KernelDcdIdeal.main_v1_1) = v1 c
          ∧ r.2.mem ((c.tc : Thread Cert.KernelDcdIdeal.nD Cert.KernelDcdIdeal.τ).loc Cert.KernelDcdIdeal.main_arg0) = m ((c.tc : Thread Cert.KernelDcdIdeal.nD Cert.KernelDcdIdeal.τ).loc Cert.KernelDcdIdeal.main_arg0)
          ∧ r.2.mem ((c.tc : Thread Cert.KernelDcdIdeal.nD Cert.KernelDcdIdeal.τ).loc Cert.KernelDcdIdeal.main_arg1) = m ((c.tc : Thread Cert.KernelDcdIdeal.nD Cert.KernelDcdIdeal.τ).loc Cert.KernelDcdIdeal.main_arg1)
          ∧ r.2.mem ((c.tc : Thread Cert.KernelDcdIdeal.nD Cert.KernelDcdIdeal.τ).loc Cert.KernelDcdIdeal.main_arg2) = m ((c.tc : Thread Cert.KernelDcdIdeal.nD Cert.KernelDcdIdeal.τ).loc Cert.KernelDcdIdeal.main_arg2)
          ∧ r.2.mem ((c.tc : Thread Cert.KernelDcdIdeal.nD Cert.KernelDcdIdeal.τ).loc Cert.KernelDcdIdeal.main_arg3) = m ((c.tc : Thread Cert.KernelDcdIdeal.nD Cert.KernelDcdIdeal.τ).loc Cert.KernelDcdIdeal.main_arg3)
          ∧ r.2.mem ((c.tc : Thread Cert.KernelDcdIdeal.nD Cert.KernelDcdIdeal.τ).loc Cert.KernelDcdIdeal.main_arg4) = m ((c.tc : Thread Cert.KernelDcdIdeal.nD Cert.KernelDcdIdeal.τ).loc Cert.KernelDcdIdeal.main_arg4))
      ∧ θ_run (Cert.ReferenceDcdIdeal.defs (F := Ideal)) (onTc (τ := Cert.ReferenceDcdIdeal.τ) (Cert.ReferenceDcdIdeal.main (F := Ideal))) ⟨m', fun _ => 0, g'⟩ (fun r => ∀ c : Dev Cert.ReferenceDcdIdeal.nD,
          r.2.mem ((c.tc : Thread Cert.ReferenceDcdIdeal.nD Cert.ReferenceDcdIdeal.τ).loc Cert.ReferenceDcdIdeal.main_v42) = v0 c
          ∧ r.2.mem ((c.tc : Thread Cert.ReferenceDcdIdeal.nD Cert.ReferenceDcdIdeal.τ).loc Cert.ReferenceDcdIdeal.main_v43) = v1 c
          ∧ r.2.mem ((c.tc : Thread Cert.ReferenceDcdIdeal.nD Cert.ReferenceDcdIdeal.τ).loc Cert.ReferenceDcdIdeal.main_arg0) = m' ((c.tc : Thread Cert.ReferenceDcdIdeal.nD Cert.ReferenceDcdIdeal.τ).loc Cert.ReferenceDcdIdeal.main_arg0)
          ∧ r.2.mem ((c.tc : Thread Cert.ReferenceDcdIdeal.nD Cert.ReferenceDcdIdeal.τ).loc Cert.ReferenceDcdIdeal.main_arg1) = m' ((c.tc : Thread Cert.ReferenceDcdIdeal.nD Cert.ReferenceDcdIdeal.τ).loc Cert.ReferenceDcdIdeal.main_arg1)
          ∧ r.2.mem ((c.tc : Thread Cert.ReferenceDcdIdeal.nD Cert.ReferenceDcdIdeal.τ).loc Cert.ReferenceDcdIdeal.main_arg2) = m' ((c.tc : Thread Cert.ReferenceDcdIdeal.nD Cert.ReferenceDcdIdeal.τ).loc Cert.ReferenceDcdIdeal.main_arg2)
          ∧ r.2.mem ((c.tc : Thread Cert.ReferenceDcdIdeal.nD Cert.ReferenceDcdIdeal.τ).loc Cert.ReferenceDcdIdeal.main_arg3) = m' ((c.tc : Thread Cert.ReferenceDcdIdeal.nD Cert.ReferenceDcdIdeal.τ).loc Cert.ReferenceDcdIdeal.main_arg3)
          ∧ r.2.mem ((c.tc : Thread Cert.ReferenceDcdIdeal.nD Cert.ReferenceDcdIdeal.τ).loc Cert.ReferenceDcdIdeal.main_arg4) = m' ((c.tc : Thread Cert.ReferenceDcdIdeal.nD Cert.ReferenceDcdIdeal.τ).loc Cert.ReferenceDcdIdeal.main_arg4))

def preserves_KernelMixFwd_KernelMixFwdIdeal : Prop :=
  True

def algebraic_KernelMixFwdIdeal_ReferenceMixFwdIdeal [hKernelMixFwdIdeal : Cert.KernelMixFwdIdeal.Facts] [hReferenceMixFwdIdeal : Cert.ReferenceMixFwdIdeal.Facts] : Prop :=
  ∀ (m : (ℓ : Loc Cert.KernelMixFwdIdeal.nD Cert.KernelMixFwdIdeal.τ Cert.KernelMixFwdIdeal.sig) → Buf (Elt Ideal) ℓ) (g : Dev Cert.KernelMixFwdIdeal.nD → PrngReg)
    (m' : (ℓ : Loc Cert.ReferenceMixFwdIdeal.nD Cert.ReferenceMixFwdIdeal.τ Cert.ReferenceMixFwdIdeal.sig) → Buf (Elt Ideal) ℓ) (g' : Dev Cert.ReferenceMixFwdIdeal.nD → PrngReg), Pre_KernelMixFwdIdeal m →
    (∀ c : Dev Cert.KernelMixFwdIdeal.nD,
      m' ((c.tc : Thread Cert.ReferenceMixFwdIdeal.nD Cert.ReferenceMixFwdIdeal.τ).loc Cert.ReferenceMixFwdIdeal.main_arg0) = m ((c.tc : Thread Cert.KernelMixFwdIdeal.nD Cert.KernelMixFwdIdeal.τ).loc Cert.KernelMixFwdIdeal.main_arg0)
      ∧ m' ((c.tc : Thread Cert.ReferenceMixFwdIdeal.nD Cert.ReferenceMixFwdIdeal.τ).loc Cert.ReferenceMixFwdIdeal.main_arg1) = m ((c.tc : Thread Cert.KernelMixFwdIdeal.nD Cert.KernelMixFwdIdeal.τ).loc Cert.KernelMixFwdIdeal.main_arg1)
      ∧ m' ((c.tc : Thread Cert.ReferenceMixFwdIdeal.nD Cert.ReferenceMixFwdIdeal.τ).loc Cert.ReferenceMixFwdIdeal.main_arg2) = m ((c.tc : Thread Cert.KernelMixFwdIdeal.nD Cert.KernelMixFwdIdeal.τ).loc Cert.KernelMixFwdIdeal.main_arg2)
      ∧ m' ((c.tc : Thread Cert.ReferenceMixFwdIdeal.nD Cert.ReferenceMixFwdIdeal.τ).loc Cert.ReferenceMixFwdIdeal.main_arg3) = m ((c.tc : Thread Cert.KernelMixFwdIdeal.nD Cert.KernelMixFwdIdeal.τ).loc Cert.KernelMixFwdIdeal.main_arg3)
      ∧ m' ((c.tc : Thread Cert.ReferenceMixFwdIdeal.nD Cert.ReferenceMixFwdIdeal.τ).loc Cert.ReferenceMixFwdIdeal.main_arg4) = m ((c.tc : Thread Cert.KernelMixFwdIdeal.nD Cert.KernelMixFwdIdeal.τ).loc Cert.KernelMixFwdIdeal.main_arg4)) →
    ∃ (v0 : (c : Dev Cert.KernelMixFwdIdeal.nD) → Buf (Elt Ideal) ((c.tc : Thread Cert.KernelMixFwdIdeal.nD Cert.KernelMixFwdIdeal.τ).loc Cert.KernelMixFwdIdeal.main_v3)),
      θ_run (Cert.KernelMixFwdIdeal.defs (F := Ideal)) (onTc (τ := Cert.KernelMixFwdIdeal.τ) (Cert.KernelMixFwdIdeal.main (F := Ideal))) ⟨m, fun _ => 0, g⟩ (fun r => ∀ c : Dev Cert.KernelMixFwdIdeal.nD,
          r.2.mem ((c.tc : Thread Cert.KernelMixFwdIdeal.nD Cert.KernelMixFwdIdeal.τ).loc Cert.KernelMixFwdIdeal.main_v3) = v0 c
          ∧ r.2.mem ((c.tc : Thread Cert.KernelMixFwdIdeal.nD Cert.KernelMixFwdIdeal.τ).loc Cert.KernelMixFwdIdeal.main_arg0) = m ((c.tc : Thread Cert.KernelMixFwdIdeal.nD Cert.KernelMixFwdIdeal.τ).loc Cert.KernelMixFwdIdeal.main_arg0)
          ∧ r.2.mem ((c.tc : Thread Cert.KernelMixFwdIdeal.nD Cert.KernelMixFwdIdeal.τ).loc Cert.KernelMixFwdIdeal.main_arg1) = m ((c.tc : Thread Cert.KernelMixFwdIdeal.nD Cert.KernelMixFwdIdeal.τ).loc Cert.KernelMixFwdIdeal.main_arg1)
          ∧ r.2.mem ((c.tc : Thread Cert.KernelMixFwdIdeal.nD Cert.KernelMixFwdIdeal.τ).loc Cert.KernelMixFwdIdeal.main_arg2) = m ((c.tc : Thread Cert.KernelMixFwdIdeal.nD Cert.KernelMixFwdIdeal.τ).loc Cert.KernelMixFwdIdeal.main_arg2)
          ∧ r.2.mem ((c.tc : Thread Cert.KernelMixFwdIdeal.nD Cert.KernelMixFwdIdeal.τ).loc Cert.KernelMixFwdIdeal.main_arg3) = m ((c.tc : Thread Cert.KernelMixFwdIdeal.nD Cert.KernelMixFwdIdeal.τ).loc Cert.KernelMixFwdIdeal.main_arg3)
          ∧ r.2.mem ((c.tc : Thread Cert.KernelMixFwdIdeal.nD Cert.KernelMixFwdIdeal.τ).loc Cert.KernelMixFwdIdeal.main_arg4) = m ((c.tc : Thread Cert.KernelMixFwdIdeal.nD Cert.KernelMixFwdIdeal.τ).loc Cert.KernelMixFwdIdeal.main_arg4))
      ∧ θ_run (Cert.ReferenceMixFwdIdeal.defs (F := Ideal)) (onTc (τ := Cert.ReferenceMixFwdIdeal.τ) (Cert.ReferenceMixFwdIdeal.main (F := Ideal))) ⟨m', fun _ => 0, g'⟩ (fun r => ∀ c : Dev Cert.ReferenceMixFwdIdeal.nD,
          r.2.mem ((c.tc : Thread Cert.ReferenceMixFwdIdeal.nD Cert.ReferenceMixFwdIdeal.τ).loc Cert.ReferenceMixFwdIdeal.main_v48) = v0 c
          ∧ r.2.mem ((c.tc : Thread Cert.ReferenceMixFwdIdeal.nD Cert.ReferenceMixFwdIdeal.τ).loc Cert.ReferenceMixFwdIdeal.main_arg0) = m' ((c.tc : Thread Cert.ReferenceMixFwdIdeal.nD Cert.ReferenceMixFwdIdeal.τ).loc Cert.ReferenceMixFwdIdeal.main_arg0)
          ∧ r.2.mem ((c.tc : Thread Cert.ReferenceMixFwdIdeal.nD Cert.ReferenceMixFwdIdeal.τ).loc Cert.ReferenceMixFwdIdeal.main_arg1) = m' ((c.tc : Thread Cert.ReferenceMixFwdIdeal.nD Cert.ReferenceMixFwdIdeal.τ).loc Cert.ReferenceMixFwdIdeal.main_arg1)
          ∧ r.2.mem ((c.tc : Thread Cert.ReferenceMixFwdIdeal.nD Cert.ReferenceMixFwdIdeal.τ).loc Cert.ReferenceMixFwdIdeal.main_arg2) = m' ((c.tc : Thread Cert.ReferenceMixFwdIdeal.nD Cert.ReferenceMixFwdIdeal.τ).loc Cert.ReferenceMixFwdIdeal.main_arg2)
          ∧ r.2.mem ((c.tc : Thread Cert.ReferenceMixFwdIdeal.nD Cert.ReferenceMixFwdIdeal.τ).loc Cert.ReferenceMixFwdIdeal.main_arg3) = m' ((c.tc : Thread Cert.ReferenceMixFwdIdeal.nD Cert.ReferenceMixFwdIdeal.τ).loc Cert.ReferenceMixFwdIdeal.main_arg3)
          ∧ r.2.mem ((c.tc : Thread Cert.ReferenceMixFwdIdeal.nD Cert.ReferenceMixFwdIdeal.τ).loc Cert.ReferenceMixFwdIdeal.main_arg4) = m' ((c.tc : Thread Cert.ReferenceMixFwdIdeal.nD Cert.ReferenceMixFwdIdeal.τ).loc Cert.ReferenceMixFwdIdeal.main_arg4))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelGateUp : Cert.KernelGateUp.Facts) (hKernelGateUpIdeal : Cert.KernelGateUpIdeal.Facts) (hReferenceGateUpIdeal : Cert.ReferenceGateUpIdeal.Facts) (hKernelDgrad : Cert.KernelDgrad.Facts) (hKernelDgradIdeal : Cert.KernelDgradIdeal.Facts) (hReferenceDgradIdeal : Cert.ReferenceDgradIdeal.Facts) (hKernelFfnIn : Cert.KernelFfnIn.Facts) (hKernelFfnInIdeal : Cert.KernelFfnInIdeal.Facts) (hReferenceFfnInIdeal : Cert.ReferenceFfnInIdeal.Facts) (hKernelWin : Cert.KernelWin.Facts) (hKernelWinIdeal : Cert.KernelWinIdeal.Facts) (hReferenceWinIdeal : Cert.ReferenceWinIdeal.Facts) (hKernelDin : Cert.KernelDin.Facts) (hKernelDinIdeal : Cert.KernelDinIdeal.Facts) (hReferenceDinIdeal : Cert.ReferenceDinIdeal.Facts) (hKernelWcd : Cert.KernelWcd.Facts) (hKernelWcdIdeal : Cert.KernelWcdIdeal.Facts) (hReferenceWcdIdeal : Cert.ReferenceWcdIdeal.Facts) (hKernelWout : Cert.KernelWout.Facts) (hKernelWoutIdeal : Cert.KernelWoutIdeal.Facts) (hReferenceWoutIdeal : Cert.ReferenceWoutIdeal.Facts) (hKernelDout : Cert.KernelDout.Facts) (hKernelDoutIdeal : Cert.KernelDoutIdeal.Facts) (hReferenceDoutIdeal : Cert.ReferenceDoutIdeal.Facts) (hKernelFfnOut : Cert.KernelFfnOut.Facts) (hKernelFfnOutIdeal : Cert.KernelFfnOutIdeal.Facts) (hReferenceFfnOutIdeal : Cert.ReferenceFfnOutIdeal.Facts) (hKernelLoss : Cert.KernelLoss.Facts) (hKernelLossIdeal : Cert.KernelLossIdeal.Facts) (hReferenceLossIdeal : Cert.ReferenceLossIdeal.Facts) (hKernelProjOut : Cert.KernelProjOut.Facts) (hKernelProjOutIdeal : Cert.KernelProjOutIdeal.Facts) (hReferenceProjOutIdeal : Cert.ReferenceProjOutIdeal.Facts) (hKernelProjCd : Cert.KernelProjCd.Facts) (hKernelProjCdIdeal : Cert.KernelProjCdIdeal.Facts) (hReferenceProjCdIdeal : Cert.ReferenceProjCdIdeal.Facts) (hKernelDcd : Cert.KernelDcd.Facts) (hKernelDcdIdeal : Cert.KernelDcdIdeal.Facts) (hReferenceDcdIdeal : Cert.ReferenceDcdIdeal.Facts) (hKernelMixFwd : Cert.KernelMixFwd.Facts) (hKernelMixFwdIdeal : Cert.KernelMixFwdIdeal.Facts) (hReferenceMixFwdIdeal : Cert.ReferenceMixFwdIdeal.Facts) (hPre_finite_inputs : Cert.Pre_finite_inputs.Facts) (hPre_finite_dgrad : Cert.Pre_finite_dgrad.Facts) (hPre_finite_ffn_in : Cert.Pre_finite_ffn_in.Facts) (hPre_finite_din : Cert.Pre_finite_din.Facts) (hPre_finite_dcd : Cert.Pre_finite_dcd.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGateUp (hKernelGateUp := hKernelGateUp)
    ∧ quiescent_KernelGateUpIdeal (hKernelGateUpIdeal := hKernelGateUpIdeal)
    ∧ quiescent_ReferenceGateUpIdeal (hReferenceGateUpIdeal := hReferenceGateUpIdeal)
    ∧ quiescent_KernelDgrad (hKernelDgrad := hKernelDgrad)
    ∧ quiescent_KernelDgradIdeal (hKernelDgradIdeal := hKernelDgradIdeal)
    ∧ quiescent_KernelDgradIdeal_pre_finite_dgrad (hKernelDgradIdeal := hKernelDgradIdeal) (hPre_finite_dgrad := hPre_finite_dgrad)
    ∧ quiescent_ReferenceDgradIdeal (hReferenceDgradIdeal := hReferenceDgradIdeal)
    ∧ quiescent_ReferenceDgradIdeal_pre_finite_dgrad (hReferenceDgradIdeal := hReferenceDgradIdeal) (hPre_finite_dgrad := hPre_finite_dgrad)
    ∧ quiescent_KernelFfnIn (hKernelFfnIn := hKernelFfnIn)
    ∧ quiescent_KernelFfnInIdeal (hKernelFfnInIdeal := hKernelFfnInIdeal)
    ∧ quiescent_KernelFfnInIdeal_pre_finite_ffn_in (hKernelFfnInIdeal := hKernelFfnInIdeal) (hPre_finite_ffn_in := hPre_finite_ffn_in)
    ∧ quiescent_ReferenceFfnInIdeal (hReferenceFfnInIdeal := hReferenceFfnInIdeal)
    ∧ quiescent_ReferenceFfnInIdeal_pre_finite_ffn_in (hReferenceFfnInIdeal := hReferenceFfnInIdeal) (hPre_finite_ffn_in := hPre_finite_ffn_in)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelDin (hKernelDin := hKernelDin)
    ∧ quiescent_KernelDinIdeal (hKernelDinIdeal := hKernelDinIdeal)
    ∧ quiescent_KernelDinIdeal_pre_finite_din (hKernelDinIdeal := hKernelDinIdeal) (hPre_finite_din := hPre_finite_din)
    ∧ quiescent_ReferenceDinIdeal (hReferenceDinIdeal := hReferenceDinIdeal)
    ∧ quiescent_ReferenceDinIdeal_pre_finite_din (hReferenceDinIdeal := hReferenceDinIdeal) (hPre_finite_din := hPre_finite_din)
    ∧ quiescent_KernelWcd (hKernelWcd := hKernelWcd)
    ∧ quiescent_KernelWcdIdeal (hKernelWcdIdeal := hKernelWcdIdeal)
    ∧ quiescent_ReferenceWcdIdeal (hReferenceWcdIdeal := hReferenceWcdIdeal)
    ∧ quiescent_KernelWout (hKernelWout := hKernelWout)
    ∧ quiescent_KernelWoutIdeal (hKernelWoutIdeal := hKernelWoutIdeal)
    ∧ quiescent_ReferenceWoutIdeal (hReferenceWoutIdeal := hReferenceWoutIdeal)
    ∧ quiescent_KernelDout (hKernelDout := hKernelDout)
    ∧ quiescent_KernelDoutIdeal (hKernelDoutIdeal := hKernelDoutIdeal)
    ∧ quiescent_ReferenceDoutIdeal (hReferenceDoutIdeal := hReferenceDoutIdeal)
    ∧ quiescent_KernelFfnOut (hKernelFfnOut := hKernelFfnOut)
    ∧ quiescent_KernelFfnOutIdeal (hKernelFfnOutIdeal := hKernelFfnOutIdeal)
    ∧ quiescent_ReferenceFfnOutIdeal (hReferenceFfnOutIdeal := hReferenceFfnOutIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelProjOut (hKernelProjOut := hKernelProjOut)
    ∧ quiescent_KernelProjOutIdeal (hKernelProjOutIdeal := hKernelProjOutIdeal)
    ∧ quiescent_ReferenceProjOutIdeal (hReferenceProjOutIdeal := hReferenceProjOutIdeal)
    ∧ quiescent_KernelProjCd (hKernelProjCd := hKernelProjCd)
    ∧ quiescent_KernelProjCdIdeal (hKernelProjCdIdeal := hKernelProjCdIdeal)
    ∧ quiescent_ReferenceProjCdIdeal (hReferenceProjCdIdeal := hReferenceProjCdIdeal)
    ∧ quiescent_KernelDcd (hKernelDcd := hKernelDcd)
    ∧ quiescent_KernelDcdIdeal (hKernelDcdIdeal := hKernelDcdIdeal)
    ∧ quiescent_KernelDcdIdeal_pre_finite_dcd (hKernelDcdIdeal := hKernelDcdIdeal) (hPre_finite_dcd := hPre_finite_dcd)
    ∧ quiescent_ReferenceDcdIdeal (hReferenceDcdIdeal := hReferenceDcdIdeal)
    ∧ quiescent_ReferenceDcdIdeal_pre_finite_dcd (hReferenceDcdIdeal := hReferenceDcdIdeal) (hPre_finite_dcd := hPre_finite_dcd)
    ∧ quiescent_KernelMixFwd (hKernelMixFwd := hKernelMixFwd)
    ∧ quiescent_KernelMixFwdIdeal (hKernelMixFwdIdeal := hKernelMixFwdIdeal)
    ∧ quiescent_ReferenceMixFwdIdeal (hReferenceMixFwdIdeal := hReferenceMixFwdIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_KernelDown_KernelDownIdeal
    ∧ algebraic_KernelDownIdeal_ReferenceDownIdeal (hKernelDownIdeal := hKernelDownIdeal) (hReferenceDownIdeal := hReferenceDownIdeal)
    ∧ preserves_KernelGateUp_KernelGateUpIdeal
    ∧ algebraic_KernelGateUpIdeal_ReferenceGateUpIdeal (hKernelGateUpIdeal := hKernelGateUpIdeal) (hReferenceGateUpIdeal := hReferenceGateUpIdeal)
    ∧ preserves_KernelDgrad_KernelDgradIdeal
    ∧ algebraic_KernelDgradIdeal_ReferenceDgradIdeal_pre_finite_dgrad (hKernelDgradIdeal := hKernelDgradIdeal) (hReferenceDgradIdeal := hReferenceDgradIdeal) (hPre_finite_dgrad := hPre_finite_dgrad)
    ∧ preserves_KernelFfnIn_KernelFfnInIdeal
    ∧ algebraic_KernelFfnInIdeal_ReferenceFfnInIdeal_pre_finite_ffn_in (hKernelFfnInIdeal := hKernelFfnInIdeal) (hReferenceFfnInIdeal := hReferenceFfnInIdeal) (hPre_finite_ffn_in := hPre_finite_ffn_in)
    ∧ preserves_KernelWin_KernelWinIdeal
    ∧ algebraic_KernelWinIdeal_ReferenceWinIdeal (hKernelWinIdeal := hKernelWinIdeal) (hReferenceWinIdeal := hReferenceWinIdeal)
    ∧ preserves_KernelDin_KernelDinIdeal
    ∧ algebraic_KernelDinIdeal_ReferenceDinIdeal_pre_finite_din (hKernelDinIdeal := hKernelDinIdeal) (hReferenceDinIdeal := hReferenceDinIdeal) (hPre_finite_din := hPre_finite_din)
    ∧ preserves_KernelWcd_KernelWcdIdeal
    ∧ algebraic_KernelWcdIdeal_ReferenceWcdIdeal (hKernelWcdIdeal := hKernelWcdIdeal) (hReferenceWcdIdeal := hReferenceWcdIdeal)
    ∧ preserves_KernelWout_KernelWoutIdeal
    ∧ algebraic_KernelWoutIdeal_ReferenceWoutIdeal (hKernelWoutIdeal := hKernelWoutIdeal) (hReferenceWoutIdeal := hReferenceWoutIdeal)
    ∧ preserves_KernelDout_KernelDoutIdeal
    ∧ algebraic_KernelDoutIdeal_ReferenceDoutIdeal (hKernelDoutIdeal := hKernelDoutIdeal) (hReferenceDoutIdeal := hReferenceDoutIdeal)
    ∧ preserves_KernelFfnOut_KernelFfnOutIdeal
    ∧ algebraic_KernelFfnOutIdeal_ReferenceFfnOutIdeal (hKernelFfnOutIdeal := hKernelFfnOutIdeal) (hReferenceFfnOutIdeal := hReferenceFfnOutIdeal)
    ∧ preserves_KernelLoss_KernelLossIdeal
    ∧ algebraic_KernelLossIdeal_ReferenceLossIdeal (hKernelLossIdeal := hKernelLossIdeal) (hReferenceLossIdeal := hReferenceLossIdeal)
    ∧ preserves_KernelProjOut_KernelProjOutIdeal
    ∧ algebraic_KernelProjOutIdeal_ReferenceProjOutIdeal (hKernelProjOutIdeal := hKernelProjOutIdeal) (hReferenceProjOutIdeal := hReferenceProjOutIdeal)
    ∧ preserves_KernelProjCd_KernelProjCdIdeal
    ∧ algebraic_KernelProjCdIdeal_ReferenceProjCdIdeal (hKernelProjCdIdeal := hKernelProjCdIdeal) (hReferenceProjCdIdeal := hReferenceProjCdIdeal)
    ∧ preserves_KernelDcd_KernelDcdIdeal
    ∧ algebraic_KernelDcdIdeal_ReferenceDcdIdeal_pre_finite_dcd (hKernelDcdIdeal := hKernelDcdIdeal) (hReferenceDcdIdeal := hReferenceDcdIdeal) (hPre_finite_dcd := hPre_finite_dcd)
    ∧ preserves_KernelMixFwd_KernelMixFwdIdeal
    ∧ algebraic_KernelMixFwdIdeal_ReferenceMixFwdIdeal (hKernelMixFwdIdeal := hKernelMixFwdIdeal) (hReferenceMixFwdIdeal := hReferenceMixFwdIdeal)
-- ==== Pre_finite_dcd.lean ====
abbrev S4096x2560 : Shape := ⟨2, ![4096, 2560]⟩
abbrev S4x1x1024x640 : Shape := ⟨4, ![4, 1, 1024, 640]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S4x1x1024x640 : S_.BroadcastsInDim S4x1x1024x640 (![] : Fin 0 → Fin S4x1x1024x640.rank)
  reducesTo_S4x1x1024x640_S_d0_1_2_3 : S4x1x1024x640.ReducesTo [0, 1, 2, 3] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S4096x2560 .bf16) (main_arg1 : FVec F S4x1x1024x640 .bf16) (main_arg2 : FVec F S4096x1024 .f32) (main_arg3 : FVec F S1024 .f32) (main_arg4 : FVec F S4096x1024 .f32) : IVec S_ 1 :=
  let main_v0 : FVec F S4096x2560 .f32 := (extf .f32 · bitsLt_bf16_f32) main_arg0
  let main_v1 : FVec F S4096x2560 .f32 := Host.absf main_v0
  let main_cst : FVec F S_ .f32 := constant S_ .f32 0x7F800000#32
  let main_v2 : FVec F S4096x2560 .f32 := broadcastInDim S4096x2560 ![] bcast_S_S4096x2560 main_cst
  let main_v3 : IVec S4096x2560 1 := cmpf .olt main_v1 main_v2
  let main_c : IVec S_ 1 := constantI S_ 1 1#1
  let main_v4 : IVec S_ 1 := (fun x v => Host.reduce IntOp.andi x v reducesTo_S4096x2560_S_d0_1 h_S_) main_v3 main_c
  let main_v5 : FVec F S4x1x1024x640 .f32 := (extf .f32 · bitsLt_bf16_f32) main_arg1
  let main_v6 : FVec F S4x1x1024x640 .f32 := Host.absf main_v5
  let main_cst_0 : FVec F S_ .f32 := constant S_ .f32 0x7F800000#32
  let main_v7 : FVec F S4x1x1024x640 .f32 := broadcastInDim S4x1x1024x640 ![] bcast_S_S4x1x1024x640 main_cst_0
  let main_v8 : IVec S4x1x1024x640 1 := cmpf .olt main_v6 main_v7
  let main_c_1 : IVec S_ 1 := constantI S_ 1 1#1
  let main_v9 : IVec S_ 1 := (fun x v => Host.reduce IntOp.andi x v reducesTo_S4x1x1024x640_S_d0_1_2_3 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Pre_finite_dgrad.lean ====
abbrev S4x4096x704 : Shape := ⟨3, ![4, 4096, 704]⟩
abbrev S4x1x704x1024 : Shape := ⟨4, ![4, 1, 704, 1024]⟩
abbrev S4096x1024 : Shape := ⟨2, ![4096, 1024]⟩
abbrev S2x1024 : Shape := ⟨2, ![2, 1024]⟩
abbrev S_ : Shape := ⟨0, ![]⟩
abbrev S1x1024 : Shape := ⟨2, ![1, 1024]⟩
abbrev S1024 : Shape := ⟨1, ![1024]⟩

class Facts : Prop where
  bitsLt_bf16_f32 : FTy.bits .bf16 < FTy.bits .f32
  bcast_S_S4x4096x704 : S_.BroadcastsInDim S4x4096x704 (![] : Fin 0 → Fin S4x4096x704.rank)
  reducesTo_S4x4096x704_S_d0_1_2 : S4x4096x704.ReducesTo [0, 1, 2] S_
  h_S_ : 0 < S_.numel
  bcast_S_S4x1x704x1024 : S_.BroadcastsInDim S4x1x704x1024 (![] : Fin 0 → Fin S4x1x704x1024.rank)
  reducesTo_S4x1x704x1024_S_d0_1_2_3 : S4x1x704x1024.ReducesTo [0, 1, 2, 3] S_
  bcast_S_S4096x1024 : S_.BroadcastsInDim S4096x1024 (![] : Fin 0 → Fin S4096x1024.rank)
  reducesTo_S4096x1024_S_d0_1 : S4096x1024.ReducesTo [0, 1] S_
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_arg5 : FVec F S2x1024 .f32) (main_v16 : IVec S_ 1) (main_v17 : FVec F S4x1x704x1024 .f32) : IVec S_ 1 :=
  let main_v18 : FVec F S4x1x704x1024 .f32 := Host.absf main_v17
  let main_cst_4 : FVec F S_ .f32 := constant S_ .f32 0x7F800000#32
  let main_v19 : FVec F S4x1x704x1024 .f32 := broadcastInDim S4x1x704x1024 ![] bcast_S_S4x1x704x1024 main_cst_4
  let main_v20 : IVec S4x1x704x1024 1 := cmpf .olt main_v18 main_v19
  let main_c_5 : IVec S_ 1 := constantI S_ 1 1#1
  let main_v21 : IVec S_ 1 := (fun x v => Host.reduce IntOp.andi x v reducesTo_S4x1x704x1024_S_d0_1_2_3 h_S_) main_v20 main_c_5
  let main_v22 : IVec S_ 1 := andi main_v16 main_v21
  let main_v23 : FVec F S4096x1024 .f32 := Host.absf main_arg4
  let main_cst_6 : FVec F S_ .f32 := constant S_ .f32 0x7F800000#32
  let main_v24 : FVec F S4096x1024 .f32 := broadcastInDim S4096x1024 ![] bcast_S_S4096x1024 main_cst_6
  let main_v25 : IVec S4096x1024 1 := cmpf .olt main_v23 main_v24
  let main_c_7 : IVec S_ 1 := constantI S_ 1 1#1
  let main_v26 : IVec S_ 1 := (fun x v => Host.reduce IntOp.andi x v reducesTo_S4096x1024_S_d0_1 h_S_) main_v25 main_c_7
  let main_v27 : IVec S_ 1 := andi main_v22 main_v26
  let main_v28 : FVec F S1x1024 .f32 := (extractStridedSlice S1x1024 ![1, 0] · slices_S2x1024_S1x1024_1_0) main_arg5
  let main_v29 : FVec F S1024 .f32 := shapeCast S1024 main_v28 shapeCasts_S1x1024_S1024
  let main_v30 : FVec F S1024 .f32 := Host.absf main_v29
  let main_cst_8 : FVec F S_ .f32 := constant S_ .f32 0x7F800000#32
  let main_v31 : FVec F S1024 .f32 := broadcastInDim S1024 ![] bcast_S_S1024 main_cst_8
  let main_v32 : IVec S1024 1 := cmpf .olt main_v30 main_v31
  let main_c_9 : IVec S_ 1 := constantI S_ 1 1#1
  let main_v33 : IVec S_ 1 := (fun x v => Host.reduce IntOp.andi x v reducesTo_S1024_S_d0 h_S_) main_v32 main_c_9
  let main_v34 : IVec S_ 1 := andi main_v27 main_v33
  main_v34

def fn {F : FTy → Type} [FloatOps F] (main_arg0 : FVec F S4x4096x704 .bf16) (main_arg1 : FVec F S4x4096x704 .bf16) (main_arg2 : FVec F S4x1x704x1024 .bf16) (main_arg3 : FVec F S4x1x704x1024 .bf16) (main_arg4 : FVec F S4096x1024 .f32) (main_arg5 : FVec F S2x1024 .f32) (main_arg6 : FVec F S4096x1024 .f32) : IVec S_ 1 :=
  let main_v0 : FVec F S4x4096x704 .f32 := (extf .f32 · bitsLt_bf16_f32) main_arg0
  let main_v1 : FVec F S4x4096x704 .f32 := Host.absf main_v0
  let main_cst : FVec F S_ .f32 := constant S_ .f32 0x7F800000#32
  let main_v2 : FVec F S4x4096x704 .f32 := broadcastInDim S4x4096x704 ![] bcast_S_S4x4096x704 main_cst
  let main_v3 : IVec S4x4096x704 1 := cmpf .olt main_v1 main_v2
  let main_c : IVec S_ 1 := constantI S_ 1 1#1
  let main_v4 : IVec S_ 1 := (fun x v => Host.reduce IntOp.andi x v reducesTo_S4x4096x704_S_d0_1_2 h_S_) main_v3 main_c
  let main_v5 : FVec F S4x4096x704 .f32 := (extf .f32 · bitsLt_bf16_f32) main_arg1
  let main_v6 : FVec F S4x4096x704 .f32 := Host.absf main_v5
  let main_cst_0 : FVec F S_ .f32 := constant S_ .f32 0x7F800000#32
  let main_v7 : FVec F S4x4096x704 .f32 := broadcastInDim S4x4096x704 ![] bcast_S_S4x4096x704 main_cst_0
  let main_v8 : IVec S4x4096x704 1 := cmpf .olt main_v6 main_v7
  let main_c_1 : IVec S_ 1 := constantI S_ 1 1#1
  let main_v9 : IVec S_ 1 := (fun x v => Host.reduce IntOp.andi x v reducesTo_S4x4096x704_S_d0_1_2 h_S_) main_v8 main_c_1
  let main_v10 : IVec S_ 1 := andi main_v4 main_v9
  let main_v11 : FVec F S4x1x704x1024 .f32 := (extf .f32 · bitsLt_bf16_f32) main_arg2
  let main_v12 : FVec F S4x1x704x1024 .f32 := Host.absf main_v11
  let main_cst_2 : FVec F S_ .f32 := constant S_ .f32 0x7F800000#32
  let main_v13 : FVec F S4x1x704x1024 .f32 := broadcastInDim S4x1x704x1024 ![] bcast_S_S4x1x704x1024 main_cst_2
  let main_v14 : IVec S4x1x704x1024 1 := cmpf .olt main_v12 main_v13
  let main_c_3 : IVec S_ 1 := constantI S_ 1 1#1
  let main_v15 : IVec S_ 1 := (fun x v => Host.reduce IntOp.andi x v reducesTo_S4x1x704x1024_S_d0_1_2_3 h_S_) main_v14 main_c_3
  let main_v16 : IVec S_ 1 := andi main_v10 main_v15
  let main_v17 : FVec F S4x1x704x1024 .f32 := (extf .f32 · bitsLt_bf16_f32) main_arg3
  fn_part1 (F := F) main_arg4 main_arg5 main_v16 main_v17
-- ==== Pre_finite_din.lean ====
abbrev S4096x5632 : Shape := ⟨2, ![4096, 5632]⟩
abbrev S4x1x1024x1408 : Shape := ⟨4, ![4, 1, 1024, 1408]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S4x1x1024x1408 : S_.BroadcastsInDim S4x1x1024x1408 (![] : Fin 0 → Fin S4x1x1024x1408.rank)
  reducesTo_S4x1x1024x1408_S_d0_1_2_3 : S4x1x1024x1408.ReducesTo [0, 1, 2, 3] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S4096x5632 .bf16) (main_arg1 : FVec F S4x1x1024x1408 .bf16) (main_arg2 : FVec F S4096x1024 .f32) (main_arg3 : FVec F S1024 .f32) (main_arg4 : FVec F S4096x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S4x1x1024x1408 .f32 := (extf .f32 · bitsLt_bf16_f32) main_arg1
  let main_v6 : FVec F S4x1x1024x1408 .f32 := Host.absf main_v5
  let main_cst_0 : FVec F S_ .f32 := constant S_ .f32 0x7F800000#32
  let main_v7 : FVec F S4x1x1024x1408 .f32 := broadcastInDim S4x1x1024x1408 ![] bcast_S_S4x1x1024x1408 main_cst_0
  let main_v8 : IVec S4x1x1024x1408 1 := cmpf .olt main_v6 main_v7
  let main_c_1 : IVec S_ 1 := constantI S_ 1 1#1
  let main_v9 : IVec S_ 1 := (fun x v => Host.reduce IntOp.andi x v reducesTo_S4x1x1024x1408_S_d0_1_2_3 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Pre_finite_ffn_in.lean ====
abbrev S4096x1024 : Shape := ⟨2, ![4096, 1024]⟩
abbrev S4x1x704x1024 : Shape := ⟨4, ![4, 1, 704, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x1x704x1024 : S_.BroadcastsInDim S4x1x704x1024 (![] : Fin 0 → Fin S4x1x704x1024.rank)
  reducesTo_S4x1x704x1024_S_d0_1_2_3 : S4x1x704x1024.ReducesTo [0, 1, 2, 3] S_

variable [Facts]

def fn {F : FTy → Type} [FloatOps F] (main_arg0 : FVec F S4096x1024 .bf16) (main_arg1 : FVec F S4x1x704x1024 .bf16) (main_arg2 : FVec F S4x1x704x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x1x704x1024 .f32 := (extf .f32 · bitsLt_bf16_f32) main_arg1
  let main_v6 : FVec F S4x1x704x1024 .f32 := Host.absf main_v5
  let main_cst_0 : FVec F S_ .f32 := constant S_ .f32 0x7F800000#32
  let main_v7 : FVec F S4x1x704x1024 .f32 := broadcastInDim S4x1x704x1024 ![] bcast_S_S4x1x704x1024 main_cst_0
  let main_v8 : IVec S4x1x704x1024 1 := cmpf .olt main_v6 main_v7
  let main_c_1 : IVec S_ 1 := constantI S_ 1 1#1
  let main_v9 : IVec S_ 1 := (fun x v => Host.reduce IntOp.andi x v reducesTo_S4x1x704x1024_S_d0_1_2_3 h_S_) main_v8 main_c_1
  let main_v10 : IVec S_ 1 := andi main_v4 main_v9
  let main_v11 : FVec F S4x1x704x1024 .f32 := (extf .f32 · bitsLt_bf16_f32) main_arg2
  let main_v12 : FVec F S4x1x704x1024 .f32 := Host.absf main_v11
  let main_cst_2 : FVec F S_ .f32 := constant S_ .f32 0x7F800000#32
  let main_v13 : FVec F S4x1x704x1024 .f32 := broadcastInDim S4x1x704x1024 ![] bcast_S_S4x1x704x1024 main_cst_2
  let main_v14 : IVec S4x1x704x1024 1 := cmpf .olt main_v12 main_v13
  let main_c_3 : IVec S_ 1 := constantI S_ 1 1#1
  let main_v15 : IVec S_ 1 := (fun x v => Host.reduce IntOp.andi x v reducesTo_S4x1x704x1024_S_d0_1_2_3 h_S_) main_v14 main_c_3
  let main_v16 : IVec S_ 1 := andi main_v10 main_v15
  main_v16
-- ==== Pre_finite_inputs.lean ====
abbrev S4096x5632 : Shape := ⟨2, ![4096, 5632]⟩
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4096x512 : Shape := ⟨2, ![4096, 512]⟩

class Facts : Prop where
  slices_S4096x5632_S4096x1024_0_0 : S4096x5632.Slices ![0, 0] S4096x1024
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S4096x1024_S4096x512_0_0 : S4096x1024.Slices ![0, 0] S4096x512
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_v16 : IVec S_ 1) (main_v17 : FVec F S4x128x128 .f32) : IVec S_ 1 :=
  let main_cst_4 : FVec F S_ .f32 := constant S_ .f32 0x7F800000#32
  let main_v18 : FVec F S4x128x128 .f32 := broadcastInDim S4x128x128 ![] bcast_S_S4x128x128 main_cst_4
  let main_v19 : IVec S4x128x128 1 := cmpf .olt main_v17 main_v18
  let main_c_5 : IVec S_ 1 := constantI S_ 1 1#1
  let main_v20 : IVec S_ 1 := (fun x v => Host.reduce IntOp.andi x v reducesTo_S4x128x128_S_d0_1_2 h_S_) main_v19 main_c_5
  let main_v21 : IVec S_ 1 := andi main_v16 main_v20
  main_v21

def fn {F : FTy → Type} [FloatOps F] (main_arg0 : FVec F S4096x5632 .bf16) (main_arg1 : FVec F S4096x1024 .f32) (main_arg2 : FVec F S512 .f32) (main_arg3 : FVec F S512 .f32) (main_arg4 : FVec F S4x128x128 .f32) (main_arg5 : FVec F S4x128 .f32) : IVec S_ 1 :=
  let main_v0 : FVec F S4096x1024 .bf16 := (extractStridedSlice S4096x1024 ![0, 0] · slices_S4096x5632_S4096x1024_0_0) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  let main_v6 : FVec F S4096x512 .f32 := (extractStridedSlice S4096x512 ![0, 0] · slices_S4096x1024_S4096x512_0_0) main_arg1
  let main_v7 : FVec F S4096x512 .f32 := Host.absf main_v6
  let main_cst_0 : FVec F S_ .f32 := constant S_ .f32 0x7F800000#32
  let main_v8 : FVec F S4096x512 .f32 := broadcastInDim S4096x512 ![] bcast_S_S4096x512 main_cst_0
  let main_v9 : IVec S4096x512 1 := cmpf .olt main_v7 main_v8
  let main_c_1 : IVec S_ 1 := constantI S_ 1 1#1
  let main_v10 : IVec S_ 1 := (fun x v => Host.reduce IntOp.andi x v reducesTo_S4096x512_S_d0_1 h_S_) main_v9 main_c_1
  let main_v11 : IVec S_ 1 := andi main_v5 main_v10
  let main_v12 : FVec F S512 .f32 := Host.absf main_arg2
  let main_cst_2 : FVec F S_ .f32 := constant S_ .f32 0x7F800000#32
  let main_v13 : FVec F S512 .f32 := broadcastInDim S512 ![] bcast_S_S512 main_cst_2
  let main_v14 : IVec S512 1 := cmpf .olt main_v12 main_v13
  let main_c_3 : IVec S_ 1 := constantI S_ 1 1#1
  let main_v15 : IVec S_ 1 := (fun x v => Host.reduce IntOp.andi x v reducesTo_S512_S_d0 h_S_) main_v14 main_c_3
  let main_v16 : IVec S_ 1 := andi main_v11 main_v15
  let main_v17 : FVec F S4x128x128 .f32 := Host.absf main_arg4
  fn_part1 (F := F) main_v16 main_v17
-- ==== Kernel.lean ====
abbrev S4096x5632 : Shape := ⟨2, ![4096, 5632]⟩
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 14
  | .vmem => 16
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S1x512, .f32⟩
  | .hbm, ⟨7, _⟩ => ⟨S1x512, .f32⟩
  | .hbm, ⟨8, _⟩ => ⟨S128x4, .f32⟩
  | .hbm, ⟨9, _⟩ => ⟨S4096x1024, .bf16⟩
  | .hbm, ⟨10, _⟩ => ⟨S4x128x128, .f32⟩
  | .hbm, ⟨11, _⟩ => ⟨S128x4, .f32⟩
  | .hbm, ⟨12, _⟩ => ⟨S1x512, .f32⟩
  | .hbm, ⟨13, _⟩ => ⟨S1x512, .f32⟩
  | .local _ .vmem, ⟨0, _⟩ => ⟨S256x1024, .bf16⟩
  | .local _ .vmem, ⟨1, _⟩ => ⟨S256x1024, .bf16⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S256x1024, .bf16⟩
  | .local _ .vmem, ⟨9, _⟩ => ⟨S256x1024, .bf16⟩
  | .local _ .vmem, ⟨10, _⟩ => ⟨S4x128x128, .f32⟩
  | .local _ .vmem, ⟨11, _⟩ => ⟨S128x4, .f32⟩
  | .local _ .vmem, ⟨12, _⟩ => ⟨S1x512, .f32⟩
  | .local _ .vmem, ⟨13, _⟩ => ⟨S1x512, .f32⟩
  | .local _ .vmem, ⟨14, _⟩ => ⟨S256x512, .f32⟩
  | .local _ .vmem, ⟨15, _⟩ => ⟨S256x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x5632 : Shape := ⟨2, ![4096, 5632]⟩
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S1x4096x1024 : Shape := ⟨3, ![1, 4096, 1024]⟩
abbrev S_ : Shape := ⟨0, ![]⟩
abbrev S1x4096x512 : Shape := ⟨3, ![1, 4096, 512]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S4096x512 : Shape := ⟨2, ![4096, 512]⟩
abbrev S1x128x4 : Shape := ⟨3, ![1, 128, 4]⟩
abbrev S1x512 : Shape := ⟨2, ![1, 512]⟩
abbrev S4096 : Shape := ⟨1, ![4096]⟩

abbrev nBuf : Space → Nat
  | .hbm => 170
  | .vmem => 0
  | .smem => 0
  | _ => 0

abbrev hbmTy0_0 (i : Nat) : BufTy := match i % 128 with
  | 0 => ⟨S4096x5632, .bf16⟩
  | 1 => ⟨S4096x1024, .f32⟩
  | 2 => ⟨S512, .f32⟩
  | 3 => ⟨S512, .f32⟩
  | 4 => ⟨S4x128x128, .f32⟩
  | 5 => ⟨S4x128, .f32⟩
  | 6 => ⟨S4096x1024, .bf16⟩
  | 7 => ⟨S1x4096x1024, .bf16⟩
  | 8 => ⟨S1x4096x1024, .f32⟩
  | 9 => ⟨S_, .f32⟩
  | 10 => ⟨S1x4096x1024, .f32⟩
  | 11 => ⟨S1x4096x1024, .f32⟩
  | 12 => ⟨S1x4096x1024, .f32⟩
  | 13 => ⟨S1x4096x1024, .f32⟩
  | 14 => ⟨S_, .f32⟩
  | 15 => ⟨S1x4096x1024, .f32⟩
  | 16 => ⟨S1x4096x1024, .f32⟩
  | 17 => ⟨S_, .f32⟩
  | 18 => ⟨S1x4096x1024, .f32⟩
  | 19 => ⟨S1x4096x1024, .f32⟩
  | 20 => ⟨S1x4096x1024, .f32⟩
  | 21 => ⟨S_, .f32⟩
  | 22 => ⟨S1x4096x1024, .f32⟩
  | 23 => ⟨S1x4096x1024, .f32⟩
  | 24 => ⟨S1x4096x1024, .f32⟩
  | 25 => ⟨S1x4096x1024, .f32⟩
  | 26 => ⟨S1x4096x1024, .f32⟩
  | 27 => ⟨S_, .f32⟩
  | 28 => ⟨S1x4096x1024, .f32⟩
  | 29 => ⟨S1x4096x1024, .f32⟩
  | 30 => ⟨S1x4096x1024, .f32⟩
  | 31 => ⟨S_, .f32⟩
  | 32 => ⟨S1x4096x1024, .f32⟩
  | 33 => ⟨S1x4096x1024, .f32⟩
  | 34 => ⟨S1x4096x1024, .f32⟩
  | 35 => ⟨S1x4096x1024, .f32⟩
  | 36 => ⟨S1x4096x512, .f32⟩
  | 37 => ⟨S1x4096x512, .f32⟩
  | 38 => ⟨S_, .f32⟩
  | 39 => ⟨S1x4096, .f32⟩
  | 40 => ⟨S1x4096x1, .f32⟩
  | 41 => ⟨S_, .f32⟩
  | 42 => ⟨S1x4096x1, .f32⟩
  | 43 => ⟨S1x4096x1, .f32⟩
  | 44 => ⟨S1x4096x512, .f32⟩
  | 45 => ⟨S1x4096x512, .f32⟩
  | 46 => ⟨S1x4096x512, .f32⟩
  | 47 => ⟨S_, .f32⟩
  | 48 => ⟨S1x4096, .f32⟩
  | 49 => ⟨S1x4096x1, .f32⟩
  | 50 => ⟨S_, .f32⟩
  | 51 => ⟨S1x4096x1, .f32⟩
  | 52 => ⟨S1x4096x1, .f32⟩
  | 53 => ⟨S_, .f32⟩
  | 54 => ⟨S1x4096x1, .f32⟩
  | 55 => ⟨S1x4096x1, .f32⟩
  | 56 => ⟨S1x4096x1, .f32⟩
  | 57 => ⟨S1x4096x1, .f32⟩
  | 58 => ⟨S_, .f32⟩
  | 59 => ⟨S1x4096x1, .f32⟩
  | 60 => ⟨S1x4096x1, .f32⟩
  | 61 => ⟨S1x4096x512, .f32⟩
  | 62 => ⟨S1x4096x512, .f32⟩
  | 63 => ⟨S1x1x512, .f32⟩
  | 64 => ⟨S1x4096x512, .f32⟩
  | 65 => ⟨S1x4096x512, .f32⟩
  | 66 => ⟨S1x1x512, .f32⟩
  | 67 => ⟨S1x4096x512, .f32⟩
  | 68 => ⟨S1x4096x512, .f32⟩
  | 69 => ⟨S1x32x128x4x128, .f32⟩
  | 70 => ⟨S_, .i1⟩
  | 71 => ⟨S128x128, .i1⟩
  | 72 => ⟨S128x128, .i32⟩
  | 73 => ⟨S_, .i32⟩
  | 74 => ⟨S128x128, .i32⟩
  | 75 => ⟨S128x128, .i32⟩
  | 76 => ⟨S128x128, .i32⟩
  | 77 => ⟨S128x128, .i1⟩
  | 78 => ⟨S_, .i1⟩
  | 79 => ⟨S128x128, .i1⟩
  | 80 => ⟨S128x128, .i1⟩
  | 81 => ⟨S1x128x128, .i1⟩
  | 82 => ⟨S_, .f32⟩
  | 83 => ⟨S_, .f32⟩
  | 84 => ⟨S4x128x128, .i1⟩
  | 85 => ⟨S4x128x128, .f32⟩
  | 86 => ⟨S4x128x128, .f32⟩
  | 87 => ⟨S_, .f32⟩
  | 88 => ⟨S4x128x128, .f32⟩
  | 89 => ⟨S4x1x32x128x128, .f32⟩
  | 90 => ⟨S1x32x128x4x128, .f32⟩
  | 91 => ⟨S128x4, .f32⟩
  | 92 => ⟨S1x1x128x4x1, .f32⟩
  | 93 => ⟨S1x32x128x4x128, .f32⟩
  | 94 => ⟨S1x32x128x4x128, .f32⟩
  | 95 => ⟨S1x4096x512, .f32⟩
  | 96 => ⟨S1x4096x512, .f32⟩
  | 97 => ⟨S4096x512, .f32⟩
  | 98 => ⟨S1x4096x512, .f32⟩
  | 99 => ⟨S1x4096x512, .f32⟩
  | 100 => ⟨S1x4096x512, .f32⟩
  | 101 => ⟨S1x32x128x4x128, .f32⟩
  | 102 => ⟨S_, .f32⟩
  | 103 => ⟨S1x128x4, .f32⟩
  | 104 => ⟨S1x1x128x4x1, .f32⟩
  | 105 => ⟨S_, .f32⟩
  | 106 => ⟨S128x4, .f32⟩
  | 107 => ⟨S4x128, .f32⟩
  | 108 => ⟨S4x1x32x128x128, .f32⟩
  | 109 => ⟨S4x128x128, .f32⟩
  | 110 => ⟨S4x1x32x128x128, .f32⟩
  | 111 => ⟨S1x32x128x4x128, .f32⟩
  | 112 => ⟨S_, .f32⟩
  | 113 => ⟨S4x128x128, .f32⟩
  | 114 => ⟨S4x128x128, .f32⟩
  | 115 => ⟨S1x4096x512, .f32⟩
  | 116 => ⟨S_, .f32⟩
  | 117 => ⟨S1x512, .f32⟩
  | 118 => ⟨S1x1x512, .f32⟩
  | 119 => ⟨S_, .f32⟩
  | 120 => ⟨S512, .f32⟩
  | 121 => ⟨S1x4096x512, .f32⟩
  | 122 => ⟨S_, .f32⟩
  | 123 => ⟨S1x512, .f32⟩
  | 124 => ⟨S1x1x512, .f32⟩
  | 125 => ⟨S1x4096x512, .f32⟩
  | 126 => ⟨S1x4096x512, .f32⟩
  | 127 => ⟨S_, .f32⟩
  | _ => ⟨S4096x5632, .bf16⟩

abbrev hbmTy0_1 (i : Nat) : BufTy := match i % 128 with
  | 0 => ⟨S512, .f32⟩
  | 1 => ⟨S1x4096x512, .f32⟩
  | 2 => ⟨S_, .f32⟩
  | 3 => ⟨S1x4096, .f32⟩
  | 4 => ⟨S1x4096x1, .f32⟩
  | 5 => ⟨S1x4096x512, .f32⟩
  | 6 => ⟨S1x4096x512, .f32⟩
  | 7 => ⟨S1x4096x1, .f32⟩
  | 8 => ⟨S_, .f32⟩
  | 9 => ⟨S1x4096x1, .f32⟩
  | 10 => ⟨S1x4096x1, .f32⟩
  | 11 => ⟨S_, .f32⟩
  | 12 => ⟨S4096, .f32⟩
  | 13 => ⟨S1x4096, .f32⟩
  | 14 => ⟨S1x4096x512, .f32⟩
  | 15 => ⟨S1x4096x512, .f32⟩
  | 16 => ⟨S1x4096x512, .f32⟩
  | 17 => ⟨S1x4096x512, .f32⟩
  | 18 => ⟨S1x4096x512, .f32⟩
  | 19 => ⟨S1x4096x512, .f32⟩
  | 20 => ⟨S_, .f32⟩
  | 21 => ⟨S1x4096, .f32⟩
  | 22 => ⟨S1x4096x1, .f32⟩
  | 23 => ⟨S_, .f32⟩
  | 24 => ⟨S1x4096x1, .f32⟩
  | 25 => ⟨S1x4096x1, .f32⟩
  | 26 => ⟨S_, .f32⟩
  | 27 => ⟨S4096, .f32⟩
  | 28 => ⟨S1x4096, .f32⟩
  | 29 => ⟨S1x4096x512, .f32⟩
  | 30 => ⟨S1x4096x512, .f32⟩
  | 31 => ⟨S_, .f32⟩
  | 32 => ⟨S1x4096x1024, .f32⟩
  | 33 => ⟨S_, .f32⟩
  | 34 => ⟨S1x4096x1024, .f32⟩
  | 35 => ⟨S1x4096x1024, .f32⟩
  | 36 => ⟨S1x4096x1024, .f32⟩
  | 37 => ⟨S4096x1024, .f32⟩
  | 38 => ⟨S4096x1024, .bf16⟩
  | 39 => ⟨S128x4, .f32⟩
  | 40 => ⟨S1x512, .f32⟩
  | 41 => ⟨S1x512, .f32⟩
  | _ => ⟨S4096x5632, .bf16⟩

abbrev hbmTy (i : Nat) : BufTy := match i / 128 with
  | 0 => hbmTy0_0 i
  | 1 => hbmTy0_1 i
  | _ => ⟨S4096x5632, .bf16⟩

abbrev bufTy : (tb : Table) → Fin (tcTables nBuf tb) → BufTy
  | .hbm, ⟨i, _⟩ => hbmTy i
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c : Ref sig .tc := ⟨.hbm, 70, rfl⟩
abbrev main_v52 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_c_0 : Ref sig .tc := ⟨.hbm, 78, rfl⟩
abbrev main_call0_v5 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_call1_v0 : Ref sig .tc := ⟨.hbm, 83, rfl⟩
abbrev main_v55_1 : Ref sig .tc := ⟨.hbm, 84, rfl⟩
abbrev main_call1_v2 : Ref sig .tc := ⟨.hbm, 85, rfl⟩
abbrev main_v55_0 : Ref sig .tc := ⟨.hbm, 86, rfl⟩
abbrev main_call1_cst : Ref sig .tc := ⟨.hbm, 87, rfl⟩
abbrev main_v55_2 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call2_cst : Ref sig .tc := ⟨.hbm, 112, rfl⟩
abbrev main_call2_v0 : Ref sig .tc := ⟨.hbm, 113, rfl⟩
abbrev main_v77 : Ref sig .tc := ⟨.hbm, 114, rfl⟩
abbrev main_v78 : Ref sig .tc := ⟨.hbm, 115, rfl⟩
abbrev main_cst_14 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_17 : Ref sig .tc := ⟨.hbm, 127, rfl⟩
abbrev main_v87 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_19 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_21 : Ref sig .tc := ⟨.hbm, 148, rfl⟩
abbrev main_v104 : Ref sig .tc := ⟨.hbm, 149, rfl⟩
abbrev main_v105 : Ref sig .tc := ⟨.hbm, 150, rfl⟩
abbrev main_cst_22 : Ref sig .tc := ⟨.hbm, 151, rfl⟩
abbrev main_v106 : Ref sig .tc := ⟨.hbm, 152, rfl⟩
abbrev main_v107 : Ref sig .tc := ⟨.hbm, 153, rfl⟩
abbrev main_cst_23 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_24 : Ref sig .tc := ⟨.hbm, 159, rfl⟩
abbrev main_v112 : Ref sig .tc := ⟨.hbm, 160, rfl⟩
abbrev main_cst_25 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩

abbrev nD : Nat := 1
abbrev τ : Topo := Topo.v7x

variable {F : FTy → Type} [FloatOps F]
-- ==== KernelDown.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownIdeal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S4x704x1024, .f32⟩
  | .hbm, ⟨4, _⟩ => ⟨S4x4096x704, .f32⟩
  | .hbm, ⟨5, _⟩ => ⟨S4096x1024, .f32⟩
  | .hbm, ⟨6, _⟩ => ⟨S4096x1024, .f32⟩
  | .hbm, ⟨7, _⟩ => ⟨S1024x4x704, .f32⟩
  | .hbm, ⟨8, _⟩ => ⟨S4x704x1024, .f32⟩
  | .hbm, ⟨9, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGateUp.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4096x1024, .bf16⟩
  | .hbm, ⟨3, _⟩ => ⟨S4x704x1024, .bf16⟩
  | .hbm, ⟨4, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x4096x704, .bf16⟩
  | .local _ .vmem, ⟨4, _⟩ => ⟨S1x4096x704, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x4096x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceGateUpIdeal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S4x704x4096 : Shape := ⟨3, ![4, 704, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4096x1024, .bf16⟩
  | .hbm, ⟨3, _⟩ => ⟨S_, .f32⟩
  | .hbm, ⟨4, _⟩ => ⟨S4x704x1024, .f32⟩
  | .hbm, ⟨5, _⟩ => ⟨S4096x1024, .f32⟩
  | .hbm, ⟨6, _⟩ => ⟨S4x704x4096, .f32⟩
  | .hbm, ⟨7, _⟩ => ⟨S4x4096x704, .f32⟩
  | .hbm, ⟨8, _⟩ => ⟨S4x704x4096, .f32⟩
  | .hbm, ⟨9, _⟩ => ⟨S4x4096x704, .f32⟩
  | .hbm, ⟨10, _⟩ => ⟨S4x4096x704, .f32⟩
  | .hbm, ⟨11, _⟩ => ⟨S4x4096x704, .f32⟩
  | .hbm, ⟨12, _⟩ => ⟨S4x704x4096, .f32⟩
  | .hbm, ⟨13, _⟩ => ⟨S4x704x1024, .f32⟩
  | .hbm, ⟨14, _⟩ => ⟨S4x704x4096, .f32⟩
  | .hbm, ⟨15, _⟩ => ⟨S4x704x1024, .f32⟩
  | .hbm, ⟨16, _⟩ => ⟨S4x704x1024, .bf16⟩
  | .hbm, ⟨17, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== KernelDgrad.lean ====
abbrev S4x4096x704 : Shape := ⟨3, ![4, 4096, 704]⟩
abbrev S4x1x704x1024 : Shape := ⟨4, ![4, 1, 704, 1024]⟩
abbrev S4096x1024 : Shape := ⟨2, ![4096, 1024]⟩
abbrev S2x1024 : Shape := ⟨2, ![2, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x1x704x1024, .bf16⟩
  | .hbm, ⟨3, _⟩ => ⟨S4x1x704x1024, .bf16⟩
  | .hbm, ⟨4, _⟩ => ⟨S4096x1024, .f32⟩
  | .hbm, ⟨5, _⟩ => ⟨S2x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S4x512x704, .bf16⟩
  | .local _ .vmem, ⟨4, _⟩ => ⟨S4x512x704, .bf16⟩
  | .local _ .vmem, ⟨5, _⟩ => ⟨S4x1x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceDgradIdeal.lean ====
abbrev S4x4096x704 : Shape := ⟨3, ![4, 4096, 704]⟩
abbrev S4x1x704x1024 : Shape := ⟨4, ![4, 1, 704, 1024]⟩
abbrev S4096x1024 : Shape := ⟨2, ![4096, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4x704x1024 : Shape := ⟨3, ![4, 704, 1024]⟩
abbrev S4x704x4096 : Shape := ⟨3, ![4, 704, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x1x704x1024, .bf16⟩
  | .hbm, ⟨3, _⟩ => ⟨S4x1x704x1024, .bf16⟩
  | .hbm, ⟨4, _⟩ => ⟨S4096x1024, .f32⟩
  | .hbm, ⟨5, _⟩ => ⟨S2x1024, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4x704x1024, .bf16⟩
  | .hbm, ⟨30, _⟩ => ⟨S4x704x1024, .f32⟩
  | .hbm, ⟨31, _⟩ => ⟨S4x704x4096, .f32⟩
  | .hbm, ⟨32, _⟩ => ⟨S4x4096x704, .f32⟩
  | .hbm, ⟨33, _⟩ => ⟨S4x704x1024, .bf16⟩
  | .hbm, ⟨34, _⟩ => ⟨S4x704x1024, .f32⟩
  | .hbm, ⟨35, _⟩ => ⟨S4x704x4096, .f32⟩
  | .hbm, ⟨36, _⟩ => ⟨S4x4096x704, .f32⟩
  | .hbm, ⟨37, _⟩ => ⟨S4x4096x704, .f32⟩
  | .hbm, ⟨38, _⟩ => ⟨S4x4096x704, .f32⟩
  | .hbm, ⟨39, _⟩ => ⟨S4x704x4096, .f32⟩
  | .hbm, ⟨40, _⟩ => ⟨S4096x1024, .f32⟩
  | .hbm, ⟨41, _⟩ => ⟨S4x704x4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== KernelFfnIn.lean ====
abbrev S4096x1024 : Shape := ⟨2, ![4096, 1024]⟩
abbrev S4x1x704x1024 : Shape := ⟨4, ![4, 1, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4x1x704x1024, .bf16⟩
  | .hbm, ⟨2, _⟩ => ⟨S4x1x704x1024, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceFfnInIdeal.lean ====
abbrev S4096x1024 : Shape := ⟨2, ![4096, 1024]⟩
abbrev S4x1x704x1024 : Shape := ⟨4, ![4, 1, 704, 1024]⟩
abbrev S4x704x1024 : Shape := ⟨3, ![4, 704, 1024]⟩
abbrev S4x704x4096 : Shape := ⟨3, ![4, 704, 4096]⟩
abbrev S4x4096x704 : Shape := ⟨3, ![4, 4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x704x1024, .bf16⟩
  | .hbm, ⟨2, _⟩ => ⟨S4x1x704x1024, .bf16⟩
  | .hbm, ⟨3, _⟩ => ⟨S4096x1024, .f32⟩
  | .hbm, ⟨4, _⟩ => ⟨S4x704x1024, .bf16⟩
  | .hbm, ⟨5, _⟩ => ⟨S4x704x1024, .f32⟩
  | .hbm, ⟨6, _⟩ => ⟨S4x704x4096, .f32⟩
  | .hbm, ⟨7, _⟩ => ⟨S4x4096x704, .f32⟩
  | .hbm, ⟨8, _⟩ => ⟨S4x704x1024, .bf16⟩
  | .hbm, ⟨9, _⟩ => ⟨S4x704x1024, .f32⟩
  | .hbm, ⟨10, _⟩ => ⟨S4x704x4096, .f32⟩
  | .hbm, ⟨11, _⟩ => ⟨S4x4096x704, .f32⟩
  | .hbm, ⟨12, _⟩ => ⟨S4x4096x704, .f32⟩
  | .hbm, ⟨13, _⟩ => ⟨S4x4096x704, .f32⟩
  | .hbm, ⟨14, _⟩ => ⟨S_, .f32⟩
  | .hbm, ⟨15, _⟩ => ⟨S4x4096x704, .f32⟩
  | .hbm, ⟨16, _⟩ => ⟨S4x4096x704, .f32⟩
  | .hbm, ⟨17, _⟩ => ⟨S_, .f32⟩
  | .hbm, ⟨18, _⟩ => ⟨S4x4096x704, .f32⟩
  | .hbm, ⟨19, _⟩ => ⟨S4x4096x704, .f32⟩
  | .hbm, ⟨20, _⟩ => ⟨S_, .f32⟩
  | .hbm, ⟨21, _⟩ => ⟨S4x4096x704, .f32⟩
  | .hbm, ⟨22, _⟩ => ⟨S4x4096x704, .f32⟩
  | .hbm, ⟨23, _⟩ => ⟨S4x4096x704, .f32⟩
  | .hbm, ⟨24, _⟩ => ⟨S4x4096x704, .f32⟩
  | .hbm, ⟨25, _⟩ => ⟨S4x4096x704, .f32⟩
  | .hbm, ⟨26, _⟩ => ⟨S_, .f32⟩
  | .hbm, ⟨27, _⟩ => ⟨S4x4096x704, .f32⟩
  | .hbm, ⟨28, _⟩ => ⟨S4x4096x704, .f32⟩
  | .hbm, ⟨29, _⟩ => ⟨S4x4096x704, .f32⟩
  | .hbm, ⟨30, _⟩ => ⟨S4x4096x704, .f32⟩
  | .hbm, ⟨31, _⟩ => ⟨S4x4096x704, .f32⟩
  | .hbm, ⟨32, _⟩ => ⟨S4x4096x704, .f32⟩
  | .hbm, ⟨33, _⟩ => ⟨S4x4096x704, .f32⟩
  | .hbm, ⟨34, _⟩ => ⟨S4x4096x704, .bf16⟩
  | .hbm, ⟨35, _⟩ => ⟨S4x4096x704, .bf16⟩
  | .hbm, ⟨36, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== KernelWin.lean ====
abbrev S4096x1024 : Shape := ⟨2, ![4096, 1024]⟩
abbrev S4096x5632 : Shape := ⟨2, ![4096, 5632]⟩
abbrev S4x1024x1408 : Shape := ⟨3, ![4, 1024, 1408]⟩
abbrev S4096x1408 : Shape := ⟨2, ![4096, 1408]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .bf16⟩
  | .local _ .vmem, ⟨0, _⟩ => ⟨S4096x1024, .bf16⟩
  | .local _ .vmem, ⟨1, _⟩ => ⟨S4096x1408, .bf16⟩
  | .local _ .vmem, ⟨2, _⟩ => ⟨S4096x1408, .bf16⟩
  | .local _ .vmem, ⟨3, _⟩ => ⟨S1x1024x1408, .bf16⟩
  | .local _ .vmem, ⟨4, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWinIdeal.lean ====
abbrev S4096x1024 : Shape := ⟨2, ![4096, 1024]⟩
abbrev S4096x5632 : Shape := ⟨2, ![4096, 5632]⟩
abbrev S_ : Shape := ⟨0, ![]⟩
abbrev S4x1024x1408 : Shape := ⟨3, ![4, 1024, 1408]⟩
abbrev S4096x4x1408 : Shape := ⟨3, ![4096, 4, 1408]⟩
abbrev S4x1408x1024 : Shape := ⟨3, ![4, 1408, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S4x1024x1408, .f32⟩
  | .hbm, ⟨4, _⟩ => ⟨S4096x1024, .f32⟩
  | .hbm, ⟨5, _⟩ => ⟨S4096x4x1408, .f32⟩
  | .hbm, ⟨6, _⟩ => ⟨S4096x5632, .f32⟩
  | .hbm, ⟨7, _⟩ => ⟨S4096x4x1408, .f32⟩
  | .hbm, ⟨8, _⟩ => ⟨S4x1408x1024, .f32⟩
  | .hbm, ⟨9, _⟩ => ⟨S4x1024x1408, .f32⟩
  | .hbm, ⟨10, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDin.lean ====
abbrev S4096x5632 : Shape := ⟨2, ![4096, 5632]⟩
abbrev S4x1x1024x1408 : Shape := ⟨4, ![4, 1, 1024, 1408]⟩
abbrev S4096x1024 : Shape := ⟨2, ![4096, 1024]⟩
abbrev S1024 : Shape := ⟨1, ![1024]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4x1x1024x1408, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDinIdeal.lean ====
abbrev S4096x5632 : Shape := ⟨2, ![4096, 5632]⟩
abbrev S4x1x1024x1408 : Shape := ⟨4, ![4, 1, 1024, 1408]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x1408 : Shape := ⟨3, ![4, 1024, 1408]⟩
abbrev S4096x4x1408 : Shape := ⟨3, ![4096, 4, 1408]⟩

abbrev nBuf : Space → Nat
  | .hbm => 58
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1x1024x1408, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4x1024x1408, .bf16⟩
  | .hbm, ⟨26, _⟩ => ⟨S4x1024x1408, .f32⟩
  | .hbm, ⟨27, _⟩ => ⟨S4096x4x1408, .f32⟩
  | .hbm, ⟨28, _⟩ => ⟨S4096x5632, .f32⟩
  | .hbm, ⟨29, _⟩ => ⟨S4096x4x1408, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelWcd.lean ====
abbrev S4096x1024 : Shape := ⟨2, ![4096, 1024]⟩
abbrev S4096x2560 : Shape := ⟨2, ![4096, 2560]⟩
abbrev S4x1024x640 : Shape := ⟨3, ![4, 1024, 640]⟩
abbrev S4096x640 : Shape := ⟨2, ![4096, 640]⟩
abbrev S1x1024x640 : Shape := ⟨3, ![1, 1024, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S4x1024x640, .bf16⟩
  | .local _ .vmem, ⟨0, _⟩ => ⟨S4096x1024, .bf16⟩
  | .local _ .vmem, ⟨1, _⟩ => ⟨S4096x640, .bf16⟩
  | .local _ .vmem, ⟨2, _⟩ => ⟨S4096x640, .bf16⟩
  | .local _ .vmem, ⟨3, _⟩ => ⟨S1x1024x640, .bf16⟩
  | .local _ .vmem, ⟨4, _⟩ => ⟨S1x1024x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWcdIdeal.lean ====
abbrev S4096x1024 : Shape := ⟨2, ![4096, 1024]⟩
abbrev S4096x2560 : Shape := ⟨2, ![4096, 2560]⟩
abbrev S_ : Shape := ⟨0, ![]⟩
abbrev S4x1024x640 : Shape := ⟨3, ![4, 1024, 640]⟩
abbrev S4096x4x640 : Shape := ⟨3, ![4096, 4, 640]⟩
abbrev S4x640x1024 : Shape := ⟨3, ![4, 640, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2560, .bf16⟩
  | .hbm, ⟨2, _⟩ => ⟨S_, .f32⟩
  | .hbm, ⟨3, _⟩ => ⟨S4x1024x640, .f32⟩
  | .hbm, ⟨4, _⟩ => ⟨S4096x1024, .f32⟩
  | .hbm, ⟨5, _⟩ => ⟨S4096x4x640, .f32⟩
  | .hbm, ⟨6, _⟩ => ⟨S4096x2560, .f32⟩
  | .hbm, ⟨7, _⟩ => ⟨S4096x4x640, .f32⟩
  | .hbm, ⟨8, _⟩ => ⟨S4x640x1024, .f32⟩
  | .hbm, ⟨9, _⟩ => ⟨S4x1024x640, .f32⟩
  | .hbm, ⟨10, _⟩ => ⟨S4x1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWout.lean ====
abbrev S4096x1024 : Shape := ⟨2, ![4096, 1024]⟩
abbrev S4x256x1024 : Shape := ⟨3, ![4, 256, 1024]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .bf16⟩
  | .local _ .vmem, ⟨4, _⟩ => ⟨S1x256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWoutIdeal.lean ====
abbrev S4096x1024 : Shape := ⟨2, ![4096, 1024]⟩
abbrev S_ : Shape := ⟨0, ![]⟩
abbrev S4x256x1024 : Shape := ⟨3, ![4, 256, 1024]⟩
abbrev S4096x4x256 : Shape := ⟨3, ![4096, 4, 256]⟩
abbrev S1024x4x256 : Shape := ⟨3, ![1024, 4, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S4x256x1024, .f32⟩
  | .hbm, ⟨4, _⟩ => ⟨S4096x1024, .f32⟩
  | .hbm, ⟨5, _⟩ => ⟨S4096x4x256, .f32⟩
  | .hbm, ⟨6, _⟩ => ⟨S4096x1024, .f32⟩
  | .hbm, ⟨7, _⟩ => ⟨S4096x1024, .f32⟩
  | .hbm, ⟨8, _⟩ => ⟨S1024x4x256, .f32⟩
  | .hbm, ⟨9, _⟩ => ⟨S4x256x1024, .f32⟩
  | .hbm, ⟨10, _⟩ => ⟨S4x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDout.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDoutIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelFfnOut.lean ====
abbrev S4x4096x704 : Shape := ⟨3, ![4, 4096, 704]⟩
abbrev S4x1x704x1024 : Shape := ⟨4, ![4, 1, 704, 1024]⟩
abbrev S4096x1024 : Shape := ⟨2, ![4096, 1024]⟩
abbrev S1024 : Shape := ⟨1, ![1024]⟩
abbrev S1x1024 : Shape := ⟨2, ![1, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x1x704x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S4x1x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnOutIdeal.lean ====
abbrev S4x4096x704 : Shape := ⟨3, ![4, 4096, 704]⟩
abbrev S4x1x704x1024 : Shape := ⟨4, ![4, 1, 704, 1024]⟩
abbrev S4096x1024 : Shape := ⟨2, ![4096, 1024]⟩
abbrev S1024 : Shape := ⟨1, ![1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x1x704x1024, .bf16⟩
  | .hbm, ⟨2, _⟩ => ⟨S4096x1024, .f32⟩
  | .hbm, ⟨3, _⟩ => ⟨S1024, .f32⟩
  | .hbm, ⟨4, _⟩ => ⟨S4x4096x704, .f32⟩
  | .hbm, ⟨5, _⟩ => ⟨S4x704x1024, .bf16⟩
  | .hbm, ⟨6, _⟩ => ⟨S4x704x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelLoss.lean ====
abbrev S4x4096x704 : Shape := ⟨3, ![4, 4096, 704]⟩
abbrev S4x1x704x1024 : Shape := ⟨4, ![4, 1, 704, 1024]⟩
abbrev S4096x1024 : Shape := ⟨2, ![4096, 1024]⟩
abbrev S8x128 : Shape := ⟨2, ![8, 128]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x1x704x1024 : Shape := ⟨4, ![1, 1, 704, 1024]⟩
abbrev S704x1024 : Shape := ⟨2, ![704, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x704, .bf16⟩
  | .hbm, ⟨1, _⟩ => ⟨S4x1x704x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S8x128, .f32⟩
  | .hbm, ⟨6, _⟩ => ⟨S4096x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S4x1x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S8x128, .f32⟩
  | .local _ .vmem, ⟨10, _⟩ => ⟨S1024x1024, .bf16⟩
  | .local _ .vmem, ⟨11, _⟩ => ⟨S1024x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceLossIdeal.lean ====
abbrev S4x4096x704 : Shape := ⟨3, ![4, 4096, 704]⟩
abbrev S4x1x704x1024 : Shape := ⟨4, ![4, 1, 704, 1024]⟩
abbrev S4096x1024 : Shape := ⟨2, ![4096, 1024]⟩
abbrev S4x704x1024 : Shape := ⟨3, ![4, 704, 1024]⟩
abbrev S_ : Shape := ⟨0, ![]⟩
abbrev S4096 : Shape := ⟨1, ![4096]⟩
abbrev S8x128 : Shape := ⟨2, ![8, 128]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x1x704x1024, .bf16⟩
  | .hbm, ⟨2, _⟩ => ⟨S4096x1024, .f32⟩
  | .hbm, ⟨3, _⟩ => ⟨S4096x1024, .f32⟩
  | .hbm, ⟨4, _⟩ => ⟨S4x4096x704, .f32⟩
  | .hbm, ⟨5, _⟩ => ⟨S4x704x1024, .bf16⟩
  | .hbm, ⟨6, _⟩ => ⟨S4x704x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S_, .f32⟩
  | .hbm, ⟨36, _⟩ => ⟨S8x128, .f32⟩
  | .hbm, ⟨37, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelProjOut.lean ====
abbrev S4096x1024 : Shape := ⟨2, ![4096, 1024]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceProjOutIdeal.lean ====
abbrev S4096x1024 : Shape := ⟨2, ![4096, 1024]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelProjCd.lean ====
abbrev S4096x1024 : Shape := ⟨2, ![4096, 1024]⟩
abbrev S4x1x1024x640 : Shape := ⟨4, ![4, 1, 1024, 640]⟩
abbrev S4096x2560 : Shape := ⟨2, ![4096, 2560]⟩
abbrev S2048x1024 : Shape := ⟨2, ![2048, 1024]⟩
abbrev S1x1x1024x640 : Shape := ⟨4, ![1, 1, 1024, 640]⟩
abbrev S2048x640 : Shape := ⟨2, ![2048, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x640, .bf16⟩
  | .hbm, ⟨2, _⟩ => ⟨S4096x2560, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x640, .bf16⟩
  | .local _ .vmem, ⟨3, _⟩ => ⟨S1x1x1024x640, .bf16⟩
  | .local _ .vmem, ⟨4, _⟩ => ⟨S2048x640, .bf16⟩
  | .local _ .vmem, ⟨5, _⟩ => ⟨S2048x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjCdIdeal.lean ====
abbrev S4096x1024 : Shape := ⟨2, ![4096, 1024]⟩
abbrev S4x1x1024x640 : Shape := ⟨4, ![4, 1, 1024, 640]⟩
abbrev S4x1024x640 : Shape := ⟨3, ![4, 1024, 640]⟩
abbrev S4096x4x640 : Shape := ⟨3, ![4096, 4, 640]⟩
abbrev S4096x2560 : Shape := ⟨2, ![4096, 2560]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x1024x640, .bf16⟩
  | .hbm, ⟨2, _⟩ => ⟨S4096x1024, .f32⟩
  | .hbm, ⟨3, _⟩ => ⟨S4x1024x640, .bf16⟩
  | .hbm, ⟨4, _⟩ => ⟨S4x1024x640, .f32⟩
  | .hbm, ⟨5, _⟩ => ⟨S4096x4x640, .f32⟩
  | .hbm, ⟨6, _⟩ => ⟨S4096x2560, .f32⟩
  | .hbm, ⟨7, _⟩ => ⟨S4096x2560, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelDcd.lean ====
abbrev S4096x2560 : Shape := ⟨2, ![4096, 2560]⟩
abbrev S4x1x1024x640 : Shape := ⟨4, ![4, 1, 1024, 640]⟩
abbrev S4096x1024 : Shape := ⟨2, ![4096, 1024]⟩
abbrev S1024 : Shape := ⟨1, ![1024]⟩
abbrev S1x1024 : Shape := ⟨2, ![1, 1024]⟩
abbrev S512x2560 : Shape := ⟨2, ![512, 2560]⟩
abbrev S512x1024 : Shape := ⟨2, ![512, 1024]⟩
abbrev S512x640 : Shape := ⟨2, ![512, 640]⟩
abbrev S1x1x1024x640 : Shape := ⟨4, ![1, 1, 1024, 640]⟩
abbrev S1024x640 : Shape := ⟨2, ![1024, 640]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2560, .bf16⟩
  | .hbm, ⟨1, _⟩ => ⟨S4x1x1024x640, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S4096x1024, .bf16⟩
  | .local _ .vmem, ⟨0, _⟩ => ⟨S512x2560, .bf16⟩
  | .local _ .vmem, ⟨1, _⟩ => ⟨S512x2560, .bf16⟩
  | .local _ .vmem, ⟨2, _⟩ => ⟨S4x1x1024x640, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDcdIdeal.lean ====
abbrev S4096x2560 : Shape := ⟨2, ![4096, 2560]⟩
abbrev S4x1x1024x640 : Shape := ⟨4, ![4, 1, 1024, 640]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x640 : Shape := ⟨3, ![4, 1024, 640]⟩
abbrev S4096x4x640 : Shape := ⟨3, ![4096, 4, 640]⟩

abbrev nBuf : Space → Nat
  | .hbm => 58
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4x1x1024x640, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4x1024x640, .bf16⟩
  | .hbm, ⟨26, _⟩ => ⟨S4x1024x640, .f32⟩
  | .hbm, ⟨27, _⟩ => ⟨S4096x4x640, .f32⟩
  | .hbm, ⟨28, _⟩ => ⟨S4096x2560, .f32⟩
  | .hbm, ⟨29, _⟩ => ⟨S4096x4x640, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelMixFwd.lean ====
abbrev S4096x5632 : Shape := ⟨2, ![4096, 5632]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S4096x512 : Shape := ⟨2, ![4096, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 9
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S128x4, .f32⟩
  | .hbm, ⟨8, _⟩ => ⟨S4096x512, .bf16⟩
  | .local _ .vmem, ⟨0, _⟩ => ⟨S256x1024, .bf16⟩
  | .local _ .vmem, ⟨1, _⟩ => ⟨S256x1024, .bf16⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x4, .f32⟩
  | .local _ .vmem, ⟨6, _⟩ => ⟨S256x512, .bf16⟩
  | .local _ .vmem, ⟨7, _⟩ => ⟨S256x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMixFwdIdeal.lean ====
abbrev S4096x5632 : Shape := ⟨2, ![4096, 5632]⟩
abbrev S512 : Shape := ⟨1, ![512]⟩
abbrev S4x128x128 : Shape := ⟨3, ![4, 128, 128]⟩
abbrev S4x128 : Shape := ⟨2, ![4, 128]⟩
abbrev S4096x1024 : Shape := ⟨2, ![4096, 1024]⟩
abbrev S1x4096x1024 : Shape := ⟨3, ![1, 4096, 1024]⟩
abbrev S_ : Shape := ⟨0, ![]⟩
abbrev S1x4096x512 : Shape := ⟨3, ![1, 4096, 512]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S1x1x128x4x1 : Shape := ⟨5, ![1, 1, 128, 4, 1]⟩
abbrev S4096x512 : Shape := ⟨2, ![4096, 512]⟩

abbrev nBuf : Space → Nat
  | .hbm => 74
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S4096x1024, .bf16⟩
  | .hbm, ⟨6, _⟩ => ⟨S1x4096x1024, .bf16⟩
  | .hbm, ⟨7, _⟩ => ⟨S1x4096x1024, .f32⟩
  | .hbm, ⟨8, _⟩ => ⟨S_, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S_, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S1x4096x512, .f32⟩
  | .hbm, ⟨18, _⟩ => ⟨S1x4096x512, .f32⟩
  | .hbm, ⟨19, _⟩ => ⟨S_, .f32⟩
  | .hbm, ⟨20, _⟩ => ⟨S1x4096, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x512, .f32⟩
  | .hbm, ⟨26, _⟩ => ⟨S1x4096x512, .f32⟩
  | .hbm, ⟨27, _⟩ => ⟨S1x4096x512, .f32⟩
  | .hbm, ⟨28, _⟩ => ⟨S_, .f32⟩
  | .hbm, ⟨29, _⟩ => ⟨S1x4096, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S_, .f32⟩
  | .hbm, ⟨35, _⟩ => ⟨S1x4096x1, .f32⟩
  | .hbm, ⟨36, _⟩ => ⟨S1x4096x1, .f32⟩
  | .hbm, ⟨37, _⟩ => ⟨S1x4096x1, .f32⟩
  | .hbm, ⟨38, _⟩ => ⟨S1x4096x512, .f32⟩
  | .hbm, ⟨39, _⟩ => ⟨S1x4096x512, .f32⟩
  | .hbm, ⟨40, _⟩ => ⟨S1x1x512, .f32⟩
  | .hbm, ⟨41, _⟩ => ⟨S1x4096x512, .f32⟩
  | .hbm, ⟨42, _⟩ => ⟨S1x4096x512, .f32⟩
  | .hbm, ⟨43, _⟩ => ⟨S1x1x512, .f32⟩
  | .hbm, ⟨44, _⟩ => ⟨S1x4096x512, .f32⟩
  | .hbm, ⟨45, _⟩ => ⟨S1x4096x512, .f32⟩
  | .hbm, ⟨46, _⟩ => ⟨S1x32x128x4x128, .f32⟩
  | .hbm, ⟨47, _⟩ => ⟨S_, .i1⟩
  | .hbm, ⟨48, _⟩ => ⟨S128x128, .i1⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S_, .i1⟩
  | .hbm, ⟨56, _⟩ => ⟨S128x128, .i1⟩
  | .hbm, ⟨57, _⟩ => ⟨S128x128, .i1⟩
  | .hbm, ⟨58, _⟩ => ⟨S1x128x128, .i1⟩
  | .hbm, ⟨59, _⟩ => ⟨S_, .f32⟩
  | .hbm, ⟨60, _⟩ => ⟨S_, .f32⟩
  | .hbm, ⟨61, _⟩ => ⟨S4x128x128, .i1⟩
  | .hbm, ⟨62, _⟩ => ⟨S4x128x128, .f32⟩
  | .hbm, ⟨63, _⟩ => ⟨S4x128x128, .f32⟩
  | .hbm, ⟨64, _⟩ => ⟨S4x1x32x128x128, .f32⟩
  | .hbm, ⟨65, _⟩ => ⟨S1x32x128x4x128, .f32⟩
  | .hbm, ⟨66, _⟩ => ⟨S128x4, .f32⟩
  | .hbm, ⟨67, _⟩ => ⟨S1x1x128x4x1, .f32⟩
  | .hbm, ⟨68, _⟩ => ⟨S1x32x128x4x128, .f32⟩
  | .hbm, ⟨69, _⟩ => ⟨S1x32x128x4x128, .f32⟩
  | .hbm, ⟨70, _⟩ => ⟨S1x4096x512, .f32⟩
  | .hbm, ⟨71, _⟩ => ⟨S1x4096x512, .f32⟩
  | .hbm, ⟨72, _⟩ => ⟨S4096x512, .f32⟩
  | .hbm, ⟨73, _⟩ => ⟨S4096x512, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_v35 : Ref sig .tc := ⟨.hbm, 48, rfl⟩
abbrev main_call0_v0 : Ref sig .tc := ⟨.hbm, 49, rfl⟩
abbrev main_call0_c : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_c_0 : Ref sig .tc := ⟨.hbm, 55, rfl⟩
abbrev main_call0_v5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Proof.Win.lean ====
/- The gradient of the combined input projection's weight: what `wgrad_in_ab` leaves is the reference's contraction over the
   tokens, page by page. -/
module

public import proofs.«01_k».proof.Defs
public import proofs.«01_k».proof.Proof.Gen.KernelWinIdeal.Value
public import proofs.«01_k».proof.Proof.Gen.ReferenceWinIdeal.Read
public import Idealize.ShloMosaic.Lib.Pipeline.ValueKit
public import Idealize.ShloMosaic.Lib.Claim

@[expose] public section

set_option maxRecDepth 16384

noncomputable section

namespace Cert.Win

open Idealize.ShloMosaic Idealize.ShloMosaic.TcCoe Idealize.SL.Sem
open Idealize.ShloMosaic.Pipeline (Dat)
open Cert.KernelWinIdeal Cert.KernelWinIdeal.Gen
open Cert.ReferenceWinIdeal.Read

variable (m : (ℓ : Loc nD τ sig) → Buf (Elt Ideal) ℓ)

/-- Point `t` handles page `t`: the cotangent's columns and the result's block are page `t`'s, the input's the whole. -/
theorem idx : ∀ t : Fin cfg0.N, win0_0.index t = ![0, 0] ∧ win0_1.index t = ![0, t.val] ∧ win0_2.index t = ![t.val, 0, 0] :=
  (by decide +kernel : ∀ t : Fin grid0.N, _)

/-- What the body stores at `y` of page `t` is the reference's element there. -/
theorem point (c : Dev nD) (t : Fin cfg0.N) (y : S1x1024x1408.Idx) : k0_pay1 (F := Ideal) (iblk m c 0 t) (iblk m c 1 t) y
    = val_main_v7 (F := Ideal) (m ((c : Thread nD τ).loc main_arg0)) (m ((c : Thread nD τ).loc main_arg1)) (((cfg0.win 2).blk t).view.emb y) := by
  pointwise [k0_pay1, val_main_v7, val_main_v6, val_main_v5, val_main_v4, val_main_v3, val_main_v2, val_main_v1]
  refine Finset.sum_congr rfl fun k _ => (mul_comm (G := EReal) _ _).trans ?_
  refine congrArg₂ (fun a b : EReal => a * b) ?_ ?_ <;> blk_point [iblk, V, idx t]

/-- The result array after the run is the reference's. -/
theorem final (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference compute the same gradient over the extended reals. -/
theorem algebraic : Cert.algebraic_KernelWinIdeal_ReferenceWinIdeal := by
  pair_intro
  · run_from Cert.KernelWinIdeal.Value.run_blocks m g
  · run_from Cert.ReferenceWinIdeal.Value.run m' g'
    exact (final m c).symm

end Cert.Win

end
-- ==== Proof.Scalars.lean ====
module

public import Idealize.ShloMosaic.PureOps.Ideal.Laws
public import Mathlib.Analysis.SpecialFunctions.Trigonometric.DerivHyp

@[expose] public section

/-!
# Scalars

The facts on single extended reals that the value proofs share: sums of real products stay real,
the kernel's sigmoid (a scaled hyperbolic tangent) is the reference's logistic function, and the
literals of the programs as rationals.
-/

namespace Cert.Scalars

open Idealize.ShloMosaic

/-- An extended real whose absolute value lies below `⊤` is a real. -/
theorem real_of_abs_lt {x : EReal} (h : max x (-x) < ⊤) : ∃ r : ℝ, x = r := by
  induction x using EReal.rec with
  | bot => simp at h
  | coe r => exact ⟨r, rfl⟩
  | top => simp at h

/-- A family of extended reals, each of them a real, is a family of reals. -/
theorem choose_real {ι : Type*} {f : ι → EReal} (h : ∀ i, ∃ r : ℝ, f i = r) :
    ∃ F : ι → ℝ, f = fun i => (F i : EReal) :=
  ⟨fun i => (h i).choose, funext fun i => (h i).choose_spec⟩

/-- A finite sum of reals, as an extended real. -/
theorem sum_coe {ι : Type*} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- A finite sum of products of reals is a real. -/
theorem sum_mul_coe {ι : Type*} (s : Finset ι) (f g : ι → ℝ) :
    ∑ i ∈ s, (f i : EReal) * (g i : EReal) = ((∑ i ∈ s, f i * g i : ℝ) : EReal) := by
  rw [← sum_coe]; exact Finset.sum_congr rfl fun i _ => (EReal.coe_mul _ _).symm

/-- The literal 1/2. -/
theorem half : Ideal.ofBits .f32 0x3F000000#32 = ((1 / 2 : ℝ) : EReal) := by
  simp [Ideal.ofBits, Ideal.ieee, ← EReal.coe_mul]; norm_num

/-- The literal 1. -/
theorem one : Ideal.ofBits .f32 0x3F800000#32 = ((1 : ℝ) : EReal) := by
  simp [Ideal.ofBits, Ideal.ieee, ← EReal.coe_mul]; norm_num

/-- The literal +∞ of the preconditions. -/
theorem infinity : Ideal.ofBits .f32 0x7F800000#32 = ⊤ := by
  simp [Ideal.ofBits, Ideal.ieee]

/-- The logistic function of a real. -/
noncomputable def sig (z : ℝ) : ℝ := 1 / (1 + Real.exp (-z))

/-- Half a hyperbolic tangent of the half plus a half is the logistic function. -/
theorem tanh_half (z : ℝ) : 1 / 2 * Real.tanh (1 / 2 * z) + 1 / 2 = sig z := by
  have h : Real.exp (-z) = Real.exp (-(1 / 2 * z)) * Real.exp (-(1 / 2 * z)) := by rw [← Real.exp_add]; ring_nf
  have hp := Real.exp_pos (1 / 2 * z)
  have hn := Real.exp_pos (-(1 / 2 * z))
  have hm : Real.exp (1 / 2 * z) * Real.exp (-(1 / 2 * z)) = 1 := by rw [← Real.exp_add]; simp
  rw [sig, h, Real.tanh_eq_sinh_div_cosh, Real.sinh_eq, Real.cosh_eq]
  generalize Real.exp (1 / 2 * z) = a at *
  generalize Real.exp (-(1 / 2 * z)) = b at *
  have : 0 < 1 + b * b := by positivity
  field_simp
  nlinarith

/-- The logistic function as the host writes it. -/
theorem host_sig (z : ℝ) : Ideal.div 1 (1 + Ideal.exp (-(z : EReal))) = ((sig z : ℝ) : EReal) := by
  have h : (1 + Real.exp (-z)) ≠ 0 := by positivity
  rw [← EReal.coe_neg, Ideal.exp_coe, ← EReal.coe_one, ← EReal.coe_add, Ideal.div_coe h, ← EReal.coe_mul, sig, one_mul]

/-- The logistic function as the kernel writes it. -/
theorem kernel_sig (z : ℝ) : Ideal.ofBits .f32 0x3F000000#32 * Ideal.tanh (Ideal.ofBits .f32 0x3F000000#32 * (z : EReal))
    + Ideal.ofBits .f32 0x3F000000#32 = ((sig z : ℝ) : EReal) := by
  rw [half, ← EReal.coe_mul, Ideal.tanh_coe, ← EReal.coe_mul, ← EReal.coe_add, tanh_half]

/-- The factor of the gate's gradient: the kernel's `u (s + g - g s)`, with `g = z s` and `s` the logistic function of `z`,
is the reference's derivative of `z s` along `u`. -/
theorem gate_factor {a b p q : EReal} {z u : ℝ} (ha : a = z) (hb : b = u) (hp : p = z) (hq : q = u) :
    b * (Ideal.ofBits .f32 0x3F000000#32 * Ideal.tanh (Ideal.ofBits .f32 0x3F000000#32 * a) + Ideal.ofBits .f32 0x3F000000#32
        + a * (Ideal.ofBits .f32 0x3F000000#32 * Ideal.tanh (Ideal.ofBits .f32 0x3F000000#32 * a) + Ideal.ofBits .f32 0x3F000000#32)
        - a * (Ideal.ofBits .f32 0x3F000000#32 * Ideal.tanh (Ideal.ofBits .f32 0x3F000000#32 * a) + Ideal.ofBits .f32 0x3F000000#32)
          * (Ideal.ofBits .f32 0x3F000000#32 * Ideal.tanh (Ideal.ofBits .f32 0x3F000000#32 * a) + Ideal.ofBits .f32 0x3F000000#32))
      = q * Ideal.div 1 (1 + Ideal.exp (-p))
        + p * q * (Ideal.div 1 (1 + Ideal.exp (-p)) * (1 - Ideal.div 1 (1 + Ideal.exp (-p)))) := by
  subst ha hb hp hq
  rw [kernel_sig, host_sig, ← EReal.coe_one]
  simp only [← EReal.coe_mul, ← EReal.coe_add, ← EReal.coe_sub, EReal.coe_eq_coe_iff]
  ring

/-- The factor of the up's gradient, `z` times its logistic function, in both spellings. -/
theorem up_factor {a p : EReal} {z : ℝ} (ha : a = z) (hp : p = z) :
    a * (Ideal.ofBits .f32 0x3F000000#32 * Ideal.tanh (Ideal.ofBits .f32 0x3F000000#32 * a) + Ideal.ofBits .f32 0x3F000000#32)
      = p * Ideal.div 1 (1 + Ideal.exp (-p)) := by
  rw [ha, hp, kernel_sig, host_sig]

end Cert.Scalars
-- ==== Proof.Finite.lean ====
/- A printed `all(abs(a) < inf)` read back: the array is a family of real numbers. -/
module

public import proofs.«01_k».proof.Proof.Scalars
public import Idealize.ShloMosaic.Lib.ReduceAll
public import Idealize.ShloMosaic.Lib.Pipeline.ValueKit

@[expose] public section

noncomputable section

namespace Cert.Finite

open Idealize.ShloMosaic

/-- An array whose every element's absolute value is below infinity is a family of real numbers. -/
theorem real_of_all {s u : Shape} {axes : List (Fin s.rank)} [Subsingleton u.Idx] (x b : FVec Ideal s .f32) (hb : ∀ i, b i = ⊤)
    (init : u.Idx → BitVec 1) (hr : s.ReducesTo axes u) (hu : 0 < u.numel) (j : u.Idx)
    (e : Host.reduce IntOp.andi (cmpf .olt (absf x) b) init hr hu j = 1#1) :
    ∃ X : s.Idx → ℝ, x = fun i => ((X i : ℝ) : EReal) := by
  refine Scalars.choose_real fun i => Scalars.real_of_abs_lt ?_
  have h := Host.reduce_andi_all _ init hr hu j e i
  rw [← hb i]
  by_contra hn
  simp [cmpf, absf, Ideal.cmpf_def, Ideal.absf_def, Ideal.cmp, hn] at h

end Cert.Finite

end
-- ==== Proof.Reals.lean ====
module

public import proofs.«01_k».proof.Proof.Scalars

@[expose] public section

/-!
# Extended reals that are reals, and the layer norm's gradient in two spellings
-/

namespace Cert.Reals

open Idealize.ShloMosaic

/-- An extended real that is a real. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.neg {x : EReal} : IsReal x → IsReal (-x)
  | ⟨a, ha⟩ => ⟨-a, by rw [ha, EReal.coe_neg]⟩

theorem IsReal.zero : IsReal 0 := ⟨0, rfl⟩

theorem IsReal.sum {ι : Type*} [Fintype ι] {f : ι → EReal} (h : ∀ i, IsReal (f i)) : IsReal (∑ i, f i) := by
  obtain ⟨F, hF⟩ := Scalars.choose_real h
  exact ⟨∑ i, F i, by rw [hF, Scalars.sum_coe]⟩

theorem IsReal.erfc {x : EReal} : IsReal x → IsReal (Ideal.erfc x)
  | ⟨a, ha⟩ => by
    rw [ha, Ideal.erfc, Ideal.erf_coe]
    exact IsReal.sub ⟨1, rfl⟩ ⟨_, rfl⟩

/-- The literal 512. -/
theorem n512 : Ideal.ofBits .f32 0x44000000#32 = ((512 : ℝ) : EReal) := by
  simp [Ideal.ofBits, Ideal.ieee, ← EReal.coe_mul]; norm_num

/-- The literal -1/2. -/
theorem neg_half : Ideal.ofBits .f32 0xBF000000#32 = ((-(1 / 2) : ℝ) : EReal) := by
  simp [Ideal.ofBits, Ideal.ieee, ← EReal.coe_mul]; norm_num

/-- The norm's literal 1e-6, as its word. -/
theorem eps : ∃ e : ℝ, 0 < e ∧ Ideal.ofBits .f32 0x358637BD#32 = (e : EReal) := by
  refine ⟨8796093 / 2 ^ 43, by positivity, ?_⟩
  simp [Ideal.ofBits, Ideal.ieee, ← EReal.coe_mul]; norm_num

/-- The square root word 0.70710677 is a real. -/
theorem sqrt_half : IsReal (Ideal.ofBits .f32 0x3F3504F3#32) := by
  refine ⟨11863283 / 2 ^ 24, ?_⟩
  simp [Ideal.ofBits, Ideal.ieee, ← EReal.coe_mul]; norm_num

/-- Division of a real by a real that is not zero. -/
theorem div_real {b : ℝ} (h : b ≠ 0) (a : ℝ) : Ideal.div (a : EReal) (b : EReal) = ((a * (1 / b) : ℝ) : EReal) := by
  rw [Ideal.div_coe h, ← EReal.coe_mul]

/-- One over the square root of a positive real: a real whose square times the real is one. -/
theorem rsqrt_real {v : ℝ} (h : 0 < v) : ∃ ρ : ℝ, Ideal.rsqrt (v : EReal) = ρ ∧ ρ * ρ * v = 1 := by
  refine ⟨(Real.sqrt v)⁻¹, by rw [Ideal.rsqrt_coe, if_neg (not_lt.2 h.le), if_neg h.ne'], ?_⟩
  have hs : Real.sqrt v * Real.sqrt v = v := Real.mul_self_sqrt h.le
  have h0 : Real.sqrt v ≠ 0 := (Real.sqrt_pos.2 h).ne'
  rw [← mul_inv, hs, inv_mul_cancel₀ h.ne']

/-- The layer norm's gradient, of a row `C` of mean zero with `σ` its variance plus epsilon and `ρ` one over the root of `σ`,
along `A`: the closed formula is what differentiating each step gives. -/
theorem norm_grad (C A : Fin 512 → ℝ) {ρ σ : ℝ} (hC : ∑ k, C k = 0) (hσ : σ ≠ 0) (hρ : ρ * ρ * σ = 1) (j : Fin 512) {s : EReal}
    (hs : s = Ideal.div ((∑ k, (C k : EReal) * (A k : EReal)) * (((-(1 / 2) : ℝ) : EReal) * Ideal.div (ρ : EReal) (σ : EReal))) ((512 : ℝ) : EReal)) :
    (ρ : EReal) * (((A j : EReal) - Ideal.div (∑ k, (A k : EReal)) ((512 : ℝ) : EReal))
        - ((C j : EReal) * (ρ : EReal)) * Ideal.div (∑ k, (A k : EReal) * ((C k : EReal) * (ρ : EReal))) ((512 : ℝ) : EReal))
      = (((A j : EReal) * (ρ : EReal) + (C j : EReal) * s) + s * (C j : EReal))
        + Ideal.div (∑ k, -(((A k : EReal) * (ρ : EReal) + (C k : EReal) * s) + s * (C k : EReal))) ((512 : ℝ) : EReal) := by
  have n0 : (512 : ℝ) ≠ 0 := by norm_num
  have e1 : ∑ k, (C k : EReal) * (A k : EReal) = ((∑ k, C k * A k : ℝ) : EReal) := Scalars.sum_mul_coe _ _ _
  have hs' : s = (((∑ k, C k * A k) * (-(1 / 2) * (ρ * (1 / σ))) * (1 / 512) : ℝ) : EReal) := by
    rw [hs, e1, div_real hσ, ← EReal.coe_mul, ← EReal.coe_mul, div_real n0]
  obtain ⟨q, hq⟩ : ∃ q : ℝ, q = (∑ k, C k * A k) * (-(1 / 2) * (ρ * (1 / σ))) * (1 / 512) := ⟨_, rfl⟩
  rw [← hq] at hs'
  rw [hs']
  simp only [← EReal.coe_mul, ← EReal.coe_add, ← EReal.coe_neg, Scalars.sum_coe]
  rw [div_real n0, div_real n0, div_real n0]
  simp only [← EReal.coe_mul, ← EReal.coe_add, ← EReal.coe_sub, EReal.coe_eq_coe_iff]
  have e2 : ∑ k, A k * (C k * ρ) = (∑ k, C k * A k) * ρ := by
    rw [Finset.sum_mul]; exact Finset.sum_congr rfl fun k _ => by ring
  have e3 : ∑ k, -(A k * ρ + C k * q + q * C k) = -((∑ k, A k) * ρ) := by
    have : ∀ k, -(A k * ρ + C k * q + q * C k) = -(A k * ρ) + C k * (-2 * q) := fun k => by ring
    rw [Finset.sum_congr rfl fun k _ => this k, Finset.sum_add_distrib, ← Finset.sum_mul, hC, zero_mul, add_zero,
      Finset.sum_neg_distrib, ← Finset.sum_mul]
  have e4 : ρ * ρ = 1 / σ := eq_one_div_of_mul_eq_one_left hρ
  rw [e2, e3, hq, ← e4]
  ring

/-- A row less its mean has mean zero. -/
theorem centred_sum (X : Fin 512 → ℝ) : ∑ k, (X k - (∑ l, X l) * (1 / 512)) = 0 := by
  rw [Finset.sum_sub_distrib, Finset.sum_const, Finset.card_univ, Fintype.card_fin, nsmul_eq_mul]
  push_cast
  ring

end Cert.Reals
-- ==== Proof.RmsNorm.lean ====
module

public import proofs.«01_k».proof.Proof.Reals

@[expose] public section

/-!
# The gradient of a root-mean-square norm in two spellings
-/

namespace Cert.RmsNorm

open Idealize.ShloMosaic Cert.Reals

/-- The literal 1024. -/
theorem n1024 : Ideal.ofBits .f32 0x44800000#32 = ((1024 : ℝ) : EReal) := by
  simp [Ideal.ofBits, Ideal.ieee, ← EReal.coe_mul]; norm_num

/-- The mean square of a row plus epsilon is a positive real, and the norm's factor `ρ` a real whose square inverts it. -/
theorem factor (X : Fin 1024 → ℝ) : ∃ ρ σ : ℝ, σ ≠ 0 ∧ ρ * ρ * σ = 1
    ∧ Ideal.div (∑ k, (X k : EReal) * (X k : EReal)) (Ideal.ofBits .f32 0x44800000#32) + Ideal.ofBits .f32 0x358637BD#32 = (σ : EReal)
    ∧ Ideal.rsqrt (σ : EReal) = (ρ : EReal) := by
  obtain ⟨e, he, hE⟩ := eps
  have hp : 0 < (∑ k, X k * X k) * (1 / 1024) + e :=
    add_pos_of_nonneg_of_pos (mul_nonneg (Finset.sum_nonneg fun k _ => mul_self_nonneg _) (by norm_num)) he
  obtain ⟨ρ, h1, h2⟩ := rsqrt_real hp
  refine ⟨ρ, _, hp.ne', h2, ?_, h1⟩
  rw [Scalars.sum_mul_coe, n1024, hE, div_real (by norm_num), EReal.coe_add]

/-- The norm's gradient, of a row `X` with `σ` its mean square plus epsilon and `ρ` one over the root of `σ`, along `A`: the closed
formula is what differentiating each step gives. -/
theorem grad (X A : Fin 1024 → ℝ) {ρ σ : ℝ} (hσ : σ ≠ 0) (hρ : ρ * ρ * σ = 1) (j : Fin 1024) {s : EReal}
    (hs : s = Ideal.div ((∑ k, (X k : EReal) * (A k : EReal)) * (((-(1 / 2) : ℝ) : EReal) * Ideal.div (ρ : EReal) (σ : EReal))) ((1024 : ℝ) : EReal)) :
    (ρ : EReal) * ((A j : EReal) - ((X j : EReal) * (ρ : EReal)) * Ideal.div (∑ k, (A k : EReal) * ((X k : EReal) * (ρ : EReal))) ((1024 : ℝ) : EReal))
      = ((A j : EReal) * (ρ : EReal) + (X j : EReal) * s) + s * (X j : EReal) := by
  have n0 : (1024 : ℝ) ≠ 0 := by norm_num
  have e1 : ∑ k, (X k : EReal) * (A k : EReal) = ((∑ k, X k * A k : ℝ) : EReal) := Scalars.sum_mul_coe _ _ _
  have hs' : s = (((∑ k, X k * A k) * (-(1 / 2) * (ρ * (1 / σ))) * (1 / 1024) : ℝ) : EReal) := by
    rw [hs, e1, div_real hσ, ← EReal.coe_mul, ← EReal.coe_mul, div_real n0]
  rw [hs']
  simp only [← EReal.coe_mul, ← EReal.coe_add, Scalars.sum_coe]
  rw [div_real n0]
  simp only [← EReal.coe_mul, ← EReal.coe_add, ← EReal.coe_sub, EReal.coe_eq_coe_iff]
  have e2 : ∑ k, A k * (X k * ρ) = (∑ k, X k * A k) * ρ := by
    rw [Finset.sum_mul]; exact Finset.sum_congr rfl fun k _ => by ring
  have e4 : ρ * ρ = 1 / σ := eq_one_div_of_mul_eq_one_left hρ
  rw [e2, ← e4]
  ring

/-- A row's mean square plus epsilon. -/
noncomputable def meanSq (X : Fin 1024 → EReal) : EReal :=
  Ideal.div (∑ x, X x * X x) (Ideal.ofBits .f32 0x44800000#32) + Ideal.ofBits .f32 0x358637BD#32

/-- A row's norm with the gain `g`. -/
noncomputable def normed (X g : Fin 1024 → EReal) (l : Fin 1024) : EReal := X l * Ideal.rsqrt (meanSq X) * g l

/-- What a row's gradient along `A` takes through its mean square. -/
noncomputable def through (X A : Fin 1024 → EReal) : EReal :=
  Ideal.div ((∑ x, X x * A x) * (Ideal.ofBits .f32 0xBF000000#32 * Ideal.div (Ideal.rsqrt (meanSq X)) (meanSq X)))
    (Ideal.ofBits .f32 0x44800000#32)

/-- The closed formula of a row's gradient and the differentiated steps agree, on real rows. -/
theorem spell (X A : Fin 1024 → EReal) (hX : ∀ l, IsReal (X l)) (hA : ∀ l, IsReal (A l)) (d : EReal) (l : Fin 1024) :
    d + Ideal.rsqrt (meanSq X) * (A l - X l * Ideal.rsqrt (meanSq X)
        * Ideal.div (∑ x, A x * (X x * Ideal.rsqrt (meanSq X))) (Ideal.ofBits .f32 0x44800000#32))
      = d + A l * Ideal.rsqrt (meanSq X) + X l * through X A + through X A * X l := by
  obtain ⟨Y, rfl⟩ := Scalars.choose_real hX
  obtain ⟨B, rfl⟩ := Scalars.choose_real hA
  obtain ⟨ρ, σ, h0, h1, h2, h3⟩ := factor Y
  have es : meanSq (fun x => (Y x : EReal)) = (σ : EReal) := by rw [meanSq, ← h2]
  have e := grad Y B h0 h1 l (s := through (fun x => (Y x : EReal)) fun x => (B x : EReal)) (by
    rw [through, es, h3, n1024, neg_half])
  rw [es, h3, n1024]
  simp only []
  rw [e]
  simp only [add_assoc]

end Cert.RmsNorm
-- ==== Proof.DinBase.lean ====
/- The gradient at the combined input projection's input: the blocks of a grid point against the reference's stages. -/
module

public import proofs.«01_k».proof.Proof.Gen.KernelDinIdeal.Value
public import proofs.«01_k».proof.Proof.Gen.ReferenceDinIdeal.Read
public import proofs.«01_k».proof.Proof.RmsNorm
public import Idealize.ShloMosaic.Lib.Pipeline.ValueKit

@[expose] public section

set_option maxRecDepth 16384

noncomputable section

namespace Cert.Din

open Idealize.ShloMosaic Idealize.ShloMosaic.TcCoe Idealize.SL.Sem
open Idealize.ShloMosaic.Pipeline (Dat)
open Cert.KernelDinIdeal Cert.KernelDinIdeal.Gen
open Cert.ReferenceDinIdeal.Read

variable (m : (ℓ : Loc nD τ sig) → Buf (Elt Ideal) ℓ) (c : Dev nD) (t : Fin cfg0.N)

/-- Point `t` handles tokens `512 t` and on; the weights, the gain and its gradient are whole. -/
theorem idx : ∀ t : Fin cfg0.N, win0_0.index t = ![t.val, 0] ∧ win0_1.index t = ![0, 0, 0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- The projection's cotangent. -/
abbrev A0 := m ((c : Thread nD τ).loc main_arg0)
/-- The weights. -/
abbrev A1 := m ((c : Thread nD τ).loc main_arg1)
/-- The layer's input. -/
abbrev A2 := m ((c : Thread nD τ).loc main_arg2)
/-- The norm's gain. -/
abbrev A3 := m ((c : Thread nD τ).loc main_arg3)
/-- The residual's cotangent. -/
abbrev A4 := m ((c : Thread nD τ).loc main_arg4)

/-- A block's row `r` as a token. -/
abbrev row (r : Fin 512) : Fin 4096 := ⟨512 * t + r, by have := lt_of_lt_of_eq t.isLt N_0; omega⟩

/-- A lane of shard `p` as a lane of the projection. -/
abbrev lane (p : Fin 4) (f : Fin 1408) : Fin 5632 := ⟨p * 1408 + f, by omega⟩

/-- The cotangent at a token, a shard and a lane. -/
abbrev Fa (k : Fin 4096) (p : Fin 4) (f : Fin 1408) : EReal := A0 m c (ValueIdx.ix2 k (lane p f))
/-- The weight at a shard, a lane of the input and a lane of the projection. -/
abbrev Ga (p : Fin 4) (l : Fin 1024) (f : Fin 1408) : EReal := A1 m c (ValueIdx.ix4 p 0 l f)
/-- The input at a token and a lane. -/
abbrev X (k : Fin 4096) (l : Fin 1024) : EReal := A2 m c (ValueIdx.ix2 k l)
/-- The norm's gain. -/
abbrev Gn (l : Fin 1024) : EReal := A3 m c (ValueIdx.ix1 l)
/-- The residual's cotangent at a token and a lane. -/
abbrev Dy (k : Fin 4096) (l : Fin 1024) : EReal := A4 m c (ValueIdx.ix2 k l)
/-- The cotangent of the normed input at a token and a lane. -/
abbrev Dz (k : Fin 4096) (l : Fin 1024) : EReal := val_main_v21 (F := Ideal) (A0 m c) (A1 m c) (ValueIdx.ix2 k l)
/-- A token's mean square plus epsilon. -/
abbrev sg (k : Fin 4096) : EReal := RmsNorm.meanSq (X m c k)
/-- What a token's gradient takes through its mean square. -/
abbrev through (k : Fin 4096) : EReal := RmsNorm.through (X m c k) fun x => Dz m c k x * Gn m c x
/-- A point's cotangent. -/
abbrev Da (r : Fin 512) (j : Fin 5632) : EReal := iblk (F := Ideal) m c 0 t (ValueIdx.ix2 r j)
/-- A point's weight. -/
abbrev Wa (p : Fin 4) (l : Fin 1024) (f : Fin 1408) : EReal := iblk (F := Ideal) m c 1 t (ValueIdx.ix4 p 0 l f)
/-- A point's input. -/
abbrev Xb (r : Fin 512) (l : Fin 1024) : EReal := iblk (F := Ideal) m c 2 t (ValueIdx.ix2 r l)

/-- The cotangent's block. -/
theorem da_at (r : Fin 512) (j : Fin 5632) : iblk (F := Ideal) m c 0 t (ValueIdx.ix2 r j) = A0 m c (ValueIdx.ix2 (row t r) j) := by
  blk_point [iblk, V, idx t]
  change (t : ℕ) * 512 + (r : ℕ) = 512 * t + r
  omega

/-- The weights' block. -/
theorem w_at (p : Fin 4) (l : Fin 1024) (f : Fin 1408) : iblk (F := Ideal) m c 1 t (ValueIdx.ix4 p 0 l f) = A1 m c (ValueIdx.ix4 p 0 l f) := by
  blk_point [iblk, V, idx t]

/-- The input's block. -/
theorem x_at (r : Fin 512) (l : Fin 1024) : iblk (F := Ideal) m c 2 t (ValueIdx.ix2 r l) = A2 m c (ValueIdx.ix2 (row t r) l) := by
  blk_point [iblk, V, idx t]
  change (t : ℕ) * 512 + (r : ℕ) = 512 * t + r
  omega

/-- The residual's cotangent's block. -/
theorem dy_at (r : Fin 512) (l : Fin 1024) : iblk (F := Ideal) m c 4 t (ValueIdx.ix2 r l) = A4 m c (ValueIdx.ix2 (row t r) l) := by
  blk_point [iblk, V, idx t]
  change (t : ℕ) * 512 + (r : ℕ) = 512 * t + r
  omega

/-- The gain's block. -/
theorem g_at (l : Fin 1024) : iblk (F := Ideal) m c 3 t (ValueIdx.ix2 0 l) = A3 m c (ValueIdx.ix1 l) := by
  have e : (V (F := Ideal) m c main_v0 : S1x1024.Idx → EReal) = shapeCast S1x1024 (A3 m c) Gen.shapeCasts_S1024_S1x1024 := rfl
  change (V (F := Ideal) m c main_v0 : S1x1024.Idx → EReal) ((win0_3.blk t).view.emb _) = _
  rw [e]
  pointwise []
  blk_point [idx t]

/-- A point's block of the cotangent of the normed input: its products over the four shards in turn. -/
def dz : FVec Ideal S512x1024 .f32 :=
  k0_pay6 (View.ld (iblk m c 0 t) (Rect.unit ![0, 0] ![512, 1408] inb_S512x5632_S512x1408_0_0)) (View.ld (iblk m c 1 t) (Rect.unit ![0, 0, 0, 0] ![1, 1, 1024, 1408] inb_S4x1x1024x1408_S1x1x1024x1408_0_0_0_0))
    (View.ld (iblk m c 0 t) (Rect.unit ![0, 1408] ![512, 1408] inb_S512x5632_S512x1408_0_1408)) (View.ld (iblk m c 1 t) (Rect.unit ![1, 0, 0, 0] ![1, 1, 1024, 1408] inb_S4x1x1024x1408_S1x1x1024x1408_1_0_0_0))
    (View.ld (iblk m c 0 t) (Rect.unit ![0, 2816] ![512, 1408] inb_S512x5632_S512x1408_0_2816)) (View.ld (iblk m c 1 t) (Rect.unit ![2, 0, 0, 0] ![1, 1, 1024, 1408] inb_S4x1x1024x1408_S1x1x1024x1408_2_0_0_0))
    (View.ld (iblk m c 0 t) (Rect.unit ![0, 4224] ![512, 1408] inb_S512x5632_S512x1408_0_4224)) (View.ld (iblk m c 1 t) (Rect.unit ![3, 0, 0, 0] ![1, 1, 1024, 1408] inb_S4x1x1024x1408_S1x1x1024x1408_3_0_0_0))

/-- That block is the reference's product over shards and lanes. -/
theorem dz_at (r : Fin 512) (l : Fin 1024) : dz m c t (ValueIdx.ix2 r l)
    = val_main_v21 (F := Ideal) (A0 m c) (A1 m c) (ValueIdx.ix2 (row t r) l) := by
  pointwise [dz, k0_pay6, val_main_v21, val_main_v20, val_main_v19, val_main_v17, val_main_v16]
  have e0 : ∀ (p : Fin 4) (g : Fin 1408 → Fin 5632), (∀ f, (g f : ℕ) = p * 1408 + f) →
      ∑ f, Da m c t r (g f) * Wa m c t p l f = ∑ f, Fa m c (row t r) p f * Ga m c p l f := fun p g hg =>
    Finset.sum_congr rfl fun f _ => congrArg₂ (fun a b : EReal => a * b)
      ((congrArg (Da m c t r) (Fin.ext (hg f))).trans (da_at m c t r (lane p f))) (w_at m c t p l f)
  refine Eq.trans ?_ (Fin.sum_univ_four fun p => ∑ f, Fa m c (row t r) p f * Ga m c p l f).symm
  exact congrArg₂ (fun a b : EReal => a + b) (congrArg₂ (fun a b : EReal => a + b) (congrArg₂ (fun a b : EReal => a + b)
    (e0 0 (fun f => ⟨f, by omega⟩) fun f => by simp) (e0 1 (fun f => ⟨1408 + f, by omega⟩) fun f => by simp))
    (e0 2 (fun f => ⟨2816 + f, by omega⟩) fun f => by simp)) (e0 3 (fun f => ⟨4224 + f, by omega⟩) fun f => by simp)

/-- The reference's mean square plus epsilon. -/
theorem sg_at (k : Fin 4096) : val_main_v6 (F := Ideal) (A2 m c) (ValueIdx.ix2 k 0) = sg m c k := by
  pointwise [RmsNorm.meanSq, val_main_v6, val_main_v5, val_main_v4, val_main_v3, val_main_v2, val_main_v1, val_main_v0, val_main_cst, val_main_cst_0, val_main_cst_1]
  rfl

/-- The reference's gain row at a lane. -/
theorem gn_at (k : Fin 4096) (l : Fin 1024) : val_main_v25 (F := Ideal) (A3 m c) (ValueIdx.ix2 k l) = Gn m c l := by
  pointwise [val_main_v25, val_main_v13]
  try rfl

/-- The reference's gradient through the mean square. -/
theorem through_at (k : Fin 4096) (l : Fin 1024) : val_main_v38 (F := Ideal) (A0 m c) (A1 m c) (A2 m c) (A3 m c) (ValueIdx.ix2 k l) = through m c k := by
  pointwise [RmsNorm.through, val_main_v38, val_main_v37, val_main_v36, val_main_v35, val_main_v34, val_main_v30, val_main_v29, val_main_v28, val_main_v26, val_main_v10, val_main_v9, val_main_v8, val_main_v7, val_main_cst_2, val_main_cst_5, val_main_cst_6, val_main_cst_7]
  refine (Fin.sum_univ_one _).trans ?_
  exact congrArg₂ Ideal.div (congrArg₂ (fun a b : EReal => a * b)
    (Finset.sum_congr rfl fun x _ => congrArg (fun z : EReal => X m c k x * (Dz m c k x * z)) (gn_at m c k x))
    (congrArg (fun z : EReal => Ideal.ofBits .f32 0xBF000000#32 * Ideal.div (Ideal.rsqrt z) z) (sg_at m c k))) rfl

/-- The reference's input gradient at a token and a lane. -/
theorem dx_ref (k : Fin 4096) (l : Fin 1024) : val_main_v42 (F := Ideal) (A0 m c) (A1 m c) (A2 m c) (A3 m c) (A4 m c) (ValueIdx.ix2 k l)
    = Dy m c k l + Dz m c k l * Gn m c l * Ideal.rsqrt (sg m c k) + X m c k l * through m c k + through m c k * X m c k l := by
  pointwise [val_main_v42, val_main_v41, val_main_v40, val_main_v39, val_main_v33, val_main_v32, val_main_v31, val_main_v26, val_main_v7]
  have e1 := gn_at m c k l
  have e2 := sg_at m c k
  have e3 := through_at m c k l
  rw [e1, e3]
  exact congrArg (fun z : EReal => Dy m c k l + Dz m c k l * Gn m c l * Ideal.rsqrt z + X m c k l * through m c k
    + through m c k * X m c k l) e2

/-- The reference's gain gradient at a lane. -/
theorem dg_ref (i : Cert.ReferenceDinIdeal.S1x1024.Idx) : val_main_v43 (F := Ideal) (A0 m c) (A1 m c) (A2 m c) i
    = ∑ k, X m c k (i 1) * Ideal.rsqrt (sg m c k) * Dz m c k (i 1) := by
  pointwise [val_main_v43, val_main_v27, val_main_v24, val_main_v23, val_main_v22, val_main_v12, val_main_v11, val_main_v7, val_main_cst_3, val_main_cst_4]
  refine (Fin.sum_univ_one _).trans (Finset.sum_congr rfl fun k _ => ?_)
  exact congrArg (fun z : EReal => X m c k (i 1) * Ideal.rsqrt z * Dz m c k (i 1)) (sg_at m c k)

/-- A point's mean square plus epsilon, of its own row. -/
theorem sg_blk (r : Fin 512) : Ideal.div (∑ x, Xb m c t r x * Xb m c t r x)
    (Ideal.ofBits .f32 0x44800000#32) + Ideal.ofBits .f32 0x358637BD#32 = sg m c (row t r) :=
  congrArg (fun z : EReal => Ideal.div z (Ideal.ofBits .f32 0x44800000#32) + Ideal.ofBits .f32 0x358637BD#32)
    (Finset.sum_congr rfl fun x _ => congrArg₂ (fun a b : EReal => a * b) (x_at m c t r x) (x_at m c t r x))

/-- The kernel's gain gradient at a lane. -/
theorem dg_at (old : FVec Ideal S1x1024 .f32) (y : S1x1024.Idx) :
    k0_pay5 (F := Ideal) (dz m c t) (iblk m c 2 t) (k0_pay8 (iblk m c 2 t)) old y
    = old y + ∑ r, Dz m c (row t r) (y 1) * (X m c (row t r) (y 1) * Ideal.rsqrt (sg m c (row t r))) := by
  pointwise [k0_pay5, k0_pay2, k0_pay1, k0_pay8]
  refine congrArg (fun z : EReal => old y + z) (Finset.sum_congr rfl fun r _ => ?_)
  exact congrArg₂ (fun a b : EReal => a * b) (dz_at m c t r (y 1))
    (congrArg₂ (fun a b : EReal => a * b) (x_at m c t r (y 1)) (congrArg Ideal.rsqrt (sg_blk m c t r)))

/-- The kernel's input gradient at a row and a lane. -/
theorem dx_at (r : Fin 512) (l : Fin 1024) :
    k0_pay3 (F := Ideal) (dz m c t) (iblk m c 2 t) (k0_pay7 (iblk m c 3 t)) (iblk m c 4 t) (k0_pay8 (iblk m c 2 t)) (ValueIdx.ix2 r l)
    = Dy m c (row t r) l + Ideal.rsqrt (sg m c (row t r)) * (Dz m c (row t r) l * Gn m c l - X m c (row t r) l * Ideal.rsqrt (sg m c (row t r))
      * Ideal.div (∑ x, Dz m c (row t r) x * Gn m c x * (X m c (row t r) x * Ideal.rsqrt (sg m c (row t r)))) (Ideal.ofBits .f32 0x44800000#32)) := by
  pointwise [k0_pay3, k0_pay7, k0_pay2, k0_pay1, k0_pay8]
  have es := congrArg Ideal.rsqrt (sg_blk m c t r)
  refine congrArg₂ (fun a b : EReal => a + b) (dy_at m c t r l) (congrArg₂ (fun a b : EReal => a * b) es (congrArg₂ (fun a b : EReal => a - b)
    (congrArg₂ (fun a b : EReal => a * b) (dz_at m c t r l) (g_at m c t l)) (congrArg₂ (fun a b : EReal => a * b)
      (congrArg₂ (fun a b : EReal => a * b) (x_at m c t r l) es) (congrArg (fun z : EReal => Ideal.div z (Ideal.ofBits .f32 0x44800000#32))
        (Finset.sum_congr rfl fun x _ => ?_)))))
  exact congrArg₂ (fun a b : EReal => a * b) (congrArg₂ (fun a b : EReal => a * b) (dz_at m c t r x) (g_at m c t x))
    (congrArg₂ (fun a b : EReal => a * b) (x_at m c t r x) es)

end Cert.Din
-- ==== Proof.Din.lean ====
/- The gradient at the combined input projection's input, and its norm's gain's: both are the reference's, for finite inputs. -/
module

public import proofs.«01_k».proof.Defs
public import proofs.«01_k».proof.Proof.Gen.Pre_finite_din
public import proofs.«01_k».proof.Proof.Finite
public import proofs.«01_k».proof.Proof.DinBase
public import Idealize.ShloMosaic.Lib.Claim

@[expose] public section

set_option maxRecDepth 16384

noncomputable section

namespace Cert.Din

open Idealize.ShloMosaic Idealize.ShloMosaic.TcCoe Idealize.SL.Sem
open Idealize.ShloMosaic.Pipeline (Dat)
open Cert.ReferenceDinIdeal.Read
open Cert.Reals

section

open Cert.ReferenceDinIdeal

/-- The reference's run leaves its stages in its results. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = val_main_v43 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v42_eq m c), (h c).2.1.trans (val_main_v43_eq _ _ _), (h c).2.2⟩)
    (Cert.ReferenceDinIdeal.Value.run m ρ)

end

open Cert.KernelDinIdeal Cert.KernelDinIdeal.Gen

variable (m : (ℓ : Loc nD τ sig) → Buf (Elt Ideal) ℓ) (c : Dev nD)

/-- The arrays that the norm's gradient reads hold real numbers: the cotangent, the weights, the input, the gain. -/
structure Fin_ : Prop where
  da : ∀ k p f, IsReal (Fa m c k p f)
  wa : ∀ p l f, IsReal (Ga m c p l f)
  x : ∀ k l, IsReal (X m c k l)
  g : ∀ l, IsReal (Gn m c l)

/-- The cotangent of the normed input is real. -/
theorem dz_real (hf : Fin_ m c) (k : Fin 4096) (l : Fin 1024) : IsReal (Dz m c k l) := by
  have e : Dz m c k l = ∑ p, ∑ f, Fa m c k p f * Ga m c p l f := by
    show val_main_v21 (F := Ideal) (A0 m c) (A1 m c) (ValueIdx.ix2 k l) = _
    pointwise [val_main_v21, val_main_v20, val_main_v19, val_main_v17, val_main_v16]
    rfl
  rw [e]
  exact IsReal.sum fun p => IsReal.sum fun f => IsReal.mul (hf.da k p f) (hf.wa p l f)

/-- The input's gradient after the run is the reference's. -/
theorem final5 (hf : Fin_ m c) : (dats m 0 c).arrAt 5 (cfgs 0).N
    = val_main_v42 (F := Ideal) (A0 m c) (A1 m c) (A2 m c) (A3 m c) (A4 m c) := by
  refine (dats m 0 c).arrAt_eq_of_covers 5 _ (by decide +kernel) fun t _ y => ?_
  blk_simp
  rw [after0_5]
  have e : k0_pay3 (F := Ideal) (dz m c t) (iblk m c 2 t) (k0_pay7 (iblk m c 3 t)) (iblk m c 4 t) (k0_pay8 (iblk m c 2 t)) (ValueIdx.ix2 (y 0) (y 1))
      = val_main_v42 (F := Ideal) (A0 m c) (A1 m c) (A2 m c) (A3 m c) (A4 m c) (ValueIdx.ix2 (row t (y 0)) (y 1)) :=
    ((dx_at m c t _ _).trans (RmsNorm.spell (X m c (row t (y 0))) (fun x => Dz m c (row t (y 0)) x * Gn m c x) (hf.x _)
      (fun x => IsReal.mul (dz_real m c hf _ x) (hf.g x)) _ _)).trans (dx_ref m c _ _).symm
  have ex : ∀ x : S512x1024.Idx, ValueIdx.ix2 (x 0) (x 1) = x := fun x => (ValueIdx.eq_ix2 x).symm
  by_cases h : t.val % 8 = 0
  · rw [outsAt0_A m c t h]
    frame_out
    refine Eq.trans ?_ (e.trans ?_)
    · exact congrArg (k0_pay3 (F := Ideal) (dz m c t) (iblk m c 2 t) (k0_pay7 (iblk m c 3 t)) (iblk m c 4 t) (k0_pay8 (iblk m c 2 t))) (ex y).symm
    · blk_point [idx t]
  · rw [outsAt0_B m c t h]
    frame_out
    refine Eq.trans ?_ (e.trans ?_)
    · exact congrArg (k0_pay3 (F := Ideal) (dz m c t) (iblk m c 2 t) (k0_pay7 (iblk m c 3 t)) (iblk m c 4 t) (k0_pay8 (iblk m c 2 t))) (ex y).symm
    · blk_point [idx t]

/-- A token's part of the gain's gradient. -/
abbrev term (k : Fin 4096) (l : Fin 1024) : EReal := Dz m c k l * (X m c k l * Ideal.rsqrt (sg m c k))

/-- A grid point's part of the gain's gradient. -/
def part (t : Fin cfg0.N) (j : S1x1024.Idx) : EReal := ∑ r : Fin 512, term m c (row t r) (j 1)

/-- The parts of the eight grid points make the sum over all tokens. -/
theorem part_sum (j : S1x1024.Idx) : ∑ t, part m c t j = ∑ k : Fin 4096, term m c k (j 1) := by
  have e : ∑ t : Fin 8, ∑ k : Fin 512, term m c (row (Fin.cast N_0.symm t) k) (j 1) = ∑ _ : Fin 1, ∑ k : Fin 4096, term m c k (j 1) :=
    Fin.sum_points_lanes_congr 8 (fun t k _ _ => congrArg (fun z => term m c z (j 1)) (Fin.ext (by
      show 512 * (t : ℕ) + k = (t : ℕ) % 8 * 512 + k
      have := t.isLt
      omega)))
  exact e.trans (Fintype.sum_unique _)

/-- The first point starts from zero. -/
theorem first (t : Fin cfg0.N) (h : t.val % 8 = 0) (j : S1x1024.Idx) :
    (outsAt0 m c t.val t.isLt).2 j = 0 + part m c t j := by
  rw [outsAt0_A m c t h]
  frame_out
  refine (dg_at m c t _ j).trans (congrArg (· + _) ?_)
  pointwise [k0_pay4]

/-- A later point adds to the point before. -/
theorem next (t : Fin cfg0.N) (h : ¬ t.val % 8 = 0) (j : S1x1024.Idx) :
    (outsAt0 m c t.val t.isLt).2 j = (outsAt0 m c (t.val - 1) (Nat.lt_of_le_of_lt (Nat.sub_le _ _) t.isLt)).2 j + part m c t j := by
  rw [outsAt0_B m c t h]
  frame_out
  exact dg_at m c t _ j

/-- The gain's gradient after the run is the reference's. -/
theorem final6 : (dats m 0 c).arrAt 6 (cfgs 0).N = val_main_v43 (F := Ideal) (A0 m c) (A1 m c) (A2 m c) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0) _
    (first m c) (next m c) (le_of_eq N_0) t0_7 rfl, part_sum]
  refine (zero_add (M := EReal) _).trans (((Finset.sum_congr rfl fun k _ => mul_comm (G := EReal) _ _).trans (dg_ref m c j).symm).trans ?_)
  blk_point [idx]

/-- The precondition says that what the gradient of the norm reads are real numbers. -/
theorem finite_of_pre (hpre : Cert.Pre_KernelDinIdeal_finite_din m) (c : Dev nD) : Fin_ m c := by
  have h := congrFun (hpre c) ValueIdx.ix0
  dsimp only [Cert.Pre_finite_din.fn, Cert.Pre_finite_din.fn_part1] at h
  obtain ⟨h, hg⟩ := IntOp.andi_eq_one.1 h
  obtain ⟨h, hx⟩ := IntOp.andi_eq_one.1 h
  obtain ⟨ha, hwa⟩ := IntOp.andi_eq_one.1 h
  obtain ⟨Ra, ea⟩ := Finite.real_of_all _ _ (fun _ => Scalars.infinity) _ _ _ _ ha
  obtain ⟨Va, fa⟩ := Finite.real_of_all _ _ (fun _ => Scalars.infinity) _ _ _ _ hwa
  obtain ⟨Y, eY⟩ := Finite.real_of_all _ _ (fun _ => Scalars.infinity) _ _ _ _ hx
  obtain ⟨Z, eZ⟩ := Finite.real_of_all _ _ (fun _ => Scalars.infinity) _ _ _ _ hg
  exact ⟨fun k p f => ⟨Ra (ValueIdx.ix2 k (lane p f)), congrFun ea _⟩, fun p l f => ⟨Va (ValueIdx.ix4 p 0 l f), congrFun fa _⟩,
    fun k l => ⟨Y (ValueIdx.ix2 k l), congrFun eY _⟩, fun l => ⟨Z (ValueIdx.ix1 l), congrFun eZ _⟩⟩

/-- The kernel and the reference compute the same two gradients over the extended reals, of finite inputs. -/
theorem algebraic : Cert.algebraic_KernelDinIdeal_ReferenceDinIdeal_pre_finite_din := by
  pair_intro
  · run_from Cert.KernelDinIdeal.Value.run_blocks m g
  · run_from ref_run m' g'
    · exact (final5 m c (finite_of_pre m hpre c)).symm
    · exact (final6 m c).symm

end Cert.Din

end
-- ==== Proof.MixerBase.lean ====
/- The shared intermediate values of the chunked spatial gating's gradient: what the kernel computes of a block of 256
   tokens (gelu, the centred and the normed half, the layer norm) is the reference's array at the block's place. -/
module

public import proofs.«01_k».proof.Defs
public import proofs.«01_k».proof.Proof.Gen.KernelIdeal.Value
public import proofs.«01_k».proof.Proof.Gen.ReferenceIdeal.Read
public import Idealize.ShloMosaic.Lib.Pipeline.ValueKit
public import Idealize.ShloMosaic.Lib.Pipeline.ReadBack

@[expose] public section

set_option maxRecDepth 16384

noncomputable section

namespace Cert.MixerA

open Idealize.ShloMosaic Idealize.ShloMosaic.TcCoe Idealize.SL.Sem
open Idealize.ShloMosaic.Pipeline (Dat)
open Cert.KernelIdeal Cert.KernelIdeal.Gen
open Cert.ReferenceIdeal (S1x4096x1024 S1x4096x512 S1x4096x1 S1x32x128x4x128)
open Cert.ReferenceIdeal.Read

variable (m : (ℓ : Loc nD τ sig) → Buf (Elt Ideal) ℓ) (c : Dev nD) (t : Fin cfg0.N)

/-- Point `t` handles tokens `256 t` and on; the gain, the bias, the weights and their gradients are whole. -/
theorem idx : ∀ t : Fin cfg0.N, win0_0.index t = ![t.val, 0] ∧ win0_1.index t = ![t.val, 0]
    ∧ win0_2.index t = ![0, 0] ∧ win0_3.index t = ![0, 0] ∧ win0_4.index t = ![0, 0, 0] ∧ win0_5.index t = ![0, 0]
    ∧ win0_6.index t = ![t.val, 0] ∧ win0_7.index t = ![0, 0, 0] ∧ win0_8.index t = ![0, 0]
    ∧ win0_9.index t = ![0, 0] ∧ win0_10.index t = ![0, 0] :=
  (by decide +kernel : ∀ t : Fin grid0.N, _)

/-- The projection's array. -/
abbrev P := m ((c : Thread nD τ).loc main_arg0)
/-- The cotangent's array. -/
abbrev D := m ((c : Thread nD τ).loc main_arg1)
/-- The norm's gain. -/
abbrev G := m ((c : Thread nD τ).loc main_arg2)
/-- The norm's bias. -/
abbrev B := m ((c : Thread nD τ).loc main_arg3)
/-- The mixing weights. -/
abbrev W := m ((c : Thread nD τ).loc main_arg4)
/-- The mixing's bias. -/
abbrev S := m ((c : Thread nD τ).loc main_arg5)

/-- The block of the projection, at `y`. -/
theorem x0_at (y : S256x1024.Idx) (i : S4096x5632.Idx) (h0 : (i 0 : ℕ) = 256 * t + y 0) (h1 : (i 1 : ℕ) = y 1) :
    X0_0 (F := Ideal) m c t y = P m c i := by
  unfold X0_0 Pipeline.Window.fill
  rw [dif_pos (moved0_0 t y)]
  blk_point [iblk, V, idx t]

/-- The projection's block is the reference's slice of the projection. -/
theorem a_at (y : S256x1024.Idx) (i : S1x4096x1024.Idx) (h1 : (i 1 : ℕ) = 256 * t + y 0) (h2 : (i 2 : ℕ) = y 1) :
    X0_0 (F := Ideal) m c t y = val_main_v2 (F := Ideal) (P m c) i := by
  pointwise [val_main_v2, val_main_v1, val_main_v0]
  exact x0_at m c t y _ h1 h2

/-- The kernel's gelu is the reference's. -/
theorem gelu (y : S256x1024.Idx) (i : S1x4096x1024.Idx) (h1 : (i 1 : ℕ) = 256 * t + y 0) (h2 : (i 2 : ℕ) = y 1) :
    k0_pay9 (F := Ideal) (X0_0 m c t) y = val_main_v15 (F := Ideal) (P m c) i := by
  have ha := a_at m c t y i h1 h2
  pointwise [k0_pay9, k0_pay8, val_main_v15, val_main_v10, val_main_v9, val_main_v14, val_main_v13, val_main_v12, val_main_v11, val_main_cst_1, val_main_cst_2]
  exact (congrArg (fun z => Ideal.ofBits .f32 0x3F000000#32 * z * (1 + Ideal.erf (z * Ideal.ofBits .f32 0x3F3504F3#32))) ha).trans
    (congrArg (_ * ·) ((Ideal.erfc_neg _).symm.trans (congrArg Ideal.erfc (neg_mul _ _).symm)))

/-- The gated half. -/
theorem u_at (y : S256x512.Idx) (i : S1x4096x512.Idx) (h1 : (i 1 : ℕ) = 256 * t + y 0) (h2 : (i 2 : ℕ) = y 1) :
    k0_pay10 (F := Ideal) (X0_0 m c t) y = val_main_v24 (F := Ideal) (P m c) i := by
  pointwise [k0_pay10, val_main_v24]
  exact gelu m c t _ _ h1 h2

/-- The centred half. -/
theorem centred (y : S256x512.Idx) (i : S1x4096x512.Idx) (h1 : (i 1 : ℕ) = 256 * t + y 0) (h2 : (i 2 : ℕ) = y 1) :
    k0_pay11 (F := Ideal) (X0_0 m c t) y = val_main_v31 (F := Ideal) (P m c) i := by
  pointwise [k0_pay11, val_main_v31, val_main_v30, val_main_v29, val_main_v28, val_main_v27, val_main_v26, val_main_v25, val_main_cst_5, val_main_cst_6]
  exact congrArg₂ (· - ·) (gelu m c t _ _ h1 (congrArg (512 + ·) h2))
    (congrArg (Ideal.div · _) (Finset.sum_congr rfl fun k _ => gelu m c t _ _ h1 rfl))

/-- The reciprocal deviation. -/
theorem rs_at (y : S256x1.Idx) (i : S1x4096x1.Idx) (h1 : (i 1 : ℕ) = 256 * t + y 0) :
    k0_pay12 (F := Ideal) (X0_0 m c t) y = val_main_v39 (F := Ideal) (P m c) i := by
  pointwise [k0_pay12, val_main_v39, val_main_v38, val_main_v37, val_main_v36, val_main_v35, val_main_v34, val_main_v33, val_main_v32, val_main_cst_7, val_main_cst_8, val_main_cst_9]
  exact congrArg (fun z => Ideal.rsqrt (Ideal.div z _ + _)) (Finset.sum_congr rfl fun k _ =>
    congrArg₂ (· * ·) (centred m c t _ _ h1 rfl) (centred m c t _ _ h1 rfl))

/-- The normed half. -/
theorem vhat_at (y : S256x512.Idx) (i : S1x4096x512.Idx) (h1 : (i 1 : ℕ) = 256 * t + y 0) (h2 : (i 2 : ℕ) = y 1) :
    k0_pay13 (F := Ideal) (X0_0 m c t) y = val_main_v44 (F := Ideal) (P m c) i := by
  pointwise [k0_pay13, val_main_v44, val_main_v43]
  exact congrArg₂ (· * ·) (centred m c t _ _ h1 h2) (rs_at m c t _ _ h1)

/-- The gain's block. -/
theorem g_at (y : S1x512.Idx) (i : S512.Idx) (h : (i 0 : ℕ) = y 1) : iblk (F := Ideal) m c 2 t y = G m c i := by
  blk_point [iblk, V, idx t]

/-- The layer norm's result. -/
theorem vn_at (y : S256x512.Idx) (i : S1x4096x512.Idx) (h1 : (i 1 : ℕ) = 256 * t + y 0) (h2 : (i 2 : ℕ) = y 1) :
    k0_pay14 (F := Ideal) (X0_0 m c t) (iblk m c 2 t) (iblk m c 3 t) y = val_main_v50 (F := Ideal) (P m c) (G m c) (B m c) i := by
  pointwise [k0_pay14, val_main_v50, val_main_v49, val_main_v48, val_main_v47, val_main_v46, val_main_v45]
  refine congrArg₂ (· + ·) (congrArg₂ (· * ·) (vhat_at m c t _ _ h1 h2) ?_) ?_
  · blk_point [iblk, V, idx t]
  · blk_point [iblk, V, idx t]

/-- The cotangent's block. -/
theorem da_at (y : S256x512.Idx) (i : S1x4096x512.Idx) (h1 : (i 1 : ℕ) = 256 * t + y 0) (h2 : (i 2 : ℕ) = y 1) :
    iblk (F := Ideal) m c 1 t y = val_main_v65 (F := Ideal) (D m c) i := by
  pointwise [val_main_v65, val_main_v64]
  blk_point [iblk, V, idx t]

/-- The reference's mask, a selection between the two bits, is the kernel's comparison. -/
theorem mask_eq (a b : BitVec 32) : Scalar.select (IntOp.cmpi .sge (IntOp.addi a 0#32) b) 1#1 0#1 = IntOp.cmpi .sle b a := by
  have h : IntOp.addi a 0#32 = a := by simp [IntOp.addi]
  rw [h]
  change Scalar.select (IntOp.cmpi .sle b a) 1#1 0#1 = _
  generalize IntOp.cmpi .sle b a = z
  revert z; decide

/-- The masked weights of group `g`, of a load of that group's page. -/
theorem wt_at (w : Vec Ideal S1x128x128 .f32) (g : Fin 4) (hw : ∀ z : S1x128x128.Idx, w z = W m c (ValueIdx.ix3 g (z 1) (z 2)))
    (y : S128x128.Idx) (i : S4x128x128.Idx) (h0 : (i 0 : ℕ) = g) (h1 : (i 1 : ℕ) = y 0) (h2 : (i 2 : ℕ) = y 1) :
    k0_pay15 (F := Ideal) w y = val_main_v55_0 (F := Ideal) (W m c) i := by
  pointwise [k0_pay15, val_main_v55_0, val_main_v55_1, val_main_v54, val_main_v53, val_main_v52, val_main_call0_v0, val_main_call0_v1, val_main_call0_v2, val_main_call0_v3, val_main_call0_v4, val_main_call0_v5, val_main_c, val_main_call0_c, val_main_call0_c_0, val_main_call1_v0, val_main_call1_v2, val_main_cst_11]
  have e : w (ValueIdx.ix3 0 (y 0) (y 1)) = W m c i :=
    (hw _).trans (congrArg (W m c) (funext fun a => Fin.ext (by match a with | ⟨0, _⟩ => exact h0.symm | ⟨1, _⟩ => exact h1.symm | ⟨2, _⟩ => exact h2.symm)))
  have e' : IntOp.cmpi .sle (BitVec.ofNat 32 (y 1)) (BitVec.ofNat 32 (y 0)) = Scalar.select
      (IntOp.cmpi .sge (IntOp.addi (BitVec.ofNat 32 (i 1)) 0#32) (BitVec.ofNat 32 (i 2))) 1#1 0#1 := by
    rw [← h1, ← h2]; exact (mask_eq _ _).symm
  exact congrArg₂ (fun (c : BitVec 1) (a : EReal) => Scalar.select c a 0) e' e |>.trans (congrArg (Scalar.select _ _) Ideal.ofBits_zero_f32.symm)

end Cert.MixerA

end
-- ==== Proof.MixerTiles.lean ====
/- One tile of the chunked spatial gating's gradient: chunk `ch` of the two of a block of 256 tokens, group `g` of four. -/
module

public import proofs.«01_k».proof.Proof.MixerBase

@[expose] public section

set_option maxRecDepth 16384

noncomputable section

namespace Cert.MixerA

open Idealize.ShloMosaic Idealize.ShloMosaic.TcCoe Idealize.SL.Sem
open Idealize.ShloMosaic.Pipeline (Dat)
open Cert.KernelIdeal Cert.KernelIdeal.Gen
open Cert.ReferenceIdeal (S1x4096x1024 S1x4096x512 S1x4096x1 S1x32x128x4x128)
open Cert.ReferenceIdeal.Read

variable (m : (ℓ : Loc nD τ sig) → Buf (Elt Ideal) ℓ) (c : Dev nD) (t : Fin cfg0.N)

/-- A tile reads an array of the reference at chunk `n` of the sequence and group `g` of the channels. -/
def Tile (f : S128x128.Idx → EReal) (A : S1x4096x512.Idx → EReal) (n : Fin 32) (g : Fin 4) : Prop :=
  ∀ (y : S128x128.Idx) (i : S1x4096x512.Idx), (i 1 : ℕ) = 128 * n + y 0 → (i 2 : ℕ) = 128 * g + y 1 → f y = A i

/-- A page reads the reference's masked weights of group `g`. -/
def Page (f : S128x128.Idx → EReal) (g : Fin 4) : Prop :=
  ∀ (y : S128x128.Idx) (i : Cert.ReferenceIdeal.S4x128x128.Idx), (i 0 : ℕ) = g → (i 1 : ℕ) = y 0 → (i 2 : ℕ) = y 1 →
    f y = val_main_v55_0 (F := Ideal) (W m c) i

/-- Chunk `128 n` is the part of a block from row `o0` on. -/
theorem slice_tile {A : S256x512.Idx → EReal} {R : S1x4096x512.Idx → EReal} (o0 o1 : ℕ) (h : S256x512.Slices ![o0, o1] S128x128)
    (n : Fin 32) (g : Fin 4) (hn : 128 * (n : ℕ) = 256 * t + o0) (hg : o1 = 128 * g)
    (hA : ∀ (y : S256x512.Idx) (i : S1x4096x512.Idx), (i 1 : ℕ) = 256 * t + y 0 → (i 2 : ℕ) = y 1 → A y = R i) :
    Tile (extractStridedSlice S128x128 ![o0, o1] A h) R n g := by
  intro x i h1 h2
  pointwise []
  refine hA _ i ?_ ?_
  · show (i 1 : ℕ) = 256 * t + (o0 + x 0); omega
  · show (i 2 : ℕ) = o1 + x 1; omega

/-- The gradient at the mixed values, of a tile. -/
theorem dmx_tile {a u : FVec Ideal S128x128 .f32} {n : Fin 32} {g : Fin 4}
    (ha : Tile a (val_main_v65 (F := Ideal) (D m c)) n g) (hu : Tile u (val_main_v24 (F := Ideal) (P m c)) n g) :
    Tile (mulf (F := Ideal) (φ := .f32) a u) (val_main_v66 (F := Ideal) (P m c) (D m c)) n g := by
  intro x i h1 h2
  pointwise [val_main_v66]
  exact (mul_comm _ _).trans (congrArg₂ (· * ·) (hu x i h1 h2) (ha x i h1 h2))

/-- The gradient at the norm's result, of a tile. -/
theorem dvn_tile {wt : FVec Ideal S128x128 .bf16} {dmx : FVec Ideal S128x128 .f32} {n : Fin 32} {g : Fin 4}
    (hwt : Page m c wt g) (hdmx : Tile dmx (val_main_v66 (F := Ideal) (P m c) (D m c)) n g) :
    Tile (matmul (F := Ideal) dot_S128x128_S128x128_S128x128_0_0_1_1_n_n none wt (truncf .bf16 dmx bitsLt_bf16_f32)
      (constant S128x128 .f32 0x00000000#32)) (val_main_v78 (F := Ideal) (P m c) (D m c) (W m c)) n g := by
  intro x i h1 h2
  have hx0 : (x 0 : ℕ) < 128 := (x 0).isLt
  have hx1 : (x 1 : ℕ) < 128 := (x 1).isLt
  pointwise [val_main_v78, val_main_v76, val_main_v75, val_main_v73, val_main_v68]
  refine Finset.sum_congr rfl fun k _ => (mul_comm _ _).trans (congrArg₂ (· * ·) (hdmx _ _ ?_ ?_) (hwt _ _ ?_ rfl ?_))
  · show (i 1 : ℕ) / 128 * 128 + k = 128 * n + k; omega
  · exact h2
  · show (i 2 : ℕ) / 128 = g; omega
  · show (i 1 : ℕ) % 128 = x 0; omega

/-- The gradient at the gated half, of a tile. -/
theorem du_tile {wt vn : FVec Ideal S128x128 .bf16} {a : FVec Ideal S128x128 .f32} {b : FVec Ideal S128x1 .f32} {n : Fin 32} {g : Fin 4}
    (ha : Tile a (val_main_v65 (F := Ideal) (D m c)) n g) (hwt : Page m c wt g)
    (hvn : Tile vn (val_main_v50 (F := Ideal) (P m c) (G m c) (B m c)) n g)
    (hb : ∀ y : S128x1.Idx, b y = S m c (ValueIdx.ix2 g (y 0))) :
    Tile (mulf (F := Ideal) (φ := .f32) a (addf (matmul (F := Ideal) dot_S128x128_S128x128_S128x128_1_0_0_1_n_n none wt vn
      (constant S128x128 .f32 0x00000000#32)) (broadcastTo S128x128 (shapeCast S128x1 b shapeCasts_S128x1_S128x1) broadcasts_S128x1_S128x128)))
      (val_main_v67 (F := Ideal) (P m c) (D m c) (G m c) (B m c) (W m c) (S m c)) n g := by
  intro x i h1 h2
  have hx0 : (x 0 : ℕ) < 128 := (x 0).isLt
  have hx1 : (x 1 : ℕ) < 128 := (x 1).isLt
  pointwise [val_main_v67, val_main_v62, val_main_v61, val_main_v57, val_main_v56, val_main_v51, val_main_v60, val_main_v59, val_main_v58]
  refine congrArg₂ (· * ·) (ha x i h1 h2) (congrArg₂ (· + ·) (Finset.sum_congr rfl fun k _ => (mul_comm _ _).trans
    (congrArg₂ (· * ·) (hvn _ _ ?_ h2) (hwt _ _ ?_ ?_ rfl))) ((hb _).trans (congrArg (S m c) ?_)))
  · show (i 1 : ℕ) / 128 * 128 + k = 128 * n + k; omega
  · show (i 2 : ℕ) / 128 = g; omega
  · show (i 1 : ℕ) % 128 = x 0; omega
  · funext a
    match a with
    | ⟨0, _⟩ => exact Fin.ext (by show (g : ℕ) = (i 2 : ℕ) / 128; omega)
    | ⟨1, _⟩ => exact Fin.ext (by show (x 0 : ℕ) = (i 1 : ℕ) % 128; omega)

/-- A row of the sequence and a channel, of chunk `n` and group `g`. -/
abbrev at_ (n : Fin 32) (g : Fin 4) (r l : Fin 128) : S1x4096x512.Idx :=
  ValueIdx.ix3 0 ⟨128 * n + r, by omega⟩ ⟨128 * g + l, by omega⟩

/-- One chunk's part of the weights' gradient, before the mask. -/
def dwTerm (i : Cert.ReferenceIdeal.S4x128x128.Idx) (n : Fin 32) : EReal :=
  ∑ l : Fin 128, val_main_v66 (F := Ideal) (P m c) (D m c) (at_ n (i 0) (i 1) l)
    * val_main_v50 (F := Ideal) (P m c) (G m c) (B m c) (at_ n (i 0) (i 2) l)

/-- One chunk's part of the mixing bias's gradient. -/
def dbTerm (i : Cert.ReferenceIdeal.S128x4.Idx) (n : Fin 32) : EReal :=
  ∑ l : Fin 128, val_main_v66 (F := Ideal) (P m c) (D m c) (at_ n (i 1) (i 0) l)

/-- A tile's part of the weights' gradient. -/
theorem dw_tile {vn : FVec Ideal S128x128 .bf16} {dmx : FVec Ideal S128x128 .f32} {n : Fin 32} {g : Fin 4}
    (hdmx : Tile dmx (val_main_v66 (F := Ideal) (P m c) (D m c)) n g)
    (hvn : Tile vn (val_main_v50 (F := Ideal) (P m c) (G m c) (B m c)) n g)
    (x : S128x128.Idx) (i : Cert.ReferenceIdeal.S4x128x128.Idx) (h0 : (i 0 : ℕ) = g) (h1 : (i 1 : ℕ) = x 0) (h2 : (i 2 : ℕ) = x 1) :
    select k0_pay16 (matmul (F := Ideal) dot_S128x128_S128x128_S128x128_1_1_0_0_n_n none (truncf .bf16 dmx bitsLt_bf16_f32) vn
      (constant S128x128 .f32 0x00000000#32)) (broadcast S128x128 (Scalar.ofBits (F := Ideal) .f32 0x00000000#32)) x
      = Scalar.select (val_main_v55_1 (F := Ideal) i) (dwTerm m c i n) 0 := by
  pointwise [k0_pay16, val_main_v55_1, val_main_v54, val_main_v53, val_main_v52, val_main_call0_v0, val_main_call0_v1, val_main_call0_v2, val_main_call0_v3, val_main_call0_v4, val_main_call0_v5, val_main_c, val_main_call0_c, val_main_call0_c_0]
  have e : IntOp.cmpi .sle (BitVec.ofNat 32 (x 1)) (BitVec.ofNat 32 (x 0)) = Scalar.select
      (IntOp.cmpi .sge (IntOp.addi (BitVec.ofNat 32 (i 1)) 0#32) (BitVec.ofNat 32 (i 2))) 1#1 0#1 := by
    rw [← h1, ← h2]; exact (mask_eq _ _).symm
  refine congrArg₂ (fun (b : BitVec 1) (a : EReal) => Scalar.select b a 0) e ?_
  refine Finset.sum_congr rfl fun k _ => congrArg₂ (· * ·) (hdmx _ _ ?_ ?_) (hvn _ _ ?_ ?_)
  · show 128 * (n : ℕ) + (i 1 : ℕ) = 128 * n + x 0; omega
  · show 128 * (i 0 : ℕ) + (k : ℕ) = 128 * g + k; omega
  · show 128 * (n : ℕ) + (i 2 : ℕ) = 128 * n + x 1; omega
  · show 128 * (i 0 : ℕ) + (k : ℕ) = 128 * g + k; omega

/-- A tile's part of the mixing bias's gradient. -/
theorem db_tile {dmx : FVec Ideal S128x128 .f32} {n : Fin 32} {g : Fin 4}
    (hdmx : Tile dmx (val_main_v66 (F := Ideal) (P m c) (D m c)) n g)
    (x : S128x1.Idx) (i : Cert.ReferenceIdeal.S128x4.Idx) (h0 : (i 0 : ℕ) = x 0) (h1 : (i 1 : ℕ) = g) :
    shapeCast S128x1 (multiReduction (F := Ideal) .add [1] S128 dmx 0x00000000#32 reduces_S128x128_S128 (.inl rfl) rfl) shapeCasts_S128_S128x1 x
      = dbTerm m c i n := by
  pointwise [dbTerm]
  refine Finset.sum_congr rfl fun k _ => hdmx _ _ ?_ ?_
  · show 128 * (n : ℕ) + (i 0 : ℕ) = 128 * n + x 0; omega
  · show 128 * (i 1 : ℕ) + (k : ℕ) = 128 * g + k; omega

/-- The reference's chunked layout of the gradient at the mixed values. -/
theorem dmx_lay (j : Cert.ReferenceIdeal.S4x1x32x128x128.Idx) (i : S1x4096x512.Idx) (h1 : (i 1 : ℕ) = 128 * j 2 + j 4)
    (h2 : (i 2 : ℕ) = 128 * j 0 + j 3) : val_main_v73 (F := Ideal) (P m c) (D m c) j = val_main_v66 (F := Ideal) (P m c) (D m c) i := by
  pointwise [val_main_v73, val_main_v68]
  exact congrArg (val_main_v66 (F := Ideal) (P m c) (D m c)) (funext fun a => Fin.ext (by
    match a with
    | ⟨0, _⟩ => exact (Fin.fin_one_eq_zero (i 0)).symm ▸ rfl
    | ⟨1, _⟩ => show (j 2 : ℕ) * 128 + j 4 = i 1; omega
    | ⟨2, _⟩ => show (j 0 : ℕ) * 128 + j 3 = i 2; omega))

/-- The reference's chunked layout of the layer norm's result. -/
theorem vn_lay (j : S1x32x128x4x128.Idx) (i : S1x4096x512.Idx) (h1 : (i 1 : ℕ) = 128 * j 1 + j 2)
    (h2 : (i 2 : ℕ) = 128 * j 3 + j 4) : val_main_v51 (F := Ideal) (P m c) (G m c) (B m c) j = val_main_v50 (F := Ideal) (P m c) (G m c) (B m c) i := by
  pointwise [val_main_v51]
  exact congrArg (val_main_v50 (F := Ideal) (P m c) (G m c) (B m c)) (funext fun a => Fin.ext (by
    match a with
    | ⟨0, _⟩ => exact (Fin.fin_one_eq_zero (i 0)).symm ▸ rfl
    | ⟨1, _⟩ => show (j 1 : ℕ) * 128 + j 2 = i 1; omega
    | ⟨2, _⟩ => show (j 3 : ℕ) * 128 + j 4 = i 2; omega))

/-- The dimensions of the reference's product over chunks and channels. -/
abbrev dwDims := Cert.ReferenceIdeal.dot_S4x1x32x128x128_S1x32x128x4x128_S4x128x128_123_014_4_2_0_3

/-- An index contracted by the product over chunks and channels is a chunk and a channel. -/
def chunkLane : Fin 32 × Fin 128 ≃ dwDims.contr.Idx where
  toFun k := fun a => match a with
    | ⟨0, _⟩ => (0 : Fin 1)
    | ⟨1, _⟩ => k.1
    | ⟨2, _⟩ => k.2
  invFun k := (k (1 : Fin 3), k (2 : Fin 3))
  left_inv _ := rfl
  right_inv k := funext fun a => match a with
    | ⟨0, _⟩ => (Fin.fin_one_eq_zero (k (0 : Fin 3))).symm
    | ⟨1, _⟩ => rfl
    | ⟨2, _⟩ => rfl

/-- The left operand's index of the product over chunks and channels. -/
theorem dw_lidx (i : Cert.ReferenceIdeal.S4x128x128.Idx) (k : Fin 32 × Fin 128) :
    dwDims.lhsIdx i (chunkLane k) = ValueIdx.ix5 (i 0) 0 k.1 k.2 (i 1) := by
  funext a; apply Fin.ext
  match a with
  | ⟨0, _⟩ => rfl
  | ⟨1, _⟩ => rfl
  | ⟨2, _⟩ => rfl
  | ⟨3, _⟩ => rfl
  | ⟨4, _⟩ => rfl

/-- The right operand's index of the product over chunks and channels. -/
theorem dw_ridx (i : Cert.ReferenceIdeal.S4x128x128.Idx) (k : Fin 32 × Fin 128) :
    dwDims.rhsIdx i (chunkLane k) = ValueIdx.ix5 0 k.1 (i 2) (i 0) k.2 := by
  funext a; apply Fin.ext
  match a with
  | ⟨0, _⟩ => rfl
  | ⟨1, _⟩ => rfl
  | ⟨2, _⟩ => rfl
  | ⟨3, _⟩ => rfl
  | ⟨4, _⟩ => rfl

/-- The reference's product over chunks and channels is the sum of the chunks' parts. -/
theorem dw_sum (i : Cert.ReferenceIdeal.S4x128x128.Idx) : val_main_v74 (F := Ideal) (P m c) (D m c) (G m c) (B m c) i
    = ∑ n, dwTerm m c i n := by
  pointwise [val_main_v74]
  have e : ∑ n, dwTerm m c i n = ∑ k : Fin 32 × Fin 128, val_main_v66 (F := Ideal) (P m c) (D m c) (at_ k.1 (i 0) (i 1) k.2)
      * val_main_v50 (F := Ideal) (P m c) (G m c) (B m c) (at_ k.1 (i 0) (i 2) k.2) :=
    (Fintype.sum_prod_type (fun k : Fin 32 × Fin 128 => val_main_v66 (F := Ideal) (P m c) (D m c) (at_ k.1 (i 0) (i 1) k.2)
      * val_main_v50 (F := Ideal) (P m c) (G m c) (B m c) (at_ k.1 (i 0) (i 2) k.2))).symm
  rw [e]
  refine (zero_add _).trans (Fintype.sum_equiv chunkLane _ _ fun k => ?_).symm
  rw [dw_lidx, dw_ridx]
  refine congrArg₂ (· * ·) (dmx_lay m c _ (at_ k.1 (i 0) (i 1) k.2) ?_ ?_).symm (vn_lay m c _ (at_ k.1 (i 0) (i 2) k.2) ?_ ?_).symm
  · show 128 * (k.1 : ℕ) + (i 1 : ℕ) = 128 * (k.1 : ℕ) + (i 1 : ℕ); rfl
  · show 128 * (i 0 : ℕ) + (k.2 : ℕ) = 128 * (i 0 : ℕ) + (k.2 : ℕ); rfl
  · show 128 * (k.1 : ℕ) + (i 2 : ℕ) = 128 * (k.1 : ℕ) + (i 2 : ℕ); rfl
  · show 128 * (i 0 : ℕ) + (k.2 : ℕ) = 128 * (i 0 : ℕ) + (k.2 : ℕ); rfl

/-- The reference's weights' gradient is the masked sum over the chunks. -/
theorem dw_ref (i : Cert.ReferenceIdeal.S4x128x128.Idx) : val_main_v77 (F := Ideal) (P m c) (D m c) (G m c) (B m c) i
    = Scalar.select (val_main_v55_1 (F := Ideal) i) (∑ n, dwTerm m c i n) 0 := by
  have e := dw_sum m c i
  pointwise [val_main_v77, val_main_call2_v0, val_main_call2_cst]
  exact congrArg (fun z : EReal => Scalar.select _ z 0) e

/-- A host sum is the sum over what indexes its fibre. -/
theorem host_sum_of_fiber {s t : Shape} {axes : List (Fin s.rank)} (h : s.ReducesTo axes t) (x : s.Idx → EReal) (j : t.Idx)
    {κ : Type} [Fintype κ] (g : κ → s.Idx) (hg : Function.Injective g) (hp : ∀ i, h.drop i = j ↔ ∃ k, g k = i) :
    Ideal.hostReduceAdd h x 0 j = ∑ k, x (g k) :=
  (zero_add _).trans (Finset.sum_filter_eq_sum_of_fiber _ g hg hp x)

/-- The reference's sum over chunks and channels. -/
theorem db_sum (j : Cert.ReferenceIdeal.S1x128x4.Idx) : val_main_v69 (F := Ideal) (P m c) (D m c) j
    = ∑ n, dbTerm m c (ValueIdx.ix2 (j 1) (j 2)) n := by
  pointwise [val_main_v69, val_main_cst_12]
  refine ((host_sum_of_fiber _ _ _ (fun k : Fin 32 × Fin 128 => ValueIdx.ix5 (j 0) k.1 (j 1) (j 2) k.2)
    (fun _ _ e => Prod.ext (congrFun e 1) (congrFun e 4)) ?_).trans ((Fintype.sum_prod_type _).trans ?_))
  · intro i
    constructor
    · intro e
      refine ⟨(i 1, i 4), ?_⟩
      funext a; apply Fin.ext
      match a with
      | ⟨0, _⟩ => exact (congrArg Fin.val (congrFun e 0)).symm
      | ⟨1, _⟩ => rfl
      | ⟨2, _⟩ => exact (congrArg Fin.val (congrFun e 1)).symm
      | ⟨3, _⟩ => exact (congrArg Fin.val (congrFun e 2)).symm
      | ⟨4, _⟩ => rfl
    · rintro ⟨k, rfl⟩
      funext b; apply Fin.ext
      match b with
      | ⟨0, _⟩ => rfl
      | ⟨1, _⟩ => rfl
      | ⟨2, _⟩ => rfl
  · refine Finset.sum_congr rfl fun n _ => Finset.sum_congr rfl fun l _ => ?_
    pointwise [val_main_v68]
    refine congrArg (val_main_v66 (F := Ideal) (P m c) (D m c)) (funext fun a => Fin.ext ?_)
    match a with
    | ⟨0, _⟩ => rfl
    | ⟨1, _⟩ => exact congrArg (· + _) (Nat.mul_comm _ _)
    | ⟨2, _⟩ => exact congrArg (· + _) (Nat.mul_comm _ _)

/-- The reference's mixing bias's gradient is the sum over the chunks. -/
theorem db_ref (i : Cert.ReferenceIdeal.S128x4.Idx) : val_main_v118 (F := Ideal) (P m c) (D m c) i = ∑ n, dbTerm m c i n := by
  have e := db_sum m c (ValueIdx.ix3 0 (i 0) (i 1))
  pointwise [val_main_v118, val_main_v72, val_main_v71, val_main_cst_13]
  refine ((host_sum_of_fiber _ _ _ (fun _ : Unit => ValueIdx.ix5 0 0 (i 0) (i 1) 0) (fun _ _ _ => rfl) ?_).trans
    ((Fintype.sum_unique _).trans ?_))
  · intro k
    constructor
    · intro e
      refine ⟨(), ?_⟩
      funext a; apply Fin.ext
      match a with
      | ⟨0, _⟩ => exact (Fin.fin_one_eq_zero (k 0)).symm ▸ rfl
      | ⟨1, _⟩ => exact (Fin.fin_one_eq_zero (k 1)).symm ▸ rfl
      | ⟨2, _⟩ => exact (congrArg Fin.val (congrFun e 0)).symm
      | ⟨3, _⟩ => exact (congrArg Fin.val (congrFun e 1)).symm
      | ⟨4, _⟩ => exact (Fin.fin_one_eq_zero (k 4)).symm ▸ rfl
    · rintro ⟨k, rfl⟩
      funext b; apply Fin.ext
      match b with
      | ⟨0, _⟩ => rfl
      | ⟨1, _⟩ => rfl
  · pointwise [val_main_v70]
    exact e

end Cert.MixerA

end
-- ==== Proof.MixerScratch.lean ====
/- What the kernel reads back from its two scratch blocks: the eight tiles of a grid point, assembled. -/
module

public import proofs.«01_k».proof.Proof.MixerTiles

@[expose] public section

set_option maxRecDepth 16384

noncomputable section

namespace Cert.MixerA

open Idealize.ShloMosaic Idealize.ShloMosaic.TcCoe Idealize.SL.Sem
open Idealize.ShloMosaic.Pipeline (Dat)
open Cert.KernelIdeal Cert.KernelIdeal.Gen
open Cert.ReferenceIdeal (S1x4096x1024 S1x4096x512 S1x4096x1 S1x32x128x4x128)
open Cert.ReferenceIdeal.Read

variable (m : (ℓ : Loc nD τ sig) → Buf (Elt Ideal) ℓ) (c : Dev nD) (t : Fin cfg0.N)

/-- A block of 256 tokens reads an array of the reference at grid point `t`. -/
def Block (f : S256x512.Idx → EReal) (A : S1x4096x512.Idx → EReal) : Prop :=
  ∀ (y : S256x512.Idx) (i : S1x4096x512.Idx), (i 1 : ℕ) = 256 * t + y 0 → (i 2 : ℕ) = y 1 → f y = A i

/-- Chunk `o` of the two of grid point `t`. -/
def chunk (o : Fin 2) : Fin 32 := ⟨2 * t + o, by have := lt_of_lt_of_eq t.isLt N_0; omega⟩

variable {m c t}

/-- A shape cast to the same shape changes no tile. -/
theorem Tile.cast {f : S128x128.Idx → EReal} {A : S1x4096x512.Idx → EReal} {n : Fin 32} {g : Fin 4} (hf : Tile f A n g)
    (h : S128x128.ShapeCasts S128x128) : Tile (shapeCast S128x128 f h) A n g := by
  intro x i h1 h2
  pointwise []
  exact hf _ _ h1 h2

/-- Eight tiles cover a block. -/
theorem cover {A : S1x4096x512.Idx → EReal} {p00 p10 p01 p11 p02 p12 p03 p13 : FVec Ideal S128x128 .f32}
    (h00 : Tile p00 A (chunk t 0) 0) (h10 : Tile p10 A (chunk t 1) 0) (h01 : Tile p01 A (chunk t 0) 1) (h11 : Tile p11 A (chunk t 1) 1)
    (h02 : Tile p02 A (chunk t 0) 2) (h12 : Tile p12 A (chunk t 1) 2) (h03 : Tile p03 A (chunk t 0) 3) (h13 : Tile p13 A (chunk t 1) 3) :
    Block t (fun y => View.canon (Val := Elt Ideal) (s := S256x512) (e := .f32)
      [⟨Rect.unit ![128, 384] ![128, 128] inb_S256x512_S128x128_128_384, p13⟩, ⟨Rect.unit ![0, 384] ![128, 128] inb_S256x512_S128x128_0_384, p03⟩,
       ⟨Rect.unit ![128, 256] ![128, 128] inb_S256x512_S128x128_128_256, p12⟩, ⟨Rect.unit ![0, 256] ![128, 128] inb_S256x512_S128x128_0_256, p02⟩,
       ⟨Rect.unit ![128, 128] ![128, 128] inb_S256x512_S128x128_128_128, p11⟩, ⟨Rect.unit ![0, 128] ![128, 128] inb_S256x512_S128x128_0_128, p01⟩,
       ⟨Rect.unit ![128, 0] ![128, 128] inb_S256x512_S128x128_128_0, p10⟩, ⟨Rect.unit ![0, 0] ![128, 128] inb_S256x512_S128x128_0_0, p00⟩]
      ((Rect.unit (s := S256x512) ![0, 0] ![256, 512] inb_S256x512_S256x512_0_0).idx y)) A := by
  intro y i h1 h2
  obtain ⟨z, hz⟩ : ∃ z, z = (Rect.unit (s := S256x512) ![0, 0] ![256, 512] inb_S256x512_S256x512_0_0).idx y := ⟨_, rfl⟩
  have e0 : (z 0 : ℕ) = y 0 := by rw [hz]; show 0 + 1 * (y 0 : ℕ) = _; omega
  have e1 : (z 1 : ℕ) = y 1 := by rw [hz]; show 0 + 1 * (y 1 : ℕ) = _; omega
  show View.canon _ ((Rect.unit (s := S256x512) ![0, 0] ![256, 512] inb_S256x512_S256x512_0_0).idx y) = _
  rw [← hz]
  clear hz
  rw [← e0] at h1
  rw [← e1] at h2
  clear e0 e1
  have k0 : ((chunk t 0 : Fin 32) : ℕ) = 2 * t := rfl
  have k1 : ((chunk t 1 : Fin 32) : ℕ) = 2 * t + 1 := rfl
  canon_tiles x h
  case piece0 => exact h13 x i (by omega) (by show (i 2 : ℕ) = 128 * 3 + x 1; omega)
  case piece1 => exact h03 x i (by omega) (by show (i 2 : ℕ) = 128 * 3 + x 1; omega)
  case piece2 => exact h12 x i (by omega) (by show (i 2 : ℕ) = 128 * 2 + x 1; omega)
  case piece3 => exact h02 x i (by omega) (by show (i 2 : ℕ) = 128 * 2 + x 1; omega)
  case piece4 => exact h11 x i (by omega) (by show (i 2 : ℕ) = 128 * 1 + x 1; omega)
  case piece5 => exact h01 x i (by omega) (by show (i 2 : ℕ) = 128 * 1 + x 1; omega)
  case piece6 => exact h10 x i (by omega) (by show (i 2 : ℕ) = 128 * 0 + x 1; omega)
  case piece7 => exact h00 x i (by omega) (by show (i 2 : ℕ) = 128 * 0 + x 1; omega)

variable (m c t)

/-- The mixed rows' cotangent on a tile, as the product of the two slices. -/
theorem dmx_slice (o : Fin 2) (g : Fin 4) (o0 o1 : ℕ) (ha hu : S256x512.Slices ![o0, o1] S128x128) (h0 : o0 = 128 * o) (h1 : o1 = 128 * g) :
    Tile (mulf (F := Ideal) (φ := .f32) (extractStridedSlice S128x128 ![o0, o1] (iblk (F := Ideal) m c 1 t) ha)
      (extractStridedSlice S128x128 ![o0, o1] (k0_pay10 (F := Ideal) (X0_0 m c t)) hu))
      (val_main_v66 (F := Ideal) (P m c) (D m c)) (chunk t o) g :=
  have hn : 128 * ((chunk t o : Fin 32) : ℕ) = 256 * t + o0 := by show 128 * (2 * (t : ℕ) + o) = _; omega
  dmx_tile m c (slice_tile t o0 o1 ha _ g hn h1 (da_at m c t)) (slice_tile t o0 o1 hu _ g hn h1 (u_at m c t))

/-- The masked weights of a group, as loaded. -/
theorem w_page (g : Fin 4) (gn : ℕ) (inb) (hg : gn = g) :
    Page m c (k0_pay15 (F := Ideal) (View.ld (iblk (F := Ideal) m c 4 t) (Rect.unit (s := S4x128x128) ![gn, 0, 0] ![1, 128, 128] inb))) g := by
  intro y i h0 h1 h2
  subst hg
  refine wt_at m c _ g (fun z => ?_) y i h0 h1 h2
  blk_point [iblk, V, idx t]

/-- The norm's rows on a tile. -/
theorem vn_slice (o : Fin 2) (g : Fin 4) (o0 o1 : ℕ) (h : S256x512.Slices ![o0, o1] S128x128) (h0 : o0 = 128 * o) (h1 : o1 = 128 * g) :
    Tile (extractStridedSlice S128x128 ![o0, o1] (k0_pay14 (F := Ideal) (X0_0 m c t) (iblk m c 2 t) (iblk m c 3 t)) h)
      (val_main_v50 (F := Ideal) (P m c) (G m c) (B m c)) (chunk t o) g :=
  slice_tile t o0 o1 h _ g (by show 128 * (2 * (t : ℕ) + o) = _; omega) h1 (vn_at m c t)

/-- The mixing's bias of a group, as loaded. -/
theorem b_col (g : Fin 4) (gn : ℕ) (inb) (hg : gn = g) (y : S128x1.Idx) :
    View.ld (iblk (F := Ideal) m c 5 t) (Rect.unit (s := S128x4) ![0, gn] ![128, 1] inb) y = S m c (ValueIdx.ix2 g (y 0)) := by
  subst hg
  have e : (V (F := Ideal) m c main_v2 : S128x4.Idx → EReal) = transpose S128x4 [1, 0] (S m c) transposes_S4x128_S128x4_1_0 := rfl
  change (V (F := Ideal) m c main_v2 : S128x4.Idx → EReal) ((win0_5.blk t).view.emb ((Rect.unit (s := S128x4) ![0, (g : ℕ)] ![128, 1] inb).idx y)) = _
  rw [e]
  pointwise []
  blk_point [idx t]

/-- The normalised rows' cotangent on a tile, from any of the payloads that write it. -/
theorem dvn_slice (o : Fin 2) (g : Fin 4) (o0 o1 gn : ℕ) (ha hu : S256x512.Slices ![o0, o1] S128x128) (inb) (h0 : o0 = 128 * o)
    (h1 : o1 = 128 * g) (hg : gn = g) (hc) :
    Tile (shapeCast S128x128 (matmul (F := Ideal) dot_S128x128_S128x128_S128x128_0_0_1_1_n_n none
      (k0_pay15 (F := Ideal) (View.ld (iblk (F := Ideal) m c 4 t) (Rect.unit (s := S4x128x128) ![gn, 0, 0] ![1, 128, 128] inb)))
      (truncf .bf16 (mulf (F := Ideal) (φ := .f32) (extractStridedSlice S128x128 ![o0, o1] (iblk (F := Ideal) m c 1 t) ha)
      (extractStridedSlice S128x128 ![o0, o1] (k0_pay10 (F := Ideal) (X0_0 m c t)) hu)) bitsLt_bf16_f32)
      (constant S128x128 .f32 0x00000000#32)) hc) (val_main_v78 (F := Ideal) (P m c) (D m c) (W m c)) (chunk t o) g :=
  (dvn_tile m c (w_page m c t g gn inb hg) (dmx_slice m c t o g o0 o1 ha hu h0 h1)).cast hc

/-- The gate's cotangent on a tile, likewise. -/
theorem du_slice (o : Fin 2) (g : Fin 4) (o0 o1 gn : ℕ) (ha hv : S256x512.Slices ![o0, o1] S128x128) (inb inb') (h0 : o0 = 128 * o)
    (h1 : o1 = 128 * g) (hg : gn = g) (hc) :
    Tile (shapeCast S128x128 (mulf (F := Ideal) (φ := .f32) (extractStridedSlice S128x128 ![o0, o1] (iblk (F := Ideal) m c 1 t) ha)
      (addf (matmul (F := Ideal) dot_S128x128_S128x128_S128x128_1_0_0_1_n_n none
      (k0_pay15 (F := Ideal) (View.ld (iblk (F := Ideal) m c 4 t) (Rect.unit (s := S4x128x128) ![gn, 0, 0] ![1, 128, 128] inb)))
      (extractStridedSlice S128x128 ![o0, o1] (k0_pay14 (F := Ideal) (X0_0 m c t) (iblk m c 2 t) (iblk m c 3 t)) hv)
      (constant S128x128 .f32 0x00000000#32)) (broadcastTo S128x128 (shapeCast S128x1
      (View.ld (iblk (F := Ideal) m c 5 t) (Rect.unit (s := S128x4) ![0, gn] ![128, 1] inb')) shapeCasts_S128x1_S128x1) broadcasts_S128x1_S128x128))) hc)
      (val_main_v67 (F := Ideal) (P m c) (D m c) (G m c) (B m c) (W m c) (S m c)) (chunk t o) g :=
  (du_tile m c (slice_tile t o0 o1 ha _ g (by show 128 * (2 * (t : ℕ) + o) = _; omega) h1 (da_at m c t)) (w_page m c t g gn inb hg)
    (vn_slice m c t o g o0 o1 hv h0 h1) (b_col m c t g gn inb' hg)).cast hc

/-- The gate's half of the gelu. -/
abbrev u := k0_pay10 (F := Ideal) (X0_0 m c t)
/-- The cotangent's block. -/
abbrev da := iblk (F := Ideal) m c 1 t
/-- The norm's rows. -/
abbrev vn := k0_pay14 (F := Ideal) (X0_0 m c t) (iblk m c 2 t) (iblk m c 3 t)
/-- The mixing weights of group 0. -/
abbrev w0 := View.ld (iblk (F := Ideal) m c 4 t) (Rect.unit (s := S4x128x128) ![0, 0, 0] ![1, 128, 128] inb_S4x128x128_S1x128x128_0_0_0)
/-- The mixing bias of group 0. -/
abbrev b0 := View.ld (iblk (F := Ideal) m c 5 t) (Rect.unit (s := S128x4) ![0, 0] ![128, 1] inb_S128x4_S128x1_0_0)
/-- The mixing weights of group 1. -/
abbrev w1 := View.ld (iblk (F := Ideal) m c 4 t) (Rect.unit (s := S4x128x128) ![1, 0, 0] ![1, 128, 128] inb_S4x128x128_S1x128x128_1_0_0)
/-- The mixing bias of group 1. -/
abbrev b1 := View.ld (iblk (F := Ideal) m c 5 t) (Rect.unit (s := S128x4) ![0, 1] ![128, 1] inb_S128x4_S128x1_0_1)
/-- The mixing weights of group 2. -/
abbrev w2 := View.ld (iblk (F := Ideal) m c 4 t) (Rect.unit (s := S4x128x128) ![2, 0, 0] ![1, 128, 128] inb_S4x128x128_S1x128x128_2_0_0)
/-- The mixing bias of group 2. -/
abbrev b2 := View.ld (iblk (F := Ideal) m c 5 t) (Rect.unit (s := S128x4) ![0, 2] ![128, 1] inb_S128x4_S128x1_0_2)
/-- The mixing weights of group 3. -/
abbrev w3 := View.ld (iblk (F := Ideal) m c 4 t) (Rect.unit (s := S4x128x128) ![3, 0, 0] ![1, 128, 128] inb_S4x128x128_S1x128x128_3_0_0)
/-- The mixing bias of group 3. -/
abbrev b3 := View.ld (iblk (F := Ideal) m c 5 t) (Rect.unit (s := S128x4) ![0, 3] ![128, 1] inb_S128x4_S128x1_0_3)

/-- The normalised rows' cotangent, read back. -/
theorem dv_block :
    Block t (fun y => View.canon (Val := Elt Ideal) (s := S256x512) (e := .f32)
      [⟨Rect.unit ![128, 384] ![128, 128] inb_S256x512_S128x128_128_384, k0_pay77 (u m c t) (da m c t) (k0_pay61 (w3 m c t))⟩,
       ⟨Rect.unit ![0, 384] ![128, 128] inb_S256x512_S128x128_0_384, k0_pay69 (u m c t) (da m c t) (k0_pay61 (w3 m c t))⟩,
       ⟨Rect.unit ![128, 256] ![128, 128] inb_S256x512_S128x128_128_256, k0_pay59 (k0_pay47 (w2 m c t)) (k0_pay57 (u m c t) (da m c t))⟩,
       ⟨Rect.unit ![0, 256] ![128, 128] inb_S256x512_S128x128_0_256, k0_pay53 (k0_pay47 (w2 m c t)) (k0_pay51 (u m c t) (da m c t))⟩,
       ⟨Rect.unit ![128, 128] ![128, 128] inb_S256x512_S128x128_128_128, k0_pay45 (k0_pay31 (w1 m c t)) (k0_pay42 (u m c t) (da m c t))⟩,
       ⟨Rect.unit ![0, 128] ![128, 128] inb_S256x512_S128x128_0_128, k0_pay38 (k0_pay31 (w1 m c t)) (k0_pay35 (u m c t) (da m c t))⟩,
       ⟨Rect.unit ![128, 0] ![128, 128] inb_S256x512_S128x128_128_0, k0_pay29 (k0_pay28 (u m c t) (da m c t) (k0_pay15 (w0 m c t)))⟩,
       ⟨Rect.unit ![0, 0] ![128, 128] inb_S256x512_S128x128_0_0, k0_pay22 (k0_pay21 (u m c t) (da m c t) (w0 m c t))⟩]
      ((Rect.unit (s := S256x512) ![0, 0] ![256, 512] inb_S256x512_S256x512_0_0).idx y)) (val_main_v78 (F := Ideal) (P m c) (D m c) (W m c)) :=
  cover
    (dvn_slice m c t 0 0 0 0 0 _ _ _ rfl rfl rfl _)
    (dvn_slice m c t 1 0 128 0 0 _ _ _ rfl rfl rfl _)
    (dvn_slice m c t 0 1 0 128 1 _ _ _ rfl rfl rfl _)
    (dvn_slice m c t 1 1 128 128 1 _ _ _ rfl rfl rfl _)
    (dvn_slice m c t 0 2 0 256 2 _ _ _ rfl rfl rfl _)
    (dvn_slice m c t 1 2 128 256 2 _ _ _ rfl rfl rfl _)
    (dvn_slice m c t 0 3 0 384 3 _ _ _ rfl rfl rfl _)
    (dvn_slice m c t 1 3 128 384 3 _ _ _ rfl rfl rfl _)

/-- The gate's cotangent, read back. -/
theorem du_block :
    Block t (fun y => View.canon (Val := Elt Ideal) (s := S256x512) (e := .f32)
      [⟨Rect.unit ![128, 384] ![128, 128] inb_S256x512_S128x128_128_384, k0_pay74 (da m c t) (k0_pay72 (vn m c t) (k0_pay61 (w3 m c t))) (k0_pay73 (b3 m c t))⟩,
       ⟨Rect.unit ![0, 384] ![128, 128] inb_S256x512_S128x128_0_384, k0_pay66 (da m c t) (k0_pay64 (vn m c t) (w3 m c t)) (k0_pay65 (b3 m c t))⟩,
       ⟨Rect.unit ![128, 256] ![128, 128] inb_S256x512_S128x128_128_256, k0_pay56 (vn m c t) (da m c t) (k0_pay47 (w2 m c t)) (b2 m c t)⟩,
       ⟨Rect.unit ![0, 256] ![128, 128] inb_S256x512_S128x128_0_256, k0_pay50 (vn m c t) (da m c t) (w2 m c t) (b2 m c t)⟩,
       ⟨Rect.unit ![128, 128] ![128, 128] inb_S256x512_S128x128_128_128, k0_pay41 (vn m c t) (da m c t) (k0_pay31 (w1 m c t)) (b1 m c t)⟩,
       ⟨Rect.unit ![0, 128] ![128, 128] inb_S256x512_S128x128_0_128, k0_pay34 (vn m c t) (da m c t) (w1 m c t) (b1 m c t)⟩,
       ⟨Rect.unit ![128, 0] ![128, 128] inb_S256x512_S128x128_128_0, k0_pay25 (vn m c t) (da m c t) (k0_pay15 (w0 m c t)) (b0 m c t)⟩,
       ⟨Rect.unit ![0, 0] ![128, 128] inb_S256x512_S128x128_0_0, k0_pay18 (vn m c t) (da m c t) (w0 m c t) (b0 m c t)⟩]
      ((Rect.unit (s := S256x512) ![0, 0] ![256, 512] inb_S256x512_S256x512_0_0).idx y)) (val_main_v67 (F := Ideal) (P m c) (D m c) (G m c) (B m c) (W m c) (S m c)) :=
  cover
    (du_slice m c t 0 0 0 0 0 slices_S256x512_o0_0_S128x128 slices_S256x512_o0_0_S128x128 _ _ rfl rfl rfl _)
    (du_slice m c t 1 0 128 0 0 slices_S256x512_o128_0_S128x128 slices_S256x512_o128_0_S128x128 _ _ rfl rfl rfl _)
    (du_slice m c t 0 1 0 128 1 slices_S256x512_o0_128_S128x128 slices_S256x512_o0_128_S128x128 _ _ rfl rfl rfl _)
    (du_slice m c t 1 1 128 128 1 slices_S256x512_o128_128_S128x128 slices_S256x512_o128_128_S128x128 _ _ rfl rfl rfl _)
    (du_slice m c t 0 2 0 256 2 slices_S256x512_o0_256_S128x128 slices_S256x512_o0_256_S128x128 _ _ rfl rfl rfl _)
    (du_slice m c t 1 2 128 256 2 slices_S256x512_o128_256_S128x128 slices_S256x512_o128_256_S128x128 _ _ rfl rfl rfl _)
    (du_slice m c t 0 3 0 384 3 slices_S256x512_o0_384_S128x128 slices_S256x512_o0_384_S128x128 _ _ rfl rfl rfl _)
    (du_slice m c t 1 3 128 384 3 slices_S256x512_o128_384_S128x128 slices_S256x512_o128_384_S128x128 _ _ rfl rfl rfl _)

end Cert.MixerA
-- ==== Proof.MixerSums.lean ====
/- The gradients of the norm's gain and bias: sums over all tokens, accumulated over the grid. -/
module

public import proofs.«01_k».proof.Proof.MixerScratch

@[expose] public section

set_option maxRecDepth 16384

noncomputable section

namespace Cert.MixerA

open Idealize.ShloMosaic Idealize.ShloMosaic.TcCoe Idealize.SL.Sem
open Idealize.ShloMosaic.Pipeline (Dat)
open Cert.KernelIdeal Cert.KernelIdeal.Gen
open Cert.ReferenceIdeal (S1x4096x1024 S1x4096x512 S1x4096x1 S1x32x128x4x128)
open Cert.ReferenceIdeal.Read

variable (m : (ℓ : Loc nD τ sig) → Buf (Elt Ideal) ℓ) (c : Dev nD)

/-- The position of channel `l` of token `k`. -/
abbrev tok (k : Fin 4096) (l : Fin 512) : S1x4096x512.Idx := ValueIdx.ix3 0 k l

/-- Row `k` of grid point `t` as a token. -/
def row (t : Fin cfg0.N) (k : Fin 256) : Fin 4096 := ⟨256 * t + k, by have := lt_of_lt_of_eq t.isLt N_0; omega⟩

/-- A grid point's part of a sum over all tokens. -/
def part (F : S1x4096x512.Idx → EReal) (t : Fin cfg0.N) (j : S1x512.Idx) : EReal := ∑ k : Fin 256, F (tok (row t k) (j 1))

/-- The parts of the sixteen grid points make the sum over all tokens. -/
theorem part_sum (F : S1x4096x512.Idx → EReal) (j : S1x512.Idx) : ∑ t, part F t j = ∑ k : Fin 4096, F (tok k (j 1)) := by
  have e : ∑ t : Fin 16, ∑ k : Fin 256, F (tok (row (Fin.cast N_0.symm t) k) (j 1)) = ∑ _ : Fin 1, ∑ k : Fin 4096, F (tok k (j 1)) :=
    Fin.sum_points_lanes_congr 16 (fun t k _ _ => congrArg (fun z => F (tok z (j 1))) (Fin.ext (by
      show 256 * (t : ℕ) + k = (t : ℕ) % 16 * 256 + k
      have := t.isLt
      omega)))
  exact e.trans (Fintype.sum_unique _)

/-- The gain's part of a grid point. -/
theorem gain_part (t : Fin cfg0.N) {vh dv : S256x512.Idx → EReal} (hv : Block t vh (val_main_v44 (F := Ideal) (P m c)))
    (hd : Block t dv (val_main_v78 (F := Ideal) (P m c) (D m c) (W m c))) (old : Vec Ideal S1x512 .f32) (j : S1x512.Idx) :
    k0_pay80 (F := Ideal) vh dv (k0_pay79 old) j = old j + part (val_main_v82 (F := Ideal) (P m c) (D m c) (W m c)) t j := by
  pointwise [k0_pay80, k0_pay79, part]
  refine congrArg₂ (· + ·) ?_ (Finset.sum_congr rfl fun k _ => ?_)
  · blk_ext
  · pointwise [val_main_v82]
    exact (mul_comm _ _).trans (congrArg₂ (· * ·) (hv _ _ rfl rfl) (hd _ _ rfl rfl))

/-- The bias's part of a grid point. -/
theorem bias_part (t : Fin cfg0.N) {dv : S256x512.Idx → EReal}
    (hd : Block t dv (val_main_v78 (F := Ideal) (P m c) (D m c) (W m c))) (old : Vec Ideal S1x512 .f32) (j : S1x512.Idx) :
    k0_pay81 (F := Ideal) dv old j = old j + part (val_main_v78 (F := Ideal) (P m c) (D m c) (W m c)) t j := by
  pointwise [k0_pay81, part]
  refine congrArg₂ (· + ·) ?_ (Finset.sum_congr rfl fun k _ => ?_)
  · blk_ext
  · exact hd _ _ rfl rfl

/-- The first point starts from zero. -/
theorem gain_first (t : Fin cfg0.N) (h : t.val % 16 = 0) (j : S1x512.Idx) :
    (outsAt0 m c t.val t.isLt).2.2.2.1 j = 0 + part (val_main_v82 (F := Ideal) (P m c) (D m c) (W m c)) t j := by
  rw [outsAt0_A m c t h]
  frame_out
  rw [View.readCov_eq_canon']
  refine (gain_part m c t (vhat_at m c t) (dv_block m c t) _ j).trans (congrArg (· + _) ?_)
  pointwise [k0_pay6]

/-- A later point adds to the point before. -/
theorem gain_next (t : Fin cfg0.N) (h : ¬ t.val % 16 = 0) (j : S1x512.Idx) :
    (outsAt0 m c t.val t.isLt).2.2.2.1 j = (outsAt0 m c (t.val - 1) (Nat.lt_of_le_of_lt (Nat.sub_le _ _) t.isLt)).2.2.2.1 j
      + part (val_main_v82 (F := Ideal) (P m c) (D m c) (W m c)) t j := by
  rw [outsAt0_B m c t h]
  frame_out
  rw [View.readCov_eq_canon']
  exact gain_part m c t (vhat_at m c t) (dv_block m c t) _ j

/-- The first point starts from zero. -/
theorem bias_first (t : Fin cfg0.N) (h : t.val % 16 = 0) (j : S1x512.Idx) :
    (outsAt0 m c t.val t.isLt).2.2.2.2 j = 0 + part (val_main_v78 (F := Ideal) (P m c) (D m c) (W m c)) t j := by
  rw [outsAt0_A m c t h]
  frame_out
  rw [View.readCov_eq_canon']
  refine (bias_part m c t (dv_block m c t) _ j).trans (congrArg (· + _) ?_)
  pointwise [k0_pay7]

/-- A later point adds to the point before. -/
theorem bias_next (t : Fin cfg0.N) (h : ¬ t.val % 16 = 0) (j : S1x512.Idx) :
    (outsAt0 m c t.val t.isLt).2.2.2.2 j = (outsAt0 m c (t.val - 1) (Nat.lt_of_le_of_lt (Nat.sub_le _ _) t.isLt)).2.2.2.2 j
      + part (val_main_v78 (F := Ideal) (P m c) (D m c) (W m c)) t j := by
  rw [outsAt0_B m c t h]
  frame_out
  rw [View.readCov_eq_canon']
  exact bias_part m c t (dv_block m c t) _ j

/-- A sum over the two singleton axes of `1 × 1 × 512`. -/
theorem squeeze (x : Cert.ReferenceIdeal.S1x1x512.Idx → EReal) (j : Cert.ReferenceIdeal.S512.Idx) (h) :
    Ideal.hostReduceAdd (axes := [0, 1]) h x 0 j = x (ValueIdx.ix3 0 0 (j 0)) := by
  refine (host_sum_of_fiber h x j (fun _ : Unit => ValueIdx.ix3 0 0 (j 0)) (fun _ _ _ => rfl) ?_).trans (Fintype.sum_unique _)
  intro k
  constructor
  · intro e
    refine ⟨(), ?_⟩
    funext a; apply Fin.ext
    match a with
    | ⟨0, _⟩ => exact (Fin.fin_one_eq_zero (k 0)).symm ▸ rfl
    | ⟨1, _⟩ => exact (Fin.fin_one_eq_zero (k 1)).symm ▸ rfl
    | ⟨2, _⟩ => exact (congrArg Fin.val (congrFun e 0)).symm
  · rintro ⟨k, rfl⟩
    funext b; apply Fin.ext
    match b with
    | ⟨0, _⟩ => rfl

/-- The reference's gradient of the gain. -/
theorem gain_ref (j : S1x512.Idx) : val_main_v119 (F := Ideal) (P m c) (D m c) (W m c) j
    = ∑ k : Fin 4096, val_main_v82 (F := Ideal) (P m c) (D m c) (W m c) (tok k (j 1)) := by
  pointwise [val_main_v119, val_main_v87, val_main_cst_17]
  refine (squeeze _ _ _).trans ?_
  pointwise [val_main_v84, val_main_v83, val_main_cst_16]
  exact Finset.sum_congr rfl fun k _ => by blk_ext

/-- The reference's gradient of the bias. -/
theorem bias_ref (j : S1x512.Idx) : val_main_v120 (F := Ideal) (P m c) (D m c) (W m c) j
    = ∑ k : Fin 4096, val_main_v78 (F := Ideal) (P m c) (D m c) (W m c) (tok k (j 1)) := by
  pointwise [val_main_v120, val_main_v81, val_main_cst_15]
  refine (squeeze _ _ _).trans ?_
  pointwise [val_main_v80, val_main_v79, val_main_cst_14]
  exact Finset.sum_congr rfl fun k _ => by blk_ext

/-- The gain's gradient after the run is the reference's. -/
theorem final9 : (dats m 0 c).arrAt 9 (cfgs 0).N = val_main_v119 (F := Ideal) (P m c) (D m c) (W m c) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) _
    (gain_first m c) (gain_next m c) (le_of_eq N_0) t0_15 rfl, part_sum, gain_ref]
  refine (zero_add (M := EReal) _).trans ?_
  refine Finset.sum_congr rfl fun k _ => ?_
  blk_point [idx]

/-- The bias's gradient after the run is the reference's. -/
theorem final10 : (dats m 0 c).arrAt 10 (cfgs 0).N = val_main_v120 (F := Ideal) (P m c) (D m c) (W m c) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0) _
    (bias_first m c) (bias_next m c) (le_of_eq N_0) t0_15 rfl, part_sum, bias_ref]
  refine (zero_add (M := EReal) _).trans ?_
  refine Finset.sum_congr rfl fun k _ => ?_
  blk_point [idx]

end Cert.MixerA
-- ==== Proof.MixerNorm.lean ====
/- The gradient of the projection: through the mixing, the layer norm and the gelu. -/
module

public import proofs.«01_k».proof.Proof.MixerSums
public import proofs.«01_k».proof.Proof.Reals

@[expose] public section

set_option maxRecDepth 16384

noncomputable section

namespace Cert.MixerA

open Idealize.ShloMosaic Idealize.ShloMosaic.TcCoe Idealize.SL.Sem
open Idealize.ShloMosaic.Pipeline (Dat)
open Cert.KernelIdeal Cert.KernelIdeal.Gen
open Cert.ReferenceIdeal (S1x4096x1024 S1x4096x512 S1x4096x1 S1x32x128x4x128)
open Cert.ReferenceIdeal.Read
open Cert.Reals (IsReal)

variable (m : (ℓ : Loc nD τ sig) → Buf (Elt Ideal) ℓ) (c : Dev nD)

/-- The inputs that the gradient of the norm reads are finite. -/
structure Fin_ : Prop where
  x : ∀ i : S1x4096x1024.Idx, IsReal (val_main_v2 (F := Ideal) (P m c) i)
  d : ∀ i : S1x4096x512.Idx, IsReal (val_main_v65 (F := Ideal) (D m c) i)
  g : ∀ i : Cert.ReferenceIdeal.S512.Idx, IsReal (G m c i)
  w : ∀ i : Cert.ReferenceIdeal.S4x128x128.Idx, IsReal (W m c i)

variable {m c}

/-- The gelu of finite rows is finite. -/
theorem gelu_real (hf : Fin_ m c) (i : S1x4096x1024.Idx) : IsReal (val_main_v15 (F := Ideal) (P m c) i) := by
  have h := hf.x i
  pointwise [val_main_v15, val_main_v10, val_main_v9, val_main_v14, val_main_v13, val_main_v12, val_main_v11, val_main_cst_1, val_main_cst_2]
  exact .mul (.mul ⟨_, Scalars.half⟩ h) (.erfc (.mul (.neg h) Reals.sqrt_half))

/-- The masked weights of finite weights are finite. -/
theorem wt_real (hf : Fin_ m c) (i : Cert.ReferenceIdeal.S4x128x128.Idx) : IsReal (val_main_v55_0 (F := Ideal) (W m c) i) := by
  have h := hf.w i
  pointwise [val_main_v55_0, val_main_call1_v0, val_main_call1_v2, val_main_cst_11, id]
  unfold Scalar.select
  split_ifs
  exacts [h, .zero]

/-- The mixed rows' cotangent is finite. -/
theorem dmx_real (hf : Fin_ m c) (i : S1x4096x512.Idx) : IsReal (val_main_v66 (F := Ideal) (P m c) (D m c) i) := by
  have h := hf.d i
  pointwise [val_main_v66, val_main_v24]
  exact .mul (gelu_real hf _) h

/-- The normalised rows' cotangent is finite. -/
theorem dvn_real (hf : Fin_ m c) (i : S1x4096x512.Idx) : IsReal (val_main_v78 (F := Ideal) (P m c) (D m c) (W m c) i) := by
  pointwise [val_main_v78, val_main_v76, val_main_v75]
  refine .sum fun k => .mul ?_ (wt_real hf _)
  pointwise [val_main_v73, val_main_v68]
  exact dmx_real hf _

/-- The cotangent of the normalised rows before the gain is finite. -/
theorem a_real (hf : Fin_ m c) (i : S1x4096x512.Idx) : IsReal (val_main_v86 (F := Ideal) (P m c) (D m c) (G m c) (W m c) i) := by
  have h := dvn_real hf i
  pointwise [val_main_v86, val_main_v85, val_main_v45]
  exact .mul h (hf.g _)

/-- A token's place in a column. -/
abbrev at1 (k : Fin 4096) : S1x4096x1.Idx := ValueIdx.ix3 0 k 0

/-- A token's centred row, variance and scale are real numbers. -/
theorem row_real (hf : Fin_ m c) (k : Fin 4096) : ∃ (C : Fin 512 → ℝ) (ρ σ : ℝ), (∀ l, val_main_v31 (F := Ideal) (P m c) (tok k l) = (C l : EReal))
    ∧ ∑ l, C l = 0 ∧ val_main_v39 (F := Ideal) (P m c) (at1 k) = (ρ : EReal) ∧ val_main_v38 (F := Ideal) (P m c) (at1 k) = (σ : EReal)
    ∧ σ ≠ 0 ∧ ρ * ρ * σ = 1 := by
  obtain ⟨X, hX⟩ := Scalars.choose_real fun l : Fin 512 => gelu_real hf (ValueIdx.ix3 0 k ⟨512 + l, by omega⟩)
  have n0 : (512 : ℝ) ≠ 0 := by norm_num
  have h31 (l : Fin 512) : val_main_v31 (F := Ideal) (P m c) (tok k l) = ((X l - (∑ l, X l) * (1 / 512) : ℝ) : EReal) := by
    pointwise [val_main_v31, val_main_v30, val_main_v29, val_main_v28, val_main_v27, val_main_v26, val_main_v25, val_main_cst_5, val_main_cst_6]
    rw [EReal.coe_sub, ← Reals.div_real n0, ← Scalars.sum_coe, ← Reals.n512]
    exact congrArg₂ (· - ·) (congrFun hX l) (congrArg (Ideal.div · _) (Finset.sum_congr rfl fun x _ => congrFun hX x))
  obtain ⟨e, he, hl⟩ := Reals.eps
  obtain ⟨C, hC⟩ : ∃ C : Fin 512 → ℝ, C = fun l => X l - (∑ l, X l) * (1 / 512) := ⟨_, rfl⟩
  have h31' (l : Fin 512) : val_main_v31 (F := Ideal) (P m c) (tok k l) = (C l : EReal) := by rw [hC]; exact h31 l
  have h38 : val_main_v38 (F := Ideal) (P m c) (at1 k) = (((∑ l, C l * C l) * (1 / 512) + e : ℝ) : EReal) := by
    pointwise [val_main_v38, val_main_v37, val_main_v36, val_main_v35, val_main_v34, val_main_v33, val_main_v32, val_main_cst_7, val_main_cst_8, val_main_cst_9]
    rw [EReal.coe_add, ← Reals.div_real n0, ← Scalars.sum_mul_coe, ← Reals.n512, ← hl]
    exact congrArg (fun z => Ideal.div z _ + _) (Finset.sum_congr rfl fun x _ => congrArg₂ (· * ·) (h31' x) (h31' x))
  have hp : 0 < (∑ l, C l * C l) * (1 / 512) + e := by
    have : 0 ≤ ∑ l, C l * C l := Finset.sum_nonneg fun l _ => mul_self_nonneg _
    positivity
  obtain ⟨ρ, hρ, hρσ⟩ := Reals.rsqrt_real hp
  refine ⟨C, ρ, _, h31', by rw [hC]; exact Reals.centred_sum X, ?_, h38, hp.ne', hρσ⟩
  pointwise [val_main_v39]
  rw [← hρ]
  exact congrArg Ideal.rsqrt h38

/-- A sum over the two singleton axes of `1 × 4096 × 1`. -/
theorem squeeze_col (x : S1x4096x1.Idx → EReal) (j : Cert.ReferenceIdeal.S4096.Idx) (h) :
    Ideal.hostReduceAdd (axes := [0, 2]) h x 0 j = x (at1 (j 0)) := by
  refine (host_sum_of_fiber h x j (fun _ : Unit => at1 (j 0)) (fun _ _ _ => rfl) ?_).trans (Fintype.sum_unique _)
  intro k
  constructor
  · intro e
    refine ⟨(), ?_⟩
    funext a; apply Fin.ext
    match a with
    | ⟨0, _⟩ => exact (Fin.fin_one_eq_zero (k 0)).symm ▸ rfl
    | ⟨1, _⟩ => exact (congrArg Fin.val (congrFun e 0)).symm
    | ⟨2, _⟩ => exact (Fin.fin_one_eq_zero (k 2)).symm ▸ rfl
  · rintro ⟨k, rfl⟩
    funext b; apply Fin.ext
    match b with
    | ⟨0, _⟩ => rfl

/-- The reference's derivative through the variance. -/
theorem through_var (k : Fin 4096) (l : Fin 512) : val_main_v98 (F := Ideal) (P m c) (D m c) (G m c) (W m c) (tok k l)
    = Ideal.div ((∑ x, val_main_v31 (F := Ideal) (P m c) (tok k x) * val_main_v86 (F := Ideal) (P m c) (D m c) (G m c) (W m c) (tok k x))
        * (Ideal.ofBits .f32 0xBF000000#32 * Ideal.div (val_main_v39 (F := Ideal) (P m c) (at1 k)) (val_main_v38 (F := Ideal) (P m c) (at1 k))))
      (Ideal.ofBits .f32 0x44000000#32) := by
  pointwise [val_main_v98, val_main_v97, val_main_v96, val_main_cst_20]
  refine (squeeze_col _ _ _).trans ?_
  pointwise [val_main_v95, val_main_v94, val_main_v93, val_main_v90, val_main_v89, val_main_v88, val_main_v42, val_main_v41, val_main_v40, val_main_cst_18, val_main_cst_19, val_main_cst_10]
  rfl

/-- The reference's derivative through the mean. -/
theorem through_mean (k : Fin 4096) (l : Fin 512) : val_main_v110 (F := Ideal) (P m c) (D m c) (G m c) (W m c) (tok k l)
    = Ideal.div (∑ x, -val_main_v102 (F := Ideal) (P m c) (D m c) (G m c) (W m c) (tok k x)) (Ideal.ofBits .f32 0x44000000#32) := by
  pointwise [val_main_v110, val_main_v109, val_main_v108, val_main_cst_23]
  refine (squeeze_col _ _ _).trans ?_
  pointwise [val_main_v107, val_main_v106, val_main_v105, val_main_v104, val_main_v103, val_main_cst_21, val_main_cst_22]
  rfl

/-- The kernel's layer norm's gradient is the reference's. -/
theorem norm_at (hf : Fin_ m c) (t : Fin cfg0.N) {dv : S256x512.Idx → EReal}
    (hd : Block t dv (val_main_v78 (F := Ideal) (P m c) (D m c) (W m c))) (r : Fin 256) (l : Fin 512) :
    k0_pay82 (F := Ideal) (k0_pay12 (X0_0 m c t)) (k0_pay13 (X0_0 m c t)) dv (iblk m c 2 t) (ValueIdx.ix2 r l)
      = val_main_v111 (F := Ideal) (P m c) (D m c) (G m c) (W m c) (tok (row t r) l) := by
  obtain ⟨C, ρ, σ, hC, hC0, hρ, hσ, hσ0, hρσ⟩ := row_real hf (row t r)
  obtain ⟨A, hA⟩ := Scalars.choose_real fun l : Fin 512 => a_real hf (tok (row t r) l)
  have ha (l : Fin 512) : dv (ValueIdx.ix2 r l) * iblk (F := Ideal) m c 2 t (ValueIdx.ix2 (0 : Fin 1) l) = (A l : EReal) := by
    refine Eq.trans ?_ (congrFun hA l)
    pointwise [val_main_v86, val_main_v85, val_main_v45]
    exact congrArg₂ (· * ·) (hd _ _ rfl rfl) (g_at m c t _ _ rfl)
  have hv (l : Fin 512) : k0_pay13 (F := Ideal) (X0_0 m c t) (ValueIdx.ix2 r l) = (C l : EReal) * (ρ : EReal) := by
    refine (vhat_at m c t _ (tok (row t r) l) rfl rfl).trans ?_
    rw [← hC, ← hρ]
    pointwise [val_main_v44, val_main_v43]
    rfl
  have hr : k0_pay12 (F := Ideal) (X0_0 m c t) (ValueIdx.ix2 r (0 : Fin 1)) = (ρ : EReal) :=
    (rs_at m c t _ (at1 (row t r)) rfl).trans hρ
  have hs (l : Fin 512) := through_var (m := m) (c := c) (row t r) l
  have hm := through_mean (m := m) (c := c) (row t r) l
  have h102 (l : Fin 512) : val_main_v102 (F := Ideal) (P m c) (D m c) (G m c) (W m c) (tok (row t r) l)
      = ((A l : EReal) * (ρ : EReal) + (C l : EReal) * val_main_v98 (F := Ideal) (P m c) (D m c) (G m c) (W m c) (tok (row t r) l))
        + val_main_v98 (F := Ideal) (P m c) (D m c) (G m c) (W m c) (tok (row t r) l) * (C l : EReal) := by
    rw [← hC, ← hρ, ← congrFun hA l]
    pointwise [val_main_v102, val_main_v101, val_main_v100, val_main_v99, val_main_v92, val_main_v91]
    rfl
  obtain ⟨s, es⟩ : ∃ s, s = val_main_v98 (F := Ideal) (P m c) (D m c) (G m c) (W m c) (tok (row t r) l) := ⟨_, rfl⟩
  have h98 (x : Fin 512) : val_main_v98 (F := Ideal) (P m c) (D m c) (G m c) (W m c) (tok (row t r) x) = s := by rw [es, hs, hs]
  have hs' : s = Ideal.div ((∑ k, (C k : EReal) * (A k : EReal)) * (((-(1 / 2) : ℝ) : EReal) * Ideal.div (ρ : EReal) (σ : EReal))) ((512 : ℝ) : EReal) := by
    rw [es, hs, hρ, hσ, Reals.neg_half, Reals.n512]
    exact congrArg (fun z => Ideal.div (z * _) _) (Finset.sum_congr rfl fun x _ => congrArg₂ (· * ·) (hC x) (congrFun hA x))
  have key := Reals.norm_grad C A hC0 hσ0 hρσ l hs'
  pointwise [k0_pay82, val_main_v111]
  rw [hm, h102, h98, Reals.n512]
  refine Eq.trans ?_ (key.trans ?_)
  · show k0_pay12 (F := Ideal) (X0_0 m c t) (ValueIdx.ix2 r (0 : Fin 1)) * (dv (ValueIdx.ix2 r l) * iblk (F := Ideal) m c 2 t (ValueIdx.ix2 (0 : Fin 1) l)
        - Ideal.div (∑ x : Fin 512, dv (ValueIdx.ix2 r x) * iblk (F := Ideal) m c 2 t (ValueIdx.ix2 (0 : Fin 1) x)) ((512 : ℝ) : EReal)
        - k0_pay13 (F := Ideal) (X0_0 m c t) (ValueIdx.ix2 r l) * Ideal.div (∑ x : Fin 512, dv (ValueIdx.ix2 r x) * iblk (F := Ideal) m c 2 t (ValueIdx.ix2 (0 : Fin 1) x)
          * k0_pay13 (F := Ideal) (X0_0 m c t) (ValueIdx.ix2 r x)) ((512 : ℝ) : EReal)) = _
    simp only [hr, ha, hv]
  · refine congrArg (fun z => _ + Ideal.div z _) (Finset.sum_congr rfl fun x _ => ?_)
    rw [h102, h98]

end Cert.MixerA
-- ==== Proof.MixerProj.lean ====
/- The gradient of the projection: the gelu's derivative over the gate's and the norm's cotangents. -/
module

public import proofs.«01_k».proof.Proof.MixerNorm

@[expose] public section

set_option maxRecDepth 16384

noncomputable section

namespace Cert.MixerA

open Idealize.ShloMosaic Idealize.ShloMosaic.TcCoe Idealize.SL.Sem
open Idealize.ShloMosaic.Pipeline (Dat)
open Cert.KernelIdeal Cert.KernelIdeal.Gen
open Cert.ReferenceIdeal (S1x4096x1024 S1x4096x512 S1x4096x1 S1x32x128x4x128)
open Cert.ReferenceIdeal.Read

variable (m : (ℓ : Loc nD τ sig) → Buf (Elt Ideal) ℓ) (c : Dev nD) (t : Fin cfg0.N)

/-- The gelu's derivative on a block. -/
abbrev slope : FVec Ideal S256x1024 .f32 :=
  k0_pay1 (k0_pay8 (X0_0 m c t)) (k0_pay83 (k0_pay8 (X0_0 m c t))) (k0_pay84 (k0_pay8 (X0_0 m c t)))

/-- The kernel's derivative of the gelu is the reference's. -/
theorem slope_at (y : S256x1024.Idx) (i : S1x4096x1024.Idx) (h1 : (i 1 : ℕ) = 256 * t + y 0) (h2 : (i 2 : ℕ) = y 1) :
    slope m c t y = val_main_v23 (F := Ideal) (P m c) i := by
  have ha := a_at m c t y i h1 h2
  pointwise [k0_pay1, k0_pay8, k0_pay83, k0_pay84, val_main_v23, val_main_v22, val_main_v21, val_main_v20, val_main_v19, val_main_v18, val_main_v17, val_main_v16,
    val_main_v8, val_main_v7, val_main_v6, val_main_v5, val_main_v4, val_main_v3, val_main_cst, val_main_cst_0, val_main_cst_3, val_main_cst_4]
  rw [← ha, neg_mul, Ideal.erfc_neg, ← mul_assoc]
  rfl

/-- The gate's half of the padded sum. -/
theorem pad_gate (i : S1x4096x1024.Idx) (j : S1x4096x512.Idx) (h1 : (i 1 : ℕ) = j 1) (h2 : (i 2 : ℕ) = j 2) :
    val_main_v114 (F := Ideal) (P m c) (D m c) (G m c) (B m c) (W m c) (S m c) i = val_main_v67 (F := Ideal) (P m c) (D m c) (G m c) (B m c) (W m c) (S m c) j := by
  have hj : (j 2 : ℕ) < 512 := (j 2).isLt
  pointwise [val_main_v114, val_main_v113, val_main_v112, val_main_cst_24, val_main_cst_25]
  rw [dif_neg (by omega), dif_pos (by omega)]
  refine (zero_add (M := EReal) _).trans (congrArg _ ?_)
  funext a; apply Fin.ext
  match a with
  | ⟨0, _⟩ => exact (Nat.lt_one_iff.1 (j 0).isLt).symm
  | ⟨1, _⟩ => exact h1
  | ⟨2, _⟩ => exact h2

/-- The norm's half of the padded sum. -/
theorem pad_norm (i : S1x4096x1024.Idx) (j : S1x4096x512.Idx) (h1 : (i 1 : ℕ) = j 1) (h2 : (i 2 : ℕ) = 512 + j 2) :
    val_main_v114 (F := Ideal) (P m c) (D m c) (G m c) (B m c) (W m c) (S m c) i = val_main_v111 (F := Ideal) (P m c) (D m c) (G m c) (W m c) j := by
  have hj : (j 2 : ℕ) < 512 := (j 2).isLt
  pointwise [val_main_v114, val_main_v113, val_main_v112, val_main_cst_24, val_main_cst_25]
  rw [dif_pos (by omega), dif_neg (by omega)]
  refine (add_zero (M := EReal) _).trans (congrArg _ ?_)
  funext a; apply Fin.ext
  match a with
  | ⟨0, _⟩ => exact (Nat.lt_one_iff.1 (j 0).isLt).symm
  | ⟨1, _⟩ => exact h1
  | ⟨2, _⟩ => exact (by show (i 2 : ℕ) - 512 = j 2; omega)

variable {m c}

/-- A block's place in the projection's gradient. -/
abbrev at6 (y : S256x1024.Idx) : S4096x1024.Idx :=
  ValueIdx.ix2 (⟨256 * t + y 0, by have := lt_of_lt_of_eq t.isLt N_0; have : (y 0 : ℕ) < 256 := (y 0).isLt; omega⟩ : Fin 4096) (y 1)

/-- The block of the projection's gradient, of the two cotangents' blocks. -/
theorem point6 (hf : Fin_ m c) {dv du : FVec Ideal S256x512 .f32}
    (hv : Block t dv (val_main_v78 (F := Ideal) (P m c) (D m c) (W m c)))
    (hu : Block t du (val_main_v67 (F := Ideal) (P m c) (D m c) (G m c) (B m c) (W m c) (S m c)))
    (y : S256x1024.Idx) (i : S4096x1024.Idx) (h0 : (i 0 : ℕ) = 256 * t + y 0) (h1 : (i 1 : ℕ) = y 1) :
    View.canon (Val := Elt Ideal) (s := S256x1024) (e := .bf16)
      [⟨Rect.unit ![0, 512] ![256, 512] inb_S256x1024_S256x512_0_512, k0_pay3 (k0_pay8 (X0_0 m c t))
          (k0_pay82 (k0_pay12 (X0_0 m c t)) (k0_pay13 (X0_0 m c t)) dv (iblk m c 2 t)) (k0_pay83 (k0_pay8 (X0_0 m c t))) (k0_pay84 (k0_pay8 (X0_0 m c t)))⟩,
       ⟨Rect.unit ![0, 0] ![256, 512] inb_S256x1024_S256x512_0_0, k0_pay2 (k0_pay8 (X0_0 m c t)) (k0_pay83 (k0_pay8 (X0_0 m c t)))
          (k0_pay84 (k0_pay8 (X0_0 m c t))) du⟩] y
      = val_main_v117 (F := Ideal) (P m c) (D m c) (G m c) (B m c) (W m c) (S m c) i := by
  have e : val_main_v117 (F := Ideal) (P m c) (D m c) (G m c) (B m c) (W m c) (S m c) i
      = val_main_v23 (F := Ideal) (P m c) (ValueIdx.ix3 0 (i 0) (i 1))
        * val_main_v114 (F := Ideal) (P m c) (D m c) (G m c) (B m c) (W m c) (S m c) (ValueIdx.ix3 0 (i 0) (i 1)) := by
    pointwise [val_main_v117, val_main_v116, val_main_v115]
    rfl
  rw [e]
  have ex (x : S256x512.Idx) : ValueIdx.ix2 (x 0 : Fin 256) (x 1 : Fin 512) = x := by
    funext a
    match a with
    | ⟨0, _⟩ => rfl
    | ⟨1, _⟩ => rfl
  canon_tiles x h
  case piece0 =>
    have hn := (congrArg (k0_pay82 (k0_pay12 (X0_0 m c t)) (k0_pay13 (X0_0 m c t)) dv (iblk m c 2 t)) (ex x).symm).trans (norm_at hf t hv (x 0) (x 1))
    have hp := pad_norm m c (ValueIdx.ix3 0 (i 0) (i 1)) (tok (row t (x 0)) (x 1)) (by show (i 0 : ℕ) = 256 * t + x 0; omega) (by show (i 1 : ℕ) = 512 + x 1; omega)
    have hg := slope_at m c t (ValueIdx.ix2 (x 0) ⟨512 + x 1, by omega⟩) (ValueIdx.ix3 0 (i 0) (i 1)) (by show (i 0 : ℕ) = 256 * t + x 0; omega) (by show (i 1 : ℕ) = 512 + x 1; omega)
    rw [hp, ← hg, ← hn]
    pointwise [k0_pay3]
    exact mul_comm (G := EReal) _ _
  case piece1 =>
    have hn := hu x (tok (row t (x 0)) (x 1)) rfl rfl
    have hp := pad_gate m c (ValueIdx.ix3 0 (i 0) (i 1)) (tok (row t (x 0)) (x 1)) (by show (i 0 : ℕ) = 256 * t + x 0; omega) (by show (i 1 : ℕ) = x 1; omega)
    have hg := slope_at m c t (ValueIdx.ix2 (x 0) ⟨x 1, by omega⟩) (ValueIdx.ix3 0 (i 0) (i 1)) (by show (i 0 : ℕ) = 256 * t + x 0; omega) (by show (i 1 : ℕ) = x 1; omega)
    rw [hp, ← hg, ← hn]
    pointwise [k0_pay2]
    exact mul_comm (G := EReal) _ _

variable (m c)

/-- The first result array after the run is the reference's. -/
theorem final6 (hf : Fin_ m c) : (dats m 0 c).arrAt 6 (cfgs 0).N
    = val_main_v117 (F := Ideal) (P m c) (D m c) (G m c) (B m c) (W m c) (S m c) := by
  refine (dats m 0 c).arrAt_eq_of_covers 6 _ (by decide +kernel) fun t _ y => ?_
  blk_simp
  rw [after0_6]
  by_cases h : t.val % 16 = 0
  · rw [outsAt0_A m c t h]
    frame_out
    rw [View.readCov_eq_canon', View.readCov_eq_canon']
    refine (point6 t hf (dv_block m c t) (du_block m c t) y (at6 t y) rfl rfl).trans ?_
    blk_point [idx t]
  · rw [outsAt0_B m c t h]
    frame_out
    rw [View.readCov_eq_canon', View.readCov_eq_canon']
    refine (point6 t hf (dv_block m c t) (du_block m c t) y (at6 t y) rfl rfl).trans ?_
    blk_point [idx t]

end Cert.MixerA
-- ==== Proof.MixerWeights.lean ====
/- The gradient of the mixing weights: each grid point adds its two chunks' parts to each group's page. -/
module

public import proofs.«01_k».proof.Proof.MixerScratch

@[expose] public section

set_option maxRecDepth 16384

noncomputable section

namespace Cert.MixerA

open Idealize.ShloMosaic Idealize.ShloMosaic.TcCoe Idealize.SL.Sem
open Idealize.ShloMosaic.Pipeline (Dat)
open Cert.KernelIdeal Cert.KernelIdeal.Gen
open Cert.ReferenceIdeal (S1x4096x1024 S1x4096x512 S1x4096x1 S1x32x128x4x128)
open Cert.ReferenceIdeal.Read

/-- A load of the rectangle last stored reads what was stored. -/
theorem readCov_hit {sig : RefSig} {κ : Kind} {sp : Space} {s : Shape} {e : EltTy} {Val : EltTy → Type} [∀ e, Nonempty (Val e)]
    (v : View sig κ sp s e) (r : Rect s) (w : r.shape.Idx → Val e) (L : List (View.Piece Val s e)) :
    v.readCov (⟨r, w⟩ :: L) r.toLoadRect = w := by
  rw [View.readCov_eq_canon']
  funext x
  exact View.canon_cons_emb r w L x

section Page
variable {A B C : ℕ}

/-- A read of page `g` after a store of that page reads what was stored. -/
theorem page_hit (g : ℕ) (inb) (w : (⟨3, ![1, B, C]⟩ : Shape).Idx → EReal) (L : List (View.Piece (Elt Ideal) (⟨3, ![A, B, C]⟩ : Shape) .f32))
    (y : (⟨3, ![A, B, C]⟩ : Shape).Idx) (h : (y 0 : ℕ) = g) :
    View.canon (⟨Rect.unit ![g, 0, 0] ![1, B, C] inb, w⟩ :: L) y = w (ValueIdx.ix3 0 (y 1) (y 2)) := by
  have e : y = (Rect.unit (s := (⟨3, ![A, B, C]⟩ : Shape)) ![g, 0, 0] ![1, B, C] inb).emb (ValueIdx.ix3 (0 : Fin 1) (y 1 : Fin B) (y 2 : Fin C)) := by
    funext a; apply Fin.ext
    match a with
    | ⟨0, _⟩ => show (y 0 : ℕ) = g + 1 * 0; omega
    | ⟨1, _⟩ => show (y 1 : ℕ) = 0 + 1 * (y 1 : ℕ); omega
    | ⟨2, _⟩ => show (y 2 : ℕ) = 0 + 1 * (y 2 : ℕ); omega
  conv_lhs => rw [e]
  exact View.canon_cons_emb (Rect.unit (s := (⟨3, ![A, B, C]⟩ : Shape)) ![g, 0, 0] ![1, B, C] inb) w L _

/-- A read of another page passes the store by. -/
theorem page_skip (g : ℕ) (inb) (w : (⟨3, ![1, B, C]⟩ : Shape).Idx → EReal) (L : List (View.Piece (Elt Ideal) (⟨3, ![A, B, C]⟩ : Shape) .f32))
    (y : (⟨3, ![A, B, C]⟩ : Shape).Idx) (h : (y 0 : ℕ) ≠ g) :
    View.canon (⟨Rect.unit ![g, 0, 0] ![1, B, C] inb, w⟩ :: L) y = View.canon L y := by
  refine View.canon_cons_of_not_mem _ L fun hm => h ?_
  obtain ⟨x, hx⟩ := LoadRect.exists_idx_of_mem _ hm
  rw [← hx]
  show g + 1 * (x 0 : ℕ) = g
  have := (x 0).isLt
  have : (x 0 : ℕ) < 1 := this
  omega

end Page

variable (m : (ℓ : Loc nD τ sig) → Buf (Elt Ideal) ℓ) (c : Dev nD)

/-- One chunk's part of the weights' gradient, under the mask. -/
abbrev dwPart (i : Cert.ReferenceIdeal.S4x128x128.Idx) (n : Fin 32) : EReal :=
  Scalar.select (val_main_v55_1 (F := Ideal) i) (dwTerm m c i n) 0

/-- What a store of a page writes, over what the page held. -/
abbrev pageStore (t : Fin cfg0.N) (o0 o1 : ℕ) (h : S256x512.Slices ![o0, o1] S128x128) (old : Vec Ideal S1x128x128 .f32) : FVec Ideal S1x128x128 .f32 :=
  shapeCast S1x128x128 (addf (F := Ideal) (φ := .f32) (shapeCast S128x128 old shapeCasts_S1x128x128_S128x128)
    (select k0_pay16 (matmul (F := Ideal) dot_S128x128_S128x128_S128x128_1_1_0_0_n_n none (truncf .bf16
      (mulf (F := Ideal) (φ := .f32) (extractStridedSlice S128x128 ![o0, o1] (da m c t) h) (extractStridedSlice S128x128 ![o0, o1] (u m c t) h)) bitsLt_bf16_f32)
      (extractStridedSlice S128x128 ![o0, o1] (vn m c t) h)
    (constant S128x128 .f32 0x00000000#32)) (broadcast S128x128 (Scalar.ofBits (F := Ideal) .f32 0x00000000#32)))) shapeCasts_S128x128_S1x128x128

/-- A store of a page adds a chunk's part to what the page held. -/
theorem page_step (t : Fin cfg0.N) (o : Fin 2) (g : Fin 4) (o0 o1 : ℕ) (h : S256x512.Slices ![o0, o1] S128x128)
    (h0 : o0 = 128 * o) (h1 : o1 = 128 * g) (old : Vec Ideal S1x128x128 .f32) (i : Cert.ReferenceIdeal.S4x128x128.Idx) (hi : (i 0 : ℕ) = g) :
    pageStore m c t o0 o1 h old (ValueIdx.ix3 (0 : Fin 1) (i 1) (i 2))
      = old (ValueIdx.ix3 (0 : Fin 1) (i 1) (i 2)) + dwPart m c i (chunk t o) := by
  have e := dw_tile m c (dmx_slice m c t o g o0 o1 h h h0 h1) (vn_slice m c t o g o0 o1 h h0 h1) (ValueIdx.ix2 (i 1) (i 2)) i hi rfl rfl
  rw [dwPart, ← e]
  pointwise []
  rfl

/-- Two chunks' parts of a grid point. -/
abbrev dwPair (t : Fin cfg0.N) (i : Cert.ReferenceIdeal.S4x128x128.Idx) : EReal :=
  dwPart m c i (chunk t 0) + dwPart m c i (chunk t 1)

/-- The two stores of a page add the two chunks' parts. -/
theorem page_pair (t : Fin cfg0.N) (g : Fin 4) (o1 : ℕ) (h : S256x512.Slices ![0, o1] S128x128) (h' : S256x512.Slices ![128, o1] S128x128)
    (h1 : o1 = 128 * g) (old : Vec Ideal S1x128x128 .f32) (i : Cert.ReferenceIdeal.S4x128x128.Idx) (hi : (i 0 : ℕ) = g) {init : EReal}
    (hold : old (ValueIdx.ix3 (0 : Fin 1) (i 1) (i 2)) = init) :
    pageStore m c t 128 o1 h' (pageStore m c t 0 o1 h old) (ValueIdx.ix3 (0 : Fin 1) (i 1) (i 2)) = init + dwPair m c t i :=
  ((page_step m c t 1 g 128 o1 h' rfl h1 _ i hi).trans (congrArg (· + _)
    ((page_step m c t 0 g 0 o1 h rfl h1 old i hi).trans (congrArg (· + _) hold)))).trans (add_assoc _ _ _)

/-- A load of page `g` reads the array there. -/
theorem ld_page (X : S4x128x128.Idx → EReal) (g : ℕ) (inb) (i : S4x128x128.Idx) (hi : (i 0 : ℕ) = g) :
    View.ld (Val := Elt Ideal) (e' := .f32) X (Rect.unit (s := S4x128x128) ![g, 0, 0] ![1, 128, 128] inb) (ValueIdx.ix3 (0 : Fin 1) (i 1) (i 2)) = X i :=
  View.ld_unit_apply_of (Val := Elt Ideal) (e := .f32) (S := S4x128x128) X ![g, 0, 0] ![1, 128, 128] inb (ValueIdx.ix3 (0 : Fin 1) (i 1) (i 2)) i fun a => by
    match a with
    | ⟨0, _⟩ => exact hi
    | ⟨1, _⟩ => exact (Nat.zero_add _).symm
    | ⟨2, _⟩ => exact (Nat.zero_add _).symm

/-- A later point adds to the point before. -/
theorem weights_next (t : Fin cfg0.N) (h : ¬ t.val % 16 = 0) (j : S4x128x128.Idx) :
    (outsAt0 m c t.val t.isLt).2.1 j = (outsAt0 m c (t.val - 1) (Nat.lt_of_le_of_lt (Nat.sub_le _ _) t.isLt)).2.1 j + dwPair m c t j := by
  rw [outsAt0_B m c t h]
  frame_out
  simp only [readCov_hit]
  have hj := (j 0).isLt
  have hj : (j 0 : ℕ) < 4 := hj
  rcases (by omega : (j 0 : ℕ) = 3 ∨ (j 0 : ℕ) = 2 ∨ (j 0 : ℕ) = 1 ∨ (j 0 : ℕ) = 0) with e | e | e | e
  · exact (page_hit 3 _ _ _ _ e).trans (page_pair m c t 3 384 slices_S256x512_o0_384_S128x128 slices_S256x512_o128_384_S128x128 rfl _ j e (ld_page _ _ _ j e))
  · rw [page_skip 3 _ _ _ _ (by omega), page_skip 3 _ _ _ _ (by omega)]
    exact (page_hit 2 _ _ _ _ e).trans (page_pair m c t 2 256 slices_S256x512_o0_256_S128x128 slices_S256x512_o128_256_S128x128 rfl _ j e (ld_page _ _ _ j e))
  · rw [page_skip 3 _ _ _ _ (by omega), page_skip 3 _ _ _ _ (by omega), page_skip 2 _ _ _ _ (by omega), page_skip 2 _ _ _ _ (by omega)]
    exact (page_hit 1 _ _ _ _ e).trans (page_pair m c t 1 128 slices_S256x512_o0_128_S128x128 slices_S256x512_o128_128_S128x128 rfl _ j e (ld_page _ _ _ j e))
  · rw [page_skip 3 _ _ _ _ (by omega), page_skip 3 _ _ _ _ (by omega), page_skip 2 _ _ _ _ (by omega), page_skip 2 _ _ _ _ (by omega),
      page_skip 1 _ _ _ _ (by omega), page_skip 1 _ _ _ _ (by omega)]
    exact (page_hit 0 _ _ _ _ e).trans (page_pair m c t 0 0 slices_S256x512_o0_0_S128x128 slices_S256x512_o128_0_S128x128 rfl _ j e (ld_page _ _ _ j e))

/-- The page that the first point finds is zero. -/
theorem zero_page (g : ℕ) (inb) (i : S4x128x128.Idx) (hi : (i 0 : ℕ) = g) :
    View.ld (Val := Elt Ideal) (e' := .f32) (k0_pay4 (F := Ideal)) (Rect.unit (s := S4x128x128) ![g, 0, 0] ![1, 128, 128] inb) (ValueIdx.ix3 (0 : Fin 1) (i 1) (i 2)) = (0 : EReal) := by
  rw [ld_page _ _ _ i hi]
  pointwise [k0_pay4]

/-- The first point starts from zero. -/
theorem weights_first (t : Fin cfg0.N) (h : t.val % 16 = 0) (j : S4x128x128.Idx) :
    (outsAt0 m c t.val t.isLt).2.1 j = 0 + dwPair m c t j := by
  rw [outsAt0_A m c t h]
  frame_out
  simp only [readCov_hit]
  have hj := (j 0).isLt
  have hj : (j 0 : ℕ) < 4 := hj
  rcases (by omega : (j 0 : ℕ) = 3 ∨ (j 0 : ℕ) = 2 ∨ (j 0 : ℕ) = 1 ∨ (j 0 : ℕ) = 0) with e | e | e | e
  · refine (page_hit 3 _ _ _ _ e).trans (page_pair m c t 3 384 slices_S256x512_o0_384_S128x128 slices_S256x512_o128_384_S128x128 rfl _ j e ?_)
    rw [View.readCov_skip _ _ _ _ _ rfl, View.readCov_skip _ _ _ _ _ rfl, View.readCov_skip _ _ _ _ _ rfl, View.readCov_skip _ _ _ _ _ rfl, View.readCov_skip _ _ _ _ _ rfl, View.readCov_skip _ _ _ _ _ rfl]
    rw [View.readCov_fill _ _ _ _ _ (by decide)]
    exact zero_page _ _ j e
  · rw [page_skip 3 _ _ _ _ (by omega), page_skip 3 _ _ _ _ (by omega)]
    refine (page_hit 2 _ _ _ _ e).trans (page_pair m c t 2 256 slices_S256x512_o0_256_S128x128 slices_S256x512_o128_256_S128x128 rfl _ j e ?_)
    rw [View.readCov_skip _ _ _ _ _ rfl, View.readCov_skip _ _ _ _ _ rfl, View.readCov_skip _ _ _ _ _ rfl, View.readCov_skip _ _ _ _ _ rfl]
    rw [View.readCov_fill _ _ _ _ _ (by decide)]
    exact zero_page _ _ j e
  · rw [page_skip 3 _ _ _ _ (by omega), page_skip 3 _ _ _ _ (by omega), page_skip 2 _ _ _ _ (by omega), page_skip 2 _ _ _ _ (by omega)]
    refine (page_hit 1 _ _ _ _ e).trans (page_pair m c t 1 128 slices_S256x512_o0_128_S128x128 slices_S256x512_o128_128_S128x128 rfl _ j e ?_)
    rw [View.readCov_skip _ _ _ _ _ rfl, View.readCov_skip _ _ _ _ _ rfl]
    rw [View.readCov_fill _ _ _ _ _ (by decide)]
    exact zero_page _ _ j e
  · rw [page_skip 3 _ _ _ _ (by omega), page_skip 3 _ _ _ _ (by omega), page_skip 2 _ _ _ _ (by omega), page_skip 2 _ _ _ _ (by omega),
      page_skip 1 _ _ _ _ (by omega), page_skip 1 _ _ _ _ (by omega)]
    refine (page_hit 0 _ _ _ _ e).trans (page_pair m c t 0 0 slices_S256x512_o0_0_S128x128 slices_S256x512_o128_0_S128x128 rfl _ j e ?_)
    rw [View.readCov_fill _ _ _ _ _ (by decide)]
    exact zero_page _ _ j e

/-- The sum over the grid's points and their two chunks is the sum over all chunks. -/
theorem pair_sum (F : Fin 32 → EReal) : ∑ t : Fin cfg0.N, (F (chunk t 0) + F (chunk t 1)) = ∑ n, F n := by
  have e : ∑ t : Fin 16, ∑ k : Fin 2, F (chunk (Fin.cast N_0.symm t) k) = ∑ _ : Fin 1, ∑ n : Fin 32, F n :=
    Fin.sum_points_lanes_congr 16 (fun t k _ _ => congrArg F (Fin.ext (by
      show 2 * (t : ℕ) + k = (t : ℕ) % 16 * 2 + k
      have := t.isLt
      omega)))
  have e2 (t : Fin cfg0.N) : F (chunk t 0) + F (chunk t 1) = ∑ k : Fin 2, F (chunk t k) := (Fin.sum_univ_two (fun k : Fin 2 => F (chunk t k))).symm
  rw [Finset.sum_congr rfl fun t _ => e2 t]
  exact e.trans (Fintype.sum_unique _)

/-- A selection against zero of a sum. -/
theorem select_sum {n : ℕ} (b : BitVec 1) (F : Fin n → EReal) : ∑ k, Scalar.select b (F k) 0 = Scalar.select b (∑ k, F k) 0 := by
  unfold Scalar.select
  split_ifs <;> simp

/-- The weights' gradient after the run is the reference's. -/
theorem final7 : (dats m 0 c).arrAt 7 (cfgs 0).N = val_main_v77 (F := Ideal) (P m c) (D m c) (G m c) (B m c) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0) _
    (weights_first m c) (weights_next m c) (le_of_eq N_0) t0_15 rfl, pair_sum, select_sum, ← dw_ref]
  refine (zero_add (M := EReal) _).trans ?_
  blk_point [idx]

end Cert.MixerA
-- ==== Proof.MixerBias.lean ====
/- The gradient of the mixing bias: each grid point adds its two chunks' parts to each group's column. -/
module

public import proofs.«01_k».proof.Proof.MixerWeights

@[expose] public section

set_option maxRecDepth 16384

noncomputable section

namespace Cert.MixerA

open Idealize.ShloMosaic Idealize.ShloMosaic.TcCoe Idealize.SL.Sem
open Idealize.ShloMosaic.Pipeline (Dat)
open Cert.KernelIdeal Cert.KernelIdeal.Gen
open Cert.ReferenceIdeal (S1x4096x1024 S1x4096x512 S1x4096x1 S1x32x128x4x128)
open Cert.ReferenceIdeal.Read

/-- A read of column `g` after a store of that column reads what was stored. -/
theorem col_hit (g : ℕ) (inb) (w : S128x1.Idx → EReal) (L : List (View.Piece (Elt Ideal) S128x4 .f32))
    (y : S128x4.Idx) (h : (y 1 : ℕ) = g) :
    View.canon (⟨Rect.unit ![0, g] ![128, 1] inb, w⟩ :: L) y = w (ValueIdx.ix2 (y 0) (0 : Fin 1)) := by
  have e : y = (Rect.unit (s := S128x4) ![0, g] ![128, 1] inb).emb (ValueIdx.ix2 (y 0 : Fin 128) (0 : Fin 1)) := by
    funext a; apply Fin.ext
    match a with
    | ⟨0, _⟩ => show (y 0 : ℕ) = 0 + 1 * (y 0 : ℕ); omega
    | ⟨1, _⟩ => show (y 1 : ℕ) = g + 1 * 0; omega
  conv_lhs => rw [e]
  exact View.canon_cons_emb (Rect.unit (s := S128x4) ![0, g] ![128, 1] inb) w L _

/-- A read of another column passes the store by. -/
theorem col_skip (g : ℕ) (inb) (w : S128x1.Idx → EReal) (L : List (View.Piece (Elt Ideal) S128x4 .f32))
    (y : S128x4.Idx) (h : (y 1 : ℕ) ≠ g) :
    View.canon (⟨Rect.unit ![0, g] ![128, 1] inb, w⟩ :: L) y = View.canon L y := by
  refine View.canon_cons_of_not_mem _ L fun hm => h ?_
  obtain ⟨x, hx⟩ := LoadRect.exists_idx_of_mem _ hm
  rw [← hx]
  show g + 1 * (x 1 : ℕ) = g
  have := (x 1).isLt
  have : (x 1 : ℕ) < 1 := this
  omega

variable (m : (ℓ : Loc nD τ sig) → Buf (Elt Ideal) ℓ) (c : Dev nD)

/-- What a store of a column writes, over what the column held. -/
abbrev colStore (t : Fin cfg0.N) (o0 o1 : ℕ) (h : S256x512.Slices ![o0, o1] S128x128) (old : Vec Ideal S128x1 .f32) : FVec Ideal S128x1 .f32 :=
  addf (F := Ideal) (φ := .f32) (shapeCast S128x1 old shapeCasts_S128x1_S128x1)
    (shapeCast S128x1 (multiReduction (F := Ideal) .add [1] S128
      (mulf (F := Ideal) (φ := .f32) (extractStridedSlice S128x128 ![o0, o1] (da m c t) h) (extractStridedSlice S128x128 ![o0, o1] (u m c t) h))
      0x00000000#32 reduces_S128x128_S128 (.inl rfl) rfl) shapeCasts_S128_S128x1)

/-- A store of a column adds a chunk's part to what the column held. -/
theorem col_step (t : Fin cfg0.N) (o : Fin 2) (g : Fin 4) (o0 o1 : ℕ) (h : S256x512.Slices ![o0, o1] S128x128)
    (h0 : o0 = 128 * o) (h1 : o1 = 128 * g) (old : Vec Ideal S128x1 .f32) (i : Cert.ReferenceIdeal.S128x4.Idx) (hi : (i 1 : ℕ) = g) :
    colStore m c t o0 o1 h old (ValueIdx.ix2 (i 0) (0 : Fin 1)) = old (ValueIdx.ix2 (i 0) (0 : Fin 1)) + dbTerm m c i (chunk t o) := by
  have e := db_tile m c (dmx_slice m c t o g o0 o1 h h h0 h1) (ValueIdx.ix2 (i 0) (0 : Fin 1)) i rfl hi
  rw [← e]
  pointwise []

/-- Two chunks' parts of a grid point. -/
abbrev dbPair (t : Fin cfg0.N) (i : Cert.ReferenceIdeal.S128x4.Idx) : EReal := dbTerm m c i (chunk t 0) + dbTerm m c i (chunk t 1)

/-- The two stores of a column add the two chunks' parts. -/
theorem col_pair (t : Fin cfg0.N) (g : Fin 4) (o1 : ℕ) (h : S256x512.Slices ![0, o1] S128x128) (h' : S256x512.Slices ![128, o1] S128x128)
    (h1 : o1 = 128 * g) (old : Vec Ideal S128x1 .f32) (i : Cert.ReferenceIdeal.S128x4.Idx) (hi : (i 1 : ℕ) = g) {init : EReal}
    (hold : old (ValueIdx.ix2 (i 0) (0 : Fin 1)) = init) :
    colStore m c t 128 o1 h' (colStore m c t 0 o1 h old) (ValueIdx.ix2 (i 0) (0 : Fin 1)) = init + dbPair m c t i :=
  ((col_step m c t 1 g 128 o1 h' rfl h1 _ i hi).trans (congrArg (· + _)
    ((col_step m c t 0 g 0 o1 h rfl h1 old i hi).trans (congrArg (· + _) hold)))).trans (add_assoc _ _ _)

/-- A load of column `g` reads the array there. -/
theorem ld_col (X : S128x4.Idx → EReal) (g : ℕ) (inb) (i : S128x4.Idx) (hi : (i 1 : ℕ) = g) :
    View.ld (Val := Elt Ideal) (e' := .f32) X (Rect.unit (s := S128x4) ![0, g] ![128, 1] inb) (ValueIdx.ix2 (i 0) (0 : Fin 1)) = X i :=
  View.ld_unit_apply_of (Val := Elt Ideal) (e := .f32) (S := S128x4) X ![0, g] ![128, 1] inb (ValueIdx.ix2 (i 0) (0 : Fin 1)) i fun a => by
    match a with
    | ⟨0, _⟩ => exact (Nat.zero_add _).symm
    | ⟨1, _⟩ => exact hi

/-- The column that the first point finds is zero. -/
theorem zero_col (g : ℕ) (inb) (i : S128x4.Idx) (hi : (i 1 : ℕ) = g) :
    View.ld (Val := Elt Ideal) (e' := .f32) (k0_pay5 (F := Ideal)) (Rect.unit (s := S128x4) ![0, g] ![128, 1] inb) (ValueIdx.ix2 (i 0) (0 : Fin 1)) = (0 : EReal) := by
  rw [ld_col _ _ _ i hi]
  pointwise [k0_pay5]

/-- A later point adds to the point before. -/
theorem db_next (t : Fin cfg0.N) (h : ¬ t.val % 16 = 0) (j : S128x4.Idx) :
    (outsAt0 m c t.val t.isLt).2.2.1 j = (outsAt0 m c (t.val - 1) (Nat.lt_of_le_of_lt (Nat.sub_le _ _) t.isLt)).2.2.1 j + dbPair m c t j := by
  rw [outsAt0_B m c t h]
  frame_out
  simp only [readCov_hit]
  have hj := (j 1).isLt
  have hj : (j 1 : ℕ) < 4 := hj
  rcases (by omega : (j 1 : ℕ) = 3 ∨ (j 1 : ℕ) = 2 ∨ (j 1 : ℕ) = 1 ∨ (j 1 : ℕ) = 0) with e | e | e | e
  · refine (col_hit 3 _ _ _ _ e).trans (col_pair m c t 3 384 slices_S256x512_o0_384_S128x128 slices_S256x512_o128_384_S128x128 rfl _ j e (ld_col _ _ _ j e))
  · rw [col_skip 3 _ _ _ _ (by omega), col_skip 3 _ _ _ _ (by omega)]
    refine (col_hit 2 _ _ _ _ e).trans (col_pair m c t 2 256 slices_S256x512_o0_256_S128x128 slices_S256x512_o128_256_S128x128 rfl _ j e (ld_col _ _ _ j e))
  · rw [col_skip 3 _ _ _ _ (by omega), col_skip 3 _ _ _ _ (by omega), col_skip 2 _ _ _ _ (by omega), col_skip 2 _ _ _ _ (by omega)]
    refine (col_hit 1 _ _ _ _ e).trans (col_pair m c t 1 128 slices_S256x512_o0_128_S128x128 slices_S256x512_o128_128_S128x128 rfl _ j e (ld_col _ _ _ j e))
  · rw [col_skip 3 _ _ _ _ (by omega), col_skip 3 _ _ _ _ (by omega), col_skip 2 _ _ _ _ (by omega), col_skip 2 _ _ _ _ (by omega),
      col_skip 1 _ _ _ _ (by omega), col_skip 1 _ _ _ _ (by omega)]
    refine (col_hit 0 _ _ _ _ e).trans (col_pair m c t 0 0 slices_S256x512_o0_0_S128x128 slices_S256x512_o128_0_S128x128 rfl _ j e (ld_col _ _ _ j e))

/-- The first point starts from zero. -/
theorem db_first (t : Fin cfg0.N) (h : t.val % 16 = 0) (j : S128x4.Idx) :
    (outsAt0 m c t.val t.isLt).2.2.1 j = 0 + dbPair m c t j := by
  rw [outsAt0_A m c t h]
  frame_out
  simp only [readCov_hit]
  have hj := (j 1).isLt
  have hj : (j 1 : ℕ) < 4 := hj
  rcases (by omega : (j 1 : ℕ) = 3 ∨ (j 1 : ℕ) = 2 ∨ (j 1 : ℕ) = 1 ∨ (j 1 : ℕ) = 0) with e | e | e | e
  · refine (col_hit 3 _ _ _ _ e).trans (col_pair m c t 3 384 slices_S256x512_o0_384_S128x128 slices_S256x512_o128_384_S128x128 rfl _ j e ?_)
    rw [View.readCov_skip _ _ _ _ _ rfl, View.readCov_skip _ _ _ _ _ rfl, View.readCov_skip _ _ _ _ _ rfl, View.readCov_skip _ _ _ _ _ rfl, View.readCov_skip _ _ _ _ _ rfl, View.readCov_skip _ _ _ _ _ rfl]
    rw [View.readCov_fill _ _ _ _ _ (by decide)]
    exact zero_col _ _ j e
  · rw [col_skip 3 _ _ _ _ (by omega), col_skip 3 _ _ _ _ (by omega)]
    refine (col_hit 2 _ _ _ _ e).trans (col_pair m c t 2 256 slices_S256x512_o0_256_S128x128 slices_S256x512_o128_256_S128x128 rfl _ j e ?_)
    rw [View.readCov_skip _ _ _ _ _ rfl, View.readCov_skip _ _ _ _ _ rfl, View.readCov_skip _ _ _ _ _ rfl, View.readCov_skip _ _ _ _ _ rfl]
    rw [View.readCov_fill _ _ _ _ _ (by decide)]
    exact zero_col _ _ j e
  · rw [col_skip 3 _ _ _ _ (by omega), col_skip 3 _ _ _ _ (by omega), col_skip 2 _ _ _ _ (by omega), col_skip 2 _ _ _ _ (by omega)]
    refine (col_hit 1 _ _ _ _ e).trans (col_pair m c t 1 128 slices_S256x512_o0_128_S128x128 slices_S256x512_o128_128_S128x128 rfl _ j e ?_)
    rw [View.readCov_skip _ _ _ _ _ rfl, View.readCov_skip _ _ _ _ _ rfl]
    rw [View.readCov_fill _ _ _ _ _ (by decide)]
    exact zero_col _ _ j e
  · rw [col_skip 3 _ _ _ _ (by omega), col_skip 3 _ _ _ _ (by omega), col_skip 2 _ _ _ _ (by omega), col_skip 2 _ _ _ _ (by omega),
      col_skip 1 _ _ _ _ (by omega), col_skip 1 _ _ _ _ (by omega)]
    refine (col_hit 0 _ _ _ _ e).trans (col_pair m c t 0 0 slices_S256x512_o0_0_S128x128 slices_S256x512_o128_0_S128x128 rfl _ j e ?_)
    rw [View.readCov_fill _ _ _ _ _ (by decide)]
    exact zero_col _ _ j e

/-- The mixing bias's gradient after the run is the reference's. -/
theorem final8 : (dats m 0 c).arrAt 8 (cfgs 0).N = val_main_v118 (F := Ideal) (P m c) (D m c) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) _
    (db_first m c) (db_next m c) (le_of_eq N_0) t0_15 rfl, pair_sum, ← db_ref]
  refine (zero_add (M := EReal) _).trans ?_
  blk_point [idx]

end Cert.MixerA
-- ==== Proof.MixerA.lean ====
/- The backward pass of the spatial gating unit: its five gradients are the reference's, for finite inputs. -/
module

public import proofs.«01_k».proof.Defs
public import proofs.«01_k».proof.Proof.Gen.Pre_finite_inputs
public import proofs.«01_k».proof.Proof.Finite
public import proofs.«01_k».proof.Proof.MixerProj
public import proofs.«01_k».proof.Proof.MixerBias
public import Idealize.ShloMosaic.Lib.Claim

@[expose] public section

set_option maxRecDepth 16384

noncomputable section

namespace Cert.MixerA

open Idealize.ShloMosaic Idealize.ShloMosaic.TcCoe Idealize.SL.Sem
open Cert.ReferenceIdeal (S1x4096x1024 S1x4096x512)
open Cert.ReferenceIdeal.Read

section

open Cert.ReferenceIdeal

/-- The reference's run leaves its stages in its results. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117) = val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v118) = val_main_v118 (F := Ideal) (m ((c.tc : Thread nD τ).loc main_arg0)) (m ((c.tc : Thread nD τ).loc main_arg1))
      ∧ r.2.mem ((c.tc : Thread nD τ).loc main_v119) = val_main_v119 (F := Ideal) (m ((c.tc : Thread nD τ).loc main_arg0)) (m ((c.tc : Thread nD τ).loc main_arg1)) (m ((c.tc : Thread nD τ).loc main_arg4))
      ∧ r.2.mem ((c.tc : Thread nD τ).loc main_v120) = val_main_v120 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v117_eq m c),
      (h c).2.1.trans (val_main_v77_eq m c),
      (h c).2.2.1.trans (val_main_v118_eq _ _),
      (h c).2.2.2.1.trans (val_main_v119_eq m c),
      (h c).2.2.2.2.1.trans (val_main_v120_eq _ _ _),
      (h c).2.2.2.2.2⟩)
    (Cert.ReferenceIdeal.Value.run m ρ)

end

open Cert.KernelIdeal Cert.KernelIdeal.Gen

variable (m : (ℓ : Loc nD τ sig) → Buf (Elt Ideal) ℓ)

/-- The precondition says that what the gradient of the norm reads are real numbers. -/
theorem finite_of_pre (hpre : Cert.Pre_KernelIdeal_finite_inputs m) (c : Dev nD) : Fin_ m c := by
  have h := congrFun (hpre c) ValueIdx.ix0
  dsimp only [Cert.Pre_finite_inputs.fn, Cert.Pre_finite_inputs.fn_part1] at h
  obtain ⟨h, hw⟩ := IntOp.andi_eq_one.1 h
  obtain ⟨h, hg⟩ := IntOp.andi_eq_one.1 h
  obtain ⟨hx, hd⟩ := IntOp.andi_eq_one.1 h
  obtain ⟨X, eX⟩ := Finite.real_of_all _ _ (fun _ => Scalars.infinity) _ _ _ _ hx
  obtain ⟨Y, eY⟩ := Finite.real_of_all _ _ (fun _ => Scalars.infinity) _ _ _ _ hd
  obtain ⟨Z, eZ⟩ := Finite.real_of_all _ _ (fun _ => Scalars.infinity) _ _ _ _ hg
  obtain ⟨V, eV⟩ := Finite.real_of_all _ _ (fun _ => Scalars.infinity) _ _ _ _ hw
  refine ⟨fun i => ⟨X (ValueIdx.ix2 (i 1) (i 2)), ?_⟩, fun i => ⟨Y (ValueIdx.ix2 (i 1) (i 2)), ?_⟩, fun i => ⟨Z i, congrFun eZ i⟩, fun i => ⟨V i, congrFun eV i⟩⟩
  · refine Eq.trans ?_ (congrFun eX (ValueIdx.ix2 (i 1) (i 2)))
    pointwise [val_main_v2, val_main_v1, val_main_v0]
  · refine Eq.trans ?_ (congrFun eY (ValueIdx.ix2 (i 1) (i 2)))
    pointwise [val_main_v65, val_main_v64, val_main_v63]

/-- The kernel and the reference compute the same five gradients over the extended reals, of finite inputs. -/
theorem algebraic : Cert.algebraic_KernelIdeal_ReferenceIdeal_pre_finite_inputs := by
  pair_intro
  · run_from Cert.KernelIdeal.Value.run_blocks m g
  · run_from ref_run m' g'
    · exact (final6 m c (finite_of_pre m hpre c)).symm
    · exact (final7 m c).symm
    · exact (final8 m c).symm
    · exact (final9 m c).symm
    · exact (final10 m c).symm

end Cert.MixerA

end
-- ==== Proof.Down.lean ====
/- The gradient of the feed-forward's down weight: what `wgrad_down` leaves is the reference's contraction over the
   tokens, page by page. -/
module

public import proofs.«01_k».proof.Defs
public import proofs.«01_k».proof.Proof.Gen.KernelDownIdeal.Value
public import proofs.«01_k».proof.Proof.Gen.ReferenceDownIdeal.Read
public import Idealize.ShloMosaic.Lib.Pipeline.ValueKit
public import Idealize.ShloMosaic.Lib.Claim

@[expose] public section

set_option maxRecDepth 16384

noncomputable section

namespace Cert.Down

open Idealize.ShloMosaic Idealize.ShloMosaic.TcCoe Idealize.SL.Sem
open Idealize.ShloMosaic.Pipeline (Dat)
open Cert.KernelDownIdeal Cert.KernelDownIdeal.Gen

variable (m : (ℓ : Loc nD τ sig) → Buf (Elt Ideal) ℓ)

/-- The reference's result over the two arrays: activations and the gradient of the layer's output. -/
abbrev REF (X : FVec Ideal S4x4096x704 .bf16) (D : FVec Ideal S4096x1024 .bf16) : FVec Ideal S4x704x1024 .bf16 :=
  Cert.ReferenceDownIdeal.Read.val_main_v6 (F := Ideal) X D

/-- Point `t` handles page `t`: the activations' block and the result's block are page `t`, the gradient's the whole. -/
theorem idx : ∀ t : Fin cfg0.N, win0_0.index t = ![t.val, 0, 0] ∧ win0_1.index t = ![0, 0] ∧ win0_2.index t = ![t.val, 0, 0] :=
  (by decide +kernel : ∀ t : Fin grid0.N, _)

/-- What the body stores at `y` of page `t` is the reference's element there: the same sum over the tokens, the two
    factors in the other order. -/
theorem point (c : Dev nD) (t : Fin cfg0.N) (y : S1x704x1024.Idx) : k0_pay1 (F := Ideal) (iblk m c 0 t) (iblk m c 1 t) y
    = REF (m ((c : Thread nD τ).loc main_arg0)) (m ((c : Thread nD τ).loc main_arg1)) (((cfg0.win 2).blk t).view.emb y) := by
  pointwise [k0_pay1, REF, Cert.ReferenceDownIdeal.Read.val_main_v6, Cert.ReferenceDownIdeal.Read.val_main_v5, Cert.ReferenceDownIdeal.Read.val_main_v4, Cert.ReferenceDownIdeal.Read.val_main_v3, Cert.ReferenceDownIdeal.Read.val_main_v1]
  refine Finset.sum_congr rfl fun k _ => (mul_comm _ _).trans ?_
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference compute the same gradient over the extended reals. -/
theorem algebraic : Cert.algebraic_KernelDownIdeal_ReferenceDownIdeal := by
  pair_intro
  · run_from Cert.KernelDownIdeal.Value.run_blocks m g
  · run_from Cert.ReferenceDownIdeal.Value.run m' g'
    exact (final m c).symm

end Cert.Down

end
-- ==== Proof.GateUp.lean ====
/- The gradients of the feed-forward's gate and up weights: what `wgrad_gate_up` leaves in its two results is the
   reference's contraction over the tokens, page by page. -/
module

public import proofs.«01_k».proof.Defs
public import proofs.«01_k».proof.Proof.Gen.KernelGateUpIdeal.Value
public import proofs.«01_k».proof.Proof.Gen.ReferenceGateUpIdeal.Read
public import Idealize.ShloMosaic.Lib.Pipeline.ValueKit
public import Idealize.ShloMosaic.Lib.Claim

@[expose] public section

set_option maxRecDepth 16384

noncomputable section

namespace Cert.GateUp

open Idealize.ShloMosaic Idealize.ShloMosaic.TcCoe Idealize.SL.Sem
open Idealize.ShloMosaic.Pipeline (Dat)
open Cert.KernelGateUpIdeal Cert.KernelGateUpIdeal.Gen

variable (m : (ℓ : Loc nD τ sig) → Buf (Elt Ideal) ℓ)

/-- The reference's first result: the gradient of the gate weight, from the gate's gradient and the rows `h`. -/
abbrev REF3 (D : FVec Ideal S4x4096x704 .bf16) (H : FVec Ideal S4096x1024 .bf16) : FVec Ideal S4x704x1024 .bf16 :=
  Cert.ReferenceGateUpIdeal.Read.val_main_v12 (F := Ideal) D H

/-- The reference's second result: the gradient of the up weight. -/
abbrev REF4 (D : FVec Ideal S4x4096x704 .bf16) (H : FVec Ideal S4096x1024 .bf16) : FVec Ideal S4x704x1024 .bf16 :=
  Cert.ReferenceGateUpIdeal.Read.val_main_v13 (F := Ideal) D H

/-- Point `t` handles page `t` of both gradients and of both results, with all of `h`. -/
theorem idx : ∀ t : Fin cfg0.N, win0_0.index t = ![t.val, 0, 0] ∧ win0_1.index t = ![0, 0] ∧ win0_2.index t = ![t.val, 0, 0]
    ∧ win0_3.index t = ![t.val, 0, 0] ∧ win0_4.index t = ![t.val, 0, 0] :=
  (by decide +kernel : ∀ t : Fin grid0.N, _)

/-- What the body stores of the gate weight's gradient at `y` of page `t` is the reference's element there. -/
theorem point3 (c : Dev nD) (t : Fin cfg0.N) (y : S1x704x1024.Idx) : k0_pay1 (F := Ideal) (iblk m c 0 t) (iblk m c 1 t) y
    = REF3 (m ((c : Thread nD τ).loc main_arg0)) (m ((c : Thread nD τ).loc main_arg2)) (((cfg0.win 3).blk t).view.emb y) := by
  pointwise [k0_pay1, REF3, Cert.ReferenceGateUpIdeal.Read.val_main_v12, Cert.ReferenceGateUpIdeal.Read.val_main_v11,
    Cert.ReferenceGateUpIdeal.Read.val_main_v10, Cert.ReferenceGateUpIdeal.Read.val_main_v6, Cert.ReferenceGateUpIdeal.Read.val_main_v1]
  blk_point [iblk, V, idx t]

/-- What the body stores of the up weight's gradient at `y` of page `t` is the reference's element there. -/
theorem point4 (c : Dev nD) (t : Fin cfg0.N) (y : S1x704x1024.Idx) : k0_pay2 (F := Ideal) (iblk m c 2 t) (iblk m c 1 t) y
    = REF4 (m ((c : Thread nD τ).loc main_arg1)) (m ((c : Thread nD τ).loc main_arg2)) (((cfg0.win 4).blk t).view.emb y) := by
  pointwise [k0_pay2, REF4, Cert.ReferenceGateUpIdeal.Read.val_main_v13, Cert.ReferenceGateUpIdeal.Read.val_main_v9,
    Cert.ReferenceGateUpIdeal.Read.val_main_v8, Cert.ReferenceGateUpIdeal.Read.val_main_v7, Cert.ReferenceGateUpIdeal.Read.val_main_v1]
  blk_point [iblk, V, idx t]

/-- The first result array after the run is the reference's. -/
theorem final3 (c : Dev nD) : (dats m 0 c).arrAt 3 (cfgs 0).N
    = REF3 (m ((c : Thread nD τ).loc main_arg0)) (m ((c : Thread nD τ).loc main_arg2)) := by
  refine (dats m 0 c).arrAt_eq_of_covers 3 _ (by decide +kernel) fun t _ y => ?_
  blk_simp
  rw [after0_3]; frame_out
  exact point3 m c t y

/-- The second result array after the run is the reference's. -/
theorem final4 (c : Dev nD) : (dats m 0 c).arrAt 4 (cfgs 0).N
    = REF4 (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

/-- The kernel and the reference compute the same two gradients over the extended reals. -/
theorem algebraic : Cert.algebraic_KernelGateUpIdeal_ReferenceGateUpIdeal := by
  pair_intro
  · run_from Cert.KernelGateUpIdeal.Value.run_blocks m g
  · run_from Cert.ReferenceGateUpIdeal.Value.run m' g'
    · exact (final3 m c).symm
    · exact (final4 m c).symm

end Cert.GateUp

end
-- ==== Proof.DgradBase.lean ====
/- The gradient at the feed-forward block's input: the blocks of a grid point against the reference's stages. -/
module

public import proofs.«01_k».proof.Proof.Gen.KernelDgradIdeal.Value
public import proofs.«01_k».proof.Proof.Gen.ReferenceDgradIdeal.Read
public import proofs.«01_k».proof.Proof.RmsNorm
public import Idealize.ShloMosaic.Lib.Pipeline.ValueKit

@[expose] public section

set_option maxRecDepth 16384

noncomputable section

namespace Cert.Dgrad

open Idealize.ShloMosaic Idealize.ShloMosaic.TcCoe Idealize.SL.Sem
open Idealize.ShloMosaic.Pipeline (Dat)
open Cert.KernelDgradIdeal Cert.KernelDgradIdeal.Gen
open Cert.ReferenceDgradIdeal.Read
open Cert.ReferenceDgradIdeal (S4096x1024 S4096x1)

variable (m : (ℓ : Loc nD τ sig) → Buf (Elt Ideal) ℓ) (c : Dev nD) (t : Fin cfg0.N)

/-- Point `t` handles tokens `512 t` and on; the weights, the gain and its gradient are whole. -/
theorem idx : ∀ t : Fin cfg0.N, win0_0.index t = ![0, t.val, 0] ∧ win0_1.index t = ![0, 0, 0, 0]
    ∧ win0_2.index t = ![0, t.val, 0] ∧ win0_3.index t = ![0, 0, 0, 0] ∧ win0_4.index t = ![t.val, 0] ∧ win0_5.index t = ![0, 0]
    ∧ win0_6.index t = ![t.val, 0] ∧ win0_7.index t = ![t.val, 0] ∧ win0_8.index t = ![0, 0] :=
  (by decide +kernel : ∀ t : Fin grid0.N, _)

/-- The gate's cotangent. -/
abbrev A0 := m ((c : Thread nD τ).loc main_arg0)
/-- The up projection's cotangent. -/
abbrev A1 := m ((c : Thread nD τ).loc main_arg1)
/-- The gate's weights. -/
abbrev A2 := m ((c : Thread nD τ).loc main_arg2)
/-- The up projection's weights. -/
abbrev A3 := m ((c : Thread nD τ).loc main_arg3)
/-- The block's input. -/
abbrev A4 := m ((c : Thread nD τ).loc main_arg4)
/-- The norms' gains. -/
abbrev A5 := m ((c : Thread nD τ).loc main_arg5)
/-- The residual's cotangent. -/
abbrev A6 := m ((c : Thread nD τ).loc main_arg6)

/-- A block's row `r` as a token. -/
abbrev row (r : Fin 512) : Fin 4096 := ⟨512 * t + r, by have := lt_of_lt_of_eq t.isLt N_0; omega⟩

/-- The gate's cotangent at a shard, a token and a lane. -/
abbrev Fa (p : Fin 4) (k : Fin 4096) (f : Fin 704) : EReal := A0 m c (ValueIdx.ix3 p k f)
/-- The up projection's cotangent at a shard, a token and a lane. -/
abbrev Fb (p : Fin 4) (k : Fin 4096) (f : Fin 704) : EReal := A1 m c (ValueIdx.ix3 p k f)
/-- The gate's weight at a shard, a hidden lane and a lane. -/
abbrev Ga (p : Fin 4) (f : Fin 704) (l : Fin 1024) : EReal := A2 m c (ValueIdx.ix4 p 0 f l)
/-- The up projection's weight at a shard, a hidden lane and a lane. -/
abbrev Gb (p : Fin 4) (f : Fin 704) (l : Fin 1024) : EReal := A3 m c (ValueIdx.ix4 p 0 f l)
/-- The input at a token and a lane. -/
abbrev X (k : Fin 4096) (l : Fin 1024) : EReal := A4 m c (ValueIdx.ix2 k l)
/-- The norm's gain. -/
abbrev Gn (l : Fin 1024) : EReal := A5 m c (ValueIdx.ix2 1 l)
/-- The residual's cotangent at a token and a lane. -/
abbrev Dy (k : Fin 4096) (l : Fin 1024) : EReal := A6 m c (ValueIdx.ix2 k l)
/-- The cotangent of the normed input at a token and a lane. -/
abbrev Dz (k : Fin 4096) (l : Fin 1024) : EReal :=
  val_main_v32 (F := Ideal) (A0 m c) (A1 m c) (A2 m c) (A3 m c) (ValueIdx.ix2 k l)
/-- A point's gate cotangent. -/
abbrev Da (p : Fin 4) (r : Fin 512) (f : Fin 704) : EReal := iblk (F := Ideal) m c 0 t (ValueIdx.ix3 p r f)
/-- A point's up cotangent. -/
abbrev Db (p : Fin 4) (r : Fin 512) (f : Fin 704) : EReal := iblk (F := Ideal) m c 2 t (ValueIdx.ix3 p r f)
/-- A point's gate weight. -/
abbrev Wa (p : Fin 4) (f : Fin 704) (l : Fin 1024) : EReal := iblk (F := Ideal) m c 1 t (ValueIdx.ix4 p 0 f l)
/-- A point's up weight. -/
abbrev Wb (p : Fin 4) (f : Fin 704) (l : Fin 1024) : EReal := iblk (F := Ideal) m c 3 t (ValueIdx.ix4 p 0 f l)

/-- A point's input. -/
abbrev Xb (r : Fin 512) (l : Fin 1024) : EReal := iblk (F := Ideal) m c 4 t (ValueIdx.ix2 r l)

/-- A token's mean square plus epsilon. -/
def sg (k : Fin 4096) : EReal :=
  Ideal.div (∑ x, X m c k x * X m c k x) (Ideal.ofBits .f32 0x44800000#32) + Ideal.ofBits .f32 0x358637BD#32

/-- What a token's gradient takes through its mean square. -/
def through (k : Fin 4096) : EReal :=
  Ideal.div ((∑ x, X m c k x * (Dz m c k x * Gn m c x))
    * (Ideal.ofBits .f32 0xBF000000#32 * Ideal.div (Ideal.rsqrt (sg m c k)) (sg m c k))) (Ideal.ofBits .f32 0x44800000#32)

/-- A slab of the gate's cotangent's block. -/
theorem dz0 (r : Fin 512) (f : Fin 704) (p : Fin 4) : iblk (F := Ideal) m c 0 t (ValueIdx.ix3 p r f) = A0 m c (ValueIdx.ix3 p (row t r) f) := by
  blk_point [iblk, V, idx t]
  change (t : ℕ) * 512 + (r : ℕ) = 512 * t + r
  omega

/-- A slab of the up projection's cotangent's block. -/
theorem dz1 (r : Fin 512) (f : Fin 704) (p : Fin 4) : iblk (F := Ideal) m c 2 t (ValueIdx.ix3 p r f) = A1 m c (ValueIdx.ix3 p (row t r) f) := by
  blk_point [iblk, V, idx t]
  change (t : ℕ) * 512 + (r : ℕ) = 512 * t + r
  omega

/-- The gate's weights' block. -/
theorem w0 (l : Fin 1024) (f : Fin 704) (p : Fin 4) : iblk (F := Ideal) m c 1 t (ValueIdx.ix4 p 0 f l) = A2 m c (ValueIdx.ix4 p 0 f l) := by
  blk_point [iblk, V, idx t]

/-- The up projection's weights' block. -/
theorem w1 (l : Fin 1024) (f : Fin 704) (p : Fin 4) : iblk (F := Ideal) m c 3 t (ValueIdx.ix4 p 0 f l) = A3 m c (ValueIdx.ix4 p 0 f l) := by
  blk_point [iblk, V, idx t]

/-- The input's block. -/
theorem x_at (r : Fin 512) (l : Fin 1024) : iblk (F := Ideal) m c 4 t (ValueIdx.ix2 r l) = A4 m c (ValueIdx.ix2 (row t r) l) := by
  blk_point [iblk, V, idx t]
  change (t : ℕ) * 512 + (r : ℕ) = 512 * t + r
  omega

/-- The residual's cotangent's block. -/
theorem dy_at (r : Fin 512) (l : Fin 1024) : iblk (F := Ideal) m c 6 t (ValueIdx.ix2 r l) = A6 m c (ValueIdx.ix2 (row t r) l) := by
  blk_point [iblk, V, idx t]
  change (t : ℕ) * 512 + (r : ℕ) = 512 * t + r
  omega

/-- The gain's block. -/
theorem g_at (l : Fin 1024) : iblk (F := Ideal) m c 5 t (ValueIdx.ix2 0 l) = A5 m c (ValueIdx.ix2 1 l) := by
  have e : (V (F := Ideal) m c main_v0 : S1x1024.Idx → EReal) = extractStridedSlice S1x1024 ![1, 0] (A5 m c) Gen.slices_S2x1024_S1x1024_1_0 := rfl
  change (V (F := Ideal) m c main_v0 : S1x1024.Idx → EReal) ((win0_5.blk t).view.emb _) = _
  rw [e]
  pointwise []
  blk_point [idx t]

/-- Gate and up products added in turn over four shards, or each kind apart. -/
theorem regroup (G U : Fin 4 → EReal) : G 0 + U 0 + G 1 + U 1 + G 2 + U 2 + G 3 + U 3 = ∑ p, U p + ∑ p, G p := by
  rw [Fin.sum_univ_four, Fin.sum_univ_four]
  ac_rfl

/-- A point's block of the cotangent of the normed input: its products over the four shards, gate and up projection in turn. -/
def dz : FVec Ideal S512x1024 .f32 :=
  k0_pay2 (k0_pay1 (View.ld (iblk m c 0 t) (Rect.unit ![0, 0, 0] ![1, 512, 704] inb_S4x512x704_S1x512x704_0_0_0)) (View.ld (iblk m c 1 t) (Rect.unit ![0, 0, 0, 0] ![1, 1, 704, 1024] inb_S4x1x704x1024_S1x1x704x1024_0_0_0_0))
      (View.ld (iblk m c 2 t) (Rect.unit ![0, 0, 0] ![1, 512, 704] inb_S4x512x704_S1x512x704_0_0_0)) (View.ld (iblk m c 3 t) (Rect.unit ![0, 0, 0, 0] ![1, 1, 704, 1024] inb_S4x1x704x1024_S1x1x704x1024_0_0_0_0))
      (View.ld (iblk m c 0 t) (Rect.unit ![1, 0, 0] ![1, 512, 704] inb_S4x512x704_S1x512x704_1_0_0)) (View.ld (iblk m c 1 t) (Rect.unit ![1, 0, 0, 0] ![1, 1, 704, 1024] inb_S4x1x704x1024_S1x1x704x1024_1_0_0_0))
      (View.ld (iblk m c 2 t) (Rect.unit ![1, 0, 0] ![1, 512, 704] inb_S4x512x704_S1x512x704_1_0_0)) (View.ld (iblk m c 3 t) (Rect.unit ![1, 0, 0, 0] ![1, 1, 704, 1024] inb_S4x1x704x1024_S1x1x704x1024_1_0_0_0)))
    (View.ld (iblk m c 0 t) (Rect.unit ![2, 0, 0] ![1, 512, 704] inb_S4x512x704_S1x512x704_2_0_0)) (View.ld (iblk m c 1 t) (Rect.unit ![2, 0, 0, 0] ![1, 1, 704, 1024] inb_S4x1x704x1024_S1x1x704x1024_2_0_0_0))
    (View.ld (iblk m c 2 t) (Rect.unit ![2, 0, 0] ![1, 512, 704] inb_S4x512x704_S1x512x704_2_0_0)) (View.ld (iblk m c 3 t) (Rect.unit ![2, 0, 0, 0] ![1, 1, 704, 1024] inb_S4x1x704x1024_S1x1x704x1024_2_0_0_0))
    (View.ld (iblk m c 0 t) (Rect.unit ![3, 0, 0] ![1, 512, 704] inb_S4x512x704_S1x512x704_3_0_0)) (View.ld (iblk m c 1 t) (Rect.unit ![3, 0, 0, 0] ![1, 1, 704, 1024] inb_S4x1x704x1024_S1x1x704x1024_3_0_0_0))
    (View.ld (iblk m c 2 t) (Rect.unit ![3, 0, 0] ![1, 512, 704] inb_S4x512x704_S1x512x704_3_0_0)) (View.ld (iblk m c 3 t) (Rect.unit ![3, 0, 0, 0] ![1, 1, 704, 1024] inb_S4x1x704x1024_S1x1x704x1024_3_0_0_0))

/-- That block is the reference's sum of the two projections' cotangents. -/
theorem dz_at (r : Fin 512) (l : Fin 1024) : dz m c t (ValueIdx.ix2 r l)
    = val_main_v32 (F := Ideal) (A0 m c) (A1 m c) (A2 m c) (A3 m c) (ValueIdx.ix2 (row t r) l) := by
  pointwise [dz, k0_pay1, k0_pay2, val_main_v32, val_main_v31, val_main_v29, val_main_v30, val_main_v28, val_main_v27, val_main_v26, val_main_v23, val_main_v22, val_main_v19, val_main_v18]
  have e0 : ∀ p, ∑ x, Da m c t p r x * Wa m c t p x l
      = ∑ x, Fa m c p (row t r) x * Ga m c p x l := fun p =>
    Finset.sum_congr rfl fun x _ => congrArg₂ _ (dz0 m c t r x p) (w0 m c t l x p)
  have e1 : ∀ p, ∑ x, Db m c t p r x * Wb m c t p x l
      = ∑ x, Fb m c p (row t r) x * Gb m c p x l := fun p =>
    Finset.sum_congr rfl fun x _ => congrArg₂ _ (dz1 m c t r x p) (w1 m c t l x p)
  exact (regroup (fun p => ∑ x, Da m c t p r x * Wa m c t p x l)
    (fun p => ∑ x, Db m c t p r x * Wb m c t p x l)).trans
    (congrArg₂ _ (Finset.sum_congr rfl fun p _ => e1 p) (Finset.sum_congr rfl fun p _ => e0 p))

/-- The reference's mean square plus epsilon. -/
theorem sg_at (k : Fin 4096) : val_main_v8 (F := Ideal) (A4 m c) (ValueIdx.ix2 k 0) = sg m c k := by
  pointwise [sg, val_main_v8, val_main_v7, val_main_v6, val_main_v5, val_main_v4, val_main_v3, val_main_v2, val_main_cst, val_main_cst_0, val_main_cst_1]
  rfl

/-- The reference's gain row at a lane. -/
theorem gn_at (k : Fin 4096) (l : Fin 1024) : val_main_v36 (F := Ideal) (A5 m c) (ValueIdx.ix2 k l) = Gn m c l := by
  pointwise [val_main_v36, val_main_v15, val_main_v1, val_main_v0]
  rfl

/-- The reference's gradient through the mean square. -/
theorem through_at (k : Fin 4096) (l : Fin 1024) : val_main_v49 (F := Ideal) (A0 m c) (A1 m c) (A2 m c) (A3 m c) (A4 m c) (A5 m c) (ValueIdx.ix2 k l) = through m c k := by
  pointwise [through, val_main_v49, val_main_v48, val_main_v47, val_main_v46, val_main_v45, val_main_v41, val_main_v40, val_main_v39, val_main_v37, val_main_v12, val_main_v11, val_main_v10, val_main_v9, val_main_cst_2, val_main_cst_5, val_main_cst_6, val_main_cst_7]
  refine (Fin.sum_univ_one _).trans ?_
  exact congrArg₂ Ideal.div (congrArg₂ (fun a b : EReal => a * b)
    (Finset.sum_congr rfl fun x _ => congrArg (fun z : EReal => X m c k x * (Dz m c k x * z)) (gn_at m c k x))
    (congrArg (fun z : EReal => Ideal.ofBits .f32 0xBF000000#32 * Ideal.div (Ideal.rsqrt z) z) (sg_at m c k))) rfl

/-- The reference's input gradient at a token and a lane. -/
theorem dx_ref (k : Fin 4096) (l : Fin 1024) : val_main_v53 (F := Ideal) (A0 m c) (A1 m c) (A2 m c) (A3 m c) (A4 m c) (A5 m c) (A6 m c) (ValueIdx.ix2 k l)
    = Dy m c k l + Dz m c k l * Gn m c l * Ideal.rsqrt (sg m c k) + X m c k l * through m c k + through m c k * X m c k l := by
  pointwise [val_main_v53, val_main_v52, val_main_v51, val_main_v50, val_main_v44, val_main_v43, val_main_v42, val_main_v37, val_main_v9]
  have e1 := gn_at m c k l
  have e2 := sg_at m c k
  have e3 := through_at m c k l
  rw [e1, e3]
  exact congrArg (fun z : EReal => Dy m c k l + Dz m c k l * Gn m c l * Ideal.rsqrt z + X m c k l * through m c k
    + through m c k * X m c k l) e2

/-- The reference's gain gradient at a lane. -/
theorem dg_ref (i : Cert.ReferenceDgradIdeal.S1x1024.Idx) : val_main_v54 (F := Ideal) (A0 m c) (A1 m c) (A2 m c) (A3 m c) (A4 m c) i
    = ∑ k, X m c k (i 1) * Ideal.rsqrt (sg m c k) * Dz m c k (i 1) := by
  pointwise [val_main_v54, val_main_v38, val_main_v35, val_main_v34, val_main_v33, val_main_v14, val_main_v13, val_main_v9, val_main_cst_3, val_main_cst_4]
  refine (Fin.sum_univ_one _).trans (Finset.sum_congr rfl fun k _ => ?_)
  exact congrArg (fun z : EReal => X m c k (i 1) * Ideal.rsqrt z * Dz m c k (i 1)) (sg_at m c k)

/-- A point's mean square plus epsilon, of its own row. -/
theorem sg_blk (r : Fin 512) : Ideal.div (∑ x, Xb m c t r x * Xb m c t r x)
    (Ideal.ofBits .f32 0x44800000#32) + Ideal.ofBits .f32 0x358637BD#32 = sg m c (row t r) :=
  congrArg (fun z : EReal => Ideal.div z (Ideal.ofBits .f32 0x44800000#32) + Ideal.ofBits .f32 0x358637BD#32)
    (Finset.sum_congr rfl fun x _ => congrArg₂ (fun a b : EReal => a * b) (x_at m c t r x) (x_at m c t r x))

/-- The kernel's gain gradient at a lane. -/
theorem dg_at (old : FVec Ideal S1x1024 .f32) (y : S1x1024.Idx) : k0_pay9 (F := Ideal) (dz m c t) (iblk m c 4 t) old y
    = old y + ∑ r, Dz m c (row t r) (y 1) * (X m c (row t r) (y 1) * Ideal.rsqrt (sg m c (row t r))) := by
  pointwise [k0_pay9, k0_pay5, k0_pay4]
  refine congrArg (fun z : EReal => old y + z) (Finset.sum_congr rfl fun r _ => ?_)
  exact congrArg₂ (fun a b : EReal => a * b) (dz_at m c t r (y 1))
    (congrArg₂ (fun a b : EReal => a * b) (x_at m c t r (y 1)) (congrArg Ideal.rsqrt (sg_blk m c t r)))

/-- The kernel's input gradient at a row and a lane. -/
theorem dx_at (r : Fin 512) (l : Fin 1024) : k0_pay6 (F := Ideal) (dz m c t) (iblk m c 4 t) (k0_pay3 (iblk m c 5 t)) (iblk m c 6 t) (ValueIdx.ix2 r l)
    = Dy m c (row t r) l + Ideal.rsqrt (sg m c (row t r)) * (Dz m c (row t r) l * Gn m c l - X m c (row t r) l * Ideal.rsqrt (sg m c (row t r))
      * Ideal.div (∑ x, Dz m c (row t r) x * Gn m c x * (X m c (row t r) x * Ideal.rsqrt (sg m c (row t r)))) (Ideal.ofBits .f32 0x44800000#32)) := by
  pointwise [k0_pay3, k0_pay4, k0_pay5, k0_pay6]
  have es := congrArg Ideal.rsqrt (sg_blk m c t r)
  refine congrArg₂ (fun a b : EReal => a + b) (dy_at m c t r l) (congrArg₂ (fun a b : EReal => a * b) es (congrArg₂ (fun a b : EReal => a - b)
    (congrArg₂ (fun a b : EReal => a * b) (dz_at m c t r l) (g_at m c t l)) (congrArg₂ (fun a b : EReal => a * b)
      (congrArg₂ (fun a b : EReal => a * b) (x_at m c t r l) es) (congrArg (fun z : EReal => Ideal.div z (Ideal.ofBits .f32 0x44800000#32))
        (Finset.sum_congr rfl fun x _ => ?_)))))
  exact congrArg₂ (fun a b : EReal => a * b) (congrArg₂ (fun a b : EReal => a * b) (dz_at m c t r x) (g_at m c t x))
    (congrArg₂ (fun a b : EReal => a * b) (x_at m c t r x) es)

end Cert.Dgrad
-- ==== Proof.Dgrad.lean ====
/- The gradient at the feed-forward block's input, and its norm's gain's: both are the reference's, for finite inputs. -/
module

public import proofs.«01_k».proof.Defs
public import proofs.«01_k».proof.Proof.Gen.Pre_finite_dgrad
public import proofs.«01_k».proof.Proof.Finite
public import proofs.«01_k».proof.Proof.DgradBase
public import Idealize.ShloMosaic.Lib.Claim

@[expose] public section

set_option maxRecDepth 16384

noncomputable section

namespace Cert.Dgrad

open Idealize.ShloMosaic Idealize.ShloMosaic.TcCoe Idealize.SL.Sem
open Idealize.ShloMosaic.Pipeline (Dat)
open Cert.ReferenceDgradIdeal.Read
open Cert.Reals

section

open Cert.ReferenceDgradIdeal

/-- The reference's run leaves its stages in its results. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v53_eq m c), (h c).2.1.trans (val_main_v54_eq _ _ _ _ _), (h c).2.2⟩)
    (Cert.ReferenceDgradIdeal.Value.run m ρ)

end

open Cert.KernelDgradIdeal Cert.KernelDgradIdeal.Gen

variable (m : (ℓ : Loc nD τ sig) → Buf (Elt Ideal) ℓ) (c : Dev nD)

/-- The arrays that the norm's gradient reads hold real numbers: cotangents, weights, the input, the gain. -/
structure Fin_ : Prop where
  da : ∀ p k f, IsReal (Fa m c p k f)
  db : ∀ p k f, IsReal (Fb m c p k f)
  wa : ∀ p f l, IsReal (Ga m c p f l)
  wb : ∀ p f l, IsReal (Gb m c p f l)
  x : ∀ k l, IsReal (X m c k l)
  g : ∀ l, IsReal (Gn m c l)

/-- The cotangent of the normed input as sums over shards and hidden lanes. -/
theorem dz_sum (k : Fin 4096) (l : Fin 1024) :
    Dz m c k l = ∑ p, ∑ f, Fb m c p k f * Gb m c p f l + ∑ p, ∑ f, Fa m c p k f * Ga m c p f l := by
  show val_main_v32 (F := Ideal) (A0 m c) (A1 m c) (A2 m c) (A3 m c) (ValueIdx.ix2 k l) = _
  pointwise [val_main_v32, val_main_v31, val_main_v29, val_main_v30, val_main_v28, val_main_v27, val_main_v26, val_main_v23, val_main_v22, val_main_v19, val_main_v18]
  rfl

/-- The cotangent of the normed input is real. -/
theorem dz_real (hf : Fin_ m c) (k : Fin 4096) (l : Fin 1024) : IsReal (Dz m c k l) := by
  rw [dz_sum]
  exact IsReal.add (IsReal.sum fun p => IsReal.sum fun f => IsReal.mul (hf.db p k f) (hf.wb p f l))
    (IsReal.sum fun p => IsReal.sum fun f => IsReal.mul (hf.da p k f) (hf.wa p f l))

/-- The two spellings of a token's gradient agree. -/
theorem spell (hf : Fin_ m c) (k : Fin 4096) (l : Fin 1024) :
    Dy m c k l + Ideal.rsqrt (sg m c k) * (Dz m c k l * Gn m c l - X m c k l * Ideal.rsqrt (sg m c k)
        * Ideal.div (∑ x, Dz m c k x * Gn m c x * (X m c k x * Ideal.rsqrt (sg m c k))) (Ideal.ofBits .f32 0x44800000#32))
      = Dy m c k l + Dz m c k l * Gn m c l * Ideal.rsqrt (sg m c k) + X m c k l * through m c k + through m c k * X m c k l :=
  RmsNorm.spell (X m c k) (fun x => Dz m c k x * Gn m c x) (hf.x k) (fun x => IsReal.mul (dz_real m c hf k x) (hf.g x)) _ l

/-- The input's gradient after the run is the reference's. -/
theorem final7 (hf : Fin_ m c) : (dats m 0 c).arrAt 7 (cfgs 0).N
    = val_main_v53 (F := Ideal) (A0 m c) (A1 m c) (A2 m c) (A3 m c) (A4 m c) (A5 m c) (A6 m c) := by
  refine (dats m 0 c).arrAt_eq_of_covers 7 _ (by decide +kernel) fun t _ y => ?_
  blk_simp
  rw [after0_7]
  have e : k0_pay6 (F := Ideal) (dz m c t) (iblk m c 4 t) (k0_pay3 (iblk m c 5 t)) (iblk m c 6 t) (ValueIdx.ix2 (y 0) (y 1))
      = val_main_v53 (F := Ideal) (A0 m c) (A1 m c) (A2 m c) (A3 m c) (A4 m c) (A5 m c) (A6 m c) (ValueIdx.ix2 (row t (y 0)) (y 1)) :=
    ((dx_at m c t _ _).trans (spell m c hf _ _)).trans (dx_ref m c _ _).symm
  have ex : ∀ x : S512x1024.Idx, ValueIdx.ix2 (x 0) (x 1) = x := fun x => (ValueIdx.eq_ix2 x).symm
  by_cases h : t.val % 8 = 0
  · rw [outsAt0_A m c t h]
    frame_out
    refine Eq.trans ?_ (e.trans ?_)
    · exact congrArg (k0_pay6 (F := Ideal) (dz m c t) (iblk m c 4 t) (k0_pay3 (iblk m c 5 t)) (iblk m c 6 t)) (ex y).symm
    · blk_point [idx t]
  · rw [outsAt0_B m c t h]
    frame_out
    refine Eq.trans ?_ (e.trans ?_)
    · exact congrArg (k0_pay6 (F := Ideal) (dz m c t) (iblk m c 4 t) (k0_pay3 (iblk m c 5 t)) (iblk m c 6 t)) (ex y).symm
    · blk_point [idx t]

/-- A token's part of the gain's gradient. -/
abbrev term (k : Fin 4096) (l : Fin 1024) : EReal := Dz m c k l * (X m c k l * Ideal.rsqrt (sg m c k))

/-- A grid point's part of the gain's gradient. -/
def part (t : Fin cfg0.N) (j : S1x1024.Idx) : EReal := ∑ r : Fin 512, term m c (row t r) (j 1)

/-- The parts of the eight grid points make the sum over all tokens. -/
theorem part_sum (j : S1x1024.Idx) : ∑ t, part m c t j = ∑ k : Fin 4096, term m c k (j 1) := by
  have e : ∑ t : Fin 8, ∑ k : Fin 512, term m c (row (Fin.cast N_0.symm t) k) (j 1) = ∑ _ : Fin 1, ∑ k : Fin 4096, term m c k (j 1) :=
    Fin.sum_points_lanes_congr 8 (fun t k _ _ => congrArg (fun z => term m c z (j 1)) (Fin.ext (by
      show 512 * (t : ℕ) + k = (t : ℕ) % 8 * 512 + k
      have := t.isLt
      omega)))
  exact e.trans (Fintype.sum_unique _)

/-- The first point starts from zero. -/
theorem first (t : Fin cfg0.N) (h : t.val % 8 = 0) (j : S1x1024.Idx) :
    (outsAt0 m c t.val t.isLt).2.1 j = 0 + part m c t j := by
  rw [outsAt0_A m c t h]
  frame_out
  refine (dg_at m c t _ j).trans (congrArg (· + _) ?_)
  pointwise [k0_pay8]

/-- A later point adds to the point before. -/
theorem next (t : Fin cfg0.N) (h : ¬ t.val % 8 = 0) (j : S1x1024.Idx) :
    (outsAt0 m c t.val t.isLt).2.1 j = (outsAt0 m c (t.val - 1) (Nat.lt_of_le_of_lt (Nat.sub_le _ _) t.isLt)).2.1 j + part m c t j := by
  rw [outsAt0_B m c t h]
  frame_out
  exact dg_at m c t _ j

/-- The gain's gradient after the run is the reference's. -/
theorem final8 : (dats m 0 c).arrAt 8 (cfgs 0).N = val_main_v54 (F := Ideal) (A0 m c) (A1 m c) (A2 m c) (A3 m c) (A4 m c) := by
  refine (dats m 0 c).arrAt_eq_of_after_last 8 t0_7 (by decide +kernel) _ fun j => ?_
  blk_simp
  rw [after0_8, Pipeline.eq_sum_fin_of_reset_step_apply_last (fun n h => (outsAt0 m c n h).2.1) 8 (fun _ => 0) _
    (first m c) (next m c) (le_of_eq N_0) t0_7 rfl, part_sum]
  refine (zero_add (M := EReal) _).trans (((Finset.sum_congr rfl fun k _ => mul_comm (G := EReal) _ _).trans (dg_ref m c j).symm).trans ?_)
  blk_point [idx]

/-- The precondition says that what the gradient of the norm reads are real numbers. -/
theorem finite_of_pre (hpre : Cert.Pre_KernelDgradIdeal_finite_dgrad m) (c : Dev nD) : Fin_ m c := by
  have h := congrFun (hpre c) ValueIdx.ix0
  dsimp only [Cert.Pre_finite_dgrad.fn, Cert.Pre_finite_dgrad.fn_part1] at h
  obtain ⟨h, hg⟩ := IntOp.andi_eq_one.1 h
  obtain ⟨h, hx⟩ := IntOp.andi_eq_one.1 h
  obtain ⟨h, hwb⟩ := IntOp.andi_eq_one.1 h
  obtain ⟨h, hwa⟩ := IntOp.andi_eq_one.1 h
  obtain ⟨ha, hb⟩ := IntOp.andi_eq_one.1 h
  obtain ⟨Ra, ea⟩ := Finite.real_of_all _ _ (fun _ => Scalars.infinity) _ _ _ _ ha
  obtain ⟨Rb, eb⟩ := Finite.real_of_all _ _ (fun _ => Scalars.infinity) _ _ _ _ hb
  obtain ⟨Va, fa⟩ := Finite.real_of_all _ _ (fun _ => Scalars.infinity) _ _ _ _ hwa
  obtain ⟨Vb, fb⟩ := Finite.real_of_all _ _ (fun _ => Scalars.infinity) _ _ _ _ hwb
  obtain ⟨Y, eY⟩ := Finite.real_of_all _ _ (fun _ => Scalars.infinity) _ _ _ _ hx
  obtain ⟨Z, eZ⟩ := Finite.real_of_all _ _ (fun _ => Scalars.infinity) _ _ _ _ hg
  refine ⟨fun p k f => ⟨Ra (ValueIdx.ix3 p k f), congrFun ea _⟩, fun p k f => ⟨Rb (ValueIdx.ix3 p k f), congrFun eb _⟩,
    fun p f l => ⟨Va (ValueIdx.ix4 p 0 f l), congrFun fa _⟩, fun p f l => ⟨Vb (ValueIdx.ix4 p 0 f l), congrFun fb _⟩,
    fun k l => ⟨Y (ValueIdx.ix2 k l), congrFun eY _⟩, fun l => ⟨Z (ValueIdx.ix1 l), ?_⟩⟩
  refine Eq.trans ?_ (congrFun eZ (ValueIdx.ix1 l))
  pointwise []
  rfl

/-- The kernel and the reference compute the same two gradients over the extended reals, of finite inputs. -/
theorem algebraic : Cert.algebraic_KernelDgradIdeal_ReferenceDgradIdeal_pre_finite_dgrad := by
  pair_intro
  · run_from Cert.KernelDgradIdeal.Value.run_blocks m g
  · run_from ref_run m' g'
    · exact (final7 m c (finite_of_pre m hpre c)).symm
    · exact (final8 m c).symm

end Cert.Dgrad

end
-- ==== Proof.FfnIn.lean ====
/- The forward pass of the feed-forward's gate and up products: what `ffn_in` leaves in its three results (the factors
   of the gate's and the up's gradients, and the activation) is the reference's, for finite inputs. -/
module

public import proofs.«01_k».proof.Defs
public import proofs.«01_k».proof.Proof.Gen.KernelFfnInIdeal.Value
public import proofs.«01_k».proof.Proof.Gen.ReferenceFfnInIdeal.Read
public import proofs.«01_k».proof.Proof.Gen.Pre_finite_ffn_in
public import proofs.«01_k».proof.Proof.Finite
public import Idealize.ShloMosaic.Lib.Pipeline.ValueKit
public import Idealize.ShloMosaic.Lib.Claim

@[expose] public section

set_option maxRecDepth 16384

noncomputable section

namespace Cert.FfnIn

open Idealize.ShloMosaic Idealize.ShloMosaic.TcCoe Idealize.SL.Sem
open Idealize.ShloMosaic.Pipeline (Dat)
open Cert.KernelFfnInIdeal Cert.KernelFfnInIdeal.Gen
open Cert.ReferenceFfnInIdeal.Read

variable (m : (ℓ : Loc nD τ sig) → Buf (Elt Ideal) ℓ)

/-- Point `t` handles page `t / 4` of the weights and rows `1024 (t % 4)` and on of the tokens. -/
theorem idx : ∀ t : Fin cfg0.N, win0_0.index t = ![t.val % 4, 0] ∧ win0_1.index t = ![t.val / 4, 0, 0, 0]
    ∧ win0_2.index t = ![t.val % 4, 0] ∧ win0_3.index t = ![t.val / 4, 0, 0, 0] ∧ win0_4.index t = ![t.val / 4, t.val % 4, 0]
    ∧ win0_5.index t = ![t.val / 4, t.val % 4, 0] ∧ win0_6.index t = ![t.val / 4, t.val % 4, 0] :=
  (by decide +kernel : ∀ t : Fin grid0.N, _)

/-- The gate's product of a block is the reference's product at the block's place. -/
theorem gate (c : Dev nD) (t : Fin cfg0.N) (y : S1x1024x704.Idx) :
    k0_pay2 (F := Ideal) (iblk m c 0 t) (iblk m c 1 t) (ValueIdx.ix2 (y 1) (y 2))
      = val_main_v4 (F := Ideal) (m ((c : Thread nD τ).loc main_arg0)) (m ((c : Thread nD τ).loc main_arg1)) (((cfg0.win 4).blk t).view.emb y) := by
  pointwise [k0_pay2, val_main_v4, val_main_v3, val_main_v2, val_main_v1, val_main_v0]
  refine Finset.sum_congr rfl fun k _ => (mul_comm _ _).trans ?_
  blk_point [iblk, V, idx t]

/-- The up product of a block is the reference's product at the block's place. -/
theorem up (c : Dev nD) (t : Fin cfg0.N) (y : S1x1024x704.Idx) :
    k0_pay3 (F := Ideal) (iblk m c 2 t) (iblk m c 3 t) (ValueIdx.ix2 (y 1) (y 2))
      = val_main_v8 (F := Ideal) (m ((c : Thread nD τ).loc main_arg0)) (m ((c : Thread nD τ).loc main_arg2)) (((cfg0.win 4).blk t).view.emb y) := by
  pointwise [k0_pay3, val_main_v8, val_main_v7, val_main_v6, val_main_v5, val_main_v0]
  refine Finset.sum_congr rfl fun k _ => (mul_comm _ _).trans ?_
  blk_point [iblk, V, idx t]

/-- The inputs of the three results are finite. -/
def Finite (c : Dev nD) : Prop :=
  (∃ H : S4096x1024.Idx → ℝ, m ((c : Thread nD τ).loc main_arg0) = fun j => (H j : EReal))
  ∧ (∃ W : S4x1x704x1024.Idx → ℝ, m ((c : Thread nD τ).loc main_arg1) = fun j => (W j : EReal))
  ∧ ∃ W : S4x1x704x1024.Idx → ℝ, m ((c : Thread nD τ).loc main_arg2) = fun j => (W j : EReal)

/-- The reference's gate product of finite rows is finite. -/
theorem gate_real (c : Dev nD) (hf : Finite m c) (i : S4x4096x704.Idx) : ∃ r : ℝ,
    val_main_v4 (F := Ideal) (m ((c : Thread nD τ).loc main_arg0)) (m ((c : Thread nD τ).loc main_arg1)) i = (r : EReal) := by
  obtain ⟨⟨H, hH⟩, ⟨W, hW⟩, -⟩ := hf
  rw [hH, hW]
  pointwise [val_main_v4, val_main_v3, val_main_v2, val_main_v1, val_main_v0]
  exact ⟨_, Scalars.sum_mul_coe _ _ _⟩

/-- The reference's up product of finite rows is finite. -/
theorem up_real (c : Dev nD) (hf : Finite m c) (i : S4x4096x704.Idx) : ∃ r : ℝ,
    val_main_v8 (F := Ideal) (m ((c : Thread nD τ).loc main_arg0)) (m ((c : Thread nD τ).loc main_arg2)) i = (r : EReal) := by
  obtain ⟨⟨H, hH⟩, -, ⟨W, hW⟩⟩ := hf
  rw [hH, hW]
  pointwise [val_main_v8, val_main_v7, val_main_v6, val_main_v5, val_main_v0]
  exact ⟨_, Scalars.sum_mul_coe _ _ _⟩

/-- What the body stores of the gate's factor at `y` of point `t` is the reference's element there. -/
theorem point4 (c : Dev nD) (hf : Finite m c) (t : Fin cfg0.N) (y : S1x1024x704.Idx) :
    k0_pay6 (F := Ideal) (iblk m c 0 t) (iblk m c 1 t) (iblk m c 2 t) (iblk m c 3 t) y
      = val_main_v15 (F := Ideal) (m ((c : Thread nD τ).loc main_arg0)) (m ((c : Thread nD τ).loc main_arg1)) (m ((c : Thread nD τ).loc main_arg2)) (((cfg0.win 4).blk t).view.emb y) := by
  obtain ⟨z, hz⟩ := gate_real m c hf (((cfg0.win 4).blk t).view.emb y)
  obtain ⟨u, hu⟩ := up_real m c hf (((cfg0.win 4).blk t).view.emb y)
  have ha := (gate m c t y).trans hz
  have hb := (up m c t y).trans hu
  pointwise [k0_pay6, k0_pay5, k0_pay4, val_main_v15, val_main_v14, val_main_v13, val_main_v11, val_main_cst, val_main_call1_v0, val_main_call1_v1, val_main_call1_v2,
    val_main_v9_1, val_main_v9_2, val_main_call0_v0, val_main_call0_v1, val_main_call0_v2, val_main_call0_v3, val_main_call0_v4, val_main_call0_v6, val_main_call0_v7,
    val_main_call0_cst, val_main_call0_cst_0, val_main_call0_cst_1]
  exact Scalars.gate_factor ha hb hz hu

/-- What the body stores of the up's factor at `y` of point `t` is the reference's element there. -/
theorem point5 (c : Dev nD) (hf : Finite m c) (t : Fin cfg0.N) (y : S1x1024x704.Idx) :
    k0_pay7 (F := Ideal) (iblk m c 0 t) (iblk m c 1 t) y
      = val_main_v16 (F := Ideal) (m ((c : Thread nD τ).loc main_arg0)) (m ((c : Thread nD τ).loc main_arg1)) (((cfg0.win 4).blk t).view.emb y) := by
  obtain ⟨z, hz⟩ := gate_real m c hf (((cfg0.win 4).blk t).view.emb y)
  have ha := (gate m c t y).trans hz
  pointwise [k0_pay7, k0_pay5, k0_pay4, val_main_v16, val_main_v12, val_main_v11, val_main_cst, val_main_v9_0,
    val_main_v9_2, val_main_call0_v0, val_main_call0_v1, val_main_call0_v2, val_main_call0_v3, val_main_call0_v4,
    val_main_call0_cst, val_main_call0_cst_0]
  exact Scalars.up_factor ha hz

/-- What the body stores of the activation at `y` of point `t` is the reference's element there. -/
theorem point6 (c : Dev nD) (hf : Finite m c) (t : Fin cfg0.N) (y : S1x1024x704.Idx) :
    k0_pay1 (k0_pay8 (F := Ideal) (iblk m c 0 t) (iblk m c 1 t) (iblk m c 2 t) (iblk m c 3 t)) y
      = val_main_v17 (F := Ideal) (m ((c : Thread nD τ).loc main_arg0)) (m ((c : Thread nD τ).loc main_arg1)) (m ((c : Thread nD τ).loc main_arg2)) (((cfg0.win 4).blk t).view.emb y) := by
  obtain ⟨z, hz⟩ := gate_real m c hf (((cfg0.win 4).blk t).view.emb y)
  have ha := (gate m c t y).trans hz
  pointwise [k0_pay1, k0_pay8, k0_pay5, k0_pay4, val_main_v17, val_main_v10, val_main_v9_0,
    val_main_v9_2, val_main_call0_v0, val_main_call0_v1, val_main_call0_v2, val_main_call0_v3, val_main_call0_v4,
    val_main_call0_cst, val_main_call0_cst_0]
  exact congrArg₂ (· * ·) (Scalars.up_factor ha hz) (up m c t y)

/-- The first result array after the run is the reference's. -/
theorem final4 (c : Dev nD) (hf : Finite m c) : (dats m 0 c).arrAt 4 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c hf t y

/-- The second result array after the run is the reference's. -/
theorem final5 (c : Dev nD) (hf : Finite m c) : (dats m 0 c).arrAt 5 (cfgs 0).N
    = val_main_v16 (F := Ideal) (m ((c : Thread nD τ).loc main_arg0)) (m ((c : Thread nD τ).loc main_arg1)) := by
  refine (dats m 0 c).arrAt_eq_of_covers 5 _ (by decide +kernel) fun t _ y => ?_
  blk_simp
  rw [after0_5]; frame_out
  exact point5 m c hf t y

/-- The third result array after the run is the reference's. -/
theorem final6 (c : Dev nD) (hf : Finite m c) : (dats m 0 c).arrAt 6 (cfgs 0).N
    = val_main_v17 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  exact point6 m c hf t y

/-- The precondition says that the three arguments are families of real numbers. -/
theorem finite_of_pre (hpre : Cert.Pre_KernelFfnInIdeal_finite_ffn_in m) (c : Dev nD) : Finite m c := by
  have h := congrFun (hpre c) ix0
  dsimp only [Cert.Pre_finite_ffn_in.fn] at h
  obtain ⟨h, h2⟩ := IntOp.andi_eq_one.1 h
  obtain ⟨h0, h1⟩ := IntOp.andi_eq_one.1 h
  exact ⟨Finite.real_of_all _ _ (fun _ => Scalars.infinity) _ _ _ _ h0,
    Finite.real_of_all _ _ (fun _ => Scalars.infinity) _ _ _ _ h1,
    Finite.real_of_all _ _ (fun _ => Scalars.infinity) _ _ _ _ h2⟩

/-- The kernel and the reference compute the same three results over the extended reals, of finite inputs. -/
theorem algebraic : Cert.algebraic_KernelFfnInIdeal_ReferenceFfnInIdeal_pre_finite_ffn_in := by
  pair_intro
  · run_from Cert.KernelFfnInIdeal.Value.run_blocks m g
  · run_from Cert.ReferenceFfnInIdeal.Value.run m' g'
    · exact (final4 m c (finite_of_pre m hpre c)).symm
    · exact (final5 m c (finite_of_pre m hpre c)).symm
    · exact (final6 m c (finite_of_pre m hpre c)).symm

end Cert.FfnIn

end
-- ==== Proof.Wcd.lean ====
/- The gradient of the second layer's input projection's weight: what `wgrad_in_cd` leaves is the reference's contraction over the
   tokens, page by page. -/
module

public import proofs.«01_k».proof.Defs
public import proofs.«01_k».proof.Proof.Gen.KernelWcdIdeal.Value
public import proofs.«01_k».proof.Proof.Gen.ReferenceWcdIdeal.Read
public import Idealize.ShloMosaic.Lib.Pipeline.ValueKit
public import Idealize.ShloMosaic.Lib.Claim

@[expose] public section

set_option maxRecDepth 16384

noncomputable section

namespace Cert.Wcd

open Idealize.ShloMosaic Idealize.ShloMosaic.TcCoe Idealize.SL.Sem
open Idealize.ShloMosaic.Pipeline (Dat)
open Cert.KernelWcdIdeal Cert.KernelWcdIdeal.Gen
open Cert.ReferenceWcdIdeal.Read

variable (m : (ℓ : Loc nD τ sig) → Buf (Elt Ideal) ℓ)

/-- Point `t` handles page `t`: the cotangent's columns and the result's block are page `t`'s, the input's the whole. -/
theorem idx : ∀ t : Fin cfg0.N, win0_0.index t = ![0, 0] ∧ win0_1.index t = ![0, t.val] ∧ win0_2.index t = ![t.val, 0, 0] :=
  (by decide +kernel : ∀ t : Fin grid0.N, _)

/-- What the body stores at `y` of page `t` is the reference's element there. -/
theorem point (c : Dev nD) (t : Fin cfg0.N) (y : S1x1024x640.Idx) : k0_pay1 (F := Ideal) (iblk m c 0 t) (iblk m c 1 t) y
    = val_main_v7 (F := Ideal) (m ((c : Thread nD τ).loc main_arg0)) (m ((c : Thread nD τ).loc main_arg1)) (((cfg0.win 2).blk t).view.emb y) := by
  pointwise [k0_pay1, val_main_v7, val_main_v6, val_main_v5, val_main_v4, val_main_v3, val_main_v2, val_main_v1]
  refine Finset.sum_congr rfl fun k _ => (mul_comm (G := EReal) _ _).trans ?_
  refine congrArg₂ (fun a b : EReal => a * b) ?_ ?_ <;> blk_point [iblk, V, idx t]

/-- The result array after the run is the reference's. -/
theorem final (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference compute the same gradient over the extended reals. -/
theorem algebraic : Cert.algebraic_KernelWcdIdeal_ReferenceWcdIdeal := by
  pair_intro
  · run_from Cert.KernelWcdIdeal.Value.run_blocks m g
  · run_from Cert.ReferenceWcdIdeal.Value.run m' g'
    exact (final m c).symm

end Cert.Wcd

end
-- ==== Proof.Wout.lean ====
/- The gradient of the output projection's weight: what `wgrad_out_ab` leaves is the reference's contraction over the
   tokens, page by page. -/
module

public import proofs.«01_k».proof.Defs
public import proofs.«01_k».proof.Proof.Gen.KernelWoutIdeal.Value
public import proofs.«01_k».proof.Proof.Gen.ReferenceWoutIdeal.Read
public import Idealize.ShloMosaic.Lib.Pipeline.ValueKit
public import Idealize.ShloMosaic.Lib.Claim

@[expose] public section

set_option maxRecDepth 16384

noncomputable section

namespace Cert.Wout

open Idealize.ShloMosaic Idealize.ShloMosaic.TcCoe Idealize.SL.Sem
open Idealize.ShloMosaic.Pipeline (Dat)
open Cert.KernelWoutIdeal Cert.KernelWoutIdeal.Gen
open Cert.ReferenceWoutIdeal.Read

variable (m : (ℓ : Loc nD τ sig) → Buf (Elt Ideal) ℓ)

/-- Point `t` handles the projection's rows of page `t`: the input's columns and the result's block are page `t`'s, the cotangent the whole. -/
theorem idx : ∀ t : Fin cfg0.N, win0_0.index t = ![0, t.val] ∧ win0_1.index t = ![0, 0] ∧ win0_2.index t = ![t.val, 0, 0] :=
  (by decide +kernel : ∀ t : Fin grid0.N, _)

/-- What the body stores at `y` of page `t` is the reference's element there. -/
theorem point (c : Dev nD) (t : Fin cfg0.N) (y : S1x256x1024.Idx) : k0_pay1 (F := Ideal) (iblk m c 0 t) (iblk m c 1 t) y
    = val_main_v7 (F := Ideal) (m ((c : Thread nD τ).loc main_arg0)) (m ((c : Thread nD τ).loc main_arg1)) (((cfg0.win 2).blk t).view.emb y) := by
  pointwise [k0_pay1, val_main_v7, val_main_v6, val_main_v5, val_main_v4, val_main_v3, val_main_v2, val_main_v1]
  refine Finset.sum_congr rfl fun k _ => (mul_comm (G := EReal) _ _).trans ?_
  refine congrArg₂ (fun a b : EReal => a * b) ?_ ?_ <;> blk_point [iblk, V, idx t]

/-- The result array after the run is the reference's. -/
theorem final (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference compute the same gradient over the extended reals. -/
theorem algebraic : Cert.algebraic_KernelWoutIdeal_ReferenceWoutIdeal := by
  pair_intro
  · run_from Cert.KernelWoutIdeal.Value.run_blocks m g
  · run_from Cert.ReferenceWoutIdeal.Value.run m' g'
    exact (final m c).symm

end Cert.Wout

end
-- ==== Proof.Dout.lean ====
/- The gradient at the output projection's input: what `dgrad_out_ab` leaves is the reference's product with the transposed weight, tile by tile. -/
module

public import proofs.«01_k».proof.Defs
public import proofs.«01_k».proof.Proof.Gen.KernelDoutIdeal.Value
public import proofs.«01_k».proof.Proof.Gen.ReferenceDoutIdeal.Read
public import Idealize.ShloMosaic.Lib.Pipeline.ValueKit
public import Idealize.ShloMosaic.Lib.Claim

@[expose] public section

set_option maxRecDepth 16384

noncomputable section

namespace Cert.Dout

open Idealize.ShloMosaic Idealize.ShloMosaic.TcCoe Idealize.SL.Sem
open Idealize.ShloMosaic.Pipeline (Dat)
open Cert.KernelDoutIdeal Cert.KernelDoutIdeal.Gen
open Cert.ReferenceDoutIdeal.Read

variable (m : (ℓ : Loc nD τ sig) → Buf (Elt Ideal) ℓ)

/-- Point `t` handles the `t`th tile of rows; the weight is whole. -/
theorem idx : ∀ t : Fin cfg0.N, win0_0.index t = ![t.val, 0] ∧ win0_1.index t = ![0, 0] ∧ win0_2.index t = ![t.val, 0] :=
  (by decide +kernel : ∀ t : Fin grid0.N, _)

/-- What the body stores at `y` of tile `t` is the reference's element there. -/
theorem point (c : Dev nD) (t : Fin cfg0.N) (y : S1024x1024.Idx) : k0_pay1 (F := Ideal) (iblk m c 0 t) (iblk m c 1 t) y
    = val_main_v4 (F := Ideal) (m ((c : Thread nD τ).loc main_arg0)) (m ((c : Thread nD τ).loc main_arg1)) (((cfg0.win 2).blk t).view.emb y) := by
  pointwise [k0_pay1, val_main_v4, val_main_v3, val_main_v1]
  refine Finset.sum_congr rfl fun k _ => congrArg₂ (fun a b : EReal => a * b) ?_ ?_ <;> blk_point [iblk, V, idx t]

/-- The result array after the run is the reference's. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference compute the same function over the extended reals. -/
theorem algebraic : Cert.algebraic_KernelDoutIdeal_ReferenceDoutIdeal := by
  pair_intro
  · run_from Cert.KernelDoutIdeal.Value.run_blocks m g
  · run_from Cert.ReferenceDoutIdeal.Value.run m' g'
    exact (final m c).symm

end Cert.Dout

end
-- ==== Proof.FfnOut.lean ====
/- The feed-forward block's down projection with its residual and the next norm: what `ffn_out_0` leaves is the reference's, tile by tile. -/
module

public import proofs.«01_k».proof.Defs
public import proofs.«01_k».proof.Proof.Gen.KernelFfnOutIdeal.Value
public import proofs.«01_k».proof.Proof.Gen.ReferenceFfnOutIdeal.Read
public import proofs.«01_k».proof.Proof.RmsNorm
public import Idealize.ShloMosaic.Lib.Pipeline.ValueKit
public import Idealize.ShloMosaic.Lib.Claim

@[expose] public section

set_option maxRecDepth 16384

noncomputable section

namespace Cert.FfnOut

open Idealize.ShloMosaic Idealize.ShloMosaic.TcCoe Idealize.SL.Sem
open Idealize.ShloMosaic.Pipeline (Dat)
open Cert.KernelFfnOutIdeal Cert.KernelFfnOutIdeal.Gen
open Cert.ReferenceFfnOutIdeal.Read

variable (m : (ℓ : Loc nD τ sig) → Buf (Elt Ideal) ℓ) (c : Dev nD) (t : Fin cfg0.N)

/-- Point `t` handles the `t`th tile of rows; the weight and the gain are whole. -/
theorem idx : ∀ t : Fin cfg0.N, win0_0.index t = ![0, t.val, 0] ∧ win0_1.index t = ![0, 0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- The activation. -/
abbrev A0 := m ((c : Thread nD τ).loc main_arg0)
/-- The weight. -/
abbrev A1 := m ((c : Thread nD τ).loc main_arg1)
/-- The residual. -/
abbrev A2 := m ((c : Thread nD τ).loc main_arg2)
/-- The norm's gain. -/
abbrev A3 := m ((c : Thread nD τ).loc main_arg3)

/-- A tile's row `r` as a token. -/
abbrev row (r : Fin 1024) : Fin 4096 := ⟨1024 * t + r, by have := lt_of_lt_of_eq t.isLt N_0; omega⟩

/-- A point's activation. -/
abbrev Ab (p : Fin 4) (r : Fin 1024) (f : Fin 704) : EReal := iblk (F := Ideal) m c 0 t (ValueIdx.ix3 p r f)
/-- A point's weight. -/
abbrev Wb (p : Fin 4) (f : Fin 704) (l : Fin 1024) : EReal := iblk (F := Ideal) m c 1 t (ValueIdx.ix4 p 0 f l)
/-- The activation at a shard, a token and a lane. -/
abbrev Fa (p : Fin 4) (k : Fin 4096) (f : Fin 704) : EReal := A0 m c (ValueIdx.ix3 p k f)
/-- The weight at a shard and two lanes. -/
abbrev Ga (p : Fin 4) (f : Fin 704) (l : Fin 1024) : EReal := A1 m c (ValueIdx.ix4 p 0 f l)

/-- The activation's block. -/
theorem a_at (p : Fin 4) (r : Fin 1024) (f : Fin 704) : iblk (F := Ideal) m c 0 t (ValueIdx.ix3 p r f) = A0 m c (ValueIdx.ix3 p (row t r) f) := by
  blk_point [iblk, V, idx t]
  change (t : ℕ) * 1024 + (r : ℕ) = 1024 * t + r
  omega

/-- The weight's block. -/
theorem w_at (p : Fin 4) (f : Fin 704) (l : Fin 1024) : iblk (F := Ideal) m c 1 t (ValueIdx.ix4 p 0 f l) = A1 m c (ValueIdx.ix4 p 0 f l) := by
  blk_point [iblk, V, idx t]

/-- The residual's block. -/
theorem x_at (r l : Fin 1024) : iblk (F := Ideal) m c 2 t (ValueIdx.ix2 r l) = A2 m c (ValueIdx.ix2 (row t r) l) := by
  blk_point [iblk, V, idx t]
  change (t : ℕ) * 1024 + (r : ℕ) = 1024 * t + r
  omega

/-- The gain's block. -/
theorem g_at (l : Fin 1024) : iblk (F := Ideal) m c 3 t (ValueIdx.ix2 0 l) = A3 m c (ValueIdx.ix1 l) := by
  have e : (V (F := Ideal) m c main_v0 : S1x1024.Idx → EReal) = shapeCast S1x1024 (A3 m c) Gen.shapeCasts_S1024_S1x1024 := rfl
  change (V (F := Ideal) m c main_v0 : S1x1024.Idx → EReal) ((win0_3.blk t).view.emb _) = _
  rw [e]
  pointwise []
  blk_point [idx t]

/-- A point's block of the sum: its products over the four shards in turn, and the residual. -/
def sum : FVec Ideal S1024x1024 .f32 :=
  k0_pay3 (iblk m c 0 t) (iblk m c 1 t) (iblk m c 2 t) (iblk m c 3 t)

/-- That block is the reference's sum over shards and lanes, and the residual. -/
theorem sum_at (r l : Fin 1024) : sum m c t (ValueIdx.ix2 r l)
    = val_main_v4 (F := Ideal) (A0 m c) (A1 m c) (A2 m c) (ValueIdx.ix2 (row t r) l) := by
  pointwise [sum, k0_pay3, k0_pay2, val_main_v4, val_main_v3, val_main_v2, val_main_v1, val_main_v0]
  refine (add_comm (G := EReal) _ _).trans (congrArg₂ (fun a b : EReal => a + b) (x_at m c t r l) ?_)
  have e0 : ∀ p : Fin 4, ∑ f, Ab m c t p r f * Wb m c t p f l = ∑ f, Fa m c p (row t r) f * Ga m c p f l := fun p =>
    Finset.sum_congr rfl fun f _ => congrArg₂ (fun a b : EReal => a * b) (a_at m c t p r f) (w_at m c t p f l)
  refine Eq.trans ?_ Finset.sum_comm
  refine Eq.trans ?_ (Fin.sum_univ_four fun p => ∑ f, Fa m c p (row t r) f * Ga m c p f l).symm
  exact congrArg₂ (fun a b : EReal => a + b) (congrArg₂ (fun a b : EReal => a + b) (congrArg₂ (fun a b : EReal => a + b)
    (e0 0) (e0 1)) (e0 2)) (e0 3)

/-- A tile of the norm is the reference's. -/
theorem norm_at (r l : Fin 1024) : k0_pay1 (F := Ideal) (sum m c t) (iblk m c 3 t) (ValueIdx.ix2 r l)
    = val_main_v18 (F := Ideal) (A0 m c) (A1 m c) (A2 m c) (A3 m c) (ValueIdx.ix2 (row t r) l) := by
  have e1 : k0_pay1 (F := Ideal) (sum m c t) (iblk m c 3 t) (ValueIdx.ix2 r l)
      = RmsNorm.normed (fun x => sum m c t (ValueIdx.ix2 r x)) (fun x => iblk (F := Ideal) m c 3 t (ValueIdx.ix2 0 x)) l := by
    pointwise [RmsNorm.normed, RmsNorm.meanSq, k0_pay1]
    rfl
  have e2 : val_main_v18 (F := Ideal) (A0 m c) (A1 m c) (A2 m c) (A3 m c) (ValueIdx.ix2 (row t r) l)
      = RmsNorm.normed (fun x => val_main_v4 (F := Ideal) (A0 m c) (A1 m c) (A2 m c) (ValueIdx.ix2 (row t r) x))
          (fun x => A3 m c (ValueIdx.ix1 x)) l := by
    pointwise [RmsNorm.normed, RmsNorm.meanSq, val_main_v18, val_main_v17, val_main_v16, val_main_v15, val_main_v14, val_main_v13, val_main_v12, val_main_v11, val_main_v10, val_main_v9,
      val_main_v8, val_main_v7, val_main_v6, val_main_v5, val_main_cst, val_main_cst_0, val_main_cst_1]
    rfl
  rw [e1, e2]
  exact congrArg₂ (fun X g => RmsNorm.normed X g l) (funext fun x => sum_at m c t r x) (funext fun x => g_at m c t x)

/-- The sum after the run is the reference's. -/
theorem final4 : (dats m 0 c).arrAt 4 (cfgs 0).N = val_main_v4 (F := Ideal) (A0 m c) (A1 m c) (A2 m c) := by
  refine (dats m 0 c).arrAt_eq_of_covers 4 _ (by decide +kernel) fun t _ y => ?_
  blk_simp
  rw [after0_4]; frame_out
  rw [ValueIdx.eq_ix2 y]
  refine (sum_at m c t _ _).trans ?_
  blk_point [idx t]
  change 1024 * (t : ℕ) + (y 0 : ℕ) = t * 1024 + (y 0 : ℕ)
  omega

/-- The norm after the run is the reference's. -/
theorem final5 : (dats m 0 c).arrAt 5 (cfgs 0).N = val_main_v18 (F := Ideal) (A0 m c) (A1 m c) (A2 m c) (A3 m c) := by
  refine (dats m 0 c).arrAt_eq_of_covers 5 _ (by decide +kernel) fun t _ y => ?_
  blk_simp
  rw [after0_5]; frame_out
  rw [ValueIdx.eq_ix2 y]
  refine (norm_at m c t _ _).trans ?_
  blk_point [idx t]
  change 1024 * (t : ℕ) + (y 0 : ℕ) = t * 1024 + (y 0 : ℕ)
  omega

/-- The kernel and the reference compute the same sum and the same norm over the extended reals. -/
theorem algebraic : Cert.algebraic_KernelFfnOutIdeal_ReferenceFfnOutIdeal := by
  pair_intro
  · run_from Cert.KernelFfnOutIdeal.Value.run_blocks m g
  · run_from Cert.ReferenceFfnOutIdeal.Value.run m' g'
    · exact (final4 m c).symm
    · exact (final5 m c).symm

end Cert.FfnOut

end
-- ==== Proof.Loss.lean ====
/- The last feed-forward block's down projection with its residual and the loss head: what `ffn_out_1` leaves is the reference's, tile by tile. -/
module

public import proofs.«01_k».proof.Defs
public import proofs.«01_k».proof.Proof.Gen.KernelLossIdeal.Value
public import proofs.«01_k».proof.Proof.Gen.ReferenceLossIdeal.Read
public import proofs.«01_k».proof.Proof.RmsNorm
public import Idealize.ShloMosaic.Lib.Pipeline.ValueKit
public import Idealize.ShloMosaic.Lib.Claim

@[expose] public section

set_option maxRecDepth 16384

noncomputable section

namespace Cert.Loss

open Idealize.ShloMosaic Idealize.ShloMosaic.TcCoe Idealize.SL.Sem
open Idealize.ShloMosaic.Pipeline (Dat)
open Cert.ReferenceLossIdeal.Read

section

open Cert.ReferenceLossIdeal

/-- The reference's run leaves its stages in its results. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = val_main_v19 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v23) = val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v24) = val_main_v24 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v19_eq _ _ _ _), (h c).2.1.trans (val_main_v23_eq _ _ _ _),
    (h c).2.2.1.trans (val_main_v24_eq _ _ _ _), (h c).2.2.2⟩) (Cert.ReferenceLossIdeal.Value.run m ρ)

end

open Cert.KernelLossIdeal Cert.KernelLossIdeal.Gen

variable (m : (ℓ : Loc nD τ sig) → Buf (Elt Ideal) ℓ) (c : Dev nD) (t : Fin cfg0.N)

/-- Point `t` handles the `t`th tile of rows; the weight and the accumulator are whole. -/
theorem idx : ∀ t : Fin cfg0.N, win0_0.index t = ![0, t.val, 0] ∧ win0_1.index t = ![0, 0, 0, 0] ∧ win0_2.index t = ![t.val, 0]
    ∧ win0_3.index t = ![t.val, 0] ∧ win0_4.index t = ![t.val, 0] ∧ win0_5.index t = ![0, 0] ∧ win0_6.index t = ![t.val, 0] :=
  (by decide +kernel : ∀ t : Fin grid0.N, _)

/-- The activation. -/
abbrev A0 := m ((c : Thread nD τ).loc main_arg0)
/-- The weight. -/
abbrev A1 := m ((c : Thread nD τ).loc main_arg1)
/-- The residual. -/
abbrev A2 := m ((c : Thread nD τ).loc main_arg2)
/-- The target. -/
abbrev A3 := m ((c : Thread nD τ).loc main_arg3)

/-- A tile's row `r` as a token. -/
abbrev row (r : Fin 1024) : Fin 4096 := ⟨1024 * t + r, by have := lt_of_lt_of_eq t.isLt N_0; omega⟩

/-- A point's activation. -/
abbrev Ab (p : Fin 4) (r : Fin 1024) (f : Fin 704) : EReal := iblk (F := Ideal) m c 0 t (ValueIdx.ix3 p r f)
/-- A point's weight. -/
abbrev Wb (p : Fin 4) (f : Fin 704) (l : Fin 1024) : EReal := iblk (F := Ideal) m c 1 t (ValueIdx.ix4 p 0 f l)
/-- The activation at a shard, a token and a lane. -/
abbrev Fa (p : Fin 4) (k : Fin 4096) (f : Fin 704) : EReal := A0 m c (ValueIdx.ix3 p k f)
/-- The weight at a shard and two lanes. -/
abbrev Ga (p : Fin 4) (f : Fin 704) (l : Fin 1024) : EReal := A1 m c (ValueIdx.ix4 p 0 f l)

/-- The activation's block. -/
theorem a_at (p : Fin 4) (r : Fin 1024) (f : Fin 704) : iblk (F := Ideal) m c 0 t (ValueIdx.ix3 p r f) = A0 m c (ValueIdx.ix3 p (row t r) f) := by
  blk_point [iblk, V, idx t]
  change (t : ℕ) * 1024 + (r : ℕ) = 1024 * t + r
  omega

/-- The weight's block. -/
theorem w_at (p : Fin 4) (f : Fin 704) (l : Fin 1024) : iblk (F := Ideal) m c 1 t (ValueIdx.ix4 p 0 f l) = A1 m c (ValueIdx.ix4 p 0 f l) := by
  blk_point [iblk, V, idx t]

/-- The residual's block. -/
theorem x_at (r l : Fin 1024) : iblk (F := Ideal) m c 2 t (ValueIdx.ix2 r l) = A2 m c (ValueIdx.ix2 (row t r) l) := by
  blk_point [iblk, V, idx t]
  change (t : ℕ) * 1024 + (r : ℕ) = 1024 * t + r
  omega

/-- The target's block. -/
theorem y_at (r l : Fin 1024) : iblk (F := Ideal) m c 3 t (ValueIdx.ix2 r l) = A3 m c (ValueIdx.ix2 (row t r) l) := by
  blk_point [iblk, V, idx t]
  change (t : ℕ) * 1024 + (r : ℕ) = 1024 * t + r
  omega

/-- A point's block of the sum: its products over the four shards in turn, and the residual. -/
def sum : FVec Ideal S1024x1024 .f32 :=
  k0_pay6 (View.ld (iblk m c 0 t) (Rect.unit ![0, 0, 0] ![1, 1024, 704] inb_S4x1024x704_S1x1024x704_0_0_0)) (View.ld (iblk m c 1 t) (Rect.unit ![0, 0, 0, 0] ![1, 1, 704, 1024] inb_S4x1x704x1024_S1x1x704x1024_0_0_0_0))
    (View.ld (iblk m c 0 t) (Rect.unit ![1, 0, 0] ![1, 1024, 704] inb_S4x1024x704_S1x1024x704_1_0_0)) (View.ld (iblk m c 1 t) (Rect.unit ![1, 0, 0, 0] ![1, 1, 704, 1024] inb_S4x1x704x1024_S1x1x704x1024_1_0_0_0))
    (View.ld (iblk m c 0 t) (Rect.unit ![2, 0, 0] ![1, 1024, 704] inb_S4x1024x704_S1x1024x704_2_0_0)) (View.ld (iblk m c 1 t) (Rect.unit ![2, 0, 0, 0] ![1, 1, 704, 1024] inb_S4x1x704x1024_S1x1x704x1024_2_0_0_0))
    (View.ld (iblk m c 0 t) (Rect.unit ![3, 0, 0] ![1, 1024, 704] inb_S4x1024x704_S1x1024x704_3_0_0)) (View.ld (iblk m c 1 t) (Rect.unit ![3, 0, 0, 0] ![1, 1, 704, 1024] inb_S4x1x704x1024_S1x1x704x1024_3_0_0_0))
    (iblk m c 2 t)

/-- That block is the reference's sum over shards and lanes, and the residual. -/
theorem sum_at (r l : Fin 1024) : sum m c t (ValueIdx.ix2 r l)
    = val_main_v4 (F := Ideal) (A0 m c) (A1 m c) (A2 m c) (ValueIdx.ix2 (row t r) l) := by
  pointwise [sum, k0_pay6, val_main_v4, val_main_v3, val_main_v2, val_main_v1, val_main_v0]
  refine (add_comm (G := EReal) _ _).trans (congrArg₂ (fun a b : EReal => a + b) (x_at m c t r l) ?_)
  have e0 : ∀ p : Fin 4, ∑ f, Ab m c t p r f * Wb m c t p f l = ∑ f, Fa m c p (row t r) f * Ga m c p f l := fun p =>
    Finset.sum_congr rfl fun f _ => congrArg₂ (fun a b : EReal => a * b) (a_at m c t p r f) (w_at m c t p f l)
  refine Eq.trans ?_ Finset.sum_comm
  refine Eq.trans ?_ (Fin.sum_univ_four fun p => ∑ f, Fa m c p (row t r) f * Ga m c p f l).symm
  exact congrArg₂ (fun a b : EReal => a + b) (congrArg₂ (fun a b : EReal => a + b) (congrArg₂ (fun a b : EReal => a + b)
    (e0 0) (e0 1)) (e0 2)) (e0 3)

/-- The error of a token. -/
abbrev Er (k : Fin 4096) (l : Fin 1024) : EReal := val_main_v5 (F := Ideal) (A0 m c) (A1 m c) (A2 m c) (A3 m c) (ValueIdx.ix2 k l)

/-- A tile of the error is the reference's. -/
theorem err_at (r l : Fin 1024) : k0_pay1 (F := Ideal) (sum m c t) (iblk m c 3 t) (ValueIdx.ix2 r l) = Er m c (row t r) l := by
  pointwise [k0_pay1, val_main_v5]
  exact congrArg₂ (fun a b : EReal => a - b) (sum_at m c t r l) (y_at m c t r l)

/-- The literal 1/1024 is half of one over 1024, doubled. -/
theorem scale : Ideal.ofBits .f32 0x3A800000#32
    = Ideal.div (Ideal.ofBits .f32 0x3F000000#32) (Ideal.ofBits .f32 0x44800000#32) * Ideal.ofBits .f32 0x40000000#32 := by
  have e1 : Ideal.ofBits .f32 0x3A800000#32 = ((1 / 1024 : ℝ) : EReal) := by simp [Ideal.ofBits, Ideal.ieee, ← EReal.coe_mul]; norm_num
  have e2 : Ideal.ofBits .f32 0x3F000000#32 = ((1 / 2 : ℝ) : EReal) := by simp [Ideal.ofBits, Ideal.ieee, ← EReal.coe_mul]; norm_num
  have e3 : Ideal.ofBits .f32 0x40000000#32 = ((2 : ℝ) : EReal) := by simp [Ideal.ofBits, Ideal.ieee, ← EReal.coe_mul]; norm_num
  rw [e1, e2, e3, RmsNorm.n1024, Ideal.div_coe (by norm_num), ← EReal.coe_mul, ← EReal.coe_mul]
  norm_num

/-- A tile of the loss's gradient is the reference's. -/
theorem dy_at (r l : Fin 1024) : k0_pay2 (F := Ideal) (sum m c t) (iblk m c 3 t) (ValueIdx.ix2 r l)
    = val_main_v19 (F := Ideal) (A0 m c) (A1 m c) (A2 m c) (A3 m c) (ValueIdx.ix2 (row t r) l) := by
  pointwise [k0_pay2, val_main_v19, val_main_v18, val_main_v17, val_main_v16, val_main_v15, val_main_v14, val_main_v8, val_main_v7,
    val_main_cst, val_main_cst_4, val_main_cst_5, val_main_cst_6]
  rw [err_at, scale]
  exact (mul_comm (G := EReal) _ _).trans (mul_assoc (G := EReal) _ _ _)

/-- A grid point's step of the sum of squares. -/
theorem acc_at (v : FVec Ideal S8x128 .f32) (j : S8x128.Idx) : k0_pay5 (F := Ideal) (sum m c t) (iblk m c 3 t) v j
    = v j + ∑ r : Fin 1024, ∑ l : Fin 1024, Er m c (row t r) l * Er m c (row t r) l := by
  pointwise [k0_pay5]
  exact congrArg (fun z : EReal => v j + z) (Finset.sum_congr rfl fun r _ => Finset.sum_congr rfl fun l _ =>
    congrArg₂ (fun a b : EReal => a * b) (err_at m c t r l) (err_at m c t r l))

/-- The reference's sum of squares. -/
theorem acc_ref (j : S8x128.Idx) : val_main_v23 (F := Ideal) (A0 m c) (A1 m c) (A2 m c) (A3 m c) j
    = ∑ k : Fin 4096, ∑ l : Fin 1024, Er m c k l * Er m c k l := by
  pointwise [val_main_v23, val_main_v22, val_main_v21, val_main_v20, val_main_cst_7]
  rfl

/-- The loss's gradient after the run is the reference's. -/
theorem final4 : (dats m 0 c).arrAt 4 (cfgs 0).N = val_main_v19 (F := Ideal) (A0 m c) (A1 m c) (A2 m c) (A3 m c) := by
  refine (dats m 0 c).arrAt_eq_of_covers 4 _ (by decide +kernel) fun t _ y => ?_
  blk_simp
  rw [after0_4]
  have hy : 1024 * (t : ℕ) + (y 0 : ℕ) = t * 1024 + (ValueIdx.ix2 (y 0) (y 1) 0 : ℕ) := by
    change 1024 * (t : ℕ) + (y 0 : ℕ) = t * 1024 + (y 0 : ℕ)
    omega
  by_cases h : t.val % 4 = 0
  · rw [outsAt0_A m c t h]
    frame_out
    rw [ValueIdx.eq_ix2 y]
    refine (dy_at m c t _ _).trans ?_
    blk_point [idx t]
    exact hy
  · rw [outsAt0_B m c t h]
    frame_out
    rw [ValueIdx.eq_ix2 y]
    refine (dy_at m c t _ _).trans ?_
    blk_point [idx t]
    exact hy

/-- The rounded copy of the loss's gradient after the run is the reference's. -/
theorem final6 : (dats m 0 c).arrAt 6 (cfgs 0).N = val_main_v24 (F := Ideal) (A0 m c) (A1 m c) (A2 m c) (A3 m c) := by
  refine (dats m 0 c).arrAt_eq_of_covers 6 _ (by decide +kernel) fun t _ y => ?_
  blk_simp
  rw [after0_6]
  have hy : 1024 * (t : ℕ) + (y 0 : ℕ) = t * 1024 + (ValueIdx.ix2 (y 0) (y 1) 0 : ℕ) := by
    change 1024 * (t : ℕ) + (y 0 : ℕ) = t * 1024 + (y 0 : ℕ)
    omega
  by_cases h : t.val % 4 = 0
  · rw [outsAt0_A m c t h]
    frame_out
    rw [ValueIdx.eq_ix2 y]
    pointwise [k0_pay3, val_main_v24]
    refine (dy_at m c t _ _).trans ?_
    blk_point [idx t]
    exact hy
  · rw [outsAt0_B m c t h]
    frame_out
    rw [ValueIdx.eq_ix2 y]
    pointwise [k0_pay3, val_main_v24]
    refine (dy_at m c t _ _).trans ?_
    blk_point [idx t]
    exact hy

/-- A grid point's part of the sum of squares. -/
def part (t : Fin cfg0.N) (_ : S8x128.Idx) : EReal := ∑ r : Fin 1024, ∑ l : Fin 1024, Er m c (row t r) l * Er m c (row t r) l

/-- The parts of the four grid points make the sum over all tokens. -/
theorem part_sum (j : S8x128.Idx) : ∑ t, part m c t j = ∑ k : Fin 4096, ∑ l : Fin 1024, Er m c k l * Er m c k l := by
  have e : ∑ t : Fin 4, ∑ k : Fin 1024, ∑ l : Fin 1024, Er m c (row (Fin.cast N_0.symm t) k) l * Er m c (row (Fin.cast N_0.symm t) k) l
      = ∑ _ : Fin 1, ∑ k : Fin 4096, ∑ l : Fin 1024, Er m c k l * Er m c k l :=
    Fin.sum_points_lanes_congr 4 (fun t k _ _ => congrArg (fun z => ∑ l : Fin 1024, Er m c z l * Er m c z l) (Fin.ext (by
      show 1024 * (t : ℕ) + k = (t : ℕ) % 4 * 1024 + k
      have := t.isLt
      omega)))
  exact e.trans (Fintype.sum_unique _)

/-- The first point starts from zero. -/
theorem first (t : Fin cfg0.N) (h : t.val % 4 = 0) (j : S8x128.Idx) :
    (outsAt0 m c t.val t.isLt).2.1 j = 0 + part m c t j := by
  rw [outsAt0_A m c t h]
  frame_out
  refine (acc_at m c t _ j).trans (congrArg (· + _) ?_)
  pointwise [k0_pay4]

/-- A later point adds to the point before. -/
theorem next (t : Fin cfg0.N) (h : ¬ t.val % 4 = 0) (j : S8x128.Idx) :
    (outsAt0 m c t.val t.isLt).2.1 j = (outsAt0 m c (t.val - 1) (Nat.lt_of_le_of_lt (Nat.sub_le _ _) t.isLt)).2.1 j + part m c t j := by
  rw [outsAt0_B m c t h]
  frame_out
  exact acc_at m c t _ j

/-- The sum of squares after the run is the reference's. -/
theorem final5 : (dats m 0 c).arrAt 5 (cfgs 0).N = val_main_v23 (F := Ideal) (A0 m c) (A1 m c) (A2 m c) (A3 m c) := by
  refine (dats m 0 c).arrAt_eq_of_after_last 5 t0_3 (by decide +kernel) _ fun j => ?_
  blk_simp
  rw [after0_5, Pipeline.eq_sum_fin_of_reset_step_apply_last (fun n h => (outsAt0 m c n h).2.1) 4 (fun _ => 0) _
    (first m c) (next m c) (le_of_eq N_0) t0_3 rfl, part_sum]
  exact (zero_add (M := EReal) _).trans (acc_ref m c _).symm

/-- The kernel and the reference compute the same gradient, the same sum of squares and the same copy over the extended reals. -/
theorem algebraic : Cert.algebraic_KernelLossIdeal_ReferenceLossIdeal := by
  pair_intro
  · run_from Cert.KernelLossIdeal.Value.run_blocks m g
  · run_from ref_run m' g'
    · exact (final4 m c).symm
    · exact (final5 m c).symm
    · exact (final6 m c).symm

end Cert.Loss

end
-- ==== Proof.ProjOut.lean ====
/- The output projection with its residual and the next norm: what `out_ab` leaves is the reference's, tile by tile. -/
module

public import proofs.«01_k».proof.Defs
public import proofs.«01_k».proof.Proof.Gen.KernelProjOutIdeal.Value
public import proofs.«01_k».proof.Proof.Gen.ReferenceProjOutIdeal.Read
public import proofs.«01_k».proof.Proof.RmsNorm
public import Idealize.ShloMosaic.Lib.Pipeline.ValueKit
public import Idealize.ShloMosaic.Lib.Claim

@[expose] public section

set_option maxRecDepth 16384

noncomputable section

namespace Cert.ProjOut

open Idealize.ShloMosaic Idealize.ShloMosaic.TcCoe Idealize.SL.Sem
open Idealize.ShloMosaic.Pipeline (Dat)
open Cert.KernelProjOutIdeal Cert.KernelProjOutIdeal.Gen
open Cert.ReferenceProjOutIdeal.Read

variable (m : (ℓ : Loc nD τ sig) → Buf (Elt Ideal) ℓ) (c : Dev nD) (t : Fin cfg0.N)

/-- Point `t` handles the `t`th tile of rows; the weight and the gain are whole. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The mixers' output. -/
abbrev A0 := m ((c : Thread nD τ).loc main_arg0)
/-- The weight. -/
abbrev A1 := m ((c : Thread nD τ).loc main_arg1)
/-- The residual. -/
abbrev A2 := m ((c : Thread nD τ).loc main_arg2)
/-- The norms' gains. -/
abbrev A3 := m ((c : Thread nD τ).loc main_arg3)

/-- A tile's row `r` as a token. -/
abbrev row (r : Fin 1024) : Fin 4096 := ⟨1024 * t + r, by have := lt_of_lt_of_eq t.isLt N_0; omega⟩

/-- The input's block. -/
theorem a_at (r l : Fin 1024) : iblk (F := Ideal) m c 0 t (ValueIdx.ix2 r l) = A0 m c (ValueIdx.ix2 (row t r) l) := by
  blk_point [iblk, V, idx t]
  change (t : ℕ) * 1024 + (r : ℕ) = 1024 * t + r
  omega

/-- The weight's block. -/
theorem w_at (k l : Fin 1024) : iblk (F := Ideal) m c 1 t (ValueIdx.ix2 k l) = A1 m c (ValueIdx.ix2 k l) := by
  blk_point [iblk, V, idx t]

/-- The residual's block. -/
theorem x_at (r l : Fin 1024) : iblk (F := Ideal) m c 2 t (ValueIdx.ix2 r l) = A2 m c (ValueIdx.ix2 (row t r) l) := by
  blk_point [iblk, V, idx t]
  change (t : ℕ) * 1024 + (r : ℕ) = 1024 * t + r
  omega

/-- The gain's block. -/
theorem g_at (l : Fin 1024) : iblk (F := Ideal) m c 3 t (ValueIdx.ix2 0 l) = A3 m c (ValueIdx.ix2 0 l) := by
  have e : (V (F := Ideal) m c main_v0 : S1x1024.Idx → EReal) = extractStridedSlice S1x1024 ![0, 0] (A3 m c) Gen.slices_S2x1024_S1x1024_0_0 := rfl
  change (V (F := Ideal) m c main_v0 : S1x1024.Idx → EReal) ((win0_3.blk t).view.emb _) = _
  rw [e]
  pointwise []
  blk_point [idx t]

/-- A tile of the sum is the reference's. -/
theorem sum_at (r l : Fin 1024) : k0_pay1 (F := Ideal) (iblk m c 0 t) (iblk m c 1 t) (iblk m c 2 t) (ValueIdx.ix2 r l)
    = val_main_v3 (F := Ideal) (A0 m c) (A1 m c) (A2 m c) (ValueIdx.ix2 (row t r) l) := by
  pointwise [k0_pay1, val_main_v3, val_main_v2, val_main_v1, val_main_v0]
  refine (add_comm (G := EReal) _ _).trans (congrArg₂ (fun a b : EReal => a + b) (x_at m c t r l) ?_)
  exact Finset.sum_congr rfl fun k _ => congrArg₂ (fun a b : EReal => a * b) (a_at m c t r k) (w_at m c t k l)

/-- A tile of the norm is the reference's. -/
theorem norm_at (r l : Fin 1024) : k0_pay2 (F := Ideal) (iblk m c 0 t) (iblk m c 1 t) (iblk m c 2 t) (iblk m c 3 t) (ValueIdx.ix2 r l)
    = val_main_v19 (F := Ideal) (A0 m c) (A1 m c) (A2 m c) (A3 m c) (ValueIdx.ix2 (row t r) l) := by
  have e1 : k0_pay2 (F := Ideal) (iblk m c 0 t) (iblk m c 1 t) (iblk m c 2 t) (iblk m c 3 t) (ValueIdx.ix2 r l)
      = RmsNorm.normed (fun x => k0_pay1 (F := Ideal) (iblk m c 0 t) (iblk m c 1 t) (iblk m c 2 t) (ValueIdx.ix2 r x))
          (fun x => iblk (F := Ideal) m c 3 t (ValueIdx.ix2 0 x)) l := by
    pointwise [RmsNorm.normed, RmsNorm.meanSq, k0_pay2]
    rfl
  have e2 : val_main_v19 (F := Ideal) (A0 m c) (A1 m c) (A2 m c) (A3 m c) (ValueIdx.ix2 (row t r) l)
      = RmsNorm.normed (fun x => val_main_v3 (F := Ideal) (A0 m c) (A1 m c) (A2 m c) (ValueIdx.ix2 (row t r) x))
          (fun x => A3 m c (ValueIdx.ix2 0 x)) l := by
    pointwise [RmsNorm.normed, RmsNorm.meanSq, val_main_v19, val_main_v18, val_main_v17, val_main_v16, val_main_v15, val_main_v14, val_main_v13, val_main_v12, val_main_v11, val_main_v10, val_main_v9,
      val_main_v8, val_main_v7, val_main_v6, val_main_v5, val_main_v4, val_main_cst, val_main_cst_0, val_main_cst_1]
    rfl
  rw [e1, e2]
  exact congrArg₂ (fun X g => RmsNorm.normed X g l) (funext fun x => sum_at m c t r x) (funext fun x => g_at m c t x)

/-- The sum after the run is the reference's. -/
theorem final4 : (dats m 0 c).arrAt 4 (cfgs 0).N = val_main_v3 (F := Ideal) (A0 m c) (A1 m c) (A2 m c) := by
  refine (dats m 0 c).arrAt_eq_of_covers 4 _ (by decide +kernel) fun t _ y => ?_
  blk_simp
  rw [after0_4]; frame_out
  rw [ValueIdx.eq_ix2 y]
  refine (sum_at m c t _ _).trans ?_
  blk_point [idx t]
  change 1024 * (t : ℕ) + (y 0 : ℕ) = t * 1024 + (y 0 : ℕ)
  omega

/-- The norm after the run is the reference's. -/
theorem final5 : (dats m 0 c).arrAt 5 (cfgs 0).N = val_main_v19 (F := Ideal) (A0 m c) (A1 m c) (A2 m c) (A3 m c) := by
  refine (dats m 0 c).arrAt_eq_of_covers 5 _ (by decide +kernel) fun t _ y => ?_
  blk_simp
  rw [after0_5]; frame_out
  rw [ValueIdx.eq_ix2 y]
  refine (norm_at m c t _ _).trans ?_
  blk_point [idx t]
  change 1024 * (t : ℕ) + (y 0 : ℕ) = t * 1024 + (y 0 : ℕ)
  omega

/-- The kernel and the reference compute the same sum and the same norm over the extended reals. -/
theorem algebraic : Cert.algebraic_KernelProjOutIdeal_ReferenceProjOutIdeal := by
  pair_intro
  · run_from Cert.KernelProjOutIdeal.Value.run_blocks m g
  · run_from Cert.ReferenceProjOutIdeal.Value.run m' g'
    · exact (final4 m c).symm
    · exact (final5 m c).symm

end Cert.ProjOut

end
-- ==== Proof.ProjCd.lean ====
/- The second layer's input projection: what `proj_cd` leaves is the reference's product, page by page and tile by tile. -/
module

public import proofs.«01_k».proof.Defs
public import proofs.«01_k».proof.Proof.Gen.KernelProjCdIdeal.Value
public import proofs.«01_k».proof.Proof.Gen.ReferenceProjCdIdeal.Read
public import Idealize.ShloMosaic.Lib.Pipeline.ValueKit
public import Idealize.ShloMosaic.Lib.Claim

@[expose] public section

set_option maxRecDepth 16384

noncomputable section

namespace Cert.ProjCd

open Idealize.ShloMosaic Idealize.ShloMosaic.TcCoe Idealize.SL.Sem
open Idealize.ShloMosaic.Pipeline (Dat)
open Cert.KernelProjCdIdeal Cert.KernelProjCdIdeal.Gen
open Cert.ReferenceProjCdIdeal.Read

variable (m : (ℓ : Loc nD τ sig) → Buf (Elt Ideal) ℓ)

/-- Point `t` handles tile `t % 2` of the rows and page `t / 2` of the weight. -/
theorem idx : ∀ t : Fin cfg0.N, win0_0.index t = ![t.val % 2, 0] ∧ win0_1.index t = ![t.val / 2, 0, 0, 0] ∧ win0_2.index t = ![t.val % 2, t.val / 2] :=
  (by decide +kernel : ∀ t : Fin grid0.N, _)

/-- What the body stores at `y` of its block is the reference's element there. -/
theorem point (c : Dev nD) (t : Fin cfg0.N) (y : S2048x640.Idx) : k0_pay1 (F := Ideal) (iblk m c 0 t) (iblk m c 1 t) y
    = val_main_v5 (F := Ideal) (m ((c : Thread nD τ).loc main_arg0)) (m ((c : Thread nD τ).loc main_arg1)) (((cfg0.win 2).blk t).view.emb y) := by
  pointwise [k0_pay1, val_main_v5, val_main_v4, val_main_v3, val_main_v2, val_main_v1, val_main_v0]
  refine Finset.sum_congr rfl fun k _ => congrArg₂ (fun a b : EReal => a * b) ?_ ?_ <;> blk_point [iblk, V, idx t]

/-- The result array after the run is the reference's. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the reference compute the same function over the extended reals. -/
theorem algebraic : Cert.algebraic_KernelProjCdIdeal_ReferenceProjCdIdeal := by
  pair_intro
  · run_from Cert.KernelProjCdIdeal.Value.run_blocks m g
  · run_from Cert.ReferenceProjCdIdeal.Value.run m' g'
    exact (final m c).symm

end Cert.ProjCd

end
-- ==== Proof.DcdBase.lean ====
/- The gradient at the second combined input projection's input: the blocks of a grid point against the reference's stages. -/
module

public import proofs.«01_k».proof.Proof.Gen.KernelDcdIdeal.Value
public import proofs.«01_k».proof.Proof.Gen.ReferenceDcdIdeal.Read
public import proofs.«01_k».proof.Proof.RmsNorm
public import Idealize.ShloMosaic.Lib.Pipeline.ValueKit

@[expose] public section

set_option maxRecDepth 16384

noncomputable section

namespace Cert.Dcd

open Idealize.ShloMosaic Idealize.ShloMosaic.TcCoe Idealize.SL.Sem
open Idealize.ShloMosaic.Pipeline (Dat)
open Cert.KernelDcdIdeal Cert.KernelDcdIdeal.Gen
open Cert.ReferenceDcdIdeal.Read

variable (m : (ℓ : Loc nD τ sig) → Buf (Elt Ideal) ℓ) (c : Dev nD) (t : Fin cfg0.N)

/-- Point `t` handles tokens `512 t` and on; the weights, the gain and its gradient are whole. -/
theorem idx : ∀ t : Fin cfg0.N, win0_0.index t = ![t.val, 0] ∧ win0_1.index t = ![0, 0, 0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- The projection's cotangent. -/
abbrev A0 := m ((c : Thread nD τ).loc main_arg0)
/-- The weights. -/
abbrev A1 := m ((c : Thread nD τ).loc main_arg1)
/-- The layer's input. -/
abbrev A2 := m ((c : Thread nD τ).loc main_arg2)
/-- The norm's gain. -/
abbrev A3 := m ((c : Thread nD τ).loc main_arg3)
/-- The residual's cotangent. -/
abbrev A4 := m ((c : Thread nD τ).loc main_arg4)

/-- A block's row `r` as a token. -/
abbrev row (r : Fin 512) : Fin 4096 := ⟨512 * t + r, by have := lt_of_lt_of_eq t.isLt N_0; omega⟩

/-- A lane of shard `p` as a lane of the projection. -/
abbrev lane (p : Fin 4) (f : Fin 640) : Fin 2560 := ⟨p * 640 + f, by omega⟩

/-- The cotangent at a token, a shard and a lane. -/
abbrev Fa (k : Fin 4096) (p : Fin 4) (f : Fin 640) : EReal := A0 m c (ValueIdx.ix2 k (lane p f))
/-- The weight at a shard, a lane of the input and a lane of the projection. -/
abbrev Ga (p : Fin 4) (l : Fin 1024) (f : Fin 640) : EReal := A1 m c (ValueIdx.ix4 p 0 l f)
/-- The input at a token and a lane. -/
abbrev X (k : Fin 4096) (l : Fin 1024) : EReal := A2 m c (ValueIdx.ix2 k l)
/-- The norm's gain. -/
abbrev Gn (l : Fin 1024) : EReal := A3 m c (ValueIdx.ix1 l)
/-- The residual's cotangent at a token and a lane. -/
abbrev Dy (k : Fin 4096) (l : Fin 1024) : EReal := A4 m c (ValueIdx.ix2 k l)
/-- The cotangent of the normed input at a token and a lane. -/
abbrev Dz (k : Fin 4096) (l : Fin 1024) : EReal := val_main_v21 (F := Ideal) (A0 m c) (A1 m c) (ValueIdx.ix2 k l)
/-- A token's mean square plus epsilon. -/
abbrev sg (k : Fin 4096) : EReal := RmsNorm.meanSq (X m c k)
/-- What a token's gradient takes through its mean square. -/
abbrev through (k : Fin 4096) : EReal := RmsNorm.through (X m c k) fun x => Dz m c k x * Gn m c x
/-- A point's cotangent. -/
abbrev Da (r : Fin 512) (j : Fin 2560) : EReal := iblk (F := Ideal) m c 0 t (ValueIdx.ix2 r j)
/-- A point's weight. -/
abbrev Wa (p : Fin 4) (l : Fin 1024) (f : Fin 640) : EReal := iblk (F := Ideal) m c 1 t (ValueIdx.ix4 p 0 l f)
/-- A point's input. -/
abbrev Xb (r : Fin 512) (l : Fin 1024) : EReal := iblk (F := Ideal) m c 2 t (ValueIdx.ix2 r l)

/-- The cotangent's block. -/
theorem da_at (r : Fin 512) (j : Fin 2560) : iblk (F := Ideal) m c 0 t (ValueIdx.ix2 r j) = A0 m c (ValueIdx.ix2 (row t r) j) := by
  blk_point [iblk, V, idx t]
  change (t : ℕ) * 512 + (r : ℕ) = 512 * t + r
  omega

/-- The weights' block. -/
theorem w_at (p : Fin 4) (l : Fin 1024) (f : Fin 640) : iblk (F := Ideal) m c 1 t (ValueIdx.ix4 p 0 l f) = A1 m c (ValueIdx.ix4 p 0 l f) := by
  blk_point [iblk, V, idx t]

/-- The input's block. -/
theorem x_at (r : Fin 512) (l : Fin 1024) : iblk (F := Ideal) m c 2 t (ValueIdx.ix2 r l) = A2 m c (ValueIdx.ix2 (row t r) l) := by
  blk_point [iblk, V, idx t]
  change (t : ℕ) * 512 + (r : ℕ) = 512 * t + r
  omega

/-- The residual's cotangent's block. -/
theorem dy_at (r : Fin 512) (l : Fin 1024) : iblk (F := Ideal) m c 4 t (ValueIdx.ix2 r l) = A4 m c (ValueIdx.ix2 (row t r) l) := by
  blk_point [iblk, V, idx t]
  change (t : ℕ) * 512 + (r : ℕ) = 512 * t + r
  omega

/-- The gain's block. -/
theorem g_at (l : Fin 1024) : iblk (F := Ideal) m c 3 t (ValueIdx.ix2 0 l) = A3 m c (ValueIdx.ix1 l) := by
  have e : (V (F := Ideal) m c main_v0 : S1x1024.Idx → EReal) = shapeCast S1x1024 (A3 m c) Gen.shapeCasts_S1024_S1x1024 := rfl
  change (V (F := Ideal) m c main_v0 : S1x1024.Idx → EReal) ((win0_3.blk t).view.emb _) = _
  rw [e]
  pointwise []
  blk_point [idx t]

/-- A point's block of the cotangent of the normed input: its products over the four shards in turn. -/
def dz : FVec Ideal S512x1024 .f32 :=
  k0_pay7 (View.ld (iblk m c 0 t) (Rect.unit ![0, 0] ![512, 640] inb_S512x2560_S512x640_0_0)) (View.ld (iblk m c 1 t) (Rect.unit ![0, 0, 0, 0] ![1, 1, 1024, 640] inb_S4x1x1024x640_S1x1x1024x640_0_0_0_0))
    (View.ld (iblk m c 0 t) (Rect.unit ![0, 640] ![512, 640] inb_S512x2560_S512x640_0_640)) (View.ld (iblk m c 1 t) (Rect.unit ![1, 0, 0, 0] ![1, 1, 1024, 640] inb_S4x1x1024x640_S1x1x1024x640_1_0_0_0))
    (View.ld (iblk m c 0 t) (Rect.unit ![0, 1280] ![512, 640] inb_S512x2560_S512x640_0_1280)) (View.ld (iblk m c 1 t) (Rect.unit ![2, 0, 0, 0] ![1, 1, 1024, 640] inb_S4x1x1024x640_S1x1x1024x640_2_0_0_0))
    (View.ld (iblk m c 0 t) (Rect.unit ![0, 1920] ![512, 640] inb_S512x2560_S512x640_0_1920)) (View.ld (iblk m c 1 t) (Rect.unit ![3, 0, 0, 0] ![1, 1, 1024, 640] inb_S4x1x1024x640_S1x1x1024x640_3_0_0_0))

/-- That block is the reference's product over shards and lanes. -/
theorem dz_at (r : Fin 512) (l : Fin 1024) : dz m c t (ValueIdx.ix2 r l)
    = val_main_v21 (F := Ideal) (A0 m c) (A1 m c) (ValueIdx.ix2 (row t r) l) := by
  pointwise [dz, k0_pay7, val_main_v21, val_main_v20, val_main_v19, val_main_v17, val_main_v16]
  have e0 : ∀ (p : Fin 4) (g : Fin 640 → Fin 2560), (∀ f, (g f : ℕ) = p * 640 + f) →
      ∑ f, Da m c t r (g f) * Wa m c t p l f = ∑ f, Fa m c (row t r) p f * Ga m c p l f := fun p g hg =>
    Finset.sum_congr rfl fun f _ => congrArg₂ (fun a b : EReal => a * b)
      ((congrArg (Da m c t r) (Fin.ext (hg f))).trans (da_at m c t r (lane p f))) (w_at m c t p l f)
  refine Eq.trans ?_ (Fin.sum_univ_four fun p => ∑ f, Fa m c (row t r) p f * Ga m c p l f).symm
  exact congrArg₂ (fun a b : EReal => a + b) (congrArg₂ (fun a b : EReal => a + b) (congrArg₂ (fun a b : EReal => a + b)
    (e0 0 (fun f => ⟨f, by omega⟩) fun f => by simp) (e0 1 (fun f => ⟨640 + f, by omega⟩) fun f => by simp))
    (e0 2 (fun f => ⟨1280 + f, by omega⟩) fun f => by simp)) (e0 3 (fun f => ⟨1920 + f, by omega⟩) fun f => by simp)

/-- The reference's mean square plus epsilon. -/
theorem sg_at (k : Fin 4096) : val_main_v6 (F := Ideal) (A2 m c) (ValueIdx.ix2 k 0) = sg m c k := by
  pointwise [RmsNorm.meanSq, val_main_v6, val_main_v5, val_main_v4, val_main_v3, val_main_v2, val_main_v1, val_main_v0, val_main_cst, val_main_cst_0, val_main_cst_1]
  rfl

/-- The reference's gain row at a lane. -/
theorem gn_at (k : Fin 4096) (l : Fin 1024) : val_main_v25 (F := Ideal) (A3 m c) (ValueIdx.ix2 k l) = Gn m c l := by
  pointwise [val_main_v25, val_main_v13]
  try rfl

/-- The reference's gradient through the mean square. -/
theorem through_at (k : Fin 4096) (l : Fin 1024) : val_main_v38 (F := Ideal) (A0 m c) (A1 m c) (A2 m c) (A3 m c) (ValueIdx.ix2 k l) = through m c k := by
  pointwise [RmsNorm.through, val_main_v38, val_main_v37, val_main_v36, val_main_v35, val_main_v34, val_main_v30, val_main_v29, val_main_v28, val_main_v26, val_main_v10, val_main_v9, val_main_v8, val_main_v7, val_main_cst_2, val_main_cst_5, val_main_cst_6, val_main_cst_7]
  refine (Fin.sum_univ_one _).trans ?_
  exact congrArg₂ Ideal.div (congrArg₂ (fun a b : EReal => a * b)
    (Finset.sum_congr rfl fun x _ => congrArg (fun z : EReal => X m c k x * (Dz m c k x * z)) (gn_at m c k x))
    (congrArg (fun z : EReal => Ideal.ofBits .f32 0xBF000000#32 * Ideal.div (Ideal.rsqrt z) z) (sg_at m c k))) rfl

/-- The reference's input gradient at a token and a lane. -/
theorem dx_ref (k : Fin 4096) (l : Fin 1024) : val_main_v42 (F := Ideal) (A0 m c) (A1 m c) (A2 m c) (A3 m c) (A4 m c) (ValueIdx.ix2 k l)
    = Dy m c k l + Dz m c k l * Gn m c l * Ideal.rsqrt (sg m c k) + X m c k l * through m c k + through m c k * X m c k l := by
  pointwise [val_main_v42, val_main_v41, val_main_v40, val_main_v39, val_main_v33, val_main_v32, val_main_v31, val_main_v26, val_main_v7]
  have e1 := gn_at m c k l
  have e2 := sg_at m c k
  have e3 := through_at m c k l
  rw [e1, e3]
  exact congrArg (fun z : EReal => Dy m c k l + Dz m c k l * Gn m c l * Ideal.rsqrt z + X m c k l * through m c k
    + through m c k * X m c k l) e2

/-- The reference's gain gradient at a lane. -/
theorem dg_ref (i : Cert.ReferenceDcdIdeal.S1x1024.Idx) : val_main_v43 (F := Ideal) (A0 m c) (A1 m c) (A2 m c) i
    = ∑ k, X m c k (i 1) * Ideal.rsqrt (sg m c k) * Dz m c k (i 1) := by
  pointwise [val_main_v43, val_main_v27, val_main_v24, val_main_v23, val_main_v22, val_main_v12, val_main_v11, val_main_v7, val_main_cst_3, val_main_cst_4]
  refine (Fin.sum_univ_one _).trans (Finset.sum_congr rfl fun k _ => ?_)
  exact congrArg (fun z : EReal => X m c k (i 1) * Ideal.rsqrt z * Dz m c k (i 1)) (sg_at m c k)

/-- A point's mean square plus epsilon, of its own row. -/
theorem sg_blk (r : Fin 512) : Ideal.div (∑ x, Xb m c t r x * Xb m c t r x)
    (Ideal.ofBits .f32 0x44800000#32) + Ideal.ofBits .f32 0x358637BD#32 = sg m c (row t r) :=
  congrArg (fun z : EReal => Ideal.div z (Ideal.ofBits .f32 0x44800000#32) + Ideal.ofBits .f32 0x358637BD#32)
    (Finset.sum_congr rfl fun x _ => congrArg₂ (fun a b : EReal => a * b) (x_at m c t r x) (x_at m c t r x))

/-- The kernel's gain gradient at a lane. -/
theorem dg_at (old : FVec Ideal S1x1024 .f32) (y : S1x1024.Idx) :
    k0_pay6 (F := Ideal) (dz m c t) (iblk m c 2 t) (k0_pay9 (iblk m c 2 t)) old y
    = old y + ∑ r, Dz m c (row t r) (y 1) * (X m c (row t r) (y 1) * Ideal.rsqrt (sg m c (row t r))) := by
  pointwise [k0_pay6, k0_pay2, k0_pay1, k0_pay9]
  refine congrArg (fun z : EReal => old y + z) (Finset.sum_congr rfl fun r _ => ?_)
  exact congrArg₂ (fun a b : EReal => a * b) (dz_at m c t r (y 1))
    (congrArg₂ (fun a b : EReal => a * b) (x_at m c t r (y 1)) (congrArg Ideal.rsqrt (sg_blk m c t r)))

/-- The kernel's input gradient at a row and a lane. -/
theorem dx_at (r : Fin 512) (l : Fin 1024) :
    k0_pay3 (F := Ideal) (dz m c t) (iblk m c 2 t) (k0_pay8 (iblk m c 3 t)) (iblk m c 4 t) (k0_pay9 (iblk m c 2 t)) (ValueIdx.ix2 r l)
    = Dy m c (row t r) l + Ideal.rsqrt (sg m c (row t r)) * (Dz m c (row t r) l * Gn m c l - X m c (row t r) l * Ideal.rsqrt (sg m c (row t r))
      * Ideal.div (∑ x, Dz m c (row t r) x * Gn m c x * (X m c (row t r) x * Ideal.rsqrt (sg m c (row t r)))) (Ideal.ofBits .f32 0x44800000#32)) := by
  pointwise [k0_pay3, k0_pay8, k0_pay2, k0_pay1, k0_pay9]
  have es := congrArg Ideal.rsqrt (sg_blk m c t r)
  refine congrArg₂ (fun a b : EReal => a + b) (dy_at m c t r l) (congrArg₂ (fun a b : EReal => a * b) es (congrArg₂ (fun a b : EReal => a - b)
    (congrArg₂ (fun a b : EReal => a * b) (dz_at m c t r l) (g_at m c t l)) (congrArg₂ (fun a b : EReal => a * b)
      (congrArg₂ (fun a b : EReal => a * b) (x_at m c t r l) es) (congrArg (fun z : EReal => Ideal.div z (Ideal.ofBits .f32 0x44800000#32))
        (Finset.sum_congr rfl fun x _ => ?_)))))
  exact congrArg₂ (fun a b : EReal => a * b) (congrArg₂ (fun a b : EReal => a * b) (dz_at m c t r x) (g_at m c t x))
    (congrArg₂ (fun a b : EReal => a * b) (x_at m c t r x) es)

end Cert.Dcd

end
-- ==== Proof.Dcd.lean ====
/- The gradient at the second combined input projection's input, and its norm's gain's: both are the reference's, for finite inputs. -/
module

public import proofs.«01_k».proof.Defs
public import proofs.«01_k».proof.Proof.Gen.Pre_finite_dcd
public import proofs.«01_k».proof.Proof.Finite
public import proofs.«01_k».proof.Proof.DcdBase
public import Idealize.ShloMosaic.Lib.Claim

@[expose] public section

set_option maxRecDepth 16384

noncomputable section

namespace Cert.Dcd

open Idealize.ShloMosaic Idealize.ShloMosaic.TcCoe Idealize.SL.Sem
open Idealize.ShloMosaic.Pipeline (Dat)
open Cert.ReferenceDcdIdeal.Read
open Cert.Reals

section

open Cert.ReferenceDcdIdeal

/-- The reference's run leaves its stages in its results. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = val_main_v43 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v42_eq m c), (h c).2.1.trans (val_main_v43_eq _ _ _), (h c).2.2⟩)
    (Cert.ReferenceDcdIdeal.Value.run m ρ)

end

open Cert.KernelDcdIdeal Cert.KernelDcdIdeal.Gen

variable (m : (ℓ : Loc nD τ sig) → Buf (Elt Ideal) ℓ) (c : Dev nD)

/-- The arrays that the norm's gradient reads hold real numbers: the cotangent, the weights, the input, the gain. -/
structure Fin_ : Prop where
  da : ∀ k p f, IsReal (Fa m c k p f)
  wa : ∀ p l f, IsReal (Ga m c p l f)
  x : ∀ k l, IsReal (X m c k l)
  g : ∀ l, IsReal (Gn m c l)

/-- The cotangent of the normed input is real. -/
theorem dz_real (hf : Fin_ m c) (k : Fin 4096) (l : Fin 1024) : IsReal (Dz m c k l) := by
  have e : Dz m c k l = ∑ p, ∑ f, Fa m c k p f * Ga m c p l f := by
    show val_main_v21 (F := Ideal) (A0 m c) (A1 m c) (ValueIdx.ix2 k l) = _
    pointwise [val_main_v21, val_main_v20, val_main_v19, val_main_v17, val_main_v16]
    rfl
  rw [e]
  exact IsReal.sum fun p => IsReal.sum fun f => IsReal.mul (hf.da k p f) (hf.wa p l f)

/-- The input's gradient after the run is the reference's. -/
theorem final5 (hf : Fin_ m c) : (dats m 0 c).arrAt 5 (cfgs 0).N
    = val_main_v42 (F := Ideal) (A0 m c) (A1 m c) (A2 m c) (A3 m c) (A4 m c) := by
  refine (dats m 0 c).arrAt_eq_of_covers 5 _ (by decide +kernel) fun t _ y => ?_
  blk_simp
  rw [after0_5]
  have e : k0_pay3 (F := Ideal) (dz m c t) (iblk m c 2 t) (k0_pay8 (iblk m c 3 t)) (iblk m c 4 t) (k0_pay9 (iblk m c 2 t)) (ValueIdx.ix2 (y 0) (y 1))
      = val_main_v42 (F := Ideal) (A0 m c) (A1 m c) (A2 m c) (A3 m c) (A4 m c) (ValueIdx.ix2 (row t (y 0)) (y 1)) :=
    ((dx_at m c t _ _).trans (RmsNorm.spell (X m c (row t (y 0))) (fun x => Dz m c (row t (y 0)) x * Gn m c x) (hf.x _)
      (fun x => IsReal.mul (dz_real m c hf _ x) (hf.g x)) _ _)).trans (dx_ref m c _ _).symm
  have ex : ∀ x : S512x1024.Idx, ValueIdx.ix2 (x 0) (x 1) = x := fun x => (ValueIdx.eq_ix2 x).symm
  by_cases h : t.val % 8 = 0
  · rw [outsAt0_A m c t h]
    frame_out
    refine Eq.trans ?_ (e.trans ?_)
    · exact congrArg (k0_pay3 (F := Ideal) (dz m c t) (iblk m c 2 t) (k0_pay8 (iblk m c 3 t)) (iblk m c 4 t) (k0_pay9 (iblk m c 2 t))) (ex y).symm
    · blk_point [idx t]
  · rw [outsAt0_B m c t h]
    frame_out
    refine Eq.trans ?_ (e.trans ?_)
    · exact congrArg (k0_pay3 (F := Ideal) (dz m c t) (iblk m c 2 t) (k0_pay8 (iblk m c 3 t)) (iblk m c 4 t) (k0_pay9 (iblk m c 2 t))) (ex y).symm
    · blk_point [idx t]

/-- A token's part of the gain's gradient. -/
abbrev term (k : Fin 4096) (l : Fin 1024) : EReal := Dz m c k l * (X m c k l * Ideal.rsqrt (sg m c k))

/-- A grid point's part of the gain's gradient. -/
def part (t : Fin cfg0.N) (j : S1x1024.Idx) : EReal := ∑ r : Fin 512, term m c (row t r) (j 1)

/-- The parts of the eight grid points make the sum over all tokens. -/
theorem part_sum (j : S1x1024.Idx) : ∑ t, part m c t j = ∑ k : Fin 4096, term m c k (j 1) := by
  have e : ∑ t : Fin 8, ∑ k : Fin 512, term m c (row (Fin.cast N_0.symm t) k) (j 1) = ∑ _ : Fin 1, ∑ k : Fin 4096, term m c k (j 1) :=
    Fin.sum_points_lanes_congr 8 (fun t k _ _ => congrArg (fun z => term m c z (j 1)) (Fin.ext (by
      show 512 * (t : ℕ) + k = (t : ℕ) % 8 * 512 + k
      have := t.isLt
      omega)))
  exact e.trans (Fintype.sum_unique _)

/-- The first point starts from zero. -/
theorem first (t : Fin cfg0.N) (h : t.val % 8 = 0) (j : S1x1024.Idx) :
    (outsAt0 m c t.val t.isLt).2.1 j = 0 + part m c t j := by
  rw [outsAt0_A m c t h]
  frame_out
  refine (dg_at m c t _ j).trans (congrArg (· + _) ?_)
  pointwise [k0_pay5]

/-- A later point adds to the point before. -/
theorem next (t : Fin cfg0.N) (h : ¬ t.val % 8 = 0) (j : S1x1024.Idx) :
    (outsAt0 m c t.val t.isLt).2.1 j = (outsAt0 m c (t.val - 1) (Nat.lt_of_le_of_lt (Nat.sub_le _ _) t.isLt)).2.1 j + part m c t j := by
  rw [outsAt0_B m c t h]
  frame_out
  exact dg_at m c t _ j

/-- The gain's gradient after the run is the reference's. -/
theorem final6 : (dats m 0 c).arrAt 6 (cfgs 0).N = val_main_v43 (F := Ideal) (A0 m c) (A1 m c) (A2 m c) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (first m c) (next m c) (le_of_eq N_0) t0_7 rfl, part_sum]
  refine (zero_add (M := EReal) _).trans (((Finset.sum_congr rfl fun k _ => mul_comm (G := EReal) _ _).trans (dg_ref m c j).symm).trans ?_)
  blk_point [idx]

/-- The precondition says that what the gradient of the norm reads are real numbers. -/
theorem finite_of_pre (hpre : Cert.Pre_KernelDcdIdeal_finite_dcd m) (c : Dev nD) : Fin_ m c := by
  have h := congrFun (hpre c) ValueIdx.ix0
  dsimp only [Cert.Pre_finite_dcd.fn, Cert.Pre_finite_dcd.fn_part1] at h
  obtain ⟨h, hg⟩ := IntOp.andi_eq_one.1 h
  obtain ⟨h, hx⟩ := IntOp.andi_eq_one.1 h
  obtain ⟨ha, hwa⟩ := IntOp.andi_eq_one.1 h
  obtain ⟨Ra, ea⟩ := Finite.real_of_all _ _ (fun _ => Scalars.infinity) _ _ _ _ ha
  obtain ⟨Va, fa⟩ := Finite.real_of_all _ _ (fun _ => Scalars.infinity) _ _ _ _ hwa
  obtain ⟨Y, eY⟩ := Finite.real_of_all _ _ (fun _ => Scalars.infinity) _ _ _ _ hx
  obtain ⟨Z, eZ⟩ := Finite.real_of_all _ _ (fun _ => Scalars.infinity) _ _ _ _ hg
  exact ⟨fun k p f => ⟨Ra (ValueIdx.ix2 k (lane p f)), congrFun ea _⟩, fun p l f => ⟨Va (ValueIdx.ix4 p 0 l f), congrFun fa _⟩,
    fun k l => ⟨Y (ValueIdx.ix2 k l), congrFun eY _⟩, fun l => ⟨Z (ValueIdx.ix1 l), congrFun eZ _⟩⟩

/-- The kernel and the reference compute the same two gradients over the extended reals, of finite inputs. -/
theorem algebraic : Cert.algebraic_KernelDcdIdeal_ReferenceDcdIdeal_pre_finite_dcd := by
  pair_intro
  · run_from Cert.KernelDcdIdeal.Value.run_blocks m g
  · run_from ref_run m' g'
    · exact (final5 m c (finite_of_pre m hpre c)).symm
    · exact (final6 m c).symm

end Cert.Dcd

end
-- ==== Proof.MixFwd.lean ====
/- The chunked spatial gating's forward: what the kernel stores of a block of 256 tokens, in eight tiles, is the
   reference's array at the block's place. -/
module

public import proofs.«01_k».proof.Defs
public import proofs.«01_k».proof.Proof.Gen.KernelMixFwdIdeal.Value
public import proofs.«01_k».proof.Proof.Gen.ReferenceMixFwdIdeal.Read
public import proofs.«01_k».proof.Proof.Gen.ReferenceMixFwdIdeal.Run
public import proofs.«01_k».proof.Proof.MixerBase
public import Idealize.ShloMosaic.Lib.Pipeline.ValueKit
public import Idealize.ShloMosaic.Lib.Pipeline.ReadBack

@[expose] public section

set_option maxRecDepth 16384

noncomputable section

namespace Cert.MixFwd

open Idealize.ShloMosaic Idealize.ShloMosaic.TcCoe Idealize.SL.Sem
open Idealize.ShloMosaic.Pipeline (Dat)

section Blocks

open Cert.KernelMixFwdIdeal Cert.KernelMixFwdIdeal.Gen
open Cert.ReferenceMixFwdIdeal (S1x4096x1024 S1x4096x512 S1x4096x1 S1x32x128x4x128)
open Cert.ReferenceMixFwdIdeal.Read

variable (m : (ℓ : Loc nD τ sig) → Buf (Elt Ideal) ℓ) (c : Dev nD) (t : Fin cfg0.N)

/-- Point `t` handles tokens `256 t` and on; the gain, the bias and the weights are whole. -/
theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

/-- The projection's array. -/
abbrev P := m ((c : Thread nD τ).loc main_arg0)
/-- The norm's gain. -/
abbrev G := m ((c : Thread nD τ).loc main_arg1)
/-- The norm's bias. -/
abbrev B := m ((c : Thread nD τ).loc main_arg2)
/-- The mixing weights. -/
abbrev W := m ((c : Thread nD τ).loc main_arg3)
/-- The mixing's bias. -/
abbrev S := m ((c : Thread nD τ).loc main_arg4)

/-- The block of the projection, at `y`. -/
theorem x0_at (y : S256x1024.Idx) (i : S4096x5632.Idx) (h0 : (i 0 : ℕ) = 256 * t + y 0) (h1 : (i 1 : ℕ) = y 1) :
    X0_0 (F := Ideal) m c t y = P m c i := by
  unfold X0_0 Pipeline.Window.fill
  rw [dif_pos (moved0_0 t y)]
  blk_point [iblk, V, idx t]

/-- The kernel's gelu is the reference's. -/
theorem gelu (y : S256x1024.Idx) (i : S1x4096x1024.Idx) (h1 : (i 1 : ℕ) = 256 * t + y 0) (h2 : (i 2 : ℕ) = y 1) :
    k0_pay4 (F := Ideal) (X0_0 m c t) y = val_main_v9 (F := Ideal) (P m c) i := by
  pointwise [k0_pay4, val_main_v9, val_main_v8, val_main_v7, val_main_v6, val_main_v5, val_main_v4, val_main_v3, val_main_v2, val_main_v1,
    val_main_v0, val_main_cst, val_main_cst_0]
  exact (congrArg (fun z => Ideal.ofBits .f32 0x3F000000#32 * z * (1 + Ideal.erf (z * Ideal.ofBits .f32 0x3F3504F3#32))) (x0_at m c t y _ h1 h2)).trans
    (congrArg (_ * ·) ((Ideal.erfc_neg _).symm.trans (congrArg Ideal.erfc (neg_mul _ _).symm)))

/-- The gated half. -/
theorem u_at (y : S256x512.Idx) (i : S1x4096x512.Idx) (h1 : (i 1 : ℕ) = 256 * t + y 0) (h2 : (i 2 : ℕ) = y 1) :
    k0_pay5 (F := Ideal) (X0_0 m c t) y = val_main_v10 (F := Ideal) (P m c) i := by
  pointwise [k0_pay5, val_main_v10]
  exact gelu m c t _ _ h1 h2

/-- The layer norm's result. -/
theorem vn_at (y : S256x512.Idx) (i : S1x4096x512.Idx) (h1 : (i 1 : ℕ) = 256 * t + y 0) (h2 : (i 2 : ℕ) = y 1) :
    k0_pay6 (F := Ideal) (X0_0 m c t) (iblk m c 1 t) (iblk m c 2 t) y = val_main_v33 (F := Ideal) (P m c) (G m c) (B m c) i := by
  pointwise [k0_pay6, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11, val_main_cst_1, val_main_cst_2, val_main_cst_3, val_main_cst_4, val_main_cst_5]
  refine congrArg₂ (· + ·) (congrArg₂ (· * ·) (congrArg₂ (· * ·) (congrArg₂ (· - ·) (gelu m c t _ _ h1 (congrArg (512 + ·) h2))
    (congrArg (Ideal.div · _) (Finset.sum_congr rfl fun k _ => gelu m c t _ _ h1 rfl)))
    (congrArg (fun z => Ideal.rsqrt (Ideal.div z _ + _)) (Finset.sum_congr rfl fun k _ => congrArg₂ (· * ·)
      (congrArg₂ (· - ·) (gelu m c t _ _ h1 rfl) (congrArg (Ideal.div · _) (Finset.sum_congr rfl fun k _ => gelu m c t _ _ h1 rfl)))
      (congrArg₂ (· - ·) (gelu m c t _ _ h1 rfl) (congrArg (Ideal.div · _) (Finset.sum_congr rfl fun k _ => gelu m c t _ _ h1 rfl)))))) ?_) ?_
  · blk_point [iblk, V, idx t]
  · blk_point [iblk, V, idx t]

/-- The masked weights of group `g`, of a load of that group's page. -/
theorem wt_at (g : Fin 4) (gn : ℕ) (inb) (hg : gn = g) (y : S128x128.Idx) (i : S4x128x128.Idx) (h0 : (i 0 : ℕ) = g) (h1 : (i 1 : ℕ) = y 0)
    (h2 : (i 2 : ℕ) = y 1) :
    k0_pay1 (F := Ideal) (View.ld (iblk (F := Ideal) m c 3 t) (Rect.unit (s := S4x128x128) ![gn, 0, 0] ![1, 128, 128] inb)) y
      = val_main_v38 (F := Ideal) (W m c) i := by
  subst hg
  have e : View.ld (iblk (F := Ideal) m c 3 t) (Rect.unit (s := S4x128x128) ![(g : ℕ), 0, 0] ![1, 128, 128] inb) (ValueIdx.ix3 0 (y 0) (y 1))
      = W m c i := by
    blk_point [iblk, V, idx t]
    · exact h1.symm
    · exact h2.symm
  generalize View.ld (iblk (F := Ideal) m c 3 t) (Rect.unit (s := S4x128x128) ![(g : ℕ), 0, 0] ![1, 128, 128] inb) = w at e ⊢
  pointwise [k0_pay1, val_main_v38, val_main_v37, val_main_v36, val_main_v35, val_main_c, val_main_cst_6, val_main_call0_v0, val_main_call0_v1,
    val_main_call0_v2, val_main_call0_v3, val_main_call0_v4, val_main_call0_v5, val_main_call0_c, val_main_call0_c_0, val_main_call1_v0, val_main_call1_v1,
    val_main_call1_v2]
  have e' : IntOp.cmpi .sle (BitVec.ofNat 32 (y 1)) (BitVec.ofNat 32 (y 0)) = Scalar.select
      (IntOp.cmpi .sge (IntOp.addi (BitVec.ofNat 32 (i 1)) 0#32) (BitVec.ofNat 32 (i 2))) 1#1 0#1 := by
    rw [← h1, ← h2]; exact (Cert.MixerA.mask_eq _ _).symm
  exact congrArg₂ (fun (c : BitVec 1) (a : EReal) => Scalar.select c a 0) e' e |>.trans (congrArg (Scalar.select _ _) Ideal.ofBits_zero_f32.symm)

/-- The mixing's bias of a group, as loaded. -/
theorem b_col (g : Fin 4) (gn : ℕ) (inb) (hg : gn = g) (y : S128x1.Idx) :
    View.ld (iblk (F := Ideal) m c 4 t) (Rect.unit (s := S128x4) ![0, gn] ![128, 1] inb) y = S m c (ValueIdx.ix2 g (y 0)) := by
  subst hg
  have e : (V (F := Ideal) m c main_v2 : S128x4.Idx → EReal) = transpose S128x4 [1, 0] (S m c) transposes_S4x128_S128x4_1_0 := rfl
  change (V (F := Ideal) m c main_v2 : S128x4.Idx → EReal) ((win0_4.blk t).view.emb ((Rect.unit (s := S128x4) ![0, (g : ℕ)] ![128, 1] inb).idx y)) = _
  rw [e]
  pointwise []
  blk_point [idx t]

/-- What the kernel stores of chunk `o` of the two of a block and of group `g`: the gated half times the mixed rows. -/
theorem tile (o : Fin 2) (g : Fin 4) (o0 o1 gn : ℕ) (h : S256x512.Slices ![o0, o1] S128x128) (inb inb') (ho : o0 = 128 * o) (hg : o1 = 128 * g)
    (hn : gn = g) (x : S128x128.Idx) (i : S4096x512.Idx) (h0 : (i 0 : ℕ) = 256 * t + (o0 + x 0)) (h1 : (i 1 : ℕ) = o1 + x 1) :
    truncf (F := Ideal) .bf16 (mulf (F := Ideal) (φ := .f32) (extractStridedSlice S128x128 ![o0, o1] (k0_pay5 (F := Ideal) (X0_0 m c t)) h)
      (addf (matmul (F := Ideal) dot_S128x128_S128x128_S128x128_1_0_0_1_n_n none
      (k0_pay1 (F := Ideal) (View.ld (iblk (F := Ideal) m c 3 t) (Rect.unit (s := S4x128x128) ![gn, 0, 0] ![1, 128, 128] inb)))
      (extractStridedSlice S128x128 ![o0, o1] (k0_pay6 (F := Ideal) (X0_0 m c t) (iblk m c 1 t) (iblk m c 2 t)) h)
      (constant S128x128 .f32 0x00000000#32)) (broadcastTo S128x128 (shapeCast S128x1
      (View.ld (iblk (F := Ideal) m c 4 t) (Rect.unit (s := S128x4) ![0, gn] ![128, 1] inb')) shapeCasts_S128x1_S128x1) broadcasts_S128x1_S128x128)))
      bitsLt_bf16_f32 x = val_main_v48 (F := Ideal) (P m c) (G m c) (B m c) (W m c) (S m c) i := by
  have hx0 : (x 0 : ℕ) < 128 := (x 0).isLt
  have hx1 : (x 1 : ℕ) < 128 := (x 1).isLt
  have hb := b_col m c t g gn inb' hn
  have hw := wt_at m c t g gn inb hn
  have hu := u_at m c t
  have hv := vn_at m c t
  generalize k0_pay1 (F := Ideal) (View.ld (iblk (F := Ideal) m c 3 t) (Rect.unit (s := S4x128x128) ![gn, 0, 0] ![1, 128, 128] inb)) = w at hw ⊢
  generalize View.ld (iblk (F := Ideal) m c 4 t) (Rect.unit (s := S128x4) ![0, gn] ![128, 1] inb') = b at hb ⊢
  generalize k0_pay5 (F := Ideal) (X0_0 m c t) = u at hu ⊢
  generalize k0_pay6 (F := Ideal) (X0_0 m c t) (iblk m c 1 t) (iblk m c 2 t) = v at hv ⊢
  pointwise [val_main_v48, val_main_v47, val_main_v46, val_main_v45, val_main_v44, val_main_v43, val_main_v42, val_main_v41, val_main_v40, val_main_v39,
    val_main_v34]
  refine congrArg₂ (· * ·) (hu _ _ ?_ ?_) (congrArg₂ (· + ·) (Finset.sum_congr rfl fun k _ => (mul_comm _ _).trans
    (congrArg₂ (· * ·) (hv _ _ ?_ ?_) (hw _ _ ?_ ?_ rfl))) ((hb _).trans (congrArg (S m c) ?_)))
  · show (i 0 : ℕ) = 256 * t + (o0 + x 0); omega
  · show (i 1 : ℕ) = o1 + x 1; omega
  · show (i 0 : ℕ) / 128 * 128 + k = 256 * t + (o0 + k); omega
  · show (i 1 : ℕ) = o1 + x 1; omega
  · show (i 1 : ℕ) / 128 = g; omega
  · show (i 0 : ℕ) % 128 = x 0; omega
  · funext a
    match a with
    | ⟨0, _⟩ => exact Fin.ext (by show (g : ℕ) = (i 1 : ℕ) / 128; omega)
    | ⟨1, _⟩ => exact Fin.ext (by show (x 0 : ℕ) = (i 0 : ℕ) % 128; omega)

/-- The kernel's array is the reference's. -/
theorem final (i : S4096x512.Idx) : (dats m 0 c).arrAt 5 cfg0.N i = val_main_v48 (F := Ideal) (P m c) (G m c) (B m c) (W m c) (S m c) i := by
  refine congrFun ((dats m 0 c).arrAt_eq_of_covers 5 (val_main_v48 (F := Ideal) (P m c) (G m c) (B m c) (W m c) (S m c)) (by decide +kernel) fun t _ y => ?_) i
  blk_simp
  rw [after0_5]
  unfold outsAt0
  frame_out
  have hy : ∃ z : S4096x512.Idx, z = ((cfg0.win 5).blk t).view.emb y ∧ (z 0 : ℕ) = 256 * t + y 0 ∧ (z 1 : ℕ) = y 1 :=
    ⟨_, rfl, by show win0_5.index t 0 * 256 + 1 * (y 0 : ℕ) = _; rw [(idx t).2.2.2.2.2]; show (t : ℕ) * 256 + 1 * (y 0 : ℕ) = _; omega,
      by show win0_5.index t 1 * 512 + 1 * (y 1 : ℕ) = _; rw [(idx t).2.2.2.2.2]; show 0 * 512 + 1 * (y 1 : ℕ) = _; omega⟩
  obtain ⟨z, hz, z0, z1⟩ := hy
  rw [← hz]
  clear hz
  canon_tiles x h
  case piece0 => exact tile m c t 1 3 128 384 3 _ _ _ rfl rfl rfl x z (by omega) (by omega)
  case piece1 => exact tile m c t 0 3 0 384 3 _ _ _ rfl rfl rfl x z (by omega) (by omega)
  case piece2 => exact tile m c t 1 2 128 256 2 _ _ _ rfl rfl rfl x z (by omega) (by omega)
  case piece3 => exact tile m c t 0 2 0 256 2 _ _ _ rfl rfl rfl x z (by omega) (by omega)
  case piece4 => exact tile m c t 1 1 128 128 1 _ _ _ rfl rfl rfl x z (by omega) (by omega)
  case piece5 => exact tile m c t 0 1 0 128 1 _ _ _ rfl rfl rfl x z (by omega) (by omega)
  case piece6 => exact tile m c t 1 0 128 0 0 _ _ _ rfl rfl rfl x z (by omega) (by omega)
  case piece7 => exact tile m c t 0 0 0 0 0 _ _ _ rfl rfl rfl x z (by omega) (by omega)

end Blocks

section Reference

open Cert.ReferenceMixFwdIdeal Cert.ReferenceMixFwdIdeal.Read

/-- The reference's run leaves its last stage in its result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = val_main_v48 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v48_eq m c), (h c).2⟩) (Cert.ReferenceMixFwdIdeal.Value.run m ρ)

end Reference

open Cert.KernelMixFwdIdeal Cert.KernelMixFwdIdeal.Gen

variable (m : (ℓ : Loc nD τ sig) → Buf (Elt Ideal) ℓ)

/-- The kernel and the reference compute the same function over the extended reals. -/
theorem algebraic : Cert.algebraic_KernelMixFwdIdeal_ReferenceMixFwdIdeal := by
  pair_intro
  · run_from Cert.KernelMixFwdIdeal.Value.run_blocks m g
  · run_from ref_run m' g'
    exact (funext fun i => final m c i).symm

end Cert.MixFwd

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelDown.Frame
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelGateUp.Frame
public import proofs.«01_k».proof.Proof.Gen.KernelGateUpIdeal.Value
public import proofs.«01_k».proof.Proof.Gen.ReferenceGateUpIdeal.Run
public import proofs.«01_k».proof.Proof.Gen.ReferenceGateUpIdeal.Read
public import proofs.«01_k».proof.Proof.Gen.KernelDgrad.Frame
public import proofs.«01_k».proof.Proof.Gen.KernelDgradIdeal.Value
public import proofs.«01_k».proof.Proof.Gen.ReferenceDgradIdeal.Run
public import proofs.«01_k».proof.Proof.Gen.ReferenceDgradIdeal.Read
public import proofs.«01_k».proof.Proof.Gen.KernelFfnIn.Frame
public import proofs.«01_k».proof.Proof.Gen.KernelFfnInIdeal.Value
public import proofs.«01_k».proof.Proof.Gen.ReferenceFfnInIdeal.Run
public import proofs.«01_k».proof.Proof.Gen.ReferenceFfnInIdeal.Read
public import proofs.«01_k».proof.Proof.Gen.KernelWin.Frame
public import proofs.«01_k».proof.Proof.Gen.KernelWinIdeal.Value
public import proofs.«01_k».proof.Proof.Gen.ReferenceWinIdeal.Run
public import proofs.«01_k».proof.Proof.Gen.ReferenceWinIdeal.Read
public import proofs.«01_k».proof.Proof.Gen.KernelDin.Frame
public import proofs.«01_k».proof.Proof.Gen.KernelDinIdeal.Value
public import proofs.«01_k».proof.Proof.Gen.ReferenceDinIdeal.Run
public import proofs.«01_k».proof.Proof.Gen.ReferenceDinIdeal.Read
public import proofs.«01_k».proof.Proof.Win
public import proofs.«01_k».proof.Proof.Din
public import proofs.«01_k».proof.Proof.Gen.Pre_finite_din
public import proofs.«01_k».proof.Proof.MixerA
public import proofs.«01_k».proof.Proof.Down
public import proofs.«01_k».proof.Proof.GateUp
public import proofs.«01_k».proof.Proof.Dgrad
public import proofs.«01_k».proof.Proof.FfnIn
public import proofs.«01_k».proof.Proof.Gen.Pre_finite_inputs
public import proofs.«01_k».proof.Proof.Gen.Pre_finite_dgrad
public import proofs.«01_k».proof.Proof.Gen.Pre_finite_ffn_in
public import proofs.«01_k».proof.Proof.Gen.KernelWcd.Frame
public import proofs.«01_k».proof.Proof.Gen.KernelWcdIdeal.Value
public import proofs.«01_k».proof.Proof.Gen.ReferenceWcdIdeal.Run
public import proofs.«01_k».proof.Proof.Gen.ReferenceWcdIdeal.Read
public import proofs.«01_k».proof.Proof.Gen.KernelWout.Frame
public import proofs.«01_k».proof.Proof.Gen.KernelWoutIdeal.Value
public import proofs.«01_k».proof.Proof.Gen.ReferenceWoutIdeal.Run
public import proofs.«01_k».proof.Proof.Gen.ReferenceWoutIdeal.Read
public import proofs.«01_k».proof.Proof.Gen.KernelDout.Frame
public import proofs.«01_k».proof.Proof.Gen.KernelDoutIdeal.Value
public import proofs.«01_k».proof.Proof.Gen.ReferenceDoutIdeal.Run
public import proofs.«01_k».proof.Proof.Gen.ReferenceDoutIdeal.Read
public import proofs.«01_k».proof.Proof.Gen.KernelFfnOut.Frame
public import proofs.«01_k».proof.Proof.Gen.KernelFfnOutIdeal.Value
public import proofs.«01_k».proof.Proof.Gen.ReferenceFfnOutIdeal.Run
public import proofs.«01_k».proof.Proof.Gen.ReferenceFfnOutIdeal.Read
public import proofs.«01_k».proof.Proof.Gen.KernelLoss.Frame
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.Gen.KernelProjOut.Frame
public import proofs.«01_k».proof.Proof.Gen.KernelProjOutIdeal.Value
public import proofs.«01_k».proof.Proof.Gen.ReferenceProjOutIdeal.Run
public import proofs.«01_k».proof.Proof.Gen.ReferenceProjOutIdeal.Read
public import proofs.«01_k».proof.Proof.Gen.KernelProjCd.Frame
public import proofs.«01_k».proof.Proof.Gen.KernelProjCdIdeal.Value
public import proofs.«01_k».proof.Proof.Gen.ReferenceProjCdIdeal.Run
public import proofs.«01_k».proof.Proof.Gen.ReferenceProjCdIdeal.Read
public import proofs.«01_k».proof.Proof.Gen.KernelDcd.Frame
public import proofs.«01_k».proof.Proof.Gen.KernelDcdIdeal.Value
public import proofs.«01_k».proof.Proof.Gen.ReferenceDcdIdeal.Run
public import proofs.«01_k».proof.Proof.Gen.ReferenceDcdIdeal.Read
public import proofs.«01_k».proof.Proof.Gen.KernelMixFwd.Frame
public import proofs.«01_k».proof.Proof.Gen.KernelMixFwdIdeal.Value
public import proofs.«01_k».proof.Proof.Gen.ReferenceMixFwdIdeal.Run
public import proofs.«01_k».proof.Proof.Gen.ReferenceMixFwdIdeal.Read
public import proofs.«01_k».proof.Proof.Wcd
public import proofs.«01_k».proof.Proof.Wout
public import proofs.«01_k».proof.Proof.Dout
public import proofs.«01_k».proof.Proof.FfnOut
public import proofs.«01_k».proof.Proof.Loss
public import proofs.«01_k».proof.Proof.ProjOut
public import proofs.«01_k».proof.Proof.ProjCd
public import proofs.«01_k».proof.Proof.Dcd
public import proofs.«01_k».proof.Proof.Gen.Pre_finite_dcd
public import proofs.«01_k».proof.Proof.MixFwd
public import Idealize.ShloMosaic.Lib.Claim

@[expose] public section

noncomputable section

namespace Cert.Proof

open Idealize.ShloMosaic Idealize.SL.Sem

/-- The reference `ReferenceIdeal` runs, leaves its arguments as they were and every semaphore counter at zero. -/
theorem frame_Reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The reference `ReferenceDownIdeal` runs, leaves its arguments as they were and every semaphore counter at zero. -/
theorem frame_ReferenceDown : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- The reference `ReferenceGateUpIdeal` runs, leaves its arguments as they were and every semaphore counter at zero. -/
theorem frame_ReferenceGateUp : Cert.quiescent_ReferenceGateUpIdeal := fun m ρ _ =>
  (θ_run Cert.ReferenceGateUpIdeal.defs _ _).mono (fun r h => ⟨fun c => (h c).2.2, sem_eq_zero_of_no_sems (by decide) r.2⟩)
    (Cert.ReferenceGateUpIdeal.Value.run (F := Ideal) m ρ)

/-- The reference `ReferenceDgradIdeal` runs, leaves its arguments as they were and every semaphore counter at zero. -/
theorem frame_ReferenceDgrad : Cert.quiescent_ReferenceDgradIdeal := fun m ρ _ =>
  (θ_run Cert.ReferenceDgradIdeal.defs _ _).mono (fun r h => ⟨fun c => (h c).2.2, sem_eq_zero_of_no_sems (by decide) r.2⟩)
    (Cert.ReferenceDgradIdeal.Value.run (F := Ideal) m ρ)

/-- The reference `ReferenceFfnInIdeal` runs, leaves its arguments as they were and every semaphore counter at zero. -/
theorem frame_ReferenceFfnIn : Cert.quiescent_ReferenceFfnInIdeal := fun m ρ _ =>
  (θ_run Cert.ReferenceFfnInIdeal.defs _ _).mono (fun r h => ⟨fun c => (h c).2.2.2, sem_eq_zero_of_no_sems (by decide) r.2⟩)
    (Cert.ReferenceFfnInIdeal.Value.run (F := Ideal) m ρ)

/-- The reference of the input projection's weight gradient keeps its arguments. -/
theorem frame_ReferenceWin : Cert.quiescent_ReferenceWinIdeal := fun m ρ _ =>
  (θ_run Cert.ReferenceWinIdeal.defs _ _).mono (fun r h => ⟨fun c => (h c).2, sem_eq_zero_of_no_sems (by decide) r.2⟩)
    (Cert.ReferenceWinIdeal.Value.run (F := Ideal) m ρ)

/-- The reference of the gradient at the input projection's input keeps its arguments. -/
theorem frame_ReferenceDin : Cert.quiescent_ReferenceDinIdeal := fun m ρ _ =>
  (θ_run Cert.ReferenceDinIdeal.defs _ _).mono (fun r h => ⟨fun c => (h c).2.2, sem_eq_zero_of_no_sems (by decide) r.2⟩)
    (Cert.ReferenceDinIdeal.Value.run (F := Ideal) m ρ)

/-- The reference of the second layer's input projection's weight gradient keeps its arguments. -/
theorem frame_ReferenceWcd : Cert.quiescent_ReferenceWcdIdeal := fun m ρ _ =>
  (θ_run Cert.ReferenceWcdIdeal.defs _ _).mono (fun r h => ⟨fun c => (h c).2, sem_eq_zero_of_no_sems (by decide) r.2⟩)
    (Cert.ReferenceWcdIdeal.Value.run (F := Ideal) m ρ)

/-- The reference of the output projection's weight gradient keeps its arguments. -/
theorem frame_ReferenceWout : Cert.quiescent_ReferenceWoutIdeal := fun m ρ _ =>
  (θ_run Cert.ReferenceWoutIdeal.defs _ _).mono (fun r h => ⟨fun c => (h c).2, sem_eq_zero_of_no_sems (by decide) r.2⟩)
    (Cert.ReferenceWoutIdeal.Value.run (F := Ideal) m ρ)

/-- The reference of the gradient at the output projection's input keeps its arguments. -/
theorem frame_ReferenceDout : Cert.quiescent_ReferenceDoutIdeal := fun m ρ _ =>
  (θ_run Cert.ReferenceDoutIdeal.defs _ _).mono (fun r h => ⟨fun c => (h c).2, sem_eq_zero_of_no_sems (by decide) r.2⟩)
    (Cert.ReferenceDoutIdeal.Value.run (F := Ideal) m ρ)

/-- The reference of the feed-forward block's output keeps its arguments. -/
theorem frame_ReferenceFfnOut : Cert.quiescent_ReferenceFfnOutIdeal := fun m ρ _ =>
  (θ_run Cert.ReferenceFfnOutIdeal.defs _ _).mono (fun r h => ⟨fun c => (h c).2.2, sem_eq_zero_of_no_sems (by decide) r.2⟩)
    (Cert.ReferenceFfnOutIdeal.Value.run (F := Ideal) m ρ)

/-- The reference of the last feed-forward output and the loss keeps its arguments. -/
theorem frame_ReferenceLoss : Cert.quiescent_ReferenceLossIdeal := fun m ρ _ =>
  (θ_run Cert.ReferenceLossIdeal.defs _ _).mono (fun r h => ⟨fun c => (h c).2.2.2, sem_eq_zero_of_no_sems (by decide) r.2⟩)
    (Cert.ReferenceLossIdeal.Value.run (F := Ideal) m ρ)

/-- The reference of the output projection keeps its arguments. -/
theorem frame_ReferenceProjOut : Cert.quiescent_ReferenceProjOutIdeal := fun m ρ _ =>
  (θ_run Cert.ReferenceProjOutIdeal.defs _ _).mono (fun r h => ⟨fun c => (h c).2.2, sem_eq_zero_of_no_sems (by decide) r.2⟩)
    (Cert.ReferenceProjOutIdeal.Value.run (F := Ideal) m ρ)

/-- The reference of the second layer's input projection keeps its arguments. -/
theorem frame_ReferenceProjCd : Cert.quiescent_ReferenceProjCdIdeal := fun m ρ _ =>
  (θ_run Cert.ReferenceProjCdIdeal.defs _ _).mono (fun r h => ⟨fun c => (h c).2, sem_eq_zero_of_no_sems (by decide) r.2⟩)
    (Cert.ReferenceProjCdIdeal.Value.run (F := Ideal) m ρ)

/-- The reference of the gradient at the second layer's projection's input keeps its arguments. -/
theorem frame_ReferenceDcd : Cert.quiescent_ReferenceDcdIdeal := fun m ρ _ =>
  (θ_run Cert.ReferenceDcdIdeal.defs _ _).mono (fun r h => ⟨fun c => (h c).2.2, sem_eq_zero_of_no_sems (by decide) r.2⟩)
    (Cert.ReferenceDcdIdeal.Value.run (F := Ideal) m ρ)

/-- The reference of the spatial gating's forward keeps its arguments. -/
theorem frame_ReferenceMixFwd : Cert.quiescent_ReferenceMixFwdIdeal := fun m ρ _ =>
  (θ_run Cert.ReferenceMixFwdIdeal.defs _ _).mono (fun r h => ⟨fun c => (h c).2, sem_eq_zero_of_no_sems (by decide) r.2⟩)
    (Cert.ReferenceMixFwdIdeal.Value.run (F := Ideal) m ρ)

theorem claim : Cert.Claim := ⟨
  Cert.Kernel.Gen.facts,
  Cert.KernelIdeal.Gen.facts,
  Cert.ReferenceIdeal.Gen.facts,
  Cert.KernelDown.Gen.facts,
  Cert.KernelDownIdeal.Gen.facts,
  Cert.ReferenceDownIdeal.Gen.facts,
  Cert.KernelGateUp.Gen.facts,
  Cert.KernelGateUpIdeal.Gen.facts,
  Cert.ReferenceGateUpIdeal.Gen.facts,
  Cert.KernelDgrad.Gen.facts,
  Cert.KernelDgradIdeal.Gen.facts,
  Cert.ReferenceDgradIdeal.Gen.facts,
  Cert.KernelFfnIn.Gen.facts,
  Cert.KernelFfnInIdeal.Gen.facts,
  Cert.ReferenceFfnInIdeal.Gen.facts,
  Cert.KernelWin.Gen.facts,
  Cert.KernelWinIdeal.Gen.facts,
  Cert.ReferenceWinIdeal.Gen.facts,
  Cert.KernelDin.Gen.facts,
  Cert.KernelDinIdeal.Gen.facts,
  Cert.ReferenceDinIdeal.Gen.facts,
  Cert.KernelWcd.Gen.facts,
  Cert.KernelWcdIdeal.Gen.facts,
  Cert.ReferenceWcdIdeal.Gen.facts,
  Cert.KernelWout.Gen.facts,
  Cert.KernelWoutIdeal.Gen.facts,
  Cert.ReferenceWoutIdeal.Gen.facts,
  Cert.KernelDout.Gen.facts,
  Cert.KernelDoutIdeal.Gen.facts,
  Cert.ReferenceDoutIdeal.Gen.facts,
  Cert.KernelFfnOut.Gen.facts,
  Cert.KernelFfnOutIdeal.Gen.facts,
  Cert.ReferenceFfnOutIdeal.Gen.facts,
  Cert.KernelLoss.Gen.facts,
  Cert.KernelLossIdeal.Gen.facts,
  Cert.ReferenceLossIdeal.Gen.facts,
  Cert.KernelProjOut.Gen.facts,
  Cert.KernelProjOutIdeal.Gen.facts,
  Cert.ReferenceProjOutIdeal.Gen.facts,
  Cert.KernelProjCd.Gen.facts,
  Cert.KernelProjCdIdeal.Gen.facts,
  Cert.ReferenceProjCdIdeal.Gen.facts,
  Cert.KernelDcd.Gen.facts,
  Cert.KernelDcdIdeal.Gen.facts,
  Cert.ReferenceDcdIdeal.Gen.facts,
  Cert.KernelMixFwd.Gen.facts,
  Cert.KernelMixFwdIdeal.Gen.facts,
  Cert.ReferenceMixFwdIdeal.Gen.facts,
  Cert.Pre_finite_inputs.Gen.facts,
  Cert.Pre_finite_dgrad.Gen.facts,
  Cert.Pre_finite_ffn_in.Gen.facts,
  Cert.Pre_finite_din.Gen.facts,
  Cert.Pre_finite_dcd.Gen.facts,
  fun m ρ _ => Cert.Kernel.Gen.frame m ρ,
  fun m ρ _ => Cert.KernelIdeal.Gen.frame m ρ,
  fun m ρ _ => Cert.KernelIdeal.Gen.frame m ρ,
  frame_Reference,
  fun m ρ _ => frame_Reference m ρ trivial,
  fun m ρ _ => Cert.KernelDown.Gen.frame m ρ,
  fun m ρ _ => Cert.KernelDownIdeal.Gen.frame m ρ,
  frame_ReferenceDown,
  fun m ρ _ => Cert.KernelGateUp.Gen.frame m ρ,
  fun m ρ _ => Cert.KernelGateUpIdeal.Gen.frame m ρ,
  frame_ReferenceGateUp,
  fun m ρ _ => Cert.KernelDgrad.Gen.frame m ρ,
  fun m ρ _ => Cert.KernelDgradIdeal.Gen.frame m ρ,
  fun m ρ _ => Cert.KernelDgradIdeal.Gen.frame m ρ,
  frame_ReferenceDgrad,
  fun m ρ _ => frame_ReferenceDgrad m ρ trivial,
  fun m ρ _ => Cert.KernelFfnIn.Gen.frame m ρ,
  fun m ρ _ => Cert.KernelFfnInIdeal.Gen.frame m ρ,
  fun m ρ _ => Cert.KernelFfnInIdeal.Gen.frame m ρ,
  frame_ReferenceFfnIn,
  fun m ρ _ => frame_ReferenceFfnIn m ρ trivial,
  fun m ρ _ => Cert.KernelWin.Gen.frame m ρ,
  fun m ρ _ => Cert.KernelWinIdeal.Gen.frame m ρ,
  frame_ReferenceWin,
  fun m ρ _ => Cert.KernelDin.Gen.frame m ρ,
  fun m ρ _ => Cert.KernelDinIdeal.Gen.frame m ρ,
  fun m ρ _ => Cert.KernelDinIdeal.Gen.frame m ρ,
  frame_ReferenceDin,
  fun m ρ _ => frame_ReferenceDin m ρ trivial,
  fun m ρ _ => Cert.KernelWcd.Gen.frame m ρ,
  fun m ρ _ => Cert.KernelWcdIdeal.Gen.frame m ρ,
  frame_ReferenceWcd,
  fun m ρ _ => Cert.KernelWout.Gen.frame m ρ,
  fun m ρ _ => Cert.KernelWoutIdeal.Gen.frame m ρ,
  frame_ReferenceWout,
  fun m ρ _ => Cert.KernelDout.Gen.frame m ρ,
  fun m ρ _ => Cert.KernelDoutIdeal.Gen.frame m ρ,
  frame_ReferenceDout,
  fun m ρ _ => Cert.KernelFfnOut.Gen.frame m ρ,
  fun m ρ _ => Cert.KernelFfnOutIdeal.Gen.frame m ρ,
  frame_ReferenceFfnOut,
  fun m ρ _ => Cert.KernelLoss.Gen.frame m ρ,
  fun m ρ _ => Cert.KernelLossIdeal.Gen.frame m ρ,
  frame_ReferenceLoss,
  fun m ρ _ => Cert.KernelProjOut.Gen.frame m ρ,
  fun m ρ _ => Cert.KernelProjOutIdeal.Gen.frame m ρ,
  frame_ReferenceProjOut,
  fun m ρ _ => Cert.KernelProjCd.Gen.frame m ρ,
  fun m ρ _ => Cert.KernelProjCdIdeal.Gen.frame m ρ,
  frame_ReferenceProjCd,
  fun m ρ _ => Cert.KernelDcd.Gen.frame m ρ,
  fun m ρ _ => Cert.KernelDcdIdeal.Gen.frame m ρ,
  fun m ρ _ => Cert.KernelDcdIdeal.Gen.frame m ρ,
  frame_ReferenceDcd,
  fun m ρ _ => frame_ReferenceDcd m ρ trivial,
  fun m ρ _ => Cert.KernelMixFwd.Gen.frame m ρ,
  fun m ρ _ => Cert.KernelMixFwdIdeal.Gen.frame m ρ,
  frame_ReferenceMixFwd,
  trivial,
  Cert.MixerA.algebraic,
  trivial,
  Cert.Down.algebraic,
  trivial,
  Cert.GateUp.algebraic,
  trivial,
  Cert.Dgrad.algebraic,
  trivial,
  Cert.FfnIn.algebraic,
  trivial,
  Cert.Win.algebraic,
  trivial,
  Cert.Din.algebraic,
  trivial,
  Cert.Wcd.algebraic,
  trivial,
  Cert.Wout.algebraic,
  trivial,
  Cert.Dout.algebraic,
  trivial,
  Cert.FfnOut.algebraic,
  trivial,
  Cert.Loss.algebraic,
  trivial,
  Cert.ProjOut.algebraic,
  trivial,
  Cert.ProjCd.algebraic,
  trivial,
  Cert.Dcd.algebraic,
  trivial,
  Cert.MixFwd.algebraic⟩

end Cert.Proof

end
